-- ==== Defs.lean ====
def Pre_DiffAttn (m : (ℓ : Loc Cert.DiffAttn.nD Cert.DiffAttn.τ Cert.DiffAttn.sig) → Buf (Elt Bits) ℓ) : Prop :=
  True

def Pre_DiffAttnIdeal (m : (ℓ : Loc Cert.DiffAttnIdeal.nD Cert.DiffAttnIdeal.τ Cert.DiffAttnIdeal.sig) → Buf (Elt Ideal) ℓ) : Prop :=
  True

def Pre_DiffAttnIdeal_finite [hPre_finite : Cert.Pre_finite.Facts] (m : (ℓ : Loc Cert.DiffAttnIdeal.nD Cert.DiffAttnIdeal.τ Cert.DiffAttnIdeal.sig) → Buf (Elt Ideal) ℓ) : Prop :=
  ∀ c : Dev Cert.DiffAttnIdeal.nD,
    (Cert.Pre_finite.fn (F := Ideal) (m ((c.tc : Thread Cert.DiffAttnIdeal.nD Cert.DiffAttnIdeal.τ).loc Cert.DiffAttnIdeal.main_arg0)) (m ((c.tc : Thread Cert.DiffAttnIdeal.nD Cert.DiffAttnIdeal.τ).loc Cert.DiffAttnIdeal.main_arg1)) (m ((c.tc : Thread Cert.DiffAttnIdeal.nD Cert.DiffAttnIdeal.τ).loc Cert.DiffAttnIdeal.main_arg2)) (m ((c.tc : Thread Cert.DiffAttnIdeal.nD Cert.DiffAttnIdeal.τ).loc Cert.DiffAttnIdeal.main_arg3)) (m ((c.tc : Thread Cert.DiffAttnIdeal.nD Cert.DiffAttnIdeal.τ).loc Cert.DiffAttnIdeal.main_arg4)) (m ((c.tc : Thread Cert.DiffAttnIdeal.nD Cert.DiffAttnIdeal.τ).loc Cert.DiffAttnIdeal.main_arg5)) (m ((c.tc : Thread Cert.DiffAttnIdeal.nD Cert.DiffAttnIdeal.τ).loc Cert.DiffAttnIdeal.main_arg6))) = (fun _ => 1#1)

def Pre_DiffAttnRefIdeal (m : (ℓ : Loc Cert.DiffAttnRefIdeal.nD Cert.DiffAttnRefIdeal.τ Cert.DiffAttnRefIdeal.sig) → Buf (Elt Ideal) ℓ) : Prop :=
  True

def Pre_DiffAttnRefIdeal_finite [hPre_finite : Cert.Pre_finite.Facts] (m : (ℓ : Loc Cert.DiffAttnRefIdeal.nD Cert.DiffAttnRefIdeal.τ Cert.DiffAttnRefIdeal.sig) → Buf (Elt Ideal) ℓ) : Prop :=
  ∀ c : Dev Cert.DiffAttnRefIdeal.nD,
    (Cert.Pre_finite.fn (F := Ideal) (m ((c.tc : Thread Cert.DiffAttnRefIdeal.nD Cert.DiffAttnRefIdeal.τ).loc Cert.DiffAttnRefIdeal.main_arg0)) (m ((c.tc : Thread Cert.DiffAttnRefIdeal.nD Cert.DiffAttnRefIdeal.τ).loc Cert.DiffAttnRefIdeal.main_arg1)) (m ((c.tc : Thread Cert.DiffAttnRefIdeal.nD Cert.DiffAttnRefIdeal.τ).loc Cert.DiffAttnRefIdeal.main_arg2)) (m ((c.tc : Thread Cert.DiffAttnRefIdeal.nD Cert.DiffAttnRefIdeal.τ).loc Cert.DiffAttnRefIdeal.main_arg3)) (m ((c.tc : Thread Cert.DiffAttnRefIdeal.nD Cert.DiffAttnRefIdeal.τ).loc Cert.DiffAttnRefIdeal.main_arg4)) (m ((c.tc : Thread Cert.DiffAttnRefIdeal.nD Cert.DiffAttnRefIdeal.τ).loc Cert.DiffAttnRefIdeal.main_arg5)) (m ((c.tc : Thread Cert.DiffAttnRefIdeal.nD Cert.DiffAttnRefIdeal.τ).loc Cert.DiffAttnRefIdeal.main_arg6))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_CtxProj (m : (ℓ : Loc Cert.CtxProj.nD Cert.CtxProj.τ Cert.CtxProj.sig) → Buf (Elt Bits) ℓ) : Prop :=
  True

def Pre_CtxProjIdeal (m : (ℓ : Loc Cert.CtxProjIdeal.nD Cert.CtxProjIdeal.τ Cert.CtxProjIdeal.sig) → Buf (Elt Ideal) ℓ) : Prop :=
  True

def Pre_CtxProjRefIdeal (m : (ℓ : Loc Cert.CtxProjRefIdeal.nD Cert.CtxProjRefIdeal.τ Cert.CtxProjRefIdeal.sig) → Buf (Elt Ideal) ℓ) : Prop :=
  True

def Pre_ValProj (m : (ℓ : Loc Cert.ValProj.nD Cert.ValProj.τ Cert.ValProj.sig) → Buf (Elt Bits) ℓ) : Prop :=
  True

def Pre_ValProjIdeal (m : (ℓ : Loc Cert.ValProjIdeal.nD Cert.ValProjIdeal.τ Cert.ValProjIdeal.sig) → Buf (Elt Ideal) ℓ) : Prop :=
  True

def Pre_ValProjRefIdeal (m : (ℓ : Loc Cert.ValProjRefIdeal.nD Cert.ValProjRefIdeal.τ Cert.ValProjRefIdeal.sig) → Buf (Elt Ideal) ℓ) : Prop :=
  True

def Pre_KeyProj (m : (ℓ : Loc Cert.KeyProj.nD Cert.KeyProj.τ Cert.KeyProj.sig) → Buf (Elt Bits) ℓ) : Prop :=
  True

def Pre_KeyProjIdeal (m : (ℓ : Loc Cert.KeyProjIdeal.nD Cert.KeyProjIdeal.τ Cert.KeyProjIdeal.sig) → Buf (Elt Ideal) ℓ) : Prop :=
  True

def Pre_KeyProjRefIdeal (m : (ℓ : Loc Cert.KeyProjRefIdeal.nD Cert.KeyProjRefIdeal.τ Cert.KeyProjRefIdeal.sig) → Buf (Elt Ideal) ℓ) : Prop :=
  True

def Pre_QueryProj (m : (ℓ : Loc Cert.QueryProj.nD Cert.QueryProj.τ Cert.QueryProj.sig) → Buf (Elt Bits) ℓ) : Prop :=
  True

def Pre_QueryProjIdeal (m : (ℓ : Loc Cert.QueryProjIdeal.nD Cert.QueryProjIdeal.τ Cert.QueryProjIdeal.sig) → Buf (Elt Ideal) ℓ) : Prop :=
  True

def Pre_QueryProjRefIdeal (m : (ℓ : Loc Cert.QueryProjRefIdeal.nD Cert.QueryProjRefIdeal.τ Cert.QueryProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_NbrProj (m : (ℓ : Loc Cert.NbrProj.nD Cert.NbrProj.τ Cert.NbrProj.sig) → Buf (Elt Bits) ℓ) : Prop :=
  True

def Pre_NbrProjIdeal (m : (ℓ : Loc Cert.NbrProjIdeal.nD Cert.NbrProjIdeal.τ Cert.NbrProjIdeal.sig) → Buf (Elt Ideal) ℓ) : Prop :=
  True

def Pre_NbrProjRefIdeal (m : (ℓ : Loc Cert.NbrProjRefIdeal.nD Cert.NbrProjRefIdeal.τ Cert.NbrProjRefIdeal.sig) → Buf (Elt Ideal) ℓ) : Prop :=
  True

def Pre_NbrQProj (m : (ℓ : Loc Cert.NbrQProj.nD Cert.NbrQProj.τ Cert.NbrQProj.sig) → Buf (Elt Bits) ℓ) : Prop :=
  True

def Pre_NbrQProjIdeal (m : (ℓ : Loc Cert.NbrQProjIdeal.nD Cert.NbrQProjIdeal.τ Cert.NbrQProjIdeal.sig) → Buf (Elt Ideal) ℓ) : Prop :=
  True

def Pre_NbrQProjRefIdeal (m : (ℓ : Loc Cert.NbrQProjRefIdeal.nD Cert.NbrQProjRefIdeal.τ Cert.NbrQProjRefIdeal.sig) → Buf (Elt Ideal) ℓ) : Prop :=
  True

def Pre_CtxWinProj (m : (ℓ : Loc Cert.CtxWinProj.nD Cert.CtxWinProj.τ Cert.CtxWinProj.sig) → Buf (Elt Bits) ℓ) : Prop :=
  True

def Pre_CtxWinProjIdeal (m : (ℓ : Loc Cert.CtxWinProjIdeal.nD Cert.CtxWinProjIdeal.τ Cert.CtxWinProjIdeal.sig) → Buf (Elt Ideal) ℓ) : Prop :=
  True

def Pre_CtxWinProjRefIdeal (m : (ℓ : Loc Cert.CtxWinProjRefIdeal.nD Cert.CtxWinProjRefIdeal.τ Cert.CtxWinProjRefIdeal.sig) → Buf (Elt Ideal) ℓ) : Prop :=
  True

def Pre_CtxNbrProj (m : (ℓ : Loc Cert.CtxNbrProj.nD Cert.CtxNbrProj.τ Cert.CtxNbrProj.sig) → Buf (Elt Bits) ℓ) : Prop :=
  True

def Pre_CtxNbrProjIdeal (m : (ℓ : Loc Cert.CtxNbrProjIdeal.nD Cert.CtxNbrProjIdeal.τ Cert.CtxNbrProjIdeal.sig) → Buf (Elt Ideal) ℓ) : Prop :=
  True

def Pre_CtxNbrProjRefIdeal (m : (ℓ : Loc Cert.CtxNbrProjRefIdeal.nD Cert.CtxNbrProjRefIdeal.τ Cert.CtxNbrProjRefIdeal.sig) → Buf (Elt Ideal) ℓ) : Prop :=
  True

def Pre_OutProjTwo (m : (ℓ : Loc Cert.OutProjTwo.nD Cert.OutProjTwo.τ Cert.OutProjTwo.sig) → Buf (Elt Bits) ℓ) : Prop :=
  True

def Pre_OutProjTwoIdeal (m : (ℓ : Loc Cert.OutProjTwoIdeal.nD Cert.OutProjTwoIdeal.τ Cert.OutProjTwoIdeal.sig) → Buf (Elt Ideal) ℓ) : Prop :=
  True

def Pre_OutProjTwoRefIdeal (m : (ℓ : Loc Cert.OutProjTwoRefIdeal.nD Cert.OutProjTwoRefIdeal.τ Cert.OutProjTwoRefIdeal.sig) → Buf (Elt Ideal) ℓ) : Prop :=
  True

def Pre_WinProj (m : (ℓ : Loc Cert.WinProj.nD Cert.WinProj.τ Cert.WinProj.sig) → Buf (Elt Bits) ℓ) : Prop :=
  True

def Pre_WinProjIdeal (m : (ℓ : Loc Cert.WinProjIdeal.nD Cert.WinProjIdeal.τ Cert.WinProjIdeal.sig) → Buf (Elt Ideal) ℓ) : Prop :=
  True

def Pre_WinProjRefIdeal (m : (ℓ : Loc Cert.WinProjRefIdeal.nD Cert.WinProjRefIdeal.τ Cert.WinProjRefIdeal.sig) → Buf (Elt Ideal) ℓ) : Prop :=
  True

def Pre_CtxAttn (m : (ℓ : Loc Cert.CtxAttn.nD Cert.CtxAttn.τ Cert.CtxAttn.sig) → Buf (Elt Bits) ℓ) : Prop :=
  True

def Pre_CtxAttnIdeal (m : (ℓ : Loc Cert.CtxAttnIdeal.nD Cert.CtxAttnIdeal.τ Cert.CtxAttnIdeal.sig) → Buf (Elt Ideal) ℓ) : Prop :=
  True

def Pre_CtxAttnIdeal_finite_scores [hPre_finite_scores : Cert.Pre_finite_scores.Facts] (m : (ℓ : Loc Cert.CtxAttnIdeal.nD Cert.CtxAttnIdeal.τ Cert.CtxAttnIdeal.sig) → Buf (Elt Ideal) ℓ) : Prop :=
  ∀ c : Dev Cert.CtxAttnIdeal.nD,
    (Cert.Pre_finite_scores.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2)) (m ((c.tc : Thread Cert.CtxAttnIdeal.nD Cert.CtxAttnIdeal.τ).loc Cert.CtxAttnIdeal.main_arg3)) (m ((c.tc : Thread Cert.CtxAttnIdeal.nD Cert.CtxAttnIdeal.τ).loc Cert.CtxAttnIdeal.main_arg4))) = (fun _ => 1#1)

def Pre_CtxAttnRefIdeal (m : (ℓ : Loc Cert.CtxAttnRefIdeal.nD Cert.CtxAttnRefIdeal.τ Cert.CtxAttnRefIdeal.sig) → Buf (Elt Ideal) ℓ) : Prop :=
  True

def Pre_CtxAttnRefIdeal_finite_scores [hPre_finite_scores : Cert.Pre_finite_scores.Facts] (m : (ℓ : Loc Cert.CtxAttnRefIdeal.nD Cert.CtxAttnRefIdeal.τ Cert.CtxAttnRefIdeal.sig) → Buf (Elt Ideal) ℓ) : Prop :=
  ∀ c : Dev Cert.CtxAttnRefIdeal.nD,
    (Cert.Pre_finite_scores.fn (F := Ideal) (m ((c.tc : Thread Cert.CtxAttnRefIdeal.nD Cert.CtxAttnRefIdeal.τ).loc Cert.CtxAttnRefIdeal.main_arg0)) (m ((c.tc : Thread Cert.CtxAttnRefIdeal.nD Cert.CtxAttnRefIdeal.τ).loc Cert.CtxAttnRefIdeal.main_arg1)) (m ((c.tc : Thread Cert.CtxAttnRefIdeal.nD Cert.CtxAttnRefIdeal.τ).loc Cert.CtxAttnRefIdeal.main_arg2)) (m ((c.tc : Thread Cert.CtxAttnRefIdeal.nD Cert.CtxAttnRefIdeal.τ).loc Cert.CtxAttnRefIdeal.main_arg3)) (m ((c.tc : Thread Cert.CtxAttnRefIdeal.nD Cert.CtxAttnRefIdeal.τ).loc Cert.CtxAttnRefIdeal.main_arg4))) = (fun _ => 1#1)

def quiescent_DiffAttn [hDiffAttn : Cert.DiffAttn.Facts] : Prop :=
  ∀ (m : (ℓ : Loc Cert.DiffAttn.nD Cert.DiffAttn.τ Cert.DiffAttn.sig) → Buf (Elt Bits) ℓ) (g : Dev Cert.DiffAttn.nD → PrngReg), Pre_DiffAttn m →
    θ_run (Cert.DiffAttn.defs (F := Bits)) (onTc (τ := Cert.DiffAttn.τ) (Cert.DiffAttn.main (F := Bits))) ⟨m, fun _ => 0, g⟩ (fun r => (∀ c : Dev Cert.DiffAttn.nD,
      r.2.mem ((c.tc : Thread Cert.DiffAttn.nD Cert.DiffAttn.τ).loc Cert.DiffAttn.main_arg0) = m ((c.tc : Thread Cert.DiffAttn.nD Cert.DiffAttn.τ).loc Cert.DiffAttn.main_arg0)
      ∧ r.2.mem ((c.tc : Thread Cert.DiffAttn.nD Cert.DiffAttn.τ).loc Cert.DiffAttn.main_arg1) = m ((c.tc : Thread Cert.DiffAttn.nD Cert.DiffAttn.τ).loc Cert.DiffAttn.main_arg1)
      ∧ r.2.mem ((c.tc : Thread Cert.DiffAttn.nD Cert.DiffAttn.τ).loc Cert.DiffAttn.main_arg2) = m ((c.tc : Thread Cert.DiffAttn.nD Cert.DiffAttn.τ).loc Cert.DiffAttn.main_arg2)
      ∧ r.2.mem ((c.tc : Thread Cert.DiffAttn.nD Cert.DiffAttn.τ).loc Cert.DiffAttn.main_arg3) = m ((c.tc : Thread Cert.DiffAttn.nD Cert.DiffAttn.τ).loc Cert.DiffAttn.main_arg3)
      ∧ r.2.mem ((c.tc : Thread Cert.DiffAttn.nD Cert.DiffAttn.τ).loc Cert.DiffAttn.main_arg4) = m ((c.tc : Thread Cert.DiffAttn.nD Cert.DiffAttn.τ).loc Cert.DiffAttn.main_arg4)
      ∧ r.2.mem ((c.tc : Thread Cert.DiffAttn.nD Cert.DiffAttn.τ).loc Cert.DiffAttn.main_arg5) = m ((c.tc : Thread Cert.DiffAttn.nD Cert.DiffAttn.τ).loc Cert.DiffAttn.main_arg5)
      ∧ r.2.mem ((c.tc : Thread Cert.DiffAttn.nD Cert.DiffAttn.τ).loc Cert.DiffAttn.main_arg6) = m ((c.tc : Thread Cert.DiffAttn.nD Cert.DiffAttn.τ).loc Cert.DiffAttn.main_arg6))
      ∧ r.2.sem = fun _ => 0)

def quiescent_DiffAttnIdeal [hDiffAttnIdeal : Cert.DiffAttnIdeal.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
      ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6))
      ∧ r.2.sem = fun _ => 0)

def quiescent_DiffAttnIdeal_pre_finite [hDiffAttnIdeal : Cert.DiffAttnIdeal.Facts] [hPre_finite : Cert.Pre_finite.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal_finite m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
      ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6))
      ∧ r.2.sem = fun _ => 0)

def quiescent_DiffAttnRefIdeal [hDiffAttnRefIdeal : Cert.DiffAttnRefIdeal.Facts] : Prop :=
  ∀ (m : (ℓ : Loc Cert.DiffAttnRefIdeal.nD Cert.DiffAttnRefIdeal.τ Cert.DiffAttnRefIdeal.sig) → Buf (Elt Ideal) ℓ) (g : Dev Cert.DiffAttnRefIdeal.nD → PrngReg), Pre_DiffAttnRefIdeal m →
    θ_run (Cert.DiffAttnRefIdeal.defs (F := Ideal)) (onTc (τ := Cert.DiffAttnRefIdeal.τ) (Cert.DiffAttnRefIdeal.main (F := Ideal))) ⟨m, fun _ => 0, g⟩ (fun r => (∀ c : Dev Cert.DiffAttnRefIdeal.nD,
      r.2.mem ((c.tc : Thread Cert.DiffAttnRefIdeal.nD Cert.DiffAttnRefIdeal.τ).loc Cert.DiffAttnRefIdeal.main_arg0) = m ((c.tc : Thread Cert.DiffAttnRefIdeal.nD Cert.DiffAttnRefIdeal.τ).loc Cert.DiffAttnRefIdeal.main_arg0)
      ∧ r.2.mem ((c.tc : Thread Cert.DiffAttnRefIdeal.nD Cert.DiffAttnRefIdeal.τ).loc Cert.DiffAttnRefIdeal.main_arg1) = m ((c.tc : Thread Cert.DiffAttnRefIdeal.nD Cert.DiffAttnRefIdeal.τ).loc Cert.DiffAttnRefIdeal.main_arg1)
      ∧ r.2.mem ((c.tc : Thread Cert.DiffAttnRefIdeal.nD Cert.DiffAttnRefIdeal.τ).loc Cert.DiffAttnRefIdeal.main_arg2) = m ((c.tc : Thread Cert.DiffAttnRefIdeal.nD Cert.DiffAttnRefIdeal.τ).loc Cert.DiffAttnRefIdeal.main_arg2)
      ∧ r.2.mem ((c.tc : Thread Cert.DiffAttnRefIdeal.nD Cert.DiffAttnRefIdeal.τ).loc Cert.DiffAttnRefIdeal.main_arg3) = m ((c.tc : Thread Cert.DiffAttnRefIdeal.nD Cert.DiffAttnRefIdeal.τ).loc Cert.DiffAttnRefIdeal.main_arg3)
      ∧ r.2.mem ((c.tc : Thread Cert.DiffAttnRefIdeal.nD Cert.DiffAttnRefIdeal.τ).loc Cert.DiffAttnRefIdeal.main_arg4) = m ((c.tc : Thread Cert.DiffAttnRefIdeal.nD Cert.DiffAttnRefIdeal.τ).loc Cert.DiffAttnRefIdeal.main_arg4)
      ∧ r.2.mem ((c.tc : Thread Cert.DiffAttnRefIdeal.nD Cert.DiffAttnRefIdeal.τ).loc Cert.DiffAttnRefIdeal.main_arg5) = m ((c.tc : Thread Cert.DiffAttnRefIdeal.nD Cert.DiffAttnRefIdeal.τ).loc Cert.DiffAttnRefIdeal.main_arg5)
      ∧ r.2.mem ((c.tc : Thread Cert.DiffAttnRefIdeal.nD Cert.DiffAttnRefIdeal.τ).loc Cert.DiffAttnRefIdeal.main_arg6) = m ((c.tc : Thread Cert.DiffAttnRefIdeal.nD Cert.DiffAttnRefIdeal.τ).loc Cert.DiffAttnRefIdeal.main_arg6))
      ∧ r.2.sem = fun _ => 0)

def quiescent_DiffAttnRefIdeal_pre_finite [hDiffAttnRefIdeal : Cert.DiffAttnRefIdeal.Facts] [hPre_finite : Cert.Pre_finite.Facts] : Prop :=
  ∀ (m : (ℓ : Loc Cert.DiffAttnRefIdeal.nD Cert.DiffAttnRefIdeal.τ Cert.DiffAttnRefIdeal.sig) → Buf (Elt Ideal) ℓ) (g : Dev Cert.DiffAttnRefIdeal.nD → PrngReg), Pre_DiffAttnRefIdeal_finite m →
    θ_run (Cert.DiffAttnRefIdeal.defs (F := Ideal)) (onTc (τ := Cert.DiffAttnRefIdeal.τ) (Cert.DiffAttnRefIdeal.main (F := Ideal))) ⟨m, fun _ => 0, g⟩ (fun r => (∀ c : Dev Cert.DiffAttnRefIdeal.nD,
      r.2.mem ((c.tc : Thread Cert.DiffAttnRefIdeal.nD Cert.DiffAttnRefIdeal.τ).loc Cert.DiffAttnRefIdeal.main_arg0) = m ((c.tc : Thread Cert.DiffAttnRefIdeal.nD Cert.DiffAttnRefIdeal.τ).loc Cert.DiffAttnRefIdeal.main_arg0)
      ∧ r.2.mem ((c.tc : Thread Cert.DiffAttnRefIdeal.nD Cert.DiffAttnRefIdeal.τ).loc Cert.DiffAttnRefIdeal.main_arg1) = m ((c.tc : Thread Cert.DiffAttnRefIdeal.nD Cert.DiffAttnRefIdeal.τ).loc Cert.DiffAttnRefIdeal.main_arg1)
      ∧ r.2.mem ((c.tc : Thread Cert.DiffAttnRefIdeal.nD Cert.DiffAttnRefIdeal.τ).loc Cert.DiffAttnRefIdeal.main_arg2) = m ((c.tc : Thread Cert.DiffAttnRefIdeal.nD Cert.DiffAttnRefIdeal.τ).loc Cert.DiffAttnRefIdeal.main_arg2)
      ∧ r.2.mem ((c.tc : Thread Cert.DiffAttnRefIdeal.nD Cert.DiffAttnRefIdeal.τ).loc Cert.DiffAttnRefIdeal.main_arg3) = m ((c.tc : Thread Cert.DiffAttnRefIdeal.nD Cert.DiffAttnRefIdeal.τ).loc Cert.DiffAttnRefIdeal.main_arg3)
      ∧ r.2.mem ((c.tc : Thread Cert.DiffAttnRefIdeal.nD Cert.DiffAttnRefIdeal.τ).loc Cert.DiffAttnRefIdeal.main_arg4) = m ((c.tc : Thread Cert.DiffAttnRefIdeal.nD Cert.DiffAttnRefIdeal.τ).loc Cert.DiffAttnRefIdeal.main_arg4)
      ∧ r.2.mem ((c.tc : Thread Cert.DiffAttnRefIdeal.nD Cert.DiffAttnRefIdeal.τ).loc Cert.DiffAttnRefIdeal.main_arg5) = m ((c.tc : Thread Cert.DiffAttnRefIdeal.nD Cert.DiffAttnRefIdeal.τ).loc Cert.DiffAttnRefIdeal.main_arg5)
      ∧ r.2.mem ((c.tc : Thread Cert.DiffAttnRefIdeal.nD Cert.DiffAttnRefIdeal.τ).loc Cert.DiffAttnRefIdeal.main_arg6) = m ((c.tc : Thread Cert.DiffAttnRefIdeal.nD Cert.DiffAttnRefIdeal.τ).loc Cert.DiffAttnRefIdeal.main_arg6))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_CtxProj [hCtxProj : Cert.CtxProj.Facts] : Prop :=
  ∀ (m : (ℓ : Loc Cert.CtxProj.nD Cert.CtxProj.τ Cert.CtxProj.sig) → Buf (Elt Bits) ℓ) (g : Dev Cert.CtxProj.nD → PrngReg), Pre_CtxProj m →
    θ_run (Cert.CtxProj.defs (F := Bits)) (onTc (τ := Cert.CtxProj.τ) (Cert.CtxProj.main (F := Bits))) ⟨m, fun _ => 0, g⟩ (fun r => (∀ c : Dev Cert.CtxProj.nD,
      r.2.mem ((c.tc : Thread Cert.CtxProj.nD Cert.CtxProj.τ).loc Cert.CtxProj.main_arg0) = m ((c.tc : Thread Cert.CtxProj.nD Cert.CtxProj.τ).loc Cert.CtxProj.main_arg0)
      ∧ r.2.mem ((c.tc : Thread Cert.CtxProj.nD Cert.CtxProj.τ).loc Cert.CtxProj.main_arg1) = m ((c.tc : Thread Cert.CtxProj.nD Cert.CtxProj.τ).loc Cert.CtxProj.main_arg1))
      ∧ r.2.sem = fun _ => 0)

def quiescent_CtxProjIdeal [hCtxProjIdeal : Cert.CtxProjIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg), Pre_CtxProjIdeal m →
    θ_run (Cert.CtxProjIdeal.defs (F := Ideal)) (onTc (τ := Cert.CtxProjIdeal.τ) (Cert.CtxProjIdeal.main (F := Ideal))) ⟨m, fun _ => 0, g⟩ (fun r => (∀ c : Dev Cert.CtxProjIdeal.nD,
      r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
      ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1))
      ∧ r.2.sem = fun _ => 0)

def quiescent_CtxProjRefIdeal [hCtxProjRefIdeal : Cert.CtxProjRefIdeal.Facts] : Prop :=
  ∀ (m : (ℓ : Loc Cert.CtxProjRefIdeal.nD Cert.CtxProjRefIdeal.τ Cert.CtxProjRefIdeal.sig) → Buf (Elt Ideal) ℓ) (g : Dev Cert.CtxProjRefIdeal.nD → PrngReg), Pre_CtxProjRefIdeal m →
    θ_run (Cert.CtxProjRefIdeal.defs (F := Ideal)) (onTc (τ := Cert.CtxProjRefIdeal.τ) (Cert.CtxProjRefIdeal.main (F := Ideal))) ⟨m, fun _ => 0, g⟩ (fun r => (∀ c : Dev Cert.CtxProjRefIdeal.nD,
      r.2.mem ((c.tc : Thread Cert.CtxProjRefIdeal.nD Cert.CtxProjRefIdeal.τ).loc Cert.CtxProjRefIdeal.main_arg0) = m ((c.tc : Thread Cert.CtxProjRefIdeal.nD Cert.CtxProjRefIdeal.τ).loc Cert.CtxProjRefIdeal.main_arg0)
      ∧ r.2.mem ((c.tc : Thread Cert.CtxProjRefIdeal.nD Cert.CtxProjRefIdeal.τ).loc Cert.CtxProjRefIdeal.main_arg1) = m ((c.tc : Thread Cert.CtxProjRefIdeal.nD Cert.CtxProjRefIdeal.τ).loc Cert.CtxProjRefIdeal.main_arg1))
      ∧ r.2.sem = fun _ => 0)

def quiescent_ValProj [hValProj : Cert.ValProj.Facts] : Prop :=
  ∀ (m : (ℓ : Loc Cert.ValProj.nD Cert.ValProj.τ Cert.ValProj.sig) → Buf (Elt Bits) ℓ) (g : Dev Cert.ValProj.nD → PrngReg), Pre_ValProj m →
    θ_run (Cert.ValProj.defs (F := Bits)) (onTc (τ := Cert.ValProj.τ) (Cert.ValProj.main (F := Bits))) ⟨m, fun _ => 0, g⟩ (fun r => (∀ c : Dev Cert.ValProj.nD,
      r.2.mem ((c.tc : Thread Cert.ValProj.nD Cert.ValProj.τ).loc Cert.ValProj.main_arg0) = m ((c.tc : Thread Cert.ValProj.nD Cert.ValProj.τ).loc Cert.ValProj.main_arg0)
      ∧ r.2.mem ((c.tc : Thread Cert.ValProj.nD Cert.ValProj.τ).loc Cert.ValProj.main_arg1) = m ((c.tc : Thread Cert.ValProj.nD Cert.ValProj.τ).loc Cert.ValProj.main_arg1))
      ∧ r.2.sem = fun _ => 0)

def quiescent_ValProjIdeal [hValProjIdeal : Cert.ValProjIdeal.Facts] : Prop :=
  ∀ (m : (ℓ : Loc Cert.ValProjIdeal.nD Cert.ValProjIdeal.τ Cert.ValProjIdeal.sig) → Buf (Elt Ideal) ℓ) (g : Dev Cert.ValProjIdeal.nD → PrngReg), Pre_ValProjIdeal m →
    θ_run (Cert.ValProjIdeal.defs (F := Ideal)) (onTc (τ := Cert.ValProjIdeal.τ) (Cert.ValProjIdeal.main (F := Ideal))) ⟨m, fun _ => 0, g⟩ (fun r => (∀ c : Dev Cert.ValProjIdeal.nD,
      r.2.mem ((c.tc : Thread Cert.ValProjIdeal.nD Cert.ValProjIdeal.τ).loc Cert.ValProjIdeal.main_arg0) = m ((c.tc : Thread Cert.ValProjIdeal.nD Cert.ValProjIdeal.τ).loc Cert.ValProjIdeal.main_arg0)
      ∧ r.2.mem ((c.tc : Thread Cert.ValProjIdeal.nD Cert.ValProjIdeal.τ).loc Cert.ValProjIdeal.main_arg1) = m ((c.tc : Thread Cert.ValProjIdeal.nD Cert.ValProjIdeal.τ).loc Cert.ValProjIdeal.main_arg1))
      ∧ r.2.sem = fun _ => 0)

def quiescent_ValProjRefIdeal [hValProjRefIdeal : Cert.ValProjRefIdeal.Facts] : Prop :=
  ∀ (m : (ℓ : Loc Cert.ValProjRefIdeal.nD Cert.ValProjRefIdeal.τ Cert.ValProjRefIdeal.sig) → Buf (Elt Ideal) ℓ) (g : Dev Cert.ValProjRefIdeal.nD → PrngReg), Pre_ValProjRefIdeal m →
    θ_run (Cert.ValProjRefIdeal.defs (F := Ideal)) (onTc (τ := Cert.ValProjRefIdeal.τ) (Cert.ValProjRefIdeal.main (F := Ideal))) ⟨m, fun _ => 0, g⟩ (fun r => (∀ c : Dev Cert.ValProjRefIdeal.nD,
      r.2.mem ((c.tc : Thread Cert.ValProjRefIdeal.nD Cert.ValProjRefIdeal.τ).loc Cert.ValProjRefIdeal.main_arg0) = m ((c.tc : Thread Cert.ValProjRefIdeal.nD Cert.ValProjRefIdeal.τ).loc Cert.ValProjRefIdeal.main_arg0)
      ∧ r.2.mem ((c.tc : Thread Cert.ValProjRefIdeal.nD Cert.ValProjRefIdeal.τ).loc Cert.ValProjRefIdeal.main_arg1) = m ((c.tc : Thread Cert.ValProjRefIdeal.nD Cert.ValProjRefIdeal.τ).loc Cert.ValProjRefIdeal.main_arg1))
      ∧ r.2.sem = fun _ => 0)

def quiescent_KeyProj [hKeyProj : Cert.KeyProj.Facts] : Prop :=
  ∀ (m : (ℓ : Loc Cert.KeyProj.nD Cert.KeyProj.τ Cert.KeyProj.sig) → Buf (Elt Bits) ℓ) (g : Dev Cert.KeyProj.nD → PrngReg), Pre_KeyProj m →
    θ_run (Cert.KeyProj.defs (F := Bits)) (onTc (τ := Cert.KeyProj.τ) (Cert.KeyProj.main (F := Bits))) ⟨m, fun _ => 0, g⟩ (fun r => (∀ c : Dev Cert.KeyProj.nD,
      r.2.mem ((c.tc : Thread Cert.KeyProj.nD Cert.KeyProj.τ).loc Cert.KeyProj.main_arg0) = m ((c.tc : Thread Cert.KeyProj.nD Cert.KeyProj.τ).loc Cert.KeyProj.main_arg0)
      ∧ r.2.mem ((c.tc : Thread Cert.KeyProj.nD Cert.KeyProj.τ).loc Cert.KeyProj.main_arg1) = m ((c.tc : Thread Cert.KeyProj.nD Cert.KeyProj.τ).loc Cert.KeyProj.main_arg1))
      ∧ r.2.sem = fun _ => 0)

def quiescent_KeyProjIdeal [hKeyProjIdeal : Cert.KeyProjIdeal.Facts] : Prop :=
  ∀ (m : (ℓ : Loc Cert.KeyProjIdeal.nD Cert.KeyProjIdeal.τ Cert.KeyProjIdeal.sig) → Buf (Elt Ideal) ℓ) (g : Dev Cert.KeyProjIdeal.nD → PrngReg), Pre_KeyProjIdeal m →
    θ_run (Cert.KeyProjIdeal.defs (F := Ideal)) (onTc (τ := Cert.KeyProjIdeal.τ) (Cert.KeyProjIdeal.main (F := Ideal))) ⟨m, fun _ => 0, g⟩ (fun r => (∀ c : Dev Cert.KeyProjIdeal.nD,
      r.2.mem ((c.tc : Thread Cert.KeyProjIdeal.nD Cert.KeyProjIdeal.τ).loc Cert.KeyProjIdeal.main_arg0) = m ((c.tc : Thread Cert.KeyProjIdeal.nD Cert.KeyProjIdeal.τ).loc Cert.KeyProjIdeal.main_arg0)
      ∧ r.2.mem ((c.tc : Thread Cert.KeyProjIdeal.nD Cert.KeyProjIdeal.τ).loc Cert.KeyProjIdeal.main_arg1) = m ((c.tc : Thread Cert.KeyProjIdeal.nD Cert.KeyProjIdeal.τ).loc Cert.KeyProjIdeal.main_arg1))
      ∧ r.2.sem = fun _ => 0)

def quiescent_KeyProjRefIdeal [hKeyProjRefIdeal : Cert.KeyProjRefIdeal.Facts] : Prop :=
  ∀ (m : (ℓ : Loc Cert.KeyProjRefIdeal.nD Cert.KeyProjRefIdeal.τ Cert.KeyProjRefIdeal.sig) → Buf (Elt Ideal) ℓ) (g : Dev Cert.KeyProjRefIdeal.nD → PrngReg), Pre_KeyProjRefIdeal m →
    θ_run (Cert.KeyProjRefIdeal.defs (F := Ideal)) (onTc (τ := Cert.KeyProjRefIdeal.τ) (Cert.KeyProjRefIdeal.main (F := Ideal))) ⟨m, fun _ => 0, g⟩ (fun r => (∀ c : Dev Cert.KeyProjRefIdeal.nD,
      r.2.mem ((c.tc : Thread Cert.KeyProjRefIdeal.nD Cert.KeyProjRefIdeal.τ).loc Cert.KeyProjRefIdeal.main_arg0) = m ((c.tc : Thread Cert.KeyProjRefIdeal.nD Cert.KeyProjRefIdeal.τ).loc Cert.KeyProjRefIdeal.main_arg0)
      ∧ r.2.mem ((c.tc : Thread Cert.KeyProjRefIdeal.nD Cert.KeyProjRefIdeal.τ).loc Cert.KeyProjRefIdeal.main_arg1) = m ((c.tc : Thread Cert.KeyProjRefIdeal.nD Cert.KeyProjRefIdeal.τ).loc Cert.KeyProjRefIdeal.main_arg1))
      ∧ r.2.sem = fun _ => 0)

def quiescent_QueryProj [hQueryProj : Cert.QueryProj.Facts] : Prop :=
  ∀ (m : (ℓ : Loc Cert.QueryProj.nD Cert.QueryProj.τ Cert.QueryProj.sig) → Buf (Elt Bits) ℓ) (g : Dev Cert.QueryProj.nD → PrngReg), Pre_QueryProj m →
    θ_run (Cert.QueryProj.defs (F := Bits)) (onTc (τ := Cert.QueryProj.τ) (Cert.QueryProj.main (F := Bits))) ⟨m, fun _ => 0, g⟩ (fun r => (∀ c : Dev Cert.QueryProj.nD,
      r.2.mem ((c.tc : Thread Cert.QueryProj.nD Cert.QueryProj.τ).loc Cert.QueryProj.main_arg0) = m ((c.tc : Thread Cert.QueryProj.nD Cert.QueryProj.τ).loc Cert.QueryProj.main_arg0)
      ∧ r.2.mem ((c.tc : Thread Cert.QueryProj.nD Cert.QueryProj.τ).loc Cert.QueryProj.main_arg1) = m ((c.tc : Thread Cert.QueryProj.nD Cert.QueryProj.τ).loc Cert.QueryProj.main_arg1))
      ∧ r.2.sem = fun _ => 0)

def quiescent_QueryProjIdeal [hQueryProjIdeal : Cert.QueryProjIdeal.Facts] : Prop :=
  ∀ (m : (ℓ : Loc Cert.QueryProjIdeal.nD Cert.QueryProjIdeal.τ Cert.QueryProjIdeal.sig) → Buf (Elt Ideal) ℓ) (g : Dev Cert.QueryProjIdeal.nD → PrngReg), Pre_QueryProjIdeal m →
    θ_run (Cert.QueryProjIdeal.defs (F := Ideal)) (onTc (τ := Cert.QueryProjIdeal.τ) (Cert.QueryProjIdeal.main (F := Ideal))) ⟨m, fun _ => 0, g⟩ (fun r => (∀ c : Dev Cert.QueryProjIdeal.nD,
      r.2.mem ((c.tc : Thread Cert.QueryProjIdeal.nD Cert.QueryProjIdeal.τ).loc Cert.QueryProjIdeal.main_arg0) = m ((c.tc : Thread Cert.QueryProjIdeal.nD Cert.QueryProjIdeal.τ).loc Cert.QueryProjIdeal.main_arg0)
      ∧ r.2.mem ((c.tc : Thread Cert.QueryProjIdeal.nD Cert.QueryProjIdeal.τ).loc Cert.QueryProjIdeal.main_arg1) = m ((c.tc : Thread Cert.QueryProjIdeal.nD Cert.QueryProjIdeal.τ).loc Cert.QueryProjIdeal.main_arg1))
      ∧ r.2.sem = fun _ => 0)

def quiescent_QueryProjRefIdeal [hQueryProjRefIdeal : Cert.QueryProjRefIdeal.Facts] : Prop :=
  ∀ (m : (ℓ : Loc Cert.QueryProjRefIdeal.nD Cert.QueryProjRefIdeal.τ Cert.QueryProjRefIdeal.sig) → Buf (Elt Ideal) ℓ) (g : Dev Cert.QueryProjRefIdeal.nD → PrngReg), Pre_QueryProjRefIdeal m →
    θ_run (Cert.QueryProjRefIdeal.defs (F := Ideal)) (onTc (τ := Cert.QueryProjRefIdeal.τ) (Cert.QueryProjRefIdeal.main (F := Ideal))) ⟨m, fun _ => 0, g⟩ (fun r => (∀ c : Dev Cert.QueryProjRefIdeal.nD,
      r.2.mem ((c.tc : Thread Cert.QueryProjRefIdeal.nD Cert.QueryProjRefIdeal.τ).loc Cert.QueryProjRefIdeal.main_arg0) = m ((c.tc : Thread Cert.QueryProjRefIdeal.nD Cert.QueryProjRefIdeal.τ).loc Cert.QueryProjRefIdeal.main_arg0)
      ∧ r.2.mem ((c.tc : Thread Cert.QueryProjRefIdeal.nD Cert.QueryProjRefIdeal.τ).loc Cert.QueryProjRefIdeal.main_arg1) = m ((c.tc : Thread Cert.QueryProjRefIdeal.nD Cert.QueryProjRefIdeal.τ).loc Cert.QueryProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_NbrProj [hNbrProj : Cert.NbrProj.Facts] : Prop :=
  ∀ (m : (ℓ : Loc Cert.NbrProj.nD Cert.NbrProj.τ Cert.NbrProj.sig) → Buf (Elt Bits) ℓ) (g : Dev Cert.NbrProj.nD → PrngReg), Pre_NbrProj m →
    θ_run (Cert.NbrProj.defs (F := Bits)) (onTc (τ := Cert.NbrProj.τ) (Cert.NbrProj.main (F := Bits))) ⟨m, fun _ => 0, g⟩ (fun r => (∀ c : Dev Cert.NbrProj.nD,
      r.2.mem ((c.tc : Thread Cert.NbrProj.nD Cert.NbrProj.τ).loc Cert.NbrProj.main_arg0) = m ((c.tc : Thread Cert.NbrProj.nD Cert.NbrProj.τ).loc Cert.NbrProj.main_arg0)
      ∧ r.2.mem ((c.tc : Thread Cert.NbrProj.nD Cert.NbrProj.τ).loc Cert.NbrProj.main_arg1) = m ((c.tc : Thread Cert.NbrProj.nD Cert.NbrProj.τ).loc Cert.NbrProj.main_arg1))
      ∧ r.2.sem = fun _ => 0)

def quiescent_NbrProjIdeal [hNbrProjIdeal : Cert.NbrProjIdeal.Facts] : Prop :=
  ∀ (m : (ℓ : Loc Cert.NbrProjIdeal.nD Cert.NbrProjIdeal.τ Cert.NbrProjIdeal.sig) → Buf (Elt Ideal) ℓ) (g : Dev Cert.NbrProjIdeal.nD → PrngReg), Pre_NbrProjIdeal m →
    θ_run (Cert.NbrProjIdeal.defs (F := Ideal)) (onTc (τ := Cert.NbrProjIdeal.τ) (Cert.NbrProjIdeal.main (F := Ideal))) ⟨m, fun _ => 0, g⟩ (fun r => (∀ c : Dev Cert.NbrProjIdeal.nD,
      r.2.mem ((c.tc : Thread Cert.NbrProjIdeal.nD Cert.NbrProjIdeal.τ).loc Cert.NbrProjIdeal.main_arg0) = m ((c.tc : Thread Cert.NbrProjIdeal.nD Cert.NbrProjIdeal.τ).loc Cert.NbrProjIdeal.main_arg0)
      ∧ r.2.mem ((c.tc : Thread Cert.NbrProjIdeal.nD Cert.NbrProjIdeal.τ).loc Cert.NbrProjIdeal.main_arg1) = m ((c.tc : Thread Cert.NbrProjIdeal.nD Cert.NbrProjIdeal.τ).loc Cert.NbrProjIdeal.main_arg1))
      ∧ r.2.sem = fun _ => 0)

def quiescent_NbrProjRefIdeal [hNbrProjRefIdeal : Cert.NbrProjRefIdeal.Facts] : Prop :=
  ∀ (m : (ℓ : Loc Cert.NbrProjRefIdeal.nD Cert.NbrProjRefIdeal.τ Cert.NbrProjRefIdeal.sig) → Buf (Elt Ideal) ℓ) (g : Dev Cert.NbrProjRefIdeal.nD → PrngReg), Pre_NbrProjRefIdeal m →
    θ_run (Cert.NbrProjRefIdeal.defs (F := Ideal)) (onTc (τ := Cert.NbrProjRefIdeal.τ) (Cert.NbrProjRefIdeal.main (F := Ideal))) ⟨m, fun _ => 0, g⟩ (fun r => (∀ c : Dev Cert.NbrProjRefIdeal.nD,
      r.2.mem ((c.tc : Thread Cert.NbrProjRefIdeal.nD Cert.NbrProjRefIdeal.τ).loc Cert.NbrProjRefIdeal.main_arg0) = m ((c.tc : Thread Cert.NbrProjRefIdeal.nD Cert.NbrProjRefIdeal.τ).loc Cert.NbrProjRefIdeal.main_arg0)
      ∧ r.2.mem ((c.tc : Thread Cert.NbrProjRefIdeal.nD Cert.NbrProjRefIdeal.τ).loc Cert.NbrProjRefIdeal.main_arg1) = m ((c.tc : Thread Cert.NbrProjRefIdeal.nD Cert.NbrProjRefIdeal.τ).loc Cert.NbrProjRefIdeal.main_arg1))
      ∧ r.2.sem = fun _ => 0)

def quiescent_NbrQProj [hNbrQProj : Cert.NbrQProj.Facts] : Prop :=
  ∀ (m : (ℓ : Loc Cert.NbrQProj.nD Cert.NbrQProj.τ Cert.NbrQProj.sig) → Buf (Elt Bits) ℓ) (g : Dev Cert.NbrQProj.nD → PrngReg), Pre_NbrQProj m →
    θ_run (Cert.NbrQProj.defs (F := Bits)) (onTc (τ := Cert.NbrQProj.τ) (Cert.NbrQProj.main (F := Bits))) ⟨m, fun _ => 0, g⟩ (fun r => (∀ c : Dev Cert.NbrQProj.nD,
      r.2.mem ((c.tc : Thread Cert.NbrQProj.nD Cert.NbrQProj.τ).loc Cert.NbrQProj.main_arg0) = m ((c.tc : Thread Cert.NbrQProj.nD Cert.NbrQProj.τ).loc Cert.NbrQProj.main_arg0)
      ∧ r.2.mem ((c.tc : Thread Cert.NbrQProj.nD Cert.NbrQProj.τ).loc Cert.NbrQProj.main_arg1) = m ((c.tc : Thread Cert.NbrQProj.nD Cert.NbrQProj.τ).loc Cert.NbrQProj.main_arg1))
      ∧ r.2.sem = fun _ => 0)

def quiescent_NbrQProjIdeal [hNbrQProjIdeal : Cert.NbrQProjIdeal.Facts] : Prop :=
  ∀ (m : (ℓ : Loc Cert.NbrQProjIdeal.nD Cert.NbrQProjIdeal.τ Cert.NbrQProjIdeal.sig) → Buf (Elt Ideal) ℓ) (g : Dev Cert.NbrQProjIdeal.nD → PrngReg), Pre_NbrQProjIdeal m →
    θ_run (Cert.NbrQProjIdeal.defs (F := Ideal)) (onTc (τ := Cert.NbrQProjIdeal.τ) (Cert.NbrQProjIdeal.main (F := Ideal))) ⟨m, fun _ => 0, g⟩ (fun r => (∀ c : Dev Cert.NbrQProjIdeal.nD,
      r.2.mem ((c.tc : Thread Cert.NbrQProjIdeal.nD Cert.NbrQProjIdeal.τ).loc Cert.NbrQProjIdeal.main_arg0) = m ((c.tc : Thread Cert.NbrQProjIdeal.nD Cert.NbrQProjIdeal.τ).loc Cert.NbrQProjIdeal.main_arg0)
      ∧ r.2.mem ((c.tc : Thread Cert.NbrQProjIdeal.nD Cert.NbrQProjIdeal.τ).loc Cert.NbrQProjIdeal.main_arg1) = m ((c.tc : Thread Cert.NbrQProjIdeal.nD Cert.NbrQProjIdeal.τ).loc Cert.NbrQProjIdeal.main_arg1))
      ∧ r.2.sem = fun _ => 0)

def quiescent_NbrQProjRefIdeal [hNbrQProjRefIdeal : Cert.NbrQProjRefIdeal.Facts] : Prop :=
  ∀ (m : (ℓ : Loc Cert.NbrQProjRefIdeal.nD Cert.NbrQProjRefIdeal.τ Cert.NbrQProjRefIdeal.sig) → Buf (Elt Ideal) ℓ) (g : Dev Cert.NbrQProjRefIdeal.nD → PrngReg), Pre_NbrQProjRefIdeal m →
    θ_run (Cert.NbrQProjRefIdeal.defs (F := Ideal)) (onTc (τ := Cert.NbrQProjRefIdeal.τ) (Cert.NbrQProjRefIdeal.main (F := Ideal))) ⟨m, fun _ => 0, g⟩ (fun r => (∀ c : Dev Cert.NbrQProjRefIdeal.nD,
      r.2.mem ((c.tc : Thread Cert.NbrQProjRefIdeal.nD Cert.NbrQProjRefIdeal.τ).loc Cert.NbrQProjRefIdeal.main_arg0) = m ((c.tc : Thread Cert.NbrQProjRefIdeal.nD Cert.NbrQProjRefIdeal.τ).loc Cert.NbrQProjRefIdeal.main_arg0)
      ∧ r.2.mem ((c.tc : Thread Cert.NbrQProjRefIdeal.nD Cert.NbrQProjRefIdeal.τ).loc Cert.NbrQProjRefIdeal.main_arg1) = m ((c.tc : Thread Cert.NbrQProjRefIdeal.nD Cert.NbrQProjRefIdeal.τ).loc Cert.NbrQProjRefIdeal.main_arg1))
      ∧ r.2.sem = fun _ => 0)

def quiescent_CtxWinProj [hCtxWinProj : Cert.CtxWinProj.Facts] : Prop :=
  ∀ (m : (ℓ : Loc Cert.CtxWinProj.nD Cert.CtxWinProj.τ Cert.CtxWinProj.sig) → Buf (Elt Bits) ℓ) (g : Dev Cert.CtxWinProj.nD → PrngReg), Pre_CtxWinProj m →
    θ_run (Cert.CtxWinProj.defs (F := Bits)) (onTc (τ := Cert.CtxWinProj.τ) (Cert.CtxWinProj.main (F := Bits))) ⟨m, fun _ => 0, g⟩ (fun r => (∀ c : Dev Cert.CtxWinProj.nD,
      r.2.mem ((c.tc : Thread Cert.CtxWinProj.nD Cert.CtxWinProj.τ).loc Cert.CtxWinProj.main_arg0) = m ((c.tc : Thread Cert.CtxWinProj.nD Cert.CtxWinProj.τ).loc Cert.CtxWinProj.main_arg0)
      ∧ r.2.mem ((c.tc : Thread Cert.CtxWinProj.nD Cert.CtxWinProj.τ).loc Cert.CtxWinProj.main_arg1) = m ((c.tc : Thread Cert.CtxWinProj.nD Cert.CtxWinProj.τ).loc Cert.CtxWinProj.main_arg1))
      ∧ r.2.sem = fun _ => 0)

def quiescent_CtxWinProjIdeal [hCtxWinProjIdeal : Cert.CtxWinProjIdeal.Facts] : Prop :=
  ∀ (m : (ℓ : Loc Cert.CtxWinProjIdeal.nD Cert.CtxWinProjIdeal.τ Cert.CtxWinProjIdeal.sig) → Buf (Elt Ideal) ℓ) (g : Dev Cert.CtxWinProjIdeal.nD → PrngReg), Pre_CtxWinProjIdeal m →
    θ_run (Cert.CtxWinProjIdeal.defs (F := Ideal)) (onTc (τ := Cert.CtxWinProjIdeal.τ) (Cert.CtxWinProjIdeal.main (F := Ideal))) ⟨m, fun _ => 0, g⟩ (fun r => (∀ c : Dev Cert.CtxWinProjIdeal.nD,
      r.2.mem ((c.tc : Thread Cert.CtxWinProjIdeal.nD Cert.CtxWinProjIdeal.τ).loc Cert.CtxWinProjIdeal.main_arg0) = m ((c.tc : Thread Cert.CtxWinProjIdeal.nD Cert.CtxWinProjIdeal.τ).loc Cert.CtxWinProjIdeal.main_arg0)
      ∧ r.2.mem ((c.tc : Thread Cert.CtxWinProjIdeal.nD Cert.CtxWinProjIdeal.τ).loc Cert.CtxWinProjIdeal.main_arg1) = m ((c.tc : Thread Cert.CtxWinProjIdeal.nD Cert.CtxWinProjIdeal.τ).loc Cert.CtxWinProjIdeal.main_arg1))
      ∧ r.2.sem = fun _ => 0)

def quiescent_CtxWinProjRefIdeal [hCtxWinProjRefIdeal : Cert.CtxWinProjRefIdeal.Facts] : Prop :=
  ∀ (m : (ℓ : Loc Cert.CtxWinProjRefIdeal.nD Cert.CtxWinProjRefIdeal.τ Cert.CtxWinProjRefIdeal.sig) → Buf (Elt Ideal) ℓ) (g : Dev Cert.CtxWinProjRefIdeal.nD → PrngReg), Pre_CtxWinProjRefIdeal m →
    θ_run (Cert.CtxWinProjRefIdeal.defs (F := Ideal)) (onTc (τ := Cert.CtxWinProjRefIdeal.τ) (Cert.CtxWinProjRefIdeal.main (F := Ideal))) ⟨m, fun _ => 0, g⟩ (fun r => (∀ c : Dev Cert.CtxWinProjRefIdeal.nD,
      r.2.mem ((c.tc : Thread Cert.CtxWinProjRefIdeal.nD Cert.CtxWinProjRefIdeal.τ).loc Cert.CtxWinProjRefIdeal.main_arg0) = m ((c.tc : Thread Cert.CtxWinProjRefIdeal.nD Cert.CtxWinProjRefIdeal.τ).loc Cert.CtxWinProjRefIdeal.main_arg0)
      ∧ r.2.mem ((c.tc : Thread Cert.CtxWinProjRefIdeal.nD Cert.CtxWinProjRefIdeal.τ).loc Cert.CtxWinProjRefIdeal.main_arg1) = m ((c.tc : Thread Cert.CtxWinProjRefIdeal.nD Cert.CtxWinProjRefIdeal.τ).loc Cert.CtxWinProjRefIdeal.main_arg1))
      ∧ r.2.sem = fun _ => 0)

def quiescent_CtxNbrProj [hCtxNbrProj : Cert.CtxNbrProj.Facts] : Prop :=
  ∀ (m : (ℓ : Loc Cert.CtxNbrProj.nD Cert.CtxNbrProj.τ Cert.CtxNbrProj.sig) → Buf (Elt Bits) ℓ) (g : Dev Cert.CtxNbrProj.nD → PrngReg), Pre_CtxNbrProj m →
    θ_run (Cert.CtxNbrProj.defs (F := Bits)) (onTc (τ := Cert.CtxNbrProj.τ) (Cert.CtxNbrProj.main (F := Bits))) ⟨m, fun _ => 0, g⟩ (fun r => (∀ c : Dev Cert.CtxNbrProj.nD,
      r.2.mem ((c.tc : Thread Cert.CtxNbrProj.nD Cert.CtxNbrProj.τ).loc Cert.CtxNbrProj.main_arg0) = m ((c.tc : Thread Cert.CtxNbrProj.nD Cert.CtxNbrProj.τ).loc Cert.CtxNbrProj.main_arg0)
      ∧ r.2.mem ((c.tc : Thread Cert.CtxNbrProj.nD Cert.CtxNbrProj.τ).loc Cert.CtxNbrProj.main_arg1) = m ((c.tc : Thread Cert.CtxNbrProj.nD Cert.CtxNbrProj.τ).loc Cert.CtxNbrProj.main_arg1))
      ∧ r.2.sem = fun _ => 0)

def quiescent_CtxNbrProjIdeal [hCtxNbrProjIdeal : Cert.CtxNbrProjIdeal.Facts] : Prop :=
  ∀ (m : (ℓ : Loc Cert.CtxNbrProjIdeal.nD Cert.CtxNbrProjIdeal.τ Cert.CtxNbrProjIdeal.sig) → Buf (Elt Ideal) ℓ) (g : Dev Cert.CtxNbrProjIdeal.nD → PrngReg), Pre_CtxNbrProjIdeal m →
    θ_run (Cert.CtxNbrProjIdeal.defs (F := Ideal)) (onTc (τ := Cert.CtxNbrProjIdeal.τ) (Cert.CtxNbrProjIdeal.main (F := Ideal))) ⟨m, fun _ => 0, g⟩ (fun r => (∀ c : Dev Cert.CtxNbrProjIdeal.nD,
      r.2.mem ((c.tc : Thread Cert.CtxNbrProjIdeal.nD Cert.CtxNbrProjIdeal.τ).loc Cert.CtxNbrProjIdeal.main_arg0) = m ((c.tc : Thread Cert.CtxNbrProjIdeal.nD Cert.CtxNbrProjIdeal.τ).loc Cert.CtxNbrProjIdeal.main_arg0)
      ∧ r.2.mem ((c.tc : Thread Cert.CtxNbrProjIdeal.nD Cert.CtxNbrProjIdeal.τ).loc Cert.CtxNbrProjIdeal.main_arg1) = m ((c.tc : Thread Cert.CtxNbrProjIdeal.nD Cert.CtxNbrProjIdeal.τ).loc Cert.CtxNbrProjIdeal.main_arg1))
      ∧ r.2.sem = fun _ => 0)

def quiescent_CtxNbrProjRefIdeal [hCtxNbrProjRefIdeal : Cert.CtxNbrProjRefIdeal.Facts] : Prop :=
  ∀ (m : (ℓ : Loc Cert.CtxNbrProjRefIdeal.nD Cert.CtxNbrProjRefIdeal.τ Cert.CtxNbrProjRefIdeal.sig) → Buf (Elt Ideal) ℓ) (g : Dev Cert.CtxNbrProjRefIdeal.nD → PrngReg), Pre_CtxNbrProjRefIdeal m →
    θ_run (Cert.CtxNbrProjRefIdeal.defs (F := Ideal)) (onTc (τ := Cert.CtxNbrProjRefIdeal.τ) (Cert.CtxNbrProjRefIdeal.main (F := Ideal))) ⟨m, fun _ => 0, g⟩ (fun r => (∀ c : Dev Cert.CtxNbrProjRefIdeal.nD,
      r.2.mem ((c.tc : Thread Cert.CtxNbrProjRefIdeal.nD Cert.CtxNbrProjRefIdeal.τ).loc Cert.CtxNbrProjRefIdeal.main_arg0) = m ((c.tc : Thread Cert.CtxNbrProjRefIdeal.nD Cert.CtxNbrProjRefIdeal.τ).loc Cert.CtxNbrProjRefIdeal.main_arg0)
      ∧ r.2.mem ((c.tc : Thread Cert.CtxNbrProjRefIdeal.nD Cert.CtxNbrProjRefIdeal.τ).loc Cert.CtxNbrProjRefIdeal.main_arg1) = m ((c.tc : Thread Cert.CtxNbrProjRefIdeal.nD Cert.CtxNbrProjRefIdeal.τ).loc Cert.CtxNbrProjRefIdeal.main_arg1))
      ∧ r.2.sem = fun _ => 0)

def quiescent_OutProjTwo [hOutProjTwo : Cert.OutProjTwo.Facts] : Prop :=
  ∀ (m : (ℓ : Loc Cert.OutProjTwo.nD Cert.OutProjTwo.τ Cert.OutProjTwo.sig) → Buf (Elt Bits) ℓ) (g : Dev Cert.OutProjTwo.nD → PrngReg), Pre_OutProjTwo m →
    θ_run (Cert.OutProjTwo.defs (F := Bits)) (onTc (τ := Cert.OutProjTwo.τ) (Cert.OutProjTwo.main (F := Bits))) ⟨m, fun _ => 0, g⟩ (fun r => (∀ c : Dev Cert.OutProjTwo.nD,
      r.2.mem ((c.tc : Thread Cert.OutProjTwo.nD Cert.OutProjTwo.τ).loc Cert.OutProjTwo.main_arg0) = m ((c.tc : Thread Cert.OutProjTwo.nD Cert.OutProjTwo.τ).loc Cert.OutProjTwo.main_arg0)
      ∧ r.2.mem ((c.tc : Thread Cert.OutProjTwo.nD Cert.OutProjTwo.τ).loc Cert.OutProjTwo.main_arg1) = m ((c.tc : Thread Cert.OutProjTwo.nD Cert.OutProjTwo.τ).loc Cert.OutProjTwo.main_arg1)
      ∧ r.2.mem ((c.tc : Thread Cert.OutProjTwo.nD Cert.OutProjTwo.τ).loc Cert.OutProjTwo.main_arg2) = m ((c.tc : Thread Cert.OutProjTwo.nD Cert.OutProjTwo.τ).loc Cert.OutProjTwo.main_arg2)
      ∧ r.2.mem ((c.tc : Thread Cert.OutProjTwo.nD Cert.OutProjTwo.τ).loc Cert.OutProjTwo.main_arg3) = m ((c.tc : Thread Cert.OutProjTwo.nD Cert.OutProjTwo.τ).loc Cert.OutProjTwo.main_arg3)
      ∧ r.2.mem ((c.tc : Thread Cert.OutProjTwo.nD Cert.OutProjTwo.τ).loc Cert.OutProjTwo.main_arg4) = m ((c.tc : Thread Cert.OutProjTwo.nD Cert.OutProjTwo.τ).loc Cert.OutProjTwo.main_arg4)
      ∧ r.2.mem ((c.tc : Thread Cert.OutProjTwo.nD Cert.OutProjTwo.τ).loc Cert.OutProjTwo.main_arg5) = m ((c.tc : Thread Cert.OutProjTwo.nD Cert.OutProjTwo.τ).loc Cert.OutProjTwo.main_arg5)
      ∧ r.2.mem ((c.tc : Thread Cert.OutProjTwo.nD Cert.OutProjTwo.τ).loc Cert.OutProjTwo.main_arg6) = m ((c.tc : Thread Cert.OutProjTwo.nD Cert.OutProjTwo.τ).loc Cert.OutProjTwo.main_arg6)
      ∧ r.2.mem ((c.tc : Thread Cert.OutProjTwo.nD Cert.OutProjTwo.τ).loc Cert.OutProjTwo.main_arg7) = m ((c.tc : Thread Cert.OutProjTwo.nD Cert.OutProjTwo.τ).loc Cert.OutProjTwo.main_arg7))
      ∧ r.2.sem = fun _ => 0)

def quiescent_OutProjTwoIdeal [hOutProjTwoIdeal : Cert.OutProjTwoIdeal.Facts] : Prop :=
  ∀ (m : (ℓ : Loc Cert.OutProjTwoIdeal.nD Cert.OutProjTwoIdeal.τ Cert.OutProjTwoIdeal.sig) → Buf (Elt Ideal) ℓ) (g : Dev Cert.OutProjTwoIdeal.nD → PrngReg), Pre_OutProjTwoIdeal m →
    θ_run (Cert.OutProjTwoIdeal.defs (F := Ideal)) (onTc (τ := Cert.OutProjTwoIdeal.τ) (Cert.OutProjTwoIdeal.main (F := Ideal))) ⟨m, fun _ => 0, g⟩ (fun r => (∀ c : Dev Cert.OutProjTwoIdeal.nD,
      r.2.mem ((c.tc : Thread Cert.OutProjTwoIdeal.nD Cert.OutProjTwoIdeal.τ).loc Cert.OutProjTwoIdeal.main_arg0) = m ((c.tc : Thread Cert.OutProjTwoIdeal.nD Cert.OutProjTwoIdeal.τ).loc Cert.OutProjTwoIdeal.main_arg0)
      ∧ r.2.mem ((c.tc : Thread Cert.OutProjTwoIdeal.nD Cert.OutProjTwoIdeal.τ).loc Cert.OutProjTwoIdeal.main_arg1) = m ((c.tc : Thread Cert.OutProjTwoIdeal.nD Cert.OutProjTwoIdeal.τ).loc Cert.OutProjTwoIdeal.main_arg1)
      ∧ r.2.mem ((c.tc : Thread Cert.OutProjTwoIdeal.nD Cert.OutProjTwoIdeal.τ).loc Cert.OutProjTwoIdeal.main_arg2) = m ((c.tc : Thread Cert.OutProjTwoIdeal.nD Cert.OutProjTwoIdeal.τ).loc Cert.OutProjTwoIdeal.main_arg2)
      ∧ r.2.mem ((c.tc : Thread Cert.OutProjTwoIdeal.nD Cert.OutProjTwoIdeal.τ).loc Cert.OutProjTwoIdeal.main_arg3) = m ((c.tc : Thread Cert.OutProjTwoIdeal.nD Cert.OutProjTwoIdeal.τ).loc Cert.OutProjTwoIdeal.main_arg3)
      ∧ r.2.mem ((c.tc : Thread Cert.OutProjTwoIdeal.nD Cert.OutProjTwoIdeal.τ).loc Cert.OutProjTwoIdeal.main_arg4) = m ((c.tc : Thread Cert.OutProjTwoIdeal.nD Cert.OutProjTwoIdeal.τ).loc Cert.OutProjTwoIdeal.main_arg4)
      ∧ r.2.mem ((c.tc : Thread Cert.OutProjTwoIdeal.nD Cert.OutProjTwoIdeal.τ).loc Cert.OutProjTwoIdeal.main_arg5) = m ((c.tc : Thread Cert.OutProjTwoIdeal.nD Cert.OutProjTwoIdeal.τ).loc Cert.OutProjTwoIdeal.main_arg5)
      ∧ r.2.mem ((c.tc : Thread Cert.OutProjTwoIdeal.nD Cert.OutProjTwoIdeal.τ).loc Cert.OutProjTwoIdeal.main_arg6) = m ((c.tc : Thread Cert.OutProjTwoIdeal.nD Cert.OutProjTwoIdeal.τ).loc Cert.OutProjTwoIdeal.main_arg6)
      ∧ r.2.mem ((c.tc : Thread Cert.OutProjTwoIdeal.nD Cert.OutProjTwoIdeal.τ).loc Cert.OutProjTwoIdeal.main_arg7) = m ((c.tc : Thread Cert.OutProjTwoIdeal.nD Cert.OutProjTwoIdeal.τ).loc Cert.OutProjTwoIdeal.main_arg7))
      ∧ r.2.sem = fun _ => 0)

def quiescent_OutProjTwoRefIdeal [hOutProjTwoRefIdeal : Cert.OutProjTwoRefIdeal.Facts] : Prop :=
  ∀ (m : (ℓ : Loc Cert.OutProjTwoRefIdeal.nD Cert.OutProjTwoRefIdeal.τ Cert.OutProjTwoRefIdeal.sig) → Buf (Elt Ideal) ℓ) (g : Dev Cert.OutProjTwoRefIdeal.nD → PrngReg), Pre_OutProjTwoRefIdeal m →
    θ_run (Cert.OutProjTwoRefIdeal.defs (F := Ideal)) (onTc (τ := Cert.OutProjTwoRefIdeal.τ) (Cert.OutProjTwoRefIdeal.main (F := Ideal))) ⟨m, fun _ => 0, g⟩ (fun r => (∀ c : Dev Cert.OutProjTwoRefIdeal.nD,
      r.2.mem ((c.tc : Thread Cert.OutProjTwoRefIdeal.nD Cert.OutProjTwoRefIdeal.τ).loc Cert.OutProjTwoRefIdeal.main_arg0) = m ((c.tc : Thread Cert.OutProjTwoRefIdeal.nD Cert.OutProjTwoRefIdeal.τ).loc Cert.OutProjTwoRefIdeal.main_arg0)
      ∧ r.2.mem ((c.tc : Thread Cert.OutProjTwoRefIdeal.nD Cert.OutProjTwoRefIdeal.τ).loc Cert.OutProjTwoRefIdeal.main_arg1) = m ((c.tc : Thread Cert.OutProjTwoRefIdeal.nD Cert.OutProjTwoRefIdeal.τ).loc Cert.OutProjTwoRefIdeal.main_arg1)
      ∧ r.2.mem ((c.tc : Thread Cert.OutProjTwoRefIdeal.nD Cert.OutProjTwoRefIdeal.τ).loc Cert.OutProjTwoRefIdeal.main_arg2) = m ((c.tc : Thread Cert.OutProjTwoRefIdeal.nD Cert.OutProjTwoRefIdeal.τ).loc Cert.OutProjTwoRefIdeal.main_arg2)
      ∧ r.2.mem ((c.tc : Thread Cert.OutProjTwoRefIdeal.nD Cert.OutProjTwoRefIdeal.τ).loc Cert.OutProjTwoRefIdeal.main_arg3) = m ((c.tc : Thread Cert.OutProjTwoRefIdeal.nD Cert.OutProjTwoRefIdeal.τ).loc Cert.OutProjTwoRefIdeal.main_arg3)
      ∧ r.2.mem ((c.tc : Thread Cert.OutProjTwoRefIdeal.nD Cert.OutProjTwoRefIdeal.τ).loc Cert.OutProjTwoRefIdeal.main_arg4) = m ((c.tc : Thread Cert.OutProjTwoRefIdeal.nD Cert.OutProjTwoRefIdeal.τ).loc Cert.OutProjTwoRefIdeal.main_arg4)
      ∧ r.2.mem ((c.tc : Thread Cert.OutProjTwoRefIdeal.nD Cert.OutProjTwoRefIdeal.τ).loc Cert.OutProjTwoRefIdeal.main_arg5) = m ((c.tc : Thread Cert.OutProjTwoRefIdeal.nD Cert.OutProjTwoRefIdeal.τ).loc Cert.OutProjTwoRefIdeal.main_arg5)
      ∧ r.2.mem ((c.tc : Thread Cert.OutProjTwoRefIdeal.nD Cert.OutProjTwoRefIdeal.τ).loc Cert.OutProjTwoRefIdeal.main_arg6) = m ((c.tc : Thread Cert.OutProjTwoRefIdeal.nD Cert.OutProjTwoRefIdeal.τ).loc Cert.OutProjTwoRefIdeal.main_arg6)
      ∧ r.2.mem ((c.tc : Thread Cert.OutProjTwoRefIdeal.nD Cert.OutProjTwoRefIdeal.τ).loc Cert.OutProjTwoRefIdeal.main_arg7) = m ((c.tc : Thread Cert.OutProjTwoRefIdeal.nD Cert.OutProjTwoRefIdeal.τ).loc Cert.OutProjTwoRefIdeal.main_arg7))
      ∧ r.2.sem = fun _ => 0)

def quiescent_WinProj [hWinProj : Cert.WinProj.Facts] : Prop :=
  ∀ (m : (ℓ : Loc Cert.WinProj.nD Cert.WinProj.τ Cert.WinProj.sig) → Buf (Elt Bits) ℓ) (g : Dev Cert.WinProj.nD → PrngReg), Pre_WinProj m →
    θ_run (Cert.WinProj.defs (F := Bits)) (onTc (τ := Cert.WinProj.τ) (Cert.WinProj.main (F := Bits))) ⟨m, fun _ => 0, g⟩ (fun r => (∀ c : Dev Cert.WinProj.nD,
      r.2.mem ((c.tc : Thread Cert.WinProj.nD Cert.WinProj.τ).loc Cert.WinProj.main_arg0) = m ((c.tc : Thread Cert.WinProj.nD Cert.WinProj.τ).loc Cert.WinProj.main_arg0)
      ∧ r.2.mem ((c.tc : Thread Cert.WinProj.nD Cert.WinProj.τ).loc Cert.WinProj.main_arg1) = m ((c.tc : Thread Cert.WinProj.nD Cert.WinProj.τ).loc Cert.WinProj.main_arg1))
      ∧ r.2.sem = fun _ => 0)

def quiescent_WinProjIdeal [hWinProjIdeal : Cert.WinProjIdeal.Facts] : Prop :=
  ∀ (m : (ℓ : Loc Cert.WinProjIdeal.nD Cert.WinProjIdeal.τ Cert.WinProjIdeal.sig) → Buf (Elt Ideal) ℓ) (g : Dev Cert.WinProjIdeal.nD → PrngReg), Pre_WinProjIdeal m →
    θ_run (Cert.WinProjIdeal.defs (F := Ideal)) (onTc (τ := Cert.WinProjIdeal.τ) (Cert.WinProjIdeal.main (F := Ideal))) ⟨m, fun _ => 0, g⟩ (fun r => (∀ c : Dev Cert.WinProjIdeal.nD,
      r.2.mem ((c.tc : Thread Cert.WinProjIdeal.nD Cert.WinProjIdeal.τ).loc Cert.WinProjIdeal.main_arg0) = m ((c.tc : Thread Cert.WinProjIdeal.nD Cert.WinProjIdeal.τ).loc Cert.WinProjIdeal.main_arg0)
      ∧ r.2.mem ((c.tc : Thread Cert.WinProjIdeal.nD Cert.WinProjIdeal.τ).loc Cert.WinProjIdeal.main_arg1) = m ((c.tc : Thread Cert.WinProjIdeal.nD Cert.WinProjIdeal.τ).loc Cert.WinProjIdeal.main_arg1))
      ∧ r.2.sem = fun _ => 0)

def quiescent_WinProjRefIdeal [hWinProjRefIdeal : Cert.WinProjRefIdeal.Facts] : Prop :=
  ∀ (m : (ℓ : Loc Cert.WinProjRefIdeal.nD Cert.WinProjRefIdeal.τ Cert.WinProjRefIdeal.sig) → Buf (Elt Ideal) ℓ) (g : Dev Cert.WinProjRefIdeal.nD → PrngReg), Pre_WinProjRefIdeal m →
    θ_run (Cert.WinProjRefIdeal.defs (F := Ideal)) (onTc (τ := Cert.WinProjRefIdeal.τ) (Cert.WinProjRefIdeal.main (F := Ideal))) ⟨m, fun _ => 0, g⟩ (fun r => (∀ c : Dev Cert.WinProjRefIdeal.nD,
      r.2.mem ((c.tc : Thread Cert.WinProjRefIdeal.nD Cert.WinProjRefIdeal.τ).loc Cert.WinProjRefIdeal.main_arg0) = m ((c.tc : Thread Cert.WinProjRefIdeal.nD Cert.WinProjRefIdeal.τ).loc Cert.WinProjRefIdeal.main_arg0)
      ∧ r.2.mem ((c.tc : Thread Cert.WinProjRefIdeal.nD Cert.WinProjRefIdeal.τ).loc Cert.WinProjRefIdeal.main_arg1) = m ((c.tc : Thread Cert.WinProjRefIdeal.nD Cert.WinProjRefIdeal.τ).loc Cert.WinProjRefIdeal.main_arg1))
      ∧ r.2.sem = fun _ => 0)

def quiescent_CtxAttn [hCtxAttn : Cert.CtxAttn.Facts] : Prop :=
  ∀ (m : (ℓ : Loc Cert.CtxAttn.nD Cert.CtxAttn.τ Cert.CtxAttn.sig) → Buf (Elt Bits) ℓ) (g : Dev Cert.CtxAttn.nD → PrngReg), Pre_CtxAttn m →
    θ_run (Cert.CtxAttn.defs (F := Bits)) (onTc (τ := Cert.CtxAttn.τ) (Cert.CtxAttn.main (F := Bits))) ⟨m, fun _ => 0, g⟩ (fun r => (∀ c : Dev Cert.CtxAttn.nD,
      r.2.mem ((c.tc : Thread Cert.CtxAttn.nD Cert.CtxAttn.τ).loc Cert.CtxAttn.main_arg0) = m ((c.tc : Thread Cert.CtxAttn.nD Cert.CtxAttn.τ).loc Cert.CtxAttn.main_arg0)
      ∧ r.2.mem ((c.tc : Thread Cert.CtxAttn.nD Cert.CtxAttn.τ).loc Cert.CtxAttn.main_arg1) = m ((c.tc : Thread Cert.CtxAttn.nD Cert.CtxAttn.τ).loc Cert.CtxAttn.main_arg1)
      ∧ r.2.mem ((c.tc : Thread Cert.CtxAttn.nD Cert.CtxAttn.τ).loc Cert.CtxAttn.main_arg2) = m ((c.tc : Thread Cert.CtxAttn.nD Cert.CtxAttn.τ).loc Cert.CtxAttn.main_arg2)
      ∧ r.2.mem ((c.tc : Thread Cert.CtxAttn.nD Cert.CtxAttn.τ).loc Cert.CtxAttn.main_arg3) = m ((c.tc : Thread Cert.CtxAttn.nD Cert.CtxAttn.τ).loc Cert.CtxAttn.main_arg3)
      ∧ r.2.mem ((c.tc : Thread Cert.CtxAttn.nD Cert.CtxAttn.τ).loc Cert.CtxAttn.main_arg4) = m ((c.tc : Thread Cert.CtxAttn.nD Cert.CtxAttn.τ).loc Cert.CtxAttn.main_arg4))
      ∧ r.2.sem = fun _ => 0)

def quiescent_CtxAttnIdeal [hCtxAttnIdeal : Cert.CtxAttnIdeal.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
      ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
      ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3)
      ∧ r.2.mem ((c.tc : Thread Cert.CtxAttnIdeal.nD Cert.CtxAttnIdeal.τ).loc Cert.CtxAttnIdeal.main_arg4) = m ((c.tc : Thread Cert.CtxAttnIdeal.nD Cert.CtxAttnIdeal.τ).loc Cert.CtxAttnIdeal.main_arg4))
      ∧ r.2.sem = fun _ => 0)

def quiescent_CtxAttnIdeal_pre_finite_scores [hCtxAttnIdeal : Cert.CtxAttnIdeal.Facts] [hPre_finite_scores : Cert.Pre_finite_scores.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal_finite_scores m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
      ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
      ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3)
      ∧ r.2.mem ((c.tc : Thread Cert.CtxAttnIdeal.nD Cert.CtxAttnIdeal.τ).loc Cert.CtxAttnIdeal.main_arg4) = m ((c.tc : Thread Cert.CtxAttnIdeal.nD Cert.CtxAttnIdeal.τ).loc Cert.CtxAttnIdeal.main_arg4))
      ∧ r.2.sem = fun _ => 0)

def quiescent_CtxAttnRefIdeal [hCtxAttnRefIdeal : Cert.CtxAttnRefIdeal.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0)
      ∧ r.2.mem ((c.tc : Thread Cert.CtxAttnRefIdeal.nD Cert.CtxAttnRefIdeal.τ).loc Cert.CtxAttnRefIdeal.main_arg1) = m ((c.tc : Thread Cert.CtxAttnRefIdeal.nD Cert.CtxAttnRefIdeal.τ).loc Cert.CtxAttnRefIdeal.main_arg1)
      ∧ r.2.mem ((c.tc : Thread Cert.CtxAttnRefIdeal.nD Cert.CtxAttnRefIdeal.τ).loc Cert.CtxAttnRefIdeal.main_arg2) = m ((c.tc : Thread Cert.CtxAttnRefIdeal.nD Cert.CtxAttnRefIdeal.τ).loc Cert.CtxAttnRefIdeal.main_arg2)
      ∧ r.2.mem ((c.tc : Thread Cert.CtxAttnRefIdeal.nD Cert.CtxAttnRefIdeal.τ).loc Cert.CtxAttnRefIdeal.main_arg3) = m ((c.tc : Thread Cert.CtxAttnRefIdeal.nD Cert.CtxAttnRefIdeal.τ).loc Cert.CtxAttnRefIdeal.main_arg3)
      ∧ r.2.mem ((c.tc : Thread Cert.CtxAttnRefIdeal.nD Cert.CtxAttnRefIdeal.τ).loc Cert.CtxAttnRefIdeal.main_arg4) = m ((c.tc : Thread Cert.CtxAttnRefIdeal.nD Cert.CtxAttnRefIdeal.τ).loc Cert.CtxAttnRefIdeal.main_arg4))
      ∧ r.2.sem = fun _ => 0)

def quiescent_CtxAttnRefIdeal_pre_finite_scores [hCtxAttnRefIdeal : Cert.CtxAttnRefIdeal.Facts] [hPre_finite_scores : Cert.Pre_finite_scores.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal_finite_scores m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0)
      ∧ r.2.mem ((c.tc : Thread Cert.CtxAttnRefIdeal.nD Cert.CtxAttnRefIdeal.τ).loc Cert.CtxAttnRefIdeal.main_arg1) = m ((c.tc : Thread Cert.CtxAttnRefIdeal.nD Cert.CtxAttnRefIdeal.τ).loc Cert.CtxAttnRefIdeal.main_arg1)
      ∧ r.2.mem ((c.tc : Thread Cert.CtxAttnRefIdeal.nD Cert.CtxAttnRefIdeal.τ).loc Cert.CtxAttnRefIdeal.main_arg2) = m ((c.tc : Thread Cert.CtxAttnRefIdeal.nD Cert.CtxAttnRefIdeal.τ).loc Cert.CtxAttnRefIdeal.main_arg2)
      ∧ r.2.mem ((c.tc : Thread Cert.CtxAttnRefIdeal.nD Cert.CtxAttnRefIdeal.τ).loc Cert.CtxAttnRefIdeal.main_arg3) = m ((c.tc : Thread Cert.CtxAttnRefIdeal.nD Cert.CtxAttnRefIdeal.τ).loc Cert.CtxAttnRefIdeal.main_arg3)
      ∧ r.2.mem ((c.tc : Thread Cert.CtxAttnRefIdeal.nD Cert.CtxAttnRefIdeal.τ).loc Cert.CtxAttnRefIdeal.main_arg4) = m ((c.tc : Thread Cert.CtxAttnRefIdeal.nD Cert.CtxAttnRefIdeal.τ).loc Cert.CtxAttnRefIdeal.main_arg4))
      ∧ r.2.sem = fun _ => 0)

def preserves_DiffAttn_DiffAttnIdeal : Prop :=
  True

def algebraic_DiffAttnIdeal_DiffAttnRefIdeal_pre_finite [hDiffAttnIdeal : Cert.DiffAttnIdeal.Facts] [hDiffAttnRefIdeal : Cert.DiffAttnRefIdeal.Facts] [hPre_finite : Cert.Pre_finite.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg)
    (m' : (ℓ : Loc Cert.DiffAttnRefIdeal.nD Cert.DiffAttnRefIdeal.τ Cert.DiffAttnRefIdeal.sig) → Buf (Elt Ideal) ℓ) (g' : Dev Cert.DiffAttnRefIdeal.nD → PrngReg), Pre_DiffAttnIdeal_finite m →
    (∀ c : Dev Cert.DiffAttnIdeal.nD,
      m' ((c.tc : Thread Cert.DiffAttnRefIdeal.nD Cert.DiffAttnRefIdeal.τ).loc Cert.DiffAttnRefIdeal.main_arg0) = m ((c.tc : Thread Cert.DiffAttnIdeal.nD Cert.DiffAttnIdeal.τ).loc Cert.DiffAttnIdeal.main_arg0)
      ∧ m' ((c.tc : Thread Cert.DiffAttnRefIdeal.nD Cert.DiffAttnRefIdeal.τ).loc Cert.DiffAttnRefIdeal.main_arg1) = m ((c.tc : Thread Cert.DiffAttnIdeal.nD Cert.DiffAttnIdeal.τ).loc Cert.DiffAttnIdeal.main_arg1)
      ∧ m' ((c.tc : Thread Cert.DiffAttnRefIdeal.nD Cert.DiffAttnRefIdeal.τ).loc Cert.DiffAttnRefIdeal.main_arg2) = m ((c.tc : Thread Cert.DiffAttnIdeal.nD Cert.DiffAttnIdeal.τ).loc Cert.DiffAttnIdeal.main_arg2)
      ∧ m' ((c.tc : Thread Cert.DiffAttnRefIdeal.nD Cert.DiffAttnRefIdeal.τ).loc Cert.DiffAttnRefIdeal.main_arg3) = m ((c.tc : Thread Cert.DiffAttnIdeal.nD Cert.DiffAttnIdeal.τ).loc Cert.DiffAttnIdeal.main_arg3)
      ∧ m' ((c.tc : Thread Cert.DiffAttnRefIdeal.nD Cert.DiffAttnRefIdeal.τ).loc Cert.DiffAttnRefIdeal.main_arg4) = m ((c.tc : Thread Cert.DiffAttnIdeal.nD Cert.DiffAttnIdeal.τ).loc Cert.DiffAttnIdeal.main_arg4)
      ∧ m' ((c.tc : Thread Cert.DiffAttnRefIdeal.nD Cert.DiffAttnRefIdeal.τ).loc Cert.DiffAttnRefIdeal.main_arg5) = m ((c.tc : Thread Cert.DiffAttnIdeal.nD Cert.DiffAttnIdeal.τ).loc Cert.DiffAttnIdeal.main_arg5)
      ∧ m' ((c.tc : Thread Cert.DiffAttnRefIdeal.nD Cert.DiffAttnRefIdeal.τ).loc Cert.DiffAttnRefIdeal.main_arg6) = m ((c.tc : Thread Cert.DiffAttnIdeal.nD Cert.DiffAttnIdeal.τ).loc Cert.DiffAttnIdeal.main_arg6)) →
    ∃ (v0 : (c : Dev Cert.DiffAttnIdeal.nD) → Buf (Elt Ideal) ((c.tc : Thread Cert.DiffAttnIdeal.nD Cert.DiffAttnIdeal.τ).loc Cert.DiffAttnIdeal.main_v1)),
      θ_run (Cert.DiffAttnIdeal.defs (F := Ideal)) (onTc (τ := Cert.DiffAttnIdeal.τ) (Cert.DiffAttnIdeal.main (F := Ideal))) ⟨m, fun _ => 0, g⟩ (fun r => ∀ c : Dev Cert.DiffAttnIdeal.nD,
          r.2.mem ((c.tc : Thread Cert.DiffAttnIdeal.nD Cert.DiffAttnIdeal.τ).loc Cert.DiffAttnIdeal.main_v1) = v0 c
          ∧ r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
          ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
          ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
          ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
          ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
          ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
          ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6))
      ∧ θ_run (Cert.DiffAttnRefIdeal.defs (F := Ideal)) (onTc (τ := Cert.DiffAttnRefIdeal.τ) (Cert.DiffAttnRefIdeal.main (F := Ideal))) ⟨m', fun _ => 0, g'⟩ (fun r => ∀ c : Dev Cert.DiffAttnRefIdeal.nD,
          r.2.mem ((c.tc : Thread Cert.DiffAttnRefIdeal.nD Cert.DiffAttnRefIdeal.τ).loc Cert.DiffAttnRefIdeal.main_v79) = v0 c
          ∧ r.2.mem ((c.tc : Thread Cert.DiffAttnRefIdeal.nD Cert.DiffAttnRefIdeal.τ).loc Cert.DiffAttnRefIdeal.main_arg0) = m' ((c.tc : Thread Cert.DiffAttnRefIdeal.nD Cert.DiffAttnRefIdeal.τ).loc Cert.DiffAttnRefIdeal.main_arg0)
          ∧ r.2.mem ((c.tc : Thread Cert.DiffAttnRefIdeal.nD Cert.DiffAttnRefIdeal.τ).loc Cert.DiffAttnRefIdeal.main_arg1) = m' ((c.tc : Thread Cert.DiffAttnRefIdeal.nD Cert.DiffAttnRefIdeal.τ).loc Cert.DiffAttnRefIdeal.main_arg1)
          ∧ r.2.mem ((c.tc : Thread Cert.DiffAttnRefIdeal.nD Cert.DiffAttnRefIdeal.τ).loc Cert.DiffAttnRefIdeal.main_arg2) = m' ((c.tc : Thread Cert.DiffAttnRefIdeal.nD Cert.DiffAttnRefIdeal.τ).loc Cert.DiffAttnRefIdeal.main_arg2)
          ∧ r.2.mem ((c.tc : Thread Cert.DiffAttnRefIdeal.nD Cert.DiffAttnRefIdeal.τ).loc Cert.DiffAttnRefIdeal.main_arg3) = m' ((c.tc : Thread Cert.DiffAttnRefIdeal.nD Cert.DiffAttnRefIdeal.τ).loc Cert.DiffAttnRefIdeal.main_arg3)
          ∧ r.2.mem ((c.tc : Thread Cert.DiffAttnRefIdeal.nD Cert.DiffAttnRefIdeal.τ).loc Cert.DiffAttnRefIdeal.main_arg4) = m' ((c.tc : Thread Cert.DiffAttnRefIdeal.nD Cert.DiffAttnRefIdeal.τ).loc Cert.DiffAttnRefIdeal.main_arg4)
          ∧ r.2.mem ((c.tc : Thread Cert.DiffAttnRefIdeal.nD Cert.DiffAttnRefIdeal.τ).loc Cert.DiffAttnRefIdeal.main_arg5) = m' ((c.tc : Thread Cert.DiffAttnRefIdeal.nD Cert.DiffAttnRefIdeal.τ).loc Cert.DiffAttnRefIdeal.main_arg5)
          ∧ r.2.mem ((c.tc : Thread Cert.DiffAttnRefIdeal.nD Cert.DiffAttnRefIdeal.τ).loc Cert.DiffAttnRefIdeal.main_arg6) = m' ((c.tc : Thread Cert.DiffAttnRefIdeal.nD Cert.DiffAttnRefIdeal.τ).loc Cert.DiffAttnRefIdeal.main_arg6))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v9) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_CtxProj_CtxProjIdeal : Prop :=
  True

def algebraic_CtxProjIdeal_CtxProjRefIdeal [hCtxProjIdeal : Cert.CtxProjIdeal.Facts] [hCtxProjRefIdeal : Cert.CtxProjRefIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg)
    (m' : (ℓ : Loc Cert.CtxProjRefIdeal.nD Cert.CtxProjRefIdeal.τ Cert.CtxProjRefIdeal.sig) → Buf (Elt Ideal) ℓ) (g' : Dev Cert.CtxProjRefIdeal.nD → PrngReg), Pre_CtxProjIdeal m →
    (∀ c : Dev Cert.CtxProjIdeal.nD,
      m' ((c.tc : Thread Cert.CtxProjRefIdeal.nD Cert.CtxProjRefIdeal.τ).loc Cert.CtxProjRefIdeal.main_arg0) = m ((c.tc : Thread Cert.CtxProjIdeal.nD Cert.CtxProjIdeal.τ).loc Cert.CtxProjIdeal.main_arg0)
      ∧ m' ((c.tc : Thread Cert.CtxProjRefIdeal.nD Cert.CtxProjRefIdeal.τ).loc Cert.CtxProjRefIdeal.main_arg1) = m ((c.tc : Thread Cert.CtxProjIdeal.nD Cert.CtxProjIdeal.τ).loc Cert.CtxProjIdeal.main_arg1)) →
    ∃ (v0 : (c : Dev Cert.CtxProjIdeal.nD) → Buf (Elt Ideal) ((c.tc : Thread Cert.CtxProjIdeal.nD Cert.CtxProjIdeal.τ).loc Cert.CtxProjIdeal.main_v0)),
      θ_run (Cert.CtxProjIdeal.defs (F := Ideal)) (onTc (τ := Cert.CtxProjIdeal.τ) (Cert.CtxProjIdeal.main (F := Ideal))) ⟨m, fun _ => 0, g⟩ (fun r => ∀ c : Dev Cert.CtxProjIdeal.nD,
          r.2.mem ((c.tc : Thread Cert.CtxProjIdeal.nD Cert.CtxProjIdeal.τ).loc Cert.CtxProjIdeal.main_v0) = v0 c
          ∧ r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
          ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1))
      ∧ θ_run (Cert.CtxProjRefIdeal.defs (F := Ideal)) (onTc (τ := Cert.CtxProjRefIdeal.τ) (Cert.CtxProjRefIdeal.main (F := Ideal))) ⟨m', fun _ => 0, g'⟩ (fun r => ∀ c : Dev Cert.CtxProjRefIdeal.nD,
          r.2.mem ((c.tc : Thread Cert.CtxProjRefIdeal.nD Cert.CtxProjRefIdeal.τ).loc Cert.CtxProjRefIdeal.main_v4) = v0 c
          ∧ r.2.mem ((c.tc : Thread Cert.CtxProjRefIdeal.nD Cert.CtxProjRefIdeal.τ).loc Cert.CtxProjRefIdeal.main_arg0) = m' ((c.tc : Thread Cert.CtxProjRefIdeal.nD Cert.CtxProjRefIdeal.τ).loc Cert.CtxProjRefIdeal.main_arg0)
          ∧ r.2.mem ((c.tc : Thread Cert.CtxProjRefIdeal.nD Cert.CtxProjRefIdeal.τ).loc Cert.CtxProjRefIdeal.main_arg1) = m' ((c.tc : Thread Cert.CtxProjRefIdeal.nD Cert.CtxProjRefIdeal.τ).loc Cert.CtxProjRefIdeal.main_arg1))

def preserves_ValProj_ValProjIdeal : Prop :=
  True

def algebraic_ValProjIdeal_ValProjRefIdeal [hValProjIdeal : Cert.ValProjIdeal.Facts] [hValProjRefIdeal : Cert.ValProjRefIdeal.Facts] : Prop :=
  ∀ (m : (ℓ : Loc Cert.ValProjIdeal.nD Cert.ValProjIdeal.τ Cert.ValProjIdeal.sig) → Buf (Elt Ideal) ℓ) (g : Dev Cert.ValProjIdeal.nD → PrngReg)
    (m' : (ℓ : Loc Cert.ValProjRefIdeal.nD Cert.ValProjRefIdeal.τ Cert.ValProjRefIdeal.sig) → Buf (Elt Ideal) ℓ) (g' : Dev Cert.ValProjRefIdeal.nD → PrngReg), Pre_ValProjIdeal m →
    (∀ c : Dev Cert.ValProjIdeal.nD,
      m' ((c.tc : Thread Cert.ValProjRefIdeal.nD Cert.ValProjRefIdeal.τ).loc Cert.ValProjRefIdeal.main_arg0) = m ((c.tc : Thread Cert.ValProjIdeal.nD Cert.ValProjIdeal.τ).loc Cert.ValProjIdeal.main_arg0)
      ∧ m' ((c.tc : Thread Cert.ValProjRefIdeal.nD Cert.ValProjRefIdeal.τ).loc Cert.ValProjRefIdeal.main_arg1) = m ((c.tc : Thread Cert.ValProjIdeal.nD Cert.ValProjIdeal.τ).loc Cert.ValProjIdeal.main_arg1)) →
    ∃ (v0 : (c : Dev Cert.ValProjIdeal.nD) → Buf (Elt Ideal) ((c.tc : Thread Cert.ValProjIdeal.nD Cert.ValProjIdeal.τ).loc Cert.ValProjIdeal.main_v0)),
      θ_run (Cert.ValProjIdeal.defs (F := Ideal)) (onTc (τ := Cert.ValProjIdeal.τ) (Cert.ValProjIdeal.main (F := Ideal))) ⟨m, fun _ => 0, g⟩ (fun r => ∀ c : Dev Cert.ValProjIdeal.nD,
          r.2.mem ((c.tc : Thread Cert.ValProjIdeal.nD Cert.ValProjIdeal.τ).loc Cert.ValProjIdeal.main_v0) = v0 c
          ∧ r.2.mem ((c.tc : Thread Cert.ValProjIdeal.nD Cert.ValProjIdeal.τ).loc Cert.ValProjIdeal.main_arg0) = m ((c.tc : Thread Cert.ValProjIdeal.nD Cert.ValProjIdeal.τ).loc Cert.ValProjIdeal.main_arg0)
          ∧ r.2.mem ((c.tc : Thread Cert.ValProjIdeal.nD Cert.ValProjIdeal.τ).loc Cert.ValProjIdeal.main_arg1) = m ((c.tc : Thread Cert.ValProjIdeal.nD Cert.ValProjIdeal.τ).loc Cert.ValProjIdeal.main_arg1))
      ∧ θ_run (Cert.ValProjRefIdeal.defs (F := Ideal)) (onTc (τ := Cert.ValProjRefIdeal.τ) (Cert.ValProjRefIdeal.main (F := Ideal))) ⟨m', fun _ => 0, g'⟩ (fun r => ∀ c : Dev Cert.ValProjRefIdeal.nD,
          r.2.mem ((c.tc : Thread Cert.ValProjRefIdeal.nD Cert.ValProjRefIdeal.τ).loc Cert.ValProjRefIdeal.main_v5) = v0 c
          ∧ r.2.mem ((c.tc : Thread Cert.ValProjRefIdeal.nD Cert.ValProjRefIdeal.τ).loc Cert.ValProjRefIdeal.main_arg0) = m' ((c.tc : Thread Cert.ValProjRefIdeal.nD Cert.ValProjRefIdeal.τ).loc Cert.ValProjRefIdeal.main_arg0)
          ∧ r.2.mem ((c.tc : Thread Cert.ValProjRefIdeal.nD Cert.ValProjRefIdeal.τ).loc Cert.ValProjRefIdeal.main_arg1) = m' ((c.tc : Thread Cert.ValProjRefIdeal.nD Cert.ValProjRefIdeal.τ).loc Cert.ValProjRefIdeal.main_arg1))

def preserves_KeyProj_KeyProjIdeal : Prop :=
  True

def algebraic_KeyProjIdeal_KeyProjRefIdeal [hKeyProjIdeal : Cert.KeyProjIdeal.Facts] [hKeyProjRefIdeal : Cert.KeyProjRefIdeal.Facts] : Prop :=
  ∀ (m : (ℓ : Loc Cert.KeyProjIdeal.nD Cert.KeyProjIdeal.τ Cert.KeyProjIdeal.sig) → Buf (Elt Ideal) ℓ) (g : Dev Cert.KeyProjIdeal.nD → PrngReg)
    (m' : (ℓ : Loc Cert.KeyProjRefIdeal.nD Cert.KeyProjRefIdeal.τ Cert.KeyProjRefIdeal.sig) → Buf (Elt Ideal) ℓ) (g' : Dev Cert.KeyProjRefIdeal.nD → PrngReg), Pre_KeyProjIdeal m →
    (∀ c : Dev Cert.KeyProjIdeal.nD,
      m' ((c.tc : Thread Cert.KeyProjRefIdeal.nD Cert.KeyProjRefIdeal.τ).loc Cert.KeyProjRefIdeal.main_arg0) = m ((c.tc : Thread Cert.KeyProjIdeal.nD Cert.KeyProjIdeal.τ).loc Cert.KeyProjIdeal.main_arg0)
      ∧ m' ((c.tc : Thread Cert.KeyProjRefIdeal.nD Cert.KeyProjRefIdeal.τ).loc Cert.KeyProjRefIdeal.main_arg1) = m ((c.tc : Thread Cert.KeyProjIdeal.nD Cert.KeyProjIdeal.τ).loc Cert.KeyProjIdeal.main_arg1)) →
    ∃ (v0 : (c : Dev Cert.KeyProjIdeal.nD) → Buf (Elt Ideal) ((c.tc : Thread Cert.KeyProjIdeal.nD Cert.KeyProjIdeal.τ).loc Cert.KeyProjIdeal.main_v37)),
      θ_run (Cert.KeyProjIdeal.defs (F := Ideal)) (onTc (τ := Cert.KeyProjIdeal.τ) (Cert.KeyProjIdeal.main (F := Ideal))) ⟨m, fun _ => 0, g⟩ (fun r => ∀ c : Dev Cert.KeyProjIdeal.nD,
          r.2.mem ((c.tc : Thread Cert.KeyProjIdeal.nD Cert.KeyProjIdeal.τ).loc Cert.KeyProjIdeal.main_v37) = v0 c
          ∧ r.2.mem ((c.tc : Thread Cert.KeyProjIdeal.nD Cert.KeyProjIdeal.τ).loc Cert.KeyProjIdeal.main_arg0) = m ((c.tc : Thread Cert.KeyProjIdeal.nD Cert.KeyProjIdeal.τ).loc Cert.KeyProjIdeal.main_arg0)
          ∧ r.2.mem ((c.tc : Thread Cert.KeyProjIdeal.nD Cert.KeyProjIdeal.τ).loc Cert.KeyProjIdeal.main_arg1) = m ((c.tc : Thread Cert.KeyProjIdeal.nD Cert.KeyProjIdeal.τ).loc Cert.KeyProjIdeal.main_arg1))
      ∧ θ_run (Cert.KeyProjRefIdeal.defs (F := Ideal)) (onTc (τ := Cert.KeyProjRefIdeal.τ) (Cert.KeyProjRefIdeal.main (F := Ideal))) ⟨m', fun _ => 0, g'⟩ (fun r => ∀ c : Dev Cert.KeyProjRefIdeal.nD,
          r.2.mem ((c.tc : Thread Cert.KeyProjRefIdeal.nD Cert.KeyProjRefIdeal.τ).loc Cert.KeyProjRefIdeal.main_v73) = v0 c
          ∧ r.2.mem ((c.tc : Thread Cert.KeyProjRefIdeal.nD Cert.KeyProjRefIdeal.τ).loc Cert.KeyProjRefIdeal.main_arg0) = m' ((c.tc : Thread Cert.KeyProjRefIdeal.nD Cert.KeyProjRefIdeal.τ).loc Cert.KeyProjRefIdeal.main_arg0)
          ∧ r.2.mem ((c.tc : Thread Cert.KeyProjRefIdeal.nD Cert.KeyProjRefIdeal.τ).loc Cert.KeyProjRefIdeal.main_arg1) = m' ((c.tc : Thread Cert.KeyProjRefIdeal.nD Cert.KeyProjRefIdeal.τ).loc Cert.KeyProjRefIdeal.main_arg1))

def preserves_QueryProj_QueryProjIdeal : Prop :=
  IdealRules.named_const.Statement Cert.QueryProjIdeal.κ "q_prescale" .f32 0x3E0293EE#32 ((((Real.sqrt 128) * (Real.log 2))⁻¹ : ℝ) : EReal)

def algebraic_QueryProjIdeal_QueryProjRefIdeal [hQueryProjIdeal : Cert.QueryProjIdeal.Facts] [hQueryProjRefIdeal : Cert.QueryProjRefIdeal.Facts] : Prop :=
  ∀ (m : (ℓ : Loc Cert.QueryProjIdeal.nD Cert.QueryProjIdeal.τ Cert.QueryProjIdeal.sig) → Buf (Elt Ideal) ℓ) (g : Dev Cert.QueryProjIdeal.nD → PrngReg)
    (m' : (ℓ : Loc Cert.QueryProjRefIdeal.nD Cert.QueryProjRefIdeal.τ Cert.QueryProjRefIdeal.sig) → Buf (Elt Ideal) ℓ) (g' : Dev Cert.QueryProjRefIdeal.nD → PrngReg), Pre_QueryProjIdeal m →
    (∀ c : Dev Cert.QueryProjIdeal.nD,
      m' ((c.tc : Thread Cert.QueryProjRefIdeal.nD Cert.QueryProjRefIdeal.τ).loc Cert.QueryProjRefIdeal.main_arg0) = m ((c.tc : Thread Cert.QueryProjIdeal.nD Cert.QueryProjIdeal.τ).loc Cert.QueryProjIdeal.main_arg0)
      ∧ m' ((c.tc : Thread Cert.QueryProjRefIdeal.nD Cert.QueryProjRefIdeal.τ).loc Cert.QueryProjRefIdeal.main_arg1) = m ((c.tc : Thread Cert.QueryProjIdeal.nD Cert.QueryProjIdeal.τ).loc Cert.QueryProjIdeal.main_arg1)) →
    ∃ (v0 : (c : Dev Cert.QueryProjIdeal.nD) → Buf (Elt Ideal) ((c.tc : Thread Cert.QueryProjIdeal.nD Cert.QueryProjIdeal.τ).loc Cert.QueryProjIdeal.main_v37)),
      θ_run (Cert.QueryProjIdeal.defs (F := Ideal)) (onTc (τ := Cert.QueryProjIdeal.τ) (Cert.QueryProjIdeal.main (F := Ideal))) ⟨m, fun _ => 0, g⟩ (fun r => ∀ c : Dev Cert.QueryProjIdeal.nD,
          r.2.mem ((c.tc : Thread Cert.QueryProjIdeal.nD Cert.QueryProjIdeal.τ).loc Cert.QueryProjIdeal.main_v37) = v0 c
          ∧ r.2.mem ((c.tc : Thread Cert.QueryProjIdeal.nD Cert.QueryProjIdeal.τ).loc Cert.QueryProjIdeal.main_arg0) = m ((c.tc : Thread Cert.QueryProjIdeal.nD Cert.QueryProjIdeal.τ).loc Cert.QueryProjIdeal.main_arg0)
          ∧ r.2.mem ((c.tc : Thread Cert.QueryProjIdeal.nD Cert.QueryProjIdeal.τ).loc Cert.QueryProjIdeal.main_arg1) = m ((c.tc : Thread Cert.QueryProjIdeal.nD Cert.QueryProjIdeal.τ).loc Cert.QueryProjIdeal.main_arg1))
      ∧ θ_run (Cert.QueryProjRefIdeal.defs (F := Ideal)) (onTc (τ := Cert.QueryProjRefIdeal.τ) (Cert.QueryProjRefIdeal.main (F := Ideal))) ⟨m', fun _ => 0, g'⟩ (fun r => ∀ c : Dev Cert.QueryProjRefIdeal.nD,
          r.2.mem ((c.tc : Thread Cert.QueryProjRefIdeal.nD Cert.QueryProjRefIdeal.τ).loc Cert.QueryProjRefIdeal.main_v78) = v0 c
          ∧ r.2.mem ((c.tc : Thread Cert.QueryProjRefIdeal.nD Cert.QueryProjRefIdeal.τ).loc Cert.QueryProjRefIdeal.main_arg0) = m' ((c.tc : Thread Cert.QueryProjRefIdeal.nD Cert.QueryProjRefIdeal.τ).loc Cert.QueryProjRefIdeal.main_arg0)
          ∧ r.2.mem ((c.tc : Thread Cert.QueryProjRefIdeal.nD Cert.QueryProjRefIdeal.τ).loc Cert.QueryProjRefIdeal.main_arg1) = m' ((c.tc : Thread Cert.QueryProjRefIdeal.nD Cert.QueryProjRefIdeal.τ).loc Cert.QueryProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)) (v2 : (c : Dev Cert.OutProjIdeal.nD) → Buf (Elt Ideal) ((c.tc : Thread Cert.OutProjIdeal.nD Cert.OutProjIdeal.τ).loc Cert.OutProjIdeal.main_v8_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_v8_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v68) = v0 c
          ∧ r.2.mem ((c.tc : Thread Cert.OutProjRefIdeal.nD Cert.OutProjRefIdeal.τ).loc Cert.OutProjRefIdeal.main_v70) = v1 c
          ∧ r.2.mem ((c.tc : Thread Cert.OutProjRefIdeal.nD Cert.OutProjRefIdeal.τ).loc Cert.OutProjRefIdeal.main_v71) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_NbrProj_NbrProjIdeal : Prop :=
  True

def algebraic_NbrProjIdeal_NbrProjRefIdeal [hNbrProjIdeal : Cert.NbrProjIdeal.Facts] [hNbrProjRefIdeal : Cert.NbrProjRefIdeal.Facts] : Prop :=
  ∀ (m : (ℓ : Loc Cert.NbrProjIdeal.nD Cert.NbrProjIdeal.τ Cert.NbrProjIdeal.sig) → Buf (Elt Ideal) ℓ) (g : Dev Cert.NbrProjIdeal.nD → PrngReg)
    (m' : (ℓ : Loc Cert.NbrProjRefIdeal.nD Cert.NbrProjRefIdeal.τ Cert.NbrProjRefIdeal.sig) → Buf (Elt Ideal) ℓ) (g' : Dev Cert.NbrProjRefIdeal.nD → PrngReg), Pre_NbrProjIdeal m →
    (∀ c : Dev Cert.NbrProjIdeal.nD,
      m' ((c.tc : Thread Cert.NbrProjRefIdeal.nD Cert.NbrProjRefIdeal.τ).loc Cert.NbrProjRefIdeal.main_arg0) = m ((c.tc : Thread Cert.NbrProjIdeal.nD Cert.NbrProjIdeal.τ).loc Cert.NbrProjIdeal.main_arg0)
      ∧ m' ((c.tc : Thread Cert.NbrProjRefIdeal.nD Cert.NbrProjRefIdeal.τ).loc Cert.NbrProjRefIdeal.main_arg1) = m ((c.tc : Thread Cert.NbrProjIdeal.nD Cert.NbrProjIdeal.τ).loc Cert.NbrProjIdeal.main_arg1)) →
    ∃ (v0 : (c : Dev Cert.NbrProjIdeal.nD) → Buf (Elt Ideal) ((c.tc : Thread Cert.NbrProjIdeal.nD Cert.NbrProjIdeal.τ).loc Cert.NbrProjIdeal.main_v0)),
      θ_run (Cert.NbrProjIdeal.defs (F := Ideal)) (onTc (τ := Cert.NbrProjIdeal.τ) (Cert.NbrProjIdeal.main (F := Ideal))) ⟨m, fun _ => 0, g⟩ (fun r => ∀ c : Dev Cert.NbrProjIdeal.nD,
          r.2.mem ((c.tc : Thread Cert.NbrProjIdeal.nD Cert.NbrProjIdeal.τ).loc Cert.NbrProjIdeal.main_v0) = v0 c
          ∧ r.2.mem ((c.tc : Thread Cert.NbrProjIdeal.nD Cert.NbrProjIdeal.τ).loc Cert.NbrProjIdeal.main_arg0) = m ((c.tc : Thread Cert.NbrProjIdeal.nD Cert.NbrProjIdeal.τ).loc Cert.NbrProjIdeal.main_arg0)
          ∧ r.2.mem ((c.tc : Thread Cert.NbrProjIdeal.nD Cert.NbrProjIdeal.τ).loc Cert.NbrProjIdeal.main_arg1) = m ((c.tc : Thread Cert.NbrProjIdeal.nD Cert.NbrProjIdeal.τ).loc Cert.NbrProjIdeal.main_arg1))
      ∧ θ_run (Cert.NbrProjRefIdeal.defs (F := Ideal)) (onTc (τ := Cert.NbrProjRefIdeal.τ) (Cert.NbrProjRefIdeal.main (F := Ideal))) ⟨m', fun _ => 0, g'⟩ (fun r => ∀ c : Dev Cert.NbrProjRefIdeal.nD,
          r.2.mem ((c.tc : Thread Cert.NbrProjRefIdeal.nD Cert.NbrProjRefIdeal.τ).loc Cert.NbrProjRefIdeal.main_v5) = v0 c
          ∧ r.2.mem ((c.tc : Thread Cert.NbrProjRefIdeal.nD Cert.NbrProjRefIdeal.τ).loc Cert.NbrProjRefIdeal.main_arg0) = m' ((c.tc : Thread Cert.NbrProjRefIdeal.nD Cert.NbrProjRefIdeal.τ).loc Cert.NbrProjRefIdeal.main_arg0)
          ∧ r.2.mem ((c.tc : Thread Cert.NbrProjRefIdeal.nD Cert.NbrProjRefIdeal.τ).loc Cert.NbrProjRefIdeal.main_arg1) = m' ((c.tc : Thread Cert.NbrProjRefIdeal.nD Cert.NbrProjRefIdeal.τ).loc Cert.NbrProjRefIdeal.main_arg1))

def preserves_NbrQProj_NbrQProjIdeal : Prop :=
  IdealRules.named_const.Statement Cert.NbrQProjIdeal.κ "q_prescale" .f32 0x3E0293EE#32 ((((Real.sqrt 128) * (Real.log 2))⁻¹ : ℝ) : EReal)

def algebraic_NbrQProjIdeal_NbrQProjRefIdeal [hNbrQProjIdeal : Cert.NbrQProjIdeal.Facts] [hNbrQProjRefIdeal : Cert.NbrQProjRefIdeal.Facts] : Prop :=
  ∀ (m : (ℓ : Loc Cert.NbrQProjIdeal.nD Cert.NbrQProjIdeal.τ Cert.NbrQProjIdeal.sig) → Buf (Elt Ideal) ℓ) (g : Dev Cert.NbrQProjIdeal.nD → PrngReg)
    (m' : (ℓ : Loc Cert.NbrQProjRefIdeal.nD Cert.NbrQProjRefIdeal.τ Cert.NbrQProjRefIdeal.sig) → Buf (Elt Ideal) ℓ) (g' : Dev Cert.NbrQProjRefIdeal.nD → PrngReg), Pre_NbrQProjIdeal m →
    (∀ c : Dev Cert.NbrQProjIdeal.nD,
      m' ((c.tc : Thread Cert.NbrQProjRefIdeal.nD Cert.NbrQProjRefIdeal.τ).loc Cert.NbrQProjRefIdeal.main_arg0) = m ((c.tc : Thread Cert.NbrQProjIdeal.nD Cert.NbrQProjIdeal.τ).loc Cert.NbrQProjIdeal.main_arg0)
      ∧ m' ((c.tc : Thread Cert.NbrQProjRefIdeal.nD Cert.NbrQProjRefIdeal.τ).loc Cert.NbrQProjRefIdeal.main_arg1) = m ((c.tc : Thread Cert.NbrQProjIdeal.nD Cert.NbrQProjIdeal.τ).loc Cert.NbrQProjIdeal.main_arg1)) →
    ∃ (v0 : (c : Dev Cert.NbrQProjIdeal.nD) → Buf (Elt Ideal) ((c.tc : Thread Cert.NbrQProjIdeal.nD Cert.NbrQProjIdeal.τ).loc Cert.NbrQProjIdeal.main_v0)),
      θ_run (Cert.NbrQProjIdeal.defs (F := Ideal)) (onTc (τ := Cert.NbrQProjIdeal.τ) (Cert.NbrQProjIdeal.main (F := Ideal))) ⟨m, fun _ => 0, g⟩ (fun r => ∀ c : Dev Cert.NbrQProjIdeal.nD,
          r.2.mem ((c.tc : Thread Cert.NbrQProjIdeal.nD Cert.NbrQProjIdeal.τ).loc Cert.NbrQProjIdeal.main_v0) = v0 c
          ∧ r.2.mem ((c.tc : Thread Cert.NbrQProjIdeal.nD Cert.NbrQProjIdeal.τ).loc Cert.NbrQProjIdeal.main_arg0) = m ((c.tc : Thread Cert.NbrQProjIdeal.nD Cert.NbrQProjIdeal.τ).loc Cert.NbrQProjIdeal.main_arg0)
          ∧ r.2.mem ((c.tc : Thread Cert.NbrQProjIdeal.nD Cert.NbrQProjIdeal.τ).loc Cert.NbrQProjIdeal.main_arg1) = m ((c.tc : Thread Cert.NbrQProjIdeal.nD Cert.NbrQProjIdeal.τ).loc Cert.NbrQProjIdeal.main_arg1))
      ∧ θ_run (Cert.NbrQProjRefIdeal.defs (F := Ideal)) (onTc (τ := Cert.NbrQProjRefIdeal.τ) (Cert.NbrQProjRefIdeal.main (F := Ideal))) ⟨m', fun _ => 0, g'⟩ (fun r => ∀ c : Dev Cert.NbrQProjRefIdeal.nD,
          r.2.mem ((c.tc : Thread Cert.NbrQProjRefIdeal.nD Cert.NbrQProjRefIdeal.τ).loc Cert.NbrQProjRefIdeal.main_v10) = v0 c
          ∧ r.2.mem ((c.tc : Thread Cert.NbrQProjRefIdeal.nD Cert.NbrQProjRefIdeal.τ).loc Cert.NbrQProjRefIdeal.main_arg0) = m' ((c.tc : Thread Cert.NbrQProjRefIdeal.nD Cert.NbrQProjRefIdeal.τ).loc Cert.NbrQProjRefIdeal.main_arg0)
          ∧ r.2.mem ((c.tc : Thread Cert.NbrQProjRefIdeal.nD Cert.NbrQProjRefIdeal.τ).loc Cert.NbrQProjRefIdeal.main_arg1) = m' ((c.tc : Thread Cert.NbrQProjRefIdeal.nD Cert.NbrQProjRefIdeal.τ).loc Cert.NbrQProjRefIdeal.main_arg1))

def preserves_CtxWinProj_CtxWinProjIdeal : Prop :=
  True

def algebraic_CtxWinProjIdeal_CtxWinProjRefIdeal [hCtxWinProjIdeal : Cert.CtxWinProjIdeal.Facts] [hCtxWinProjRefIdeal : Cert.CtxWinProjRefIdeal.Facts] : Prop :=
  ∀ (m : (ℓ : Loc Cert.CtxWinProjIdeal.nD Cert.CtxWinProjIdeal.τ Cert.CtxWinProjIdeal.sig) → Buf (Elt Ideal) ℓ) (g : Dev Cert.CtxWinProjIdeal.nD → PrngReg)
    (m' : (ℓ : Loc Cert.CtxWinProjRefIdeal.nD Cert.CtxWinProjRefIdeal.τ Cert.CtxWinProjRefIdeal.sig) → Buf (Elt Ideal) ℓ) (g' : Dev Cert.CtxWinProjRefIdeal.nD → PrngReg), Pre_CtxWinProjIdeal m →
    (∀ c : Dev Cert.CtxWinProjIdeal.nD,
      m' ((c.tc : Thread Cert.CtxWinProjRefIdeal.nD Cert.CtxWinProjRefIdeal.τ).loc Cert.CtxWinProjRefIdeal.main_arg0) = m ((c.tc : Thread Cert.CtxWinProjIdeal.nD Cert.CtxWinProjIdeal.τ).loc Cert.CtxWinProjIdeal.main_arg0)
      ∧ m' ((c.tc : Thread Cert.CtxWinProjRefIdeal.nD Cert.CtxWinProjRefIdeal.τ).loc Cert.CtxWinProjRefIdeal.main_arg1) = m ((c.tc : Thread Cert.CtxWinProjIdeal.nD Cert.CtxWinProjIdeal.τ).loc Cert.CtxWinProjIdeal.main_arg1)) →
    ∃ (v0 : (c : Dev Cert.CtxWinProjIdeal.nD) → Buf (Elt Ideal) ((c.tc : Thread Cert.CtxWinProjIdeal.nD Cert.CtxWinProjIdeal.τ).loc Cert.CtxWinProjIdeal.main_v0)),
      θ_run (Cert.CtxWinProjIdeal.defs (F := Ideal)) (onTc (τ := Cert.CtxWinProjIdeal.τ) (Cert.CtxWinProjIdeal.main (F := Ideal))) ⟨m, fun _ => 0, g⟩ (fun r => ∀ c : Dev Cert.CtxWinProjIdeal.nD,
          r.2.mem ((c.tc : Thread Cert.CtxWinProjIdeal.nD Cert.CtxWinProjIdeal.τ).loc Cert.CtxWinProjIdeal.main_v0) = v0 c
          ∧ r.2.mem ((c.tc : Thread Cert.CtxWinProjIdeal.nD Cert.CtxWinProjIdeal.τ).loc Cert.CtxWinProjIdeal.main_arg0) = m ((c.tc : Thread Cert.CtxWinProjIdeal.nD Cert.CtxWinProjIdeal.τ).loc Cert.CtxWinProjIdeal.main_arg0)
          ∧ r.2.mem ((c.tc : Thread Cert.CtxWinProjIdeal.nD Cert.CtxWinProjIdeal.τ).loc Cert.CtxWinProjIdeal.main_arg1) = m ((c.tc : Thread Cert.CtxWinProjIdeal.nD Cert.CtxWinProjIdeal.τ).loc Cert.CtxWinProjIdeal.main_arg1))
      ∧ θ_run (Cert.CtxWinProjRefIdeal.defs (F := Ideal)) (onTc (τ := Cert.CtxWinProjRefIdeal.τ) (Cert.CtxWinProjRefIdeal.main (F := Ideal))) ⟨m', fun _ => 0, g'⟩ (fun r => ∀ c : Dev Cert.CtxWinProjRefIdeal.nD,
          r.2.mem ((c.tc : Thread Cert.CtxWinProjRefIdeal.nD Cert.CtxWinProjRefIdeal.τ).loc Cert.CtxWinProjRefIdeal.main_v4) = v0 c
          ∧ r.2.mem ((c.tc : Thread Cert.CtxWinProjRefIdeal.nD Cert.CtxWinProjRefIdeal.τ).loc Cert.CtxWinProjRefIdeal.main_arg0) = m' ((c.tc : Thread Cert.CtxWinProjRefIdeal.nD Cert.CtxWinProjRefIdeal.τ).loc Cert.CtxWinProjRefIdeal.main_arg0)
          ∧ r.2.mem ((c.tc : Thread Cert.CtxWinProjRefIdeal.nD Cert.CtxWinProjRefIdeal.τ).loc Cert.CtxWinProjRefIdeal.main_arg1) = m' ((c.tc : Thread Cert.CtxWinProjRefIdeal.nD Cert.CtxWinProjRefIdeal.τ).loc Cert.CtxWinProjRefIdeal.main_arg1))

def preserves_CtxNbrProj_CtxNbrProjIdeal : Prop :=
  True

def algebraic_CtxNbrProjIdeal_CtxNbrProjRefIdeal [hCtxNbrProjIdeal : Cert.CtxNbrProjIdeal.Facts] [hCtxNbrProjRefIdeal : Cert.CtxNbrProjRefIdeal.Facts] : Prop :=
  ∀ (m : (ℓ : Loc Cert.CtxNbrProjIdeal.nD Cert.CtxNbrProjIdeal.τ Cert.CtxNbrProjIdeal.sig) → Buf (Elt Ideal) ℓ) (g : Dev Cert.CtxNbrProjIdeal.nD → PrngReg)
    (m' : (ℓ : Loc Cert.CtxNbrProjRefIdeal.nD Cert.CtxNbrProjRefIdeal.τ Cert.CtxNbrProjRefIdeal.sig) → Buf (Elt Ideal) ℓ) (g' : Dev Cert.CtxNbrProjRefIdeal.nD → PrngReg), Pre_CtxNbrProjIdeal m →
    (∀ c : Dev Cert.CtxNbrProjIdeal.nD,
      m' ((c.tc : Thread Cert.CtxNbrProjRefIdeal.nD Cert.CtxNbrProjRefIdeal.τ).loc Cert.CtxNbrProjRefIdeal.main_arg0) = m ((c.tc : Thread Cert.CtxNbrProjIdeal.nD Cert.CtxNbrProjIdeal.τ).loc Cert.CtxNbrProjIdeal.main_arg0)
      ∧ m' ((c.tc : Thread Cert.CtxNbrProjRefIdeal.nD Cert.CtxNbrProjRefIdeal.τ).loc Cert.CtxNbrProjRefIdeal.main_arg1) = m ((c.tc : Thread Cert.CtxNbrProjIdeal.nD Cert.CtxNbrProjIdeal.τ).loc Cert.CtxNbrProjIdeal.main_arg1)) →
    ∃ (v0 : (c : Dev Cert.CtxNbrProjIdeal.nD) → Buf (Elt Ideal) ((c.tc : Thread Cert.CtxNbrProjIdeal.nD Cert.CtxNbrProjIdeal.τ).loc Cert.CtxNbrProjIdeal.main_v0)),
      θ_run (Cert.CtxNbrProjIdeal.defs (F := Ideal)) (onTc (τ := Cert.CtxNbrProjIdeal.τ) (Cert.CtxNbrProjIdeal.main (F := Ideal))) ⟨m, fun _ => 0, g⟩ (fun r => ∀ c : Dev Cert.CtxNbrProjIdeal.nD,
          r.2.mem ((c.tc : Thread Cert.CtxNbrProjIdeal.nD Cert.CtxNbrProjIdeal.τ).loc Cert.CtxNbrProjIdeal.main_v0) = v0 c
          ∧ r.2.mem ((c.tc : Thread Cert.CtxNbrProjIdeal.nD Cert.CtxNbrProjIdeal.τ).loc Cert.CtxNbrProjIdeal.main_arg0) = m ((c.tc : Thread Cert.CtxNbrProjIdeal.nD Cert.CtxNbrProjIdeal.τ).loc Cert.CtxNbrProjIdeal.main_arg0)
          ∧ r.2.mem ((c.tc : Thread Cert.CtxNbrProjIdeal.nD Cert.CtxNbrProjIdeal.τ).loc Cert.CtxNbrProjIdeal.main_arg1) = m ((c.tc : Thread Cert.CtxNbrProjIdeal.nD Cert.CtxNbrProjIdeal.τ).loc Cert.CtxNbrProjIdeal.main_arg1))
      ∧ θ_run (Cert.CtxNbrProjRefIdeal.defs (F := Ideal)) (onTc (τ := Cert.CtxNbrProjRefIdeal.τ) (Cert.CtxNbrProjRefIdeal.main (F := Ideal))) ⟨m', fun _ => 0, g'⟩ (fun r => ∀ c : Dev Cert.CtxNbrProjRefIdeal.nD,
          r.2.mem ((c.tc : Thread Cert.CtxNbrProjRefIdeal.nD Cert.CtxNbrProjRefIdeal.τ).loc Cert.CtxNbrProjRefIdeal.main_v4) = v0 c
          ∧ r.2.mem ((c.tc : Thread Cert.CtxNbrProjRefIdeal.nD Cert.CtxNbrProjRefIdeal.τ).loc Cert.CtxNbrProjRefIdeal.main_arg0) = m' ((c.tc : Thread Cert.CtxNbrProjRefIdeal.nD Cert.CtxNbrProjRefIdeal.τ).loc Cert.CtxNbrProjRefIdeal.main_arg0)
          ∧ r.2.mem ((c.tc : Thread Cert.CtxNbrProjRefIdeal.nD Cert.CtxNbrProjRefIdeal.τ).loc Cert.CtxNbrProjRefIdeal.main_arg1) = m' ((c.tc : Thread Cert.CtxNbrProjRefIdeal.nD Cert.CtxNbrProjRefIdeal.τ).loc Cert.CtxNbrProjRefIdeal.main_arg1))

def preserves_OutProjTwo_OutProjTwoIdeal : Prop :=
  True

def algebraic_OutProjTwoIdeal_OutProjTwoRefIdeal [hOutProjTwoIdeal : Cert.OutProjTwoIdeal.Facts] [hOutProjTwoRefIdeal : Cert.OutProjTwoRefIdeal.Facts] : Prop :=
  ∀ (m : (ℓ : Loc Cert.OutProjTwoIdeal.nD Cert.OutProjTwoIdeal.τ Cert.OutProjTwoIdeal.sig) → Buf (Elt Ideal) ℓ) (g : Dev Cert.OutProjTwoIdeal.nD → PrngReg)
    (m' : (ℓ : Loc Cert.OutProjTwoRefIdeal.nD Cert.OutProjTwoRefIdeal.τ Cert.OutProjTwoRefIdeal.sig) → Buf (Elt Ideal) ℓ) (g' : Dev Cert.OutProjTwoRefIdeal.nD → PrngReg), Pre_OutProjTwoIdeal m →
    (∀ c : Dev Cert.OutProjTwoIdeal.nD,
      m' ((c.tc : Thread Cert.OutProjTwoRefIdeal.nD Cert.OutProjTwoRefIdeal.τ).loc Cert.OutProjTwoRefIdeal.main_arg0) = m ((c.tc : Thread Cert.OutProjTwoIdeal.nD Cert.OutProjTwoIdeal.τ).loc Cert.OutProjTwoIdeal.main_arg0)
      ∧ m' ((c.tc : Thread Cert.OutProjTwoRefIdeal.nD Cert.OutProjTwoRefIdeal.τ).loc Cert.OutProjTwoRefIdeal.main_arg1) = m ((c.tc : Thread Cert.OutProjTwoIdeal.nD Cert.OutProjTwoIdeal.τ).loc Cert.OutProjTwoIdeal.main_arg1)
      ∧ m' ((c.tc : Thread Cert.OutProjTwoRefIdeal.nD Cert.OutProjTwoRefIdeal.τ).loc Cert.OutProjTwoRefIdeal.main_arg2) = m ((c.tc : Thread Cert.OutProjTwoIdeal.nD Cert.OutProjTwoIdeal.τ).loc Cert.OutProjTwoIdeal.main_arg2)
      ∧ m' ((c.tc : Thread Cert.OutProjTwoRefIdeal.nD Cert.OutProjTwoRefIdeal.τ).loc Cert.OutProjTwoRefIdeal.main_arg3) = m ((c.tc : Thread Cert.OutProjTwoIdeal.nD Cert.OutProjTwoIdeal.τ).loc Cert.OutProjTwoIdeal.main_arg3)
      ∧ m' ((c.tc : Thread Cert.OutProjTwoRefIdeal.nD Cert.OutProjTwoRefIdeal.τ).loc Cert.OutProjTwoRefIdeal.main_arg4) = m ((c.tc : Thread Cert.OutProjTwoIdeal.nD Cert.OutProjTwoIdeal.τ).loc Cert.OutProjTwoIdeal.main_arg4)
      ∧ m' ((c.tc : Thread Cert.OutProjTwoRefIdeal.nD Cert.OutProjTwoRefIdeal.τ).loc Cert.OutProjTwoRefIdeal.main_arg5) = m ((c.tc : Thread Cert.OutProjTwoIdeal.nD Cert.OutProjTwoIdeal.τ).loc Cert.OutProjTwoIdeal.main_arg5)
      ∧ m' ((c.tc : Thread Cert.OutProjTwoRefIdeal.nD Cert.OutProjTwoRefIdeal.τ).loc Cert.OutProjTwoRefIdeal.main_arg6) = m ((c.tc : Thread Cert.OutProjTwoIdeal.nD Cert.OutProjTwoIdeal.τ).loc Cert.OutProjTwoIdeal.main_arg6)
      ∧ m' ((c.tc : Thread Cert.OutProjTwoRefIdeal.nD Cert.OutProjTwoRefIdeal.τ).loc Cert.OutProjTwoRefIdeal.main_arg7) = m ((c.tc : Thread Cert.OutProjTwoIdeal.nD Cert.OutProjTwoIdeal.τ).loc Cert.OutProjTwoIdeal.main_arg7)) →
    ∃ (v0 : (c : Dev Cert.OutProjTwoIdeal.nD) → Buf (Elt Ideal) ((c.tc : Thread Cert.OutProjTwoIdeal.nD Cert.OutProjTwoIdeal.τ).loc Cert.OutProjTwoIdeal.main_v8_0)) (v1 : (c : Dev Cert.OutProjTwoIdeal.nD) → Buf (Elt Ideal) ((c.tc : Thread Cert.OutProjTwoIdeal.nD Cert.OutProjTwoIdeal.τ).loc Cert.OutProjTwoIdeal.main_v8_1)) (v2 : (c : Dev Cert.OutProjTwoIdeal.nD) → Buf (Elt Ideal) ((c.tc : Thread Cert.OutProjTwoIdeal.nD Cert.OutProjTwoIdeal.τ).loc Cert.OutProjTwoIdeal.main_v8_2)),
      θ_run (Cert.OutProjTwoIdeal.defs (F := Ideal)) (onTc (τ := Cert.OutProjTwoIdeal.τ) (Cert.OutProjTwoIdeal.main (F := Ideal))) ⟨m, fun _ => 0, g⟩ (fun r => ∀ c : Dev Cert.OutProjTwoIdeal.nD,
          r.2.mem ((c.tc : Thread Cert.OutProjTwoIdeal.nD Cert.OutProjTwoIdeal.τ).loc Cert.OutProjTwoIdeal.main_v8_0) = v0 c
          ∧ r.2.mem ((c.tc : Thread Cert.OutProjTwoIdeal.nD Cert.OutProjTwoIdeal.τ).loc Cert.OutProjTwoIdeal.main_v8_1) = v1 c
          ∧ r.2.mem ((c.tc : Thread Cert.OutProjTwoIdeal.nD Cert.OutProjTwoIdeal.τ).loc Cert.OutProjTwoIdeal.main_v8_2) = v2 c
          ∧ r.2.mem ((c.tc : Thread Cert.OutProjTwoIdeal.nD Cert.OutProjTwoIdeal.τ).loc Cert.OutProjTwoIdeal.main_arg0) = m ((c.tc : Thread Cert.OutProjTwoIdeal.nD Cert.OutProjTwoIdeal.τ).loc Cert.OutProjTwoIdeal.main_arg0)
          ∧ r.2.mem ((c.tc : Thread Cert.OutProjTwoIdeal.nD Cert.OutProjTwoIdeal.τ).loc Cert.OutProjTwoIdeal.main_arg1) = m ((c.tc : Thread Cert.OutProjTwoIdeal.nD Cert.OutProjTwoIdeal.τ).loc Cert.OutProjTwoIdeal.main_arg1)
          ∧ r.2.mem ((c.tc : Thread Cert.OutProjTwoIdeal.nD Cert.OutProjTwoIdeal.τ).loc Cert.OutProjTwoIdeal.main_arg2) = m ((c.tc : Thread Cert.OutProjTwoIdeal.nD Cert.OutProjTwoIdeal.τ).loc Cert.OutProjTwoIdeal.main_arg2)
          ∧ r.2.mem ((c.tc : Thread Cert.OutProjTwoIdeal.nD Cert.OutProjTwoIdeal.τ).loc Cert.OutProjTwoIdeal.main_arg3) = m ((c.tc : Thread Cert.OutProjTwoIdeal.nD Cert.OutProjTwoIdeal.τ).loc Cert.OutProjTwoIdeal.main_arg3)
          ∧ r.2.mem ((c.tc : Thread Cert.OutProjTwoIdeal.nD Cert.OutProjTwoIdeal.τ).loc Cert.OutProjTwoIdeal.main_arg4) = m ((c.tc : Thread Cert.OutProjTwoIdeal.nD Cert.OutProjTwoIdeal.τ).loc Cert.OutProjTwoIdeal.main_arg4)
          ∧ r.2.mem ((c.tc : Thread Cert.OutProjTwoIdeal.nD Cert.OutProjTwoIdeal.τ).loc Cert.OutProjTwoIdeal.main_arg5) = m ((c.tc : Thread Cert.OutProjTwoIdeal.nD Cert.OutProjTwoIdeal.τ).loc Cert.OutProjTwoIdeal.main_arg5)
          ∧ r.2.mem ((c.tc : Thread Cert.OutProjTwoIdeal.nD Cert.OutProjTwoIdeal.τ).loc Cert.OutProjTwoIdeal.main_arg6) = m ((c.tc : Thread Cert.OutProjTwoIdeal.nD Cert.OutProjTwoIdeal.τ).loc Cert.OutProjTwoIdeal.main_arg6)
          ∧ r.2.mem ((c.tc : Thread Cert.OutProjTwoIdeal.nD Cert.OutProjTwoIdeal.τ).loc Cert.OutProjTwoIdeal.main_arg7) = m ((c.tc : Thread Cert.OutProjTwoIdeal.nD Cert.OutProjTwoIdeal.τ).loc Cert.OutProjTwoIdeal.main_arg7))
      ∧ θ_run (Cert.OutProjTwoRefIdeal.defs (F := Ideal)) (onTc (τ := Cert.OutProjTwoRefIdeal.τ) (Cert.OutProjTwoRefIdeal.main (F := Ideal))) ⟨m', fun _ => 0, g'⟩ (fun r => ∀ c : Dev Cert.OutProjTwoRefIdeal.nD,
          r.2.mem ((c.tc : Thread Cert.OutProjTwoRefIdeal.nD Cert.OutProjTwoRefIdeal.τ).loc Cert.OutProjTwoRefIdeal.main_v70) = v0 c
          ∧ r.2.mem ((c.tc : Thread Cert.OutProjTwoRefIdeal.nD Cert.OutProjTwoRefIdeal.τ).loc Cert.OutProjTwoRefIdeal.main_v72) = v1 c
          ∧ r.2.mem ((c.tc : Thread Cert.OutProjTwoRefIdeal.nD Cert.OutProjTwoRefIdeal.τ).loc Cert.OutProjTwoRefIdeal.main_v73) = v2 c
          ∧ r.2.mem ((c.tc : Thread Cert.OutProjTwoRefIdeal.nD Cert.OutProjTwoRefIdeal.τ).loc Cert.OutProjTwoRefIdeal.main_arg0) = m' ((c.tc : Thread Cert.OutProjTwoRefIdeal.nD Cert.OutProjTwoRefIdeal.τ).loc Cert.OutProjTwoRefIdeal.main_arg0)
          ∧ r.2.mem ((c.tc : Thread Cert.OutProjTwoRefIdeal.nD Cert.OutProjTwoRefIdeal.τ).loc Cert.OutProjTwoRefIdeal.main_arg1) = m' ((c.tc : Thread Cert.OutProjTwoRefIdeal.nD Cert.OutProjTwoRefIdeal.τ).loc Cert.OutProjTwoRefIdeal.main_arg1)
          ∧ r.2.mem ((c.tc : Thread Cert.OutProjTwoRefIdeal.nD Cert.OutProjTwoRefIdeal.τ).loc Cert.OutProjTwoRefIdeal.main_arg2) = m' ((c.tc : Thread Cert.OutProjTwoRefIdeal.nD Cert.OutProjTwoRefIdeal.τ).loc Cert.OutProjTwoRefIdeal.main_arg2)
          ∧ r.2.mem ((c.tc : Thread Cert.OutProjTwoRefIdeal.nD Cert.OutProjTwoRefIdeal.τ).loc Cert.OutProjTwoRefIdeal.main_arg3) = m' ((c.tc : Thread Cert.OutProjTwoRefIdeal.nD Cert.OutProjTwoRefIdeal.τ).loc Cert.OutProjTwoRefIdeal.main_arg3)
          ∧ r.2.mem ((c.tc : Thread Cert.OutProjTwoRefIdeal.nD Cert.OutProjTwoRefIdeal.τ).loc Cert.OutProjTwoRefIdeal.main_arg4) = m' ((c.tc : Thread Cert.OutProjTwoRefIdeal.nD Cert.OutProjTwoRefIdeal.τ).loc Cert.OutProjTwoRefIdeal.main_arg4)
          ∧ r.2.mem ((c.tc : Thread Cert.OutProjTwoRefIdeal.nD Cert.OutProjTwoRefIdeal.τ).loc Cert.OutProjTwoRefIdeal.main_arg5) = m' ((c.tc : Thread Cert.OutProjTwoRefIdeal.nD Cert.OutProjTwoRefIdeal.τ).loc Cert.OutProjTwoRefIdeal.main_arg5)
          ∧ r.2.mem ((c.tc : Thread Cert.OutProjTwoRefIdeal.nD Cert.OutProjTwoRefIdeal.τ).loc Cert.OutProjTwoRefIdeal.main_arg6) = m' ((c.tc : Thread Cert.OutProjTwoRefIdeal.nD Cert.OutProjTwoRefIdeal.τ).loc Cert.OutProjTwoRefIdeal.main_arg6)
          ∧ r.2.mem ((c.tc : Thread Cert.OutProjTwoRefIdeal.nD Cert.OutProjTwoRefIdeal.τ).loc Cert.OutProjTwoRefIdeal.main_arg7) = m' ((c.tc : Thread Cert.OutProjTwoRefIdeal.nD Cert.OutProjTwoRefIdeal.τ).loc Cert.OutProjTwoRefIdeal.main_arg7))

def preserves_WinProj_WinProjIdeal : Prop :=
  IdealRules.named_const.Statement Cert.WinProjIdeal.κ "q_prescale" .f32 0x3E0293EE#32 ((((Real.sqrt 128) * (Real.log 2))⁻¹ : ℝ) : EReal)

def algebraic_WinProjIdeal_WinProjRefIdeal [hWinProjIdeal : Cert.WinProjIdeal.Facts] [hWinProjRefIdeal : Cert.WinProjRefIdeal.Facts] : Prop :=
  ∀ (m : (ℓ : Loc Cert.WinProjIdeal.nD Cert.WinProjIdeal.τ Cert.WinProjIdeal.sig) → Buf (Elt Ideal) ℓ) (g : Dev Cert.WinProjIdeal.nD → PrngReg)
    (m' : (ℓ : Loc Cert.WinProjRefIdeal.nD Cert.WinProjRefIdeal.τ Cert.WinProjRefIdeal.sig) → Buf (Elt Ideal) ℓ) (g' : Dev Cert.WinProjRefIdeal.nD → PrngReg), Pre_WinProjIdeal m →
    (∀ c : Dev Cert.WinProjIdeal.nD,
      m' ((c.tc : Thread Cert.WinProjRefIdeal.nD Cert.WinProjRefIdeal.τ).loc Cert.WinProjRefIdeal.main_arg0) = m ((c.tc : Thread Cert.WinProjIdeal.nD Cert.WinProjIdeal.τ).loc Cert.WinProjIdeal.main_arg0)
      ∧ m' ((c.tc : Thread Cert.WinProjRefIdeal.nD Cert.WinProjRefIdeal.τ).loc Cert.WinProjRefIdeal.main_arg1) = m ((c.tc : Thread Cert.WinProjIdeal.nD Cert.WinProjIdeal.τ).loc Cert.WinProjIdeal.main_arg1)) →
    ∃ (v0 : (c : Dev Cert.WinProjIdeal.nD) → Buf (Elt Ideal) ((c.tc : Thread Cert.WinProjIdeal.nD Cert.WinProjIdeal.τ).loc Cert.WinProjIdeal.main_v37)),
      θ_run (Cert.WinProjIdeal.defs (F := Ideal)) (onTc (τ := Cert.WinProjIdeal.τ) (Cert.WinProjIdeal.main (F := Ideal))) ⟨m, fun _ => 0, g⟩ (fun r => ∀ c : Dev Cert.WinProjIdeal.nD,
          r.2.mem ((c.tc : Thread Cert.WinProjIdeal.nD Cert.WinProjIdeal.τ).loc Cert.WinProjIdeal.main_v37) = v0 c
          ∧ r.2.mem ((c.tc : Thread Cert.WinProjIdeal.nD Cert.WinProjIdeal.τ).loc Cert.WinProjIdeal.main_arg0) = m ((c.tc : Thread Cert.WinProjIdeal.nD Cert.WinProjIdeal.τ).loc Cert.WinProjIdeal.main_arg0)
          ∧ r.2.mem ((c.tc : Thread Cert.WinProjIdeal.nD Cert.WinProjIdeal.τ).loc Cert.WinProjIdeal.main_arg1) = m ((c.tc : Thread Cert.WinProjIdeal.nD Cert.WinProjIdeal.τ).loc Cert.WinProjIdeal.main_arg1))
      ∧ θ_run (Cert.WinProjRefIdeal.defs (F := Ideal)) (onTc (τ := Cert.WinProjRefIdeal.τ) (Cert.WinProjRefIdeal.main (F := Ideal))) ⟨m', fun _ => 0, g'⟩ (fun r => ∀ c : Dev Cert.WinProjRefIdeal.nD,
          r.2.mem ((c.tc : Thread Cert.WinProjRefIdeal.nD Cert.WinProjRefIdeal.τ).loc Cert.WinProjRefIdeal.main_v120) = v0 c
          ∧ r.2.mem ((c.tc : Thread Cert.WinProjRefIdeal.nD Cert.WinProjRefIdeal.τ).loc Cert.WinProjRefIdeal.main_arg0) = m' ((c.tc : Thread Cert.WinProjRefIdeal.nD Cert.WinProjRefIdeal.τ).loc Cert.WinProjRefIdeal.main_arg0)
          ∧ r.2.mem ((c.tc : Thread Cert.WinProjRefIdeal.nD Cert.WinProjRefIdeal.τ).loc Cert.WinProjRefIdeal.main_arg1) = m' ((c.tc : Thread Cert.WinProjRefIdeal.nD Cert.WinProjRefIdeal.τ).loc Cert.WinProjRefIdeal.main_arg1))

def preserves_CtxAttn_CtxAttnIdeal : Prop :=
  True

def algebraic_CtxAttnIdeal_CtxAttnRefIdeal_pre_finite_scores [hCtxAttnIdeal : Cert.CtxAttnIdeal.Facts] [hCtxAttnRefIdeal : Cert.CtxAttnRefIdeal.Facts] [hPre_finite_scores : Cert.Pre_finite_scores.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg)
    (m' : (ℓ : Loc Cert.CtxAttnRefIdeal.nD Cert.CtxAttnRefIdeal.τ Cert.CtxAttnRefIdeal.sig) → Buf (Elt Ideal) ℓ) (g' : Dev Cert.CtxAttnRefIdeal.nD → PrngReg), Pre_CtxAttnIdeal_finite_scores m →
    (∀ c : Dev Cert.CtxAttnIdeal.nD,
      m' ((c.tc : Thread Cert.CtxAttnRefIdeal.nD Cert.CtxAttnRefIdeal.τ).loc Cert.CtxAttnRefIdeal.main_arg0) = m ((c.tc : Thread Cert.CtxAttnIdeal.nD Cert.CtxAttnIdeal.τ).loc Cert.CtxAttnIdeal.main_arg0)
      ∧ m' ((c.tc : Thread Cert.CtxAttnRefIdeal.nD Cert.CtxAttnRefIdeal.τ).loc Cert.CtxAttnRefIdeal.main_arg1) = m ((c.tc : Thread Cert.CtxAttnIdeal.nD Cert.CtxAttnIdeal.τ).loc Cert.CtxAttnIdeal.main_arg1)
      ∧ m' ((c.tc : Thread Cert.CtxAttnRefIdeal.nD Cert.CtxAttnRefIdeal.τ).loc Cert.CtxAttnRefIdeal.main_arg2) = m ((c.tc : Thread Cert.CtxAttnIdeal.nD Cert.CtxAttnIdeal.τ).loc Cert.CtxAttnIdeal.main_arg2)
      ∧ m' ((c.tc : Thread Cert.CtxAttnRefIdeal.nD Cert.CtxAttnRefIdeal.τ).loc Cert.CtxAttnRefIdeal.main_arg3) = m ((c.tc : Thread Cert.CtxAttnIdeal.nD Cert.CtxAttnIdeal.τ).loc Cert.CtxAttnIdeal.main_arg3)
      ∧ m' ((c.tc : Thread Cert.CtxAttnRefIdeal.nD Cert.CtxAttnRefIdeal.τ).loc Cert.CtxAttnRefIdeal.main_arg4) = m ((c.tc : Thread Cert.CtxAttnIdeal.nD Cert.CtxAttnIdeal.τ).loc Cert.CtxAttnIdeal.main_arg4)) →
    ∃ (v0 : (c : Dev Cert.CtxAttnIdeal.nD) → Buf (Elt Ideal) ((c.tc : Thread Cert.CtxAttnIdeal.nD Cert.CtxAttnIdeal.τ).loc Cert.CtxAttnIdeal.main_v1)),
      θ_run (Cert.CtxAttnIdeal.defs (F := Ideal)) (onTc (τ := Cert.CtxAttnIdeal.τ) (Cert.CtxAttnIdeal.main (F := Ideal))) ⟨m, fun _ => 0, g⟩ (fun r => ∀ c : Dev Cert.CtxAttnIdeal.nD,
          r.2.mem ((c.tc : Thread Cert.CtxAttnIdeal.nD Cert.CtxAttnIdeal.τ).loc Cert.CtxAttnIdeal.main_v1) = v0 c
          ∧ r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
          ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
          ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
          ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3)
          ∧ r.2.mem ((c.tc : Thread Cert.CtxAttnIdeal.nD Cert.CtxAttnIdeal.τ).loc Cert.CtxAttnIdeal.main_arg4) = m ((c.tc : Thread Cert.CtxAttnIdeal.nD Cert.CtxAttnIdeal.τ).loc Cert.CtxAttnIdeal.main_arg4))
      ∧ θ_run (Cert.CtxAttnRefIdeal.defs (F := Ideal)) (onTc (τ := Cert.CtxAttnRefIdeal.τ) (Cert.CtxAttnRefIdeal.main (F := Ideal))) ⟨m', fun _ => 0, g'⟩ (fun r => ∀ c : Dev Cert.CtxAttnRefIdeal.nD,
          r.2.mem ((c.tc : Thread Cert.CtxAttnRefIdeal.nD Cert.CtxAttnRefIdeal.τ).loc Cert.CtxAttnRefIdeal.main_v52) = v0 c
          ∧ r.2.mem ((c.tc : Thread Cert.CtxAttnRefIdeal.nD Cert.CtxAttnRefIdeal.τ).loc Cert.CtxAttnRefIdeal.main_arg0) = m' ((c.tc : Thread Cert.CtxAttnRefIdeal.nD Cert.CtxAttnRefIdeal.τ).loc Cert.CtxAttnRefIdeal.main_arg0)
          ∧ r.2.mem ((c.tc : Thread Cert.CtxAttnRefIdeal.nD Cert.CtxAttnRefIdeal.τ).loc Cert.CtxAttnRefIdeal.main_arg1) = m' ((c.tc : Thread Cert.CtxAttnRefIdeal.nD Cert.CtxAttnRefIdeal.τ).loc Cert.CtxAttnRefIdeal.main_arg1)
          ∧ r.2.mem ((c.tc : Thread Cert.CtxAttnRefIdeal.nD Cert.CtxAttnRefIdeal.τ).loc Cert.CtxAttnRefIdeal.main_arg2) = m' ((c.tc : Thread Cert.CtxAttnRefIdeal.nD Cert.CtxAttnRefIdeal.τ).loc Cert.CtxAttnRefIdeal.main_arg2)
          ∧ r.2.mem ((c.tc : Thread Cert.CtxAttnRefIdeal.nD Cert.CtxAttnRefIdeal.τ).loc Cert.CtxAttnRefIdeal.main_arg3) = m' ((c.tc : Thread Cert.CtxAttnRefIdeal.nD Cert.CtxAttnRefIdeal.τ).loc Cert.CtxAttnRefIdeal.main_arg3)
          ∧ r.2.mem ((c.tc : Thread Cert.CtxAttnRefIdeal.nD Cert.CtxAttnRefIdeal.τ).loc Cert.CtxAttnRefIdeal.main_arg4) = m' ((c.tc : Thread Cert.CtxAttnRefIdeal.nD Cert.CtxAttnRefIdeal.τ).loc Cert.CtxAttnRefIdeal.main_arg4))

def Claim : Prop :=
  ∃ (hDiffAttn : Cert.DiffAttn.Facts) (hDiffAttnIdeal : Cert.DiffAttnIdeal.Facts) (hDiffAttnRefIdeal : Cert.DiffAttnRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hCtxProj : Cert.CtxProj.Facts) (hCtxProjIdeal : Cert.CtxProjIdeal.Facts) (hCtxProjRefIdeal : Cert.CtxProjRefIdeal.Facts) (hValProj : Cert.ValProj.Facts) (hValProjIdeal : Cert.ValProjIdeal.Facts) (hValProjRefIdeal : Cert.ValProjRefIdeal.Facts) (hKeyProj : Cert.KeyProj.Facts) (hKeyProjIdeal : Cert.KeyProjIdeal.Facts) (hKeyProjRefIdeal : Cert.KeyProjRefIdeal.Facts) (hQueryProj : Cert.QueryProj.Facts) (hQueryProjIdeal : Cert.QueryProjIdeal.Facts) (hQueryProjRefIdeal : Cert.QueryProjRefIdeal.Facts) (hOutProj : Cert.OutProj.Facts) (hOutProjIdeal : Cert.OutProjIdeal.Facts) (hOutProjRefIdeal : Cert.OutProjRefIdeal.Facts) (hNbrProj : Cert.NbrProj.Facts) (hNbrProjIdeal : Cert.NbrProjIdeal.Facts) (hNbrProjRefIdeal : Cert.NbrProjRefIdeal.Facts) (hNbrQProj : Cert.NbrQProj.Facts) (hNbrQProjIdeal : Cert.NbrQProjIdeal.Facts) (hNbrQProjRefIdeal : Cert.NbrQProjRefIdeal.Facts) (hCtxWinProj : Cert.CtxWinProj.Facts) (hCtxWinProjIdeal : Cert.CtxWinProjIdeal.Facts) (hCtxWinProjRefIdeal : Cert.CtxWinProjRefIdeal.Facts) (hCtxNbrProj : Cert.CtxNbrProj.Facts) (hCtxNbrProjIdeal : Cert.CtxNbrProjIdeal.Facts) (hCtxNbrProjRefIdeal : Cert.CtxNbrProjRefIdeal.Facts) (hOutProjTwo : Cert.OutProjTwo.Facts) (hOutProjTwoIdeal : Cert.OutProjTwoIdeal.Facts) (hOutProjTwoRefIdeal : Cert.OutProjTwoRefIdeal.Facts) (hWinProj : Cert.WinProj.Facts) (hWinProjIdeal : Cert.WinProjIdeal.Facts) (hWinProjRefIdeal : Cert.WinProjRefIdeal.Facts) (hCtxAttn : Cert.CtxAttn.Facts) (hCtxAttnIdeal : Cert.CtxAttnIdeal.Facts) (hCtxAttnRefIdeal : Cert.CtxAttnRefIdeal.Facts) (hPre_finite : Cert.Pre_finite.Facts) (hPre_finite_scores : Cert.Pre_finite_scores.Facts),
    quiescent_DiffAttn (hDiffAttn := hDiffAttn)
    ∧ quiescent_DiffAttnIdeal (hDiffAttnIdeal := hDiffAttnIdeal)
    ∧ quiescent_DiffAttnIdeal_pre_finite (hDiffAttnIdeal := hDiffAttnIdeal) (hPre_finite := hPre_finite)
    ∧ quiescent_DiffAttnRefIdeal (hDiffAttnRefIdeal := hDiffAttnRefIdeal)
    ∧ quiescent_DiffAttnRefIdeal_pre_finite (hDiffAttnRefIdeal := hDiffAttnRefIdeal) (hPre_finite := hPre_finite)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_CtxProj (hCtxProj := hCtxProj)
    ∧ quiescent_CtxProjIdeal (hCtxProjIdeal := hCtxProjIdeal)
    ∧ quiescent_CtxProjRefIdeal (hCtxProjRefIdeal := hCtxProjRefIdeal)
    ∧ quiescent_ValProj (hValProj := hValProj)
    ∧ quiescent_ValProjIdeal (hValProjIdeal := hValProjIdeal)
    ∧ quiescent_ValProjRefIdeal (hValProjRefIdeal := hValProjRefIdeal)
    ∧ quiescent_KeyProj (hKeyProj := hKeyProj)
    ∧ quiescent_KeyProjIdeal (hKeyProjIdeal := hKeyProjIdeal)
    ∧ quiescent_KeyProjRefIdeal (hKeyProjRefIdeal := hKeyProjRefIdeal)
    ∧ quiescent_QueryProj (hQueryProj := hQueryProj)
    ∧ quiescent_QueryProjIdeal (hQueryProjIdeal := hQueryProjIdeal)
    ∧ quiescent_QueryProjRefIdeal (hQueryProjRefIdeal := hQueryProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_NbrProj (hNbrProj := hNbrProj)
    ∧ quiescent_NbrProjIdeal (hNbrProjIdeal := hNbrProjIdeal)
    ∧ quiescent_NbrProjRefIdeal (hNbrProjRefIdeal := hNbrProjRefIdeal)
    ∧ quiescent_NbrQProj (hNbrQProj := hNbrQProj)
    ∧ quiescent_NbrQProjIdeal (hNbrQProjIdeal := hNbrQProjIdeal)
    ∧ quiescent_NbrQProjRefIdeal (hNbrQProjRefIdeal := hNbrQProjRefIdeal)
    ∧ quiescent_CtxWinProj (hCtxWinProj := hCtxWinProj)
    ∧ quiescent_CtxWinProjIdeal (hCtxWinProjIdeal := hCtxWinProjIdeal)
    ∧ quiescent_CtxWinProjRefIdeal (hCtxWinProjRefIdeal := hCtxWinProjRefIdeal)
    ∧ quiescent_CtxNbrProj (hCtxNbrProj := hCtxNbrProj)
    ∧ quiescent_CtxNbrProjIdeal (hCtxNbrProjIdeal := hCtxNbrProjIdeal)
    ∧ quiescent_CtxNbrProjRefIdeal (hCtxNbrProjRefIdeal := hCtxNbrProjRefIdeal)
    ∧ quiescent_OutProjTwo (hOutProjTwo := hOutProjTwo)
    ∧ quiescent_OutProjTwoIdeal (hOutProjTwoIdeal := hOutProjTwoIdeal)
    ∧ quiescent_OutProjTwoRefIdeal (hOutProjTwoRefIdeal := hOutProjTwoRefIdeal)
    ∧ quiescent_WinProj (hWinProj := hWinProj)
    ∧ quiescent_WinProjIdeal (hWinProjIdeal := hWinProjIdeal)
    ∧ quiescent_WinProjRefIdeal (hWinProjRefIdeal := hWinProjRefIdeal)
    ∧ quiescent_CtxAttn (hCtxAttn := hCtxAttn)
    ∧ quiescent_CtxAttnIdeal (hCtxAttnIdeal := hCtxAttnIdeal)
    ∧ quiescent_CtxAttnIdeal_pre_finite_scores (hCtxAttnIdeal := hCtxAttnIdeal) (hPre_finite_scores := hPre_finite_scores)
    ∧ quiescent_CtxAttnRefIdeal (hCtxAttnRefIdeal := hCtxAttnRefIdeal)
    ∧ quiescent_CtxAttnRefIdeal_pre_finite_scores (hCtxAttnRefIdeal := hCtxAttnRefIdeal) (hPre_finite_scores := hPre_finite_scores)
    ∧ preserves_DiffAttn_DiffAttnIdeal
    ∧ algebraic_DiffAttnIdeal_DiffAttnRefIdeal_pre_finite (hDiffAttnIdeal := hDiffAttnIdeal) (hDiffAttnRefIdeal := hDiffAttnRefIdeal) (hPre_finite := hPre_finite)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_CtxProj_CtxProjIdeal
    ∧ algebraic_CtxProjIdeal_CtxProjRefIdeal (hCtxProjIdeal := hCtxProjIdeal) (hCtxProjRefIdeal := hCtxProjRefIdeal)
    ∧ preserves_ValProj_ValProjIdeal
    ∧ algebraic_ValProjIdeal_ValProjRefIdeal (hValProjIdeal := hValProjIdeal) (hValProjRefIdeal := hValProjRefIdeal)
    ∧ preserves_KeyProj_KeyProjIdeal
    ∧ algebraic_KeyProjIdeal_KeyProjRefIdeal (hKeyProjIdeal := hKeyProjIdeal) (hKeyProjRefIdeal := hKeyProjRefIdeal)
    ∧ preserves_QueryProj_QueryProjIdeal
    ∧ algebraic_QueryProjIdeal_QueryProjRefIdeal (hQueryProjIdeal := hQueryProjIdeal) (hQueryProjRefIdeal := hQueryProjRefIdeal)
    ∧ preserves_OutProj_OutProjIdeal
    ∧ algebraic_OutProjIdeal_OutProjRefIdeal (hOutProjIdeal := hOutProjIdeal) (hOutProjRefIdeal := hOutProjRefIdeal)
    ∧ preserves_NbrProj_NbrProjIdeal
    ∧ algebraic_NbrProjIdeal_NbrProjRefIdeal (hNbrProjIdeal := hNbrProjIdeal) (hNbrProjRefIdeal := hNbrProjRefIdeal)
    ∧ preserves_NbrQProj_NbrQProjIdeal
    ∧ algebraic_NbrQProjIdeal_NbrQProjRefIdeal (hNbrQProjIdeal := hNbrQProjIdeal) (hNbrQProjRefIdeal := hNbrQProjRefIdeal)
    ∧ preserves_CtxWinProj_CtxWinProjIdeal
    ∧ algebraic_CtxWinProjIdeal_CtxWinProjRefIdeal (hCtxWinProjIdeal := hCtxWinProjIdeal) (hCtxWinProjRefIdeal := hCtxWinProjRefIdeal)
    ∧ preserves_CtxNbrProj_CtxNbrProjIdeal
    ∧ algebraic_CtxNbrProjIdeal_CtxNbrProjRefIdeal (hCtxNbrProjIdeal := hCtxNbrProjIdeal) (hCtxNbrProjRefIdeal := hCtxNbrProjRefIdeal)
    ∧ preserves_OutProjTwo_OutProjTwoIdeal
    ∧ algebraic_OutProjTwoIdeal_OutProjTwoRefIdeal (hOutProjTwoIdeal := hOutProjTwoIdeal) (hOutProjTwoRefIdeal := hOutProjTwoRefIdeal)
    ∧ preserves_WinProj_WinProjIdeal
    ∧ algebraic_WinProjIdeal_WinProjRefIdeal (hWinProjIdeal := hWinProjIdeal) (hWinProjRefIdeal := hWinProjRefIdeal)
    ∧ preserves_CtxAttn_CtxAttnIdeal
    ∧ algebraic_CtxAttnIdeal_CtxAttnRefIdeal_pre_finite_scores (hCtxAttnIdeal := hCtxAttnIdeal) (hCtxAttnRefIdeal := hCtxAttnRefIdeal) (hPre_finite_scores := hPre_finite_scores)
-- ==== Pre_finite.lean ====
abbrev S2x4x128 : Shape := ⟨3, ![2, 4, 128]⟩
abbrev S2x256 : Shape := ⟨2, ![2, 256]⟩
abbrev S16384x2048 : Shape := ⟨2, ![16384, 2048]⟩
abbrev S4x2x512x2048 : Shape := ⟨4, ![4, 2, 512, 2048]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4x2x512x2048 : S_.BroadcastsInDim S4x2x512x2048 (![] : Fin 0 → Fin S4x2x512x2048.rank)
  reducesTo_S4x2x512x2048_S_d0_1_2_3 : S4x2x512x2048.ReducesTo [0, 1, 2, 3] S_

variable [Facts]

def fn {F : FTy → Type} [FloatOps F] (main_arg0 : FVec F S2x4x128 .f32) (main_arg1 : FVec F S2x256 .f32) (main_arg2 : FVec F S16384x2048 .bf16) (main_arg3 : FVec F S16384x2048 .bf16) (main_arg4 : FVec F S16384x2048 .bf16) (main_arg5 : FVec F S4x2x512x2048 .f32) (main_arg6 : FVec F S4x2x512x2048 .f32) : IVec S_ 1 :=
  let main_v0 : FVec F S16384x2048 .f32 := (extf .f32 · bitsLt_bf16_f32) main_arg2
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x2048 .f32 := (extf .f32 · bitsLt_bf16_f32) main_arg3
  let main_v6 : FVec F S16384x2048 .f32 := Host.absf main_v5
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_c_1 : IVec S_ 1 := constantI S_ 1 1#1
  let main_v9 : IVec S_ 1 := (fun x v => Host.reduce IntOp.andi x v reducesTo_S16384x2048_S_d0_1 h_S_) main_v8 main_c_1
  let main_v10 : FVec F S4x2x512x2048 .f32 := Host.absf main_arg5
  let main_cst_2 : FVec F S_ .f32 := constant S_ .f32 0x7F800000#32
  let main_v11 : FVec F S4x2x512x2048 .f32 := broadcastInDim S4x2x512x2048 ![] bcast_S_S4x2x512x2048 main_cst_2
  let main_v12 : IVec S4x2x512x2048 1 := cmpf .olt main_v10 main_v11
  let main_c_3 : IVec S_ 1 := constantI S_ 1 1#1
  let main_v13 : IVec S_ 1 := (fun x v => Host.reduce IntOp.andi x v reducesTo_S4x2x512x2048_S_d0_1_2_3 h_S_) main_v12 main_c_3
  let main_v14 : IVec S_ 1 := andi main_v4 main_v9
  let main_v15 : IVec S_ 1 := andi main_v14 main_v13
  main_v15
-- ==== Pre_finite_scores.lean ====
abbrev S2x2x4 : Shape := ⟨3, ![2, 2, 4]⟩
abbrev S8192x1536 : Shape := ⟨2, ![8192, 1536]⟩
abbrev S8192x1024 : Shape := ⟨2, ![8192, 1024]⟩
abbrev S1x2x4 : Shape := ⟨3, ![1, 2, 4]⟩
abbrev S2x4 : Shape := ⟨2, ![2, 4]⟩
abbrev S_ : Shape := ⟨0, ![]⟩
abbrev S8192x1280 : Shape := ⟨2, ![8192, 1280]⟩

class Facts : Prop where
  slices_S2x2x4_S1x2x4_0_0_0 : S2x2x4.Slices ![0, 0, 0] S1x2x4
  shapeCasts_S1x2x4_S2x4 : S1x2x4.ShapeCasts S2x4
  bcast_S_S2x4 : S_.BroadcastsInDim S2x4 (![] : Fin 0 → Fin S2x4.rank)
  reducesTo_S2x4_S_d0_1 : S2x4.ReducesTo [0, 1] S_
  h_S_ : 0 < S_.numel
  slices_S8192x1536_S8192x1280_0_0 : S8192x1536.Slices ![0, 0] S8192x1280
  bcast_S_S8192x1280 : S_.BroadcastsInDim S8192x1280 (![] : Fin 0 → Fin S8192x1280.rank)
  reducesTo_S8192x1280_S_d0_1 : S8192x1280.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v5 : IVec S_ 1) (main_v10 : IVec S_ 1) (main_v14 : IVec S_ 1) (main_v15 : FVec F S8192x1024 .f32) (main_v16 : FVec F S8192x1024 .f32) : IVec S_ 1 :=
  let main_v17 : IVec S8192x1024 1 := cmpf .olt main_v15 main_v16
  let main_c_5 : IVec S_ 1 := constantI S_ 1 1#1
  let main_v18 : IVec S_ 1 := (fun x v => Host.reduce IntOp.andi x v reducesTo_S8192x1024_S_d0_1 h_S_) main_v17 main_c_5
  let main_v19 : IVec S_ 1 := andi main_v5 main_v10
  let main_v20 : IVec S_ 1 := andi main_v19 main_v14
  let main_v21 : IVec S_ 1 := andi main_v20 main_v18
  main_v21

def fn {F : FTy → Type} [FloatOps F] (main_arg0 : FVec F S2x2x4 .f32) (main_arg1 : FVec F S8192x1536 .f32) (main_arg2 : FVec F S8192x1024 .f32) (main_arg3 : FVec F S8192x1024 .f32) (main_arg4 : FVec F S8192x1024 .f32) : IVec S_ 1 :=
  let main_v0 : FVec F S1x2x4 .f32 := (extractStridedSlice S1x2x4 ![0, 0, 0] · slices_S2x2x4_S1x2x4_0_0_0) main_arg0
  let main_v1 : FVec F S2x4 .f32 := shapeCast S2x4 main_v0 shapeCasts_S1x2x4_S2x4
  let main_v2 : FVec F S2x4 .f32 := Host.absf main_v1
  let main_cst : FVec F S_ .f32 := constant S_ .f32 0x7F800000#32
  let main_v3 : FVec F S2x4 .f32 := broadcastInDim S2x4 ![] bcast_S_S2x4 main_cst
  let main_v4 : IVec S2x4 1 := cmpf .olt main_v2 main_v3
  let main_c : IVec S_ 1 := constantI S_ 1 1#1
  let main_v5 : IVec S_ 1 := (fun x v => Host.reduce IntOp.andi x v reducesTo_S2x4_S_d0_1 h_S_) main_v4 main_c
  let main_v6 : FVec F S8192x1280 .f32 := (extractStridedSlice S8192x1280 ![0, 0] · slices_S8192x1536_S8192x1280_0_0) main_arg1
  let main_v7 : FVec F S8192x1280 .f32 := Host.absf main_v6
  let main_cst_0 : FVec F S_ .f32 := constant S_ .f32 0x7F800000#32
  let main_v8 : FVec F S8192x1280 .f32 := broadcastInDim S8192x1280 ![] bcast_S_S8192x1280 main_cst_0
  let main_v9 : IVec S8192x1280 1 := cmpf .olt main_v7 main_v8
  let main_c_1 : IVec S_ 1 := constantI S_ 1 1#1
  let main_v10 : IVec S_ 1 := (fun x v => Host.reduce IntOp.andi x v reducesTo_S8192x1280_S_d0_1 h_S_) main_v9 main_c_1
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : FVec F S8192x1024 .f32 := Host.absf main_arg3
  let main_cst_4 : FVec F S_ .f32 := constant S_ .f32 0x7F800000#32
  let main_v16 : FVec F S8192x1024 .f32 := broadcastInDim S8192x1024 ![] bcast_S_S8192x1024 main_cst_4
  fn_part1 (F := F) main_v5 main_v10 main_v14 main_v15 main_v16
-- ==== DiffAttn.lean ====
abbrev S2x4x128 : Shape := ⟨3, ![2, 4, 128]⟩
abbrev S2x256 : Shape := ⟨2, ![2, 256]⟩
abbrev S16384x2048 : Shape := ⟨2, ![16384, 2048]⟩
abbrev S4x2x512x2048 : Shape := ⟨4, ![4, 2, 512, 2048]⟩
abbrev S2x1x256 : Shape := ⟨3, ![2, 1, 256]⟩
abbrev S1x4x128 : Shape := ⟨3, ![1, 4, 128]⟩
abbrev S1x1x256 : Shape := ⟨3, ![1, 1, 256]⟩
abbrev S256x256 : Shape := ⟨2, ![256, 256]⟩
abbrev S4096x256 : Shape := ⟨2, ![4096, 256]⟩
abbrev S1x1x512x256 : Shape := ⟨4, ![1, 1, 512, 256]⟩
abbrev S2x256x4096 : Shape := ⟨3, ![2, 256, 4096]⟩
abbrev S2x256x512 : Shape := ⟨3, ![2, 256, 512]⟩
abbrev S2x256x128 : Shape := ⟨3, ![2, 256, 128]⟩
abbrev S4x128 : Shape := ⟨2, ![4, 128]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S4096x128 : Shape := ⟨2, ![4096, 128]⟩
abbrev S256x4096 : Shape := ⟨2, ![256, 4096]⟩
abbrev S1x1x512x128 : Shape := ⟨4, ![1, 1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S1x256x4096 : Shape := ⟨3, ![1, 256, 4096]⟩
abbrev S1x256x512 : Shape := ⟨3, ![1, 256, 512]⟩
abbrev S1x256x128 : Shape := ⟨3, ![1, 256, 128]⟩
abbrev S512x256 : Shape := ⟨2, ![512, 256]⟩
abbrev S1x256 : Shape := ⟨2, ![1, 256]⟩

abbrev nBuf : Space → Nat
  | .hbm => 9
  | .vmem => 20
  | .smem => 0
  | _ => 0

abbrev bufTy : (tb : Table) → Fin (tcTables nBuf tb) → BufTy
  | .hbm, ⟨0, _⟩ => ⟨S2x4x128, .f32⟩
  | .hbm, ⟨1, _⟩ => ⟨S2x256, .f32⟩
  | .hbm, ⟨2, _⟩ => ⟨S16384x2048, .bf16⟩
  | .hbm, ⟨3, _⟩ => ⟨S16384x2048, .bf16⟩
  | .hbm, ⟨4, _⟩ => ⟨S16384x2048, .bf16⟩
  | .hbm, ⟨5, _⟩ => ⟨S4x2x512x2048, .f32⟩
  | .hbm, ⟨6, _⟩ => ⟨S4x2x512x2048, .f32⟩
  | .hbm, ⟨7, _⟩ => ⟨S2x1x256, .f32⟩
  | .hbm, ⟨8, _⟩ => ⟨S16384x2048, .bf16⟩
  | .local _ .vmem, ⟨0, _⟩ => ⟨S1x4x128, .f32⟩
  | .local _ .vmem, ⟨1, _⟩ => ⟨S1x1x256, .f32⟩
  | .local _ .vmem, ⟨2, _⟩ => ⟨S256x256, .bf16⟩
  | .local _ .vmem, ⟨3, _⟩ => ⟨S256x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S1x1x512x256, .f32⟩
  | .local _ .vmem, ⟨9, _⟩ => ⟨S1x1x512x256, .f32⟩
  | .local _ .vmem, ⟨10, _⟩ => ⟨S1x1x512x256, .f32⟩
  | .local _ .vmem, ⟨11, _⟩ => ⟨S1x1x512x256, .f32⟩
  | .local _ .vmem, ⟨12, _⟩ => ⟨S256x256, .bf16⟩
  | .local _ .vmem, ⟨13, _⟩ => ⟨S256x256, .bf16⟩
  | .local _ .vmem, ⟨14, _⟩ => ⟨S2x256x4096, .f32⟩
  | .local _ .vmem, ⟨15, _⟩ => ⟨S2x256x4096, .f32⟩
  | .local _ .vmem, ⟨16, _⟩ => ⟨S2x256x512, .f32⟩
  | .local _ .vmem, ⟨17, _⟩ => ⟨S2x256x512, .f32⟩
  | .local _ .vmem, ⟨18, _⟩ => ⟨S2x256x128, .f32⟩
  | .local _ .vmem, ⟨19, _⟩ => ⟨S2x256x128, .f32⟩
  | _, _ => ⟨S2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 17], ![false, false, false]⟩

def k0_cond2 (i : grid0.Coords) : BitVec 1 :=
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg2 : BitVec 32 := BitVec.ofNat 32 (i 2).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg2 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c15_i32 : BitVec 32 := 15#32
  let v1 : BitVec 32 := Scalar.minsi arg2 c15_i32
  let v2 : BitVec 32 := Scalar.addi v0 v1
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  ![v3.toNat, arg1.toNat]

abbrev stage0_0 : Fin 1 → Memref sig .tc .vmem S1x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffAttnRefIdeal.lean ====
abbrev S2x4x128 : Shape := ⟨3, ![2, 4, 128]⟩
abbrev S2x256 : Shape := ⟨2, ![2, 256]⟩
abbrev S16384x2048 : Shape := ⟨2, ![16384, 2048]⟩
abbrev S4x2x512x2048 : Shape := ⟨4, ![4, 2, 512, 2048]⟩
abbrev S_ : Shape := ⟨0, ![]⟩
abbrev S4x4096x8x2x128 : Shape := ⟨5, ![4, 4096, 8, 2, 128]⟩
abbrev S4x4096x8x256 : Shape := ⟨4, ![4, 4096, 8, 256]⟩
abbrev S4x1x512x2048 : Shape := ⟨4, ![4, 1, 512, 2048]⟩
abbrev S4x512x2048 : Shape := ⟨3, ![4, 512, 2048]⟩
abbrev S4x512x8x2x128 : Shape := ⟨5, ![4, 512, 8, 2, 128]⟩
abbrev S4x512x8x256 : Shape := ⟨4, ![4, 512, 8, 256]⟩
abbrev S4x4608x8x2x128 : Shape := ⟨5, ![4, 4608, 8, 2, 128]⟩
abbrev S4x4608x8x256 : Shape := ⟨4, ![4, 4608, 8, 256]⟩
abbrev S1x4x128 : Shape := ⟨3, ![1, 4, 128]⟩
abbrev S4x128 : Shape := ⟨2, ![4, 128]⟩
abbrev S1x128 : Shape := ⟨2, ![1, 128]⟩
abbrev S128 : Shape := ⟨1, ![128]⟩
abbrev S4x8x2x4096x4608 : Shape := ⟨5, ![4, 8, 2, 4096, 4608]⟩
abbrev S4x8x2x4096 : Shape := ⟨4, ![4, 8, 2, 4096]⟩
abbrev S4x8x2x4096x1 : Shape := ⟨5, ![4, 8, 2, 4096, 1]⟩
abbrev S4x8x1x4096x4608 : Shape := ⟨5, ![4, 8, 1, 4096, 4608]⟩
abbrev S4x8x4096x4608 : Shape := ⟨4, ![4, 8, 4096, 4608]⟩
abbrev S4x8x256x4096 : Shape := ⟨4, ![4, 8, 256, 4096]⟩
abbrev S1x256 : Shape := ⟨2, ![1, 256]⟩
abbrev S256 : Shape := ⟨1, ![256]⟩
abbrev S4x4096x8 : Shape := ⟨3, ![4, 4096, 8]⟩
abbrev S4x4096x8x1 : Shape := ⟨4, ![4, 4096, 8, 1]⟩
abbrev S1x1x1x256 : Shape := ⟨4, ![1, 1, 1, 256]⟩

abbrev nBuf : Space → Nat
  | .hbm => 100
  | .vmem => 0
  | .smem => 0
  | _ => 0

abbrev bufTy : (tb : Table) → Fin (tcTables nBuf tb) → BufTy
  | .hbm, ⟨0, _⟩ => ⟨S2x4x128, .f32⟩
  | .hbm, ⟨1, _⟩ => ⟨S2x256, .f32⟩
  | .hbm, ⟨2, _⟩ => ⟨S16384x2048, .bf16⟩
  | .hbm, ⟨3, _⟩ => ⟨S16384x2048, .bf16⟩
  | .hbm, ⟨4, _⟩ => ⟨S16384x2048, .bf16⟩
  | .hbm, ⟨5, _⟩ => ⟨S4x2x512x2048, .f32⟩
  | .hbm, ⟨6, _⟩ => ⟨S4x2x512x2048, .f32⟩
  | .hbm, ⟨7, _⟩ => ⟨S16384x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S4x4096x8x2x128, .f32⟩
  | .hbm, ⟨16, _⟩ => ⟨S16384x2048, .f32⟩
  | .hbm, ⟨17, _⟩ => ⟨S4x4096x8x2x128, .f32⟩
  | .hbm, ⟨18, _⟩ => ⟨S16384x2048, .f32⟩
  | .hbm, ⟨19, _⟩ => ⟨S4x4096x8x256, .f32⟩
  | .hbm, ⟨20, _⟩ => ⟨S4x1x512x2048, .f32⟩
  | .hbm, ⟨21, _⟩ => ⟨S4x512x2048, .f32⟩
  | .hbm, ⟨22, _⟩ => ⟨S4x512x8x2x128, .f32⟩
  | .hbm, ⟨23, _⟩ => ⟨S4x1x512x2048, .f32⟩
  | .hbm, ⟨24, _⟩ => ⟨S4x512x2048, .f32⟩
  | .hbm, ⟨25, _⟩ => ⟨S4x512x8x256, .f32⟩
  | .hbm, ⟨26, _⟩ => ⟨S4x4608x8x2x128, .f32⟩
  | .hbm, ⟨27, _⟩ => ⟨S4x4608x8x256, .f32⟩
  | .hbm, ⟨28, _⟩ => ⟨S1x4x128, .f32⟩
  | .hbm, ⟨29, _⟩ => ⟨S4x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4x8x2x4096x4608, .f32⟩
  | .hbm, ⟨50, _⟩ => ⟨S_, .f32⟩
  | .hbm, ⟨51, _⟩ => ⟨S_, .f32⟩
  | .hbm, ⟨52, _⟩ => ⟨S4x8x2x4096x4608, .f32⟩
  | .hbm, ⟨53, _⟩ => ⟨S4x8x2x4096x4608, .f32⟩
  | .hbm, ⟨54, _⟩ => ⟨S_, .f32⟩
  | .hbm, ⟨55, _⟩ => ⟨S4x8x2x4096, .f32⟩
  | .hbm, ⟨56, _⟩ => ⟨S_, .f32⟩
  | .hbm, ⟨57, _⟩ => ⟨S4x8x2x4096, .f32⟩
  | .hbm, ⟨58, _⟩ => ⟨S4x8x2x4096, .f32⟩
  | .hbm, ⟨59, _⟩ => ⟨S4x8x2x4096x1, .f32⟩
  | .hbm, ⟨60, _⟩ => ⟨S4x8x2x4096x4608, .f32⟩
  | .hbm, ⟨61, _⟩ => ⟨S4x8x2x4096x4608, .f32⟩
  | .hbm, ⟨62, _⟩ => ⟨S4x8x2x4096x4608, .f32⟩
  | .hbm, ⟨63, _⟩ => ⟨S_, .f32⟩
  | .hbm, ⟨64, _⟩ => ⟨S4x8x2x4096, .f32⟩
  | .hbm, ⟨65, _⟩ => ⟨S4x8x2x4096x1, .f32⟩
  | .hbm, ⟨66, _⟩ => ⟨S4x8x2x4096x4608, .f32⟩
  | .hbm, ⟨67, _⟩ => ⟨S4x8x2x4096x4608, .f32⟩
  | .hbm, ⟨68, _⟩ => ⟨S4x8x1x4096x4608, .f32⟩
  | .hbm, ⟨69, _⟩ => ⟨S4x8x4096x4608, .f32⟩
  | .hbm, ⟨70, _⟩ => ⟨S4x8x1x4096x4608, .f32⟩
  | .hbm, ⟨71, _⟩ => ⟨S4x8x4096x4608, .f32⟩
  | .hbm, ⟨72, _⟩ => ⟨S4x8x4096x4608, .f32⟩
  | .hbm, ⟨73, _⟩ => ⟨S4x8x4096x4608, .f32⟩
  | .hbm, ⟨74, _⟩ => ⟨S4x8x4096x4608, .f32⟩
  | .hbm, ⟨75, _⟩ => ⟨S4x8x256x4096, .f32⟩
  | .hbm, ⟨76, _⟩ => ⟨S4x4096x8x256, .f32⟩
  | .hbm, ⟨77, _⟩ => ⟨S1x256, .f32⟩
  | .hbm, ⟨78, _⟩ => ⟨S256, .f32⟩
  | .hbm, ⟨79, _⟩ => ⟨S4x4096x8x256, .f32⟩
  | .hbm, ⟨80, _⟩ => ⟨S_, .f32⟩
  | .hbm, ⟨81, _⟩ => ⟨S4x4096x8, .f32⟩
  | .hbm, ⟨82, _⟩ => ⟨S4x4096x8x1, .f32⟩
  | .hbm, ⟨83, _⟩ => ⟨S_, .f32⟩
  | .hbm, ⟨84, _⟩ => ⟨S4x4096x8x1, .f32⟩
  | .hbm, ⟨85, _⟩ => ⟨S4x4096x8x1, .f32⟩
  | .hbm, ⟨86, _⟩ => ⟨S_, .f32⟩
  | .hbm, ⟨87, _⟩ => ⟨S4x4096x8x1, .f32⟩
  | .hbm, ⟨88, _⟩ => ⟨S4x4096x8x1, .f32⟩
  | .hbm, ⟨89, _⟩ => ⟨S4x4096x8x1, .f32⟩
  | .hbm, ⟨90, _⟩ => ⟨S4x4096x8x256, .f32⟩
  | .hbm, ⟨91, _⟩ => ⟨S4x4096x8x256, .f32⟩
  | .hbm, ⟨92, _⟩ => ⟨S1x1x1x256, .f32⟩
  | .hbm, ⟨93, _⟩ => ⟨S4x4096x8x256, .f32⟩
  | .hbm, ⟨94, _⟩ => ⟨S4x4096x8x256, .f32⟩
  | .hbm, ⟨95, _⟩ => ⟨S_, .f32⟩
  | .hbm, ⟨96, _⟩ => ⟨S4x4096x8x256, .f32⟩
  | .hbm, ⟨97, _⟩ => ⟨S4x4096x8x256, .f32⟩
  | .hbm, ⟨98, _⟩ => ⟨S16384x2048, .f32⟩
  | .hbm, ⟨99, _⟩ => ⟨S16384x2048, .bf16⟩
  | _, _ => ⟨S2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_11 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== GateUp.lean ====
abbrev S16x3072x2048 : Shape := ⟨3, ![16, 3072, 2048]⟩
abbrev S4x16x2048x2048 : Shape := ⟨4, ![4, 16, 2048, 2048]⟩
abbrev S1x3072x2048 : Shape := ⟨3, ![1, 3072, 2048]⟩
abbrev S1x1x2048x256 : Shape := ⟨4, ![1, 1, 2048, 256]⟩
abbrev S1x3072x256 : Shape := ⟨3, ![1, 3072, 256]⟩
abbrev S3072x2048 : Shape := ⟨2, ![3072, 2048]⟩
abbrev S2048x256 : Shape := ⟨2, ![2048, 256]⟩
abbrev S3072x256 : Shape := ⟨2, ![3072, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x3072x2048, .bf16⟩
  | .hbm, ⟨1, _⟩ => ⟨S4x16x2048x2048, .f32⟩
  | .hbm, ⟨2, _⟩ => ⟨S4x16x2048x2048, .f32⟩
  | .hbm, ⟨3, _⟩ => ⟨S16x3072x2048, .bf16⟩
  | .local _ .vmem, ⟨0, _⟩ => ⟨S1x3072x2048, .bf16⟩
  | .local _ .vmem, ⟨1, _⟩ => ⟨S1x3072x2048, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x3072x256, .bf16⟩
  | .local _ .vmem, ⟨7, _⟩ => ⟨S1x3072x256, .bf16⟩
  | _, _ => ⟨S16x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3072x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3072x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S16x3072x2048 : Shape := ⟨3, ![16, 3072, 2048]⟩
abbrev S4x16x2048x2048 : Shape := ⟨4, ![4, 16, 2048, 2048]⟩
abbrev S1x16x2048x2048 : Shape := ⟨4, ![1, 16, 2048, 2048]⟩
abbrev S16x2048x2048 : Shape := ⟨3, ![16, 2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x3072x2048, .bf16⟩
  | .hbm, ⟨1, _⟩ => ⟨S4x16x2048x2048, .f32⟩
  | .hbm, ⟨2, _⟩ => ⟨S4x16x2048x2048, .f32⟩
  | .hbm, ⟨3, _⟩ => ⟨S16x3072x2048, .f32⟩
  | .hbm, ⟨4, _⟩ => ⟨S1x16x2048x2048, .f32⟩
  | .hbm, ⟨5, _⟩ => ⟨S16x2048x2048, .f32⟩
  | .hbm, ⟨6, _⟩ => ⟨S16x3072x2048, .f32⟩
  | .hbm, ⟨7, _⟩ => ⟨S1x16x2048x2048, .f32⟩
  | .hbm, ⟨8, _⟩ => ⟨S16x2048x2048, .f32⟩
  | .hbm, ⟨9, _⟩ => ⟨S16x3072x2048, .f32⟩
  | .hbm, ⟨10, _⟩ => ⟨S16x3072x2048, .f32⟩
  | .hbm, ⟨11, _⟩ => ⟨S16x3072x2048, .f32⟩
  | .hbm, ⟨12, _⟩ => ⟨S_, .f32⟩
  | .hbm, ⟨13, _⟩ => ⟨S16x3072x2048, .f32⟩
  | .hbm, ⟨14, _⟩ => ⟨S16x3072x2048, .f32⟩
  | .hbm, ⟨15, _⟩ => ⟨S_, .f32⟩
  | .hbm, ⟨16, _⟩ => ⟨S16x3072x2048, .f32⟩
  | .hbm, ⟨17, _⟩ => ⟨S16x3072x2048, .f32⟩
  | .hbm, ⟨18, _⟩ => ⟨S16x3072x2048, .f32⟩
  | .hbm, ⟨19, _⟩ => ⟨S16x3072x2048, .f32⟩
  | .hbm, ⟨20, _⟩ => ⟨S16x3072x2048, .bf16⟩
  | _, _ => ⟨S16x3072x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S16x3072x2048 : Shape := ⟨3, ![16, 3072, 2048]⟩
abbrev S4x16x2048x2048 : Shape := ⟨4, ![4, 16, 2048, 2048]⟩
abbrev S16x3072x128 : Shape := ⟨3, ![16, 3072, 128]⟩
abbrev S1x3072x2048 : Shape := ⟨3, ![1, 3072, 2048]⟩
abbrev S1x1x2048x512 : Shape := ⟨4, ![1, 1, 2048, 512]⟩
abbrev S1x3072x128 : Shape := ⟨3, ![1, 3072, 128]⟩
abbrev S1x3072x512 : Shape := ⟨3, ![1, 3072, 512]⟩
abbrev S3072x2048 : Shape := ⟨2, ![3072, 2048]⟩
abbrev S2048x512 : Shape := ⟨2, ![2048, 512]⟩
abbrev S3072x512 : Shape := ⟨2, ![3072, 512]⟩
abbrev S1x3072x1 : Shape := ⟨3, ![1, 3072, 1]⟩
abbrev S3072x1 : Shape := ⟨2, ![3072, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x3072x2048, .bf16⟩
  | .hbm, ⟨1, _⟩ => ⟨S4x16x2048x2048, .f32⟩
  | .hbm, ⟨2, _⟩ => ⟨S16x3072x128, .f32⟩
  | .hbm, ⟨3, _⟩ => ⟨S16x3072x2048, .bf16⟩
  | .local _ .vmem, ⟨0, _⟩ => ⟨S1x3072x2048, .bf16⟩
  | .local _ .vmem, ⟨1, _⟩ => ⟨S1x3072x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x3072x128, .f32⟩
  | .local _ .vmem, ⟨5, _⟩ => ⟨S1x3072x128, .f32⟩
  | .local _ .vmem, ⟨6, _⟩ => ⟨S1x3072x512, .bf16⟩
  | .local _ .vmem, ⟨7, _⟩ => ⟨S1x3072x512, .bf16⟩
  | _, _ => ⟨S16x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3072x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16x3072x2048 : Shape := ⟨3, ![16, 3072, 2048]⟩
abbrev S4x16x2048x2048 : Shape := ⟨4, ![4, 16, 2048, 2048]⟩
abbrev S16x3072x128 : Shape := ⟨3, ![16, 3072, 128]⟩
abbrev S1x16x2048x2048 : Shape := ⟨4, ![1, 16, 2048, 2048]⟩
abbrev S16x2048x2048 : Shape := ⟨3, ![16, 2048, 2048]⟩
abbrev S16x3072x1 : Shape := ⟨3, ![16, 3072, 1]⟩

abbrev nBuf : Space → Nat
  | .hbm => 11
  | .vmem => 0
  | .smem => 0
  | _ => 0

abbrev bufTy : (tb : Table) → Fin (tcTables nBuf tb) → BufTy
  | .hbm, ⟨0, _⟩ => ⟨S16x3072x2048, .bf16⟩
  | .hbm, ⟨1, _⟩ => ⟨S4x16x2048x2048, .f32⟩
  | .hbm, ⟨2, _⟩ => ⟨S16x3072x128, .f32⟩
  | .hbm, ⟨3, _⟩ => ⟨S16x3072x2048, .f32⟩
  | .hbm, ⟨4, _⟩ => ⟨S1x16x2048x2048, .f32⟩
  | .hbm, ⟨5, _⟩ => ⟨S16x2048x2048, .f32⟩
  | .hbm, ⟨6, _⟩ => ⟨S16x3072x2048, .f32⟩
  | .hbm, ⟨7, _⟩ => ⟨S16x3072x1, .f32⟩
  | .hbm, ⟨8, _⟩ => ⟨S16x3072x2048, .f32⟩
  | .hbm, ⟨9, _⟩ => ⟨S16x3072x2048, .f32⟩
  | .hbm, ⟨10, _⟩ => ⟨S16x3072x2048, .bf16⟩
  | _, _ => ⟨S16x3072x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== CtxProj.lean ====
abbrev S8192x2048 : Shape := ⟨2, ![8192, 2048]⟩
abbrev S2x2048x6144 : Shape := ⟨3, ![2, 2048, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxProjRefIdeal.lean ====
abbrev S8192x2048 : Shape := ⟨2, ![8192, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S8192x2048, .f32⟩
  | .hbm, ⟨3, _⟩ => ⟨S1x2048x6144, .f32⟩
  | .hbm, ⟨4, _⟩ => ⟨S2048x6144, .f32⟩
  | .hbm, ⟨5, _⟩ => ⟨S8192x6144, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ValProj.lean ====
abbrev S16384x2048 : Shape := ⟨2, ![16384, 2048]⟩
abbrev S2x2048x6144 : Shape := ⟨3, ![2, 2048, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2x2048x6144, .f32⟩
  | .hbm, ⟨2, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValProjRefIdeal.lean ====
abbrev S16384x2048 : Shape := ⟨2, ![16384, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S16384x6144 : Shape := ⟨2, ![16384, 6144]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x6144, .f32⟩
  | .hbm, ⟨2, _⟩ => ⟨S16384x2048, .f32⟩
  | .hbm, ⟨3, _⟩ => ⟨S1x2048x6144, .f32⟩
  | .hbm, ⟨4, _⟩ => ⟨S2048x6144, .f32⟩
  | .hbm, ⟨5, _⟩ => ⟨S16384x6144, .f32⟩
  | .hbm, ⟨6, _⟩ => ⟨S16384x2048, .f32⟩
  | .hbm, ⟨7, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KeyProj.lean ====
abbrev S16384x2048 : Shape := ⟨2, ![16384, 2048]⟩
abbrev S2x2048x6144 : Shape := ⟨3, ![2, 2048, 6144]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S1x128 : Shape := ⟨2, ![1, 128]⟩

abbrev nBuf : Space → Nat
  | .hbm => 82
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2x2048x6144, .f32⟩
  | .hbm, ⟨2, _⟩ => ⟨S4096, .i32⟩
  | .hbm, ⟨3, _⟩ => ⟨S_, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S_, .i1⟩
  | .hbm, ⟨38, _⟩ => ⟨S4096, .i1⟩
  | .hbm, ⟨39, _⟩ => ⟨S4096, .i1⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S4096x1, .f32⟩
  | .hbm, ⟨60, _⟩ => ⟨S1x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x128, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x128, .f32⟩
  | .hbm, ⟨81, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_cst : Ref sig .tc := ⟨.hbm, 46, rfl⟩
abbrev main_v6 : Ref sig .tc := ⟨.hbm, 47, rfl⟩
abbrev main_v7 : Ref sig .tc := ⟨.hbm, 48, rfl⟩
abbrev main_cst_1 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_cst_2 : Ref sig .tc := ⟨.hbm, 53, rfl⟩
abbrev main_v11 : Ref sig .tc := ⟨.hbm, 54, rfl⟩
abbrev main_v12 : Ref sig .tc := ⟨.hbm, 55, rfl⟩
abbrev main_cst_3 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c8_i32 : BitVec 32 := 8#32
  let v7 : BitVec 32 := Scalar.muli arg0 c8_i32
  let c0_i32_4 : BitVec 32 := 0#32
  let v8 : BitVec 32 := Scalar.addi v7 c0_i32_4
  let c0_i32_5 : BitVec 32 := 0#32
  let v9 : BitVec 1 := Scalar.cmpi .sge v8 c0_i32_5
  let c16_i32 : BitVec 32 := 16#32
  let v10 : BitVec 1 := Scalar.cmpi .slt v8 c16_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond3 (i : grid0.Coords) : BitVec 1 :=
  let arg0 : BitVec 32 := BitVec.ofNat 32 (i 0).val
  let c8_i32 : BitVec 32 := 8#32
  let v7 : BitVec 32 := Scalar.muli arg0 c8_i32
  let c0_i32_4 : BitVec 32 := 0#32
  let v8 : BitVec 32 := Scalar.addi v7 c0_i32_4
  let c16_i32_7 : BitVec 32 := 16#32
  let v14 : BitVec 1 := Scalar.cmpi .sge v8 c16_i32_7
  let c1073741824_i32 : BitVec 32 := 1073741824#32
  let v15 : BitVec 1 := Scalar.cmpi .slt v8 c1073741824_i32
  let v16 : BitVec 1 := Scalar.andi v14 v15
  let v17 : BitVec 32 := Scalar.extui v16
  let c0_i32_8 : BitVec 32 := 0#32
  let v18 : BitVec 1 := Scalar.cmpi .ne v17 c0_i32_8
  v18

def k0_cond4 (i : grid0.Coords) : BitVec 1 :=
  let arg0 : BitVec 32 := BitVec.ofNat 32 (i 0).val
  let c8_i32_9 : BitVec 32 := 8#32
  let v20 : BitVec 32 := Scalar.muli arg0 c8_i32_9
  let c1_i32 : BitVec 32 := 1#32
  let v21 : BitVec 32 := Scalar.addi v20 c1_i32
  let c0_i32_10 : BitVec 32 := 0#32
  let v22 : BitVec 1 := Scalar.cmpi .sge v21 c0_i32_10
  let c16_i32_11 : BitVec 32 := 16#32
  let v23 : BitVec 1 := Scalar.cmpi .slt v21 c16_i32_11
  let v24 : BitVec 1 := Scalar.andi v22 v23
  let v25 : BitVec 32 := Scalar.extui v24
  let c0_i32_12 : BitVec 32 := 0#32
  let v26 : BitVec 1 := Scalar.cmpi .ne v25 c0_i32_12
  v26

def k0_cond5 (i : grid0.Coords) : BitVec 1 :=
  let arg0 : BitVec 32 := BitVec.ofNat 32 (i 0).val
  let c8_i32_9 : BitVec 32 := 8#32
  let v20 : BitVec 32 := Scalar.muli arg0 c8_i32_9
  let c1_i32 : BitVec 32 := 1#32
  let v21 : BitVec 32 := Scalar.addi v20 c1_i32
  let c16_i32_13 : BitVec 32 := 16#32
  let v27 : BitVec 1 := Scalar.cmpi .sge v21 c16_i32_13
  let c1073741824_i32_14 : BitVec 32 := 1073741824#32
  let v28 : BitVec 1 := Scalar.cmpi .slt v21 c1073741824_i32_14
  let v29 : BitVec 1 := Scalar.andi v27 v28
  let v30 : BitVec 32 := Scalar.extui v29
  let c0_i32_15 : BitVec 32 := 0#32
  let v31 : BitVec 1 := Scalar.cmpi .ne v30 c0_i32_15
  v31

def k0_cond6 (i : grid0.Coords) : BitVec 1 :=
  let arg0 : BitVec 32 := BitVec.ofNat 32 (i 0).val
  let c8_i32_16 : BitVec 32 := 8#32
  let v33 : BitVec 32 := Scalar.muli arg0 c8_i32_16
  let c2_i32 : BitVec 32 := 2#32
  let v34 : BitVec 32 := Scalar.addi v33 c2_i32
  let c0_i32_17 : BitVec 32 := 0#32
  let v35 : BitVec 1 := Scalar.cmpi .sge v34 c0_i32_17
  let c16_i32_18 : BitVec 32 := 16#32
  let v36 : BitVec 1 := Scalar.cmpi .slt v34 c16_i32_18
  let v37 : BitVec 1 := Scalar.andi v35 v36
  let v38 : BitVec 32 := Scalar.extui v37
  let c0_i32_19 : BitVec 32 := 0#32
  let v39 : BitVec 1 := Scalar.cmpi .ne v38 c0_i32_19
  v39

def k0_cond7 (i : grid0.Coords) : BitVec 1 :=
  let arg0 : BitVec 32 := BitVec.ofNat 32 (i 0).val
  let c8_i32_16 : BitVec 32 := 8#32
  let v33 : BitVec 32 := Scalar.muli arg0 c8_i32_16
  let c2_i32 : BitVec 32 := 2#32
  let v34 : BitVec 32 := Scalar.addi v33 c2_i32
  let c16_i32_20 : BitVec 32 := 16#32
  let v40 : BitVec 1 := Scalar.cmpi .sge v34 c16_i32_20
  let c1073741824_i32_21 : BitVec 32 := 1073741824#32
  let v41 : BitVec 1 := Scalar.cmpi .slt v34 c1073741824_i32_21
  let v42 : BitVec 1 := Scalar.andi v40 v41
  let v43 : BitVec 32 := Scalar.extui v42
  let c0_i32_22 : BitVec 32 := 0#32
  let v44 : BitVec 1 := Scalar.cmpi .ne v43 c0_i32_22
  v44

def k0_cond8 (i : grid0.Coords) : BitVec 1 :=
  let arg0 : BitVec 32 := BitVec.ofNat 32 (i 0).val
  let c8_i32_23 : BitVec 32 := 8#32
  let v46 : BitVec 32 := Scalar.muli arg0 c8_i32_23
  let c3_i32 : BitVec 32 := 3#32
  let v47 : BitVec 32 := Scalar.addi v46 c3_i32
  let c0_i32_24 : BitVec 32 := 0#32
  let v48 : BitVec 1 := Scalar.cmpi .sge v47 c0_i32_24
  let c16_i32_25 : BitVec 32 := 16#32
  let v49 : BitVec 1 := Scalar.cmpi .slt v47 c16_i32_25
  let v50 : BitVec 1 := Scalar.andi v48 v49
  let v51 : BitVec 32 := Scalar.extui v50
  let c0_i32_26 : BitVec 32 := 0#32
  let v52 : BitVec 1 := Scalar.cmpi .ne v51 c0_i32_26
  v52

def k0_cond9 (i : grid0.Coords) : BitVec 1 :=
  let arg0 : BitVec 32 := BitVec.ofNat 32 (i 0).val
  let c8_i32_23 : BitVec 32 := 8#32
  let v46 : BitVec 32 := Scalar.muli arg0 c8_i32_23
  let c3_i32 : BitVec 32 := 3#32
  let v47 : BitVec 32 := Scalar.addi v46 c3_i32
  let c16_i32_27 : BitVec 32 := 16#32
  let v53 : BitVec 1 := Scalar.cmpi .sge v47 c16_i32_27
  let c1073741824_i32_28 : BitVec 32 := 1073741824#32
  let v54 : BitVec 1 := Scalar.cmpi .slt v47 c1073741824_i32_28
  let v55 : BitVec 1 := Scalar.andi v53 v54
  let v56 : BitVec 32 := Scalar.extui v55
  let c0_i32_29 : BitVec 32 := 0#32
  let v57 : BitVec 1 := Scalar.cmpi .ne v56 c0_i32_29
  v57

def k0_cond10 (i : grid0.Coords) : BitVec 1 :=
  let arg0 : BitVec 32 := BitVec.ofNat 32 (i 0).val
  let c8_i32_30 : BitVec 32 := 8#32
  let v59 : BitVec 32 := Scalar.muli arg0 c8_i32_30
  let c4_i32 : BitVec 32 := 4#32
  let v60 : BitVec 32 := Scalar.addi v59 c4_i32
  let c0_i32_31 : BitVec 32 := 0#32
  let v61 : BitVec 1 := Scalar.cmpi .sge v60 c0_i32_31
  let c16_i32_32 : BitVec 32 := 16#32
  let v62 : BitVec 1 := Scalar.cmpi .slt v60 c16_i32_32
  let v63 : BitVec 1 := Scalar.andi v61 v62
  let v64 : BitVec 32 := Scalar.extui v63
  let c0_i32_33 : BitVec 32 := 0#32
  let v65 : BitVec 1 := Scalar.cmpi .ne v64 c0_i32_33
  v65

def k0_cond11 (i : grid0.Coords) : BitVec 1 :=
  let arg0 : BitVec 32 := BitVec.ofNat 32 (i 0).val
  let c8_i32_30 : BitVec 32 := 8#32
  let v59 : BitVec 32 := Scalar.muli arg0 c8_i32_30
  let c4_i32 : BitVec 32 := 4#32
  let v60 : BitVec 32 := Scalar.addi v59 c4_i32
  let c16_i32_34 : BitVec 32 := 16#32
  let v66 : BitVec 1 := Scalar.cmpi .sge v60 c16_i32_34
  let c1073741824_i32_35 : BitVec 32 := 1073741824#32
  let v67 : BitVec 1 := Scalar.cmpi .slt v60 c1073741824_i32_35
  let v68 : BitVec 1 := Scalar.andi v66 v67
  let v69 : BitVec 32 := Scalar.extui v68
  let c0_i32_36 : BitVec 32 := 0#32
  let v70 : BitVec 1 := Scalar.cmpi .ne v69 c0_i32_36
  v70

def k0_cond12 (i : grid0.Coords) : BitVec 1 :=
  let arg0 : BitVec 32 := BitVec.ofNat 32 (i 0).val
  let c8_i32_37 : BitVec 32 := 8#32
  let v72 : BitVec 32 := Scalar.muli arg0 c8_i32_37
  let c5_i32 : BitVec 32 := 5#32
  let v73 : BitVec 32 := Scalar.addi v72 c5_i32
  let c0_i32_38 : BitVec 32 := 0#32
  let v74 : BitVec 1 := Scalar.cmpi .sge v73 c0_i32_38
  let c16_i32_39 : BitVec 32 := 16#32
  let v75 : BitVec 1 := Scalar.cmpi .slt v73 c16_i32_39
  let v76 : BitVec 1 := Scalar.andi v74 v75
  let v77 : BitVec 32 := Scalar.extui v76
  let c0_i32_40 : BitVec 32 := 0#32
  let v78 : BitVec 1 := Scalar.cmpi .ne v77 c0_i32_40
  v78

def k0_cond13 (i : grid0.Coords) : BitVec 1 :=
  let arg0 : BitVec 32 := BitVec.ofNat 32 (i 0).val
  let c8_i32_37 : BitVec 32 := 8#32
  let v72 : BitVec 32 := Scalar.muli arg0 c8_i32_37
  let c5_i32 : BitVec 32 := 5#32
  let v73 : BitVec 32 := Scalar.addi v72 c5_i32
  let c16_i32_41 : BitVec 32 := 16#32
  let v79 : BitVec 1 := Scalar.cmpi .sge v73 c16_i32_41
  let c1073741824_i32_42 : BitVec 32 := 1073741824#32
  let v80 : BitVec 1 := Scalar.cmpi .slt v73 c1073741824_i32_42
  let v81 : BitVec 1 := Scalar.andi v79 v80
  let v82 : BitVec 32 := Scalar.extui v81
  let c0_i32_43 : BitVec 32 := 0#32
  let v83 : BitVec 1 := Scalar.cmpi .ne v82 c0_i32_43
  v83

def k0_cond14 (i : grid0.Coords) : BitVec 1 :=
  let arg0 : BitVec 32 := BitVec.ofNat 32 (i 0).val
  let c8_i32_44 : BitVec 32 := 8#32
  let v85 : BitVec 32 := Scalar.muli arg0 c8_i32_44
  let c6_i32 : BitVec 32 := 6#32
  let v86 : BitVec 32 := Scalar.addi v85 c6_i32
  let c0_i32_45 : BitVec 32 := 0#32
  let v87 : BitVec 1 := Scalar.cmpi .sge v86 c0_i32_45
  let c16_i32_46 : BitVec 32 := 16#32
  let v88 : BitVec 1 := Scalar.cmpi .slt v86 c16_i32_46
  let v89 : BitVec 1 := Scalar.andi v87 v88
  let v90 : BitVec 32 := Scalar.extui v89
  let c0_i32_47 : BitVec 32 := 0#32
  let v91 : BitVec 1 := Scalar.cmpi .ne v90 c0_i32_47
  v91

def k0_cond15 (i : grid0.Coords) : BitVec 1 :=
  let arg0 : BitVec 32 := BitVec.ofNat 32 (i 0).val
  let c8_i32_44 : BitVec 32 := 8#32
  let v85 : BitVec 32 := Scalar.muli arg0 c8_i32_44
  let c6_i32 : BitVec 32 := 6#32
  let v86 : BitVec 32 := Scalar.addi v85 c6_i32
  let c16_i32_48 : BitVec 32 := 16#32
  let v92 : BitVec 1 := Scalar.cmpi .sge v86 c16_i32_48
  let c1073741824_i32_49 : BitVec 32 := 1073741824#32
  let v93 : BitVec 1 := Scalar.cmpi .slt v86 c1073741824_i32_49
  let v94 : BitVec 1 := Scalar.andi v92 v93
  let v95 : BitVec 32 := Scalar.extui v94
  let c0_i32_50 : BitVec 32 := 0#32
  let v96 : BitVec 1 := Scalar.cmpi .ne v95 c0_i32_50
  v96

def k0_cond16 (i : grid0.Coords) : BitVec 1 :=
  let arg0 : BitVec 32 := BitVec.ofNat 32 (i 0).val
  let c8_i32_51 : BitVec 32 := 8#32
  let v98 : BitVec 32 := Scalar.muli arg0 c8_i32_51
  let c7_i32 : BitVec 32 := 7#32
  let v99 : BitVec 32 := Scalar.addi v98 c7_i32
  let c0_i32_52 : BitVec 32 := 0#32
  let v100 : BitVec 1 := Scalar.cmpi .sge v99 c0_i32_52
  let c16_i32_53 : BitVec 32 := 16#32
  let v101 : BitVec 1 := Scalar.cmpi .slt v99 c16_i32_53
  let v102 : BitVec 1 := Scalar.andi v100 v101
  let v103 : BitVec 32 := Scalar.extui v102
  let c0_i32_54 : BitVec 32 := 0#32
  let v104 : BitVec 1 := Scalar.cmpi .ne v103 c0_i32_54
  v104

def k0_cond17 (i : grid0.Coords) : BitVec 1 :=
  let arg0 : BitVec 32 := BitVec.ofNat 32 (i 0).val
  let c8_i32_51 : BitVec 32 := 8#32
  let v98 : BitVec 32 := Scalar.muli arg0 c8_i32_51
  let c7_i32 : BitVec 32 := 7#32
  let v99 : BitVec 32 := Scalar.addi v98 c7_i32
  let c16_i32_55 : BitVec 32 := 16#32
  let v105 : BitVec 1 := Scalar.cmpi .sge v99 c16_i32_55
  let c1073741824_i32_56 : BitVec 32 := 1073741824#32
  let v106 : BitVec 1 := Scalar.cmpi .slt v99 c1073741824_i32_56
  let v107 : BitVec 1 := Scalar.andi v105 v106
  let v108 : BitVec 32 := Scalar.extui v107
  let c0_i32_57 : BitVec 32 := 0#32
  let v109 : BitVec 1 := Scalar.cmpi .ne v108 c0_i32_57
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KeyProjRefIdeal.lean ====
abbrev S16384x2048 : Shape := ⟨2, ![16384, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S16384x6144 : Shape := ⟨2, ![16384, 6144]⟩
abbrev S4x4096x16x128 : Shape := ⟨4, ![4, 4096, 16, 128]⟩
abbrev S4096 : Shape := ⟨1, ![4096]⟩
abbrev S_ : Shape := ⟨0, ![]⟩
abbrev S32 : Shape := ⟨1, ![32]⟩
abbrev S4096x1x1 : Shape := ⟨3, ![4096, 1, 1]⟩
abbrev S1x1x32 : Shape := ⟨3, ![1, 1, 32]⟩
abbrev S4096x1x32 : Shape := ⟨3, ![4096, 1, 32]⟩
abbrev S4x4096x16x64 : Shape := ⟨4, ![4, 4096, 16, 64]⟩
abbrev S4x4096x16x32 : Shape := ⟨4, ![4, 4096, 16, 32]⟩
abbrev S1x4096x1x32 : Shape := ⟨4, ![1, 4096, 1, 32]⟩

abbrev nBuf : Space → Nat
  | .hbm => 118
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x6144, .f32⟩
  | .hbm, ⟨2, _⟩ => ⟨S16384x2048, .f32⟩
  | .hbm, ⟨3, _⟩ => ⟨S1x2048x6144, .f32⟩
  | .hbm, ⟨4, _⟩ => ⟨S2048x6144, .f32⟩
  | .hbm, ⟨5, _⟩ => ⟨S16384x6144, .f32⟩
  | .hbm, ⟨6, _⟩ => ⟨S16384x2048, .f32⟩
  | .hbm, ⟨7, _⟩ => ⟨S4x4096x16x128, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S_, .i1⟩
  | .hbm, ⟨44, _⟩ => ⟨S4096, .i1⟩
  | .hbm, ⟨45, _⟩ => ⟨S4096, .i1⟩
  | .hbm, ⟨46, _⟩ => ⟨S4096, .i1⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S4096x1x1, .f32⟩
  | .hbm, ⟨66, _⟩ => ⟨S1x1x32, .f32⟩
  | .hbm, ⟨67, _⟩ => ⟨S4096x1x32, .f32⟩
  | .hbm, ⟨68, _⟩ => ⟨S4096x1x32, .f32⟩
  | .hbm, ⟨69, _⟩ => ⟨S4096x1x32, .f32⟩
  | .hbm, ⟨70, _⟩ => ⟨S4096x1x1, .f32⟩
  | .hbm, ⟨71, _⟩ => ⟨S1x1x32, .f32⟩
  | .hbm, ⟨72, _⟩ => ⟨S4096x1x32, .f32⟩
  | .hbm, ⟨73, _⟩ => ⟨S4096x1x32, .f32⟩
  | .hbm, ⟨74, _⟩ => ⟨S4096x1x32, .f32⟩
  | .hbm, ⟨75, _⟩ => ⟨S4096x1x32, .f32⟩
  | .hbm, ⟨76, _⟩ => ⟨S4096x1x32, .f32⟩
  | .hbm, ⟨77, _⟩ => ⟨S4096x1x32, .f32⟩
  | .hbm, ⟨78, _⟩ => ⟨S4096x1x32, .f32⟩
  | .hbm, ⟨79, _⟩ => ⟨S4x4096x16x64, .f32⟩
  | .hbm, ⟨80, _⟩ => ⟨S4x4096x16x64, .f32⟩
  | .hbm, ⟨81, _⟩ => ⟨S4x4096x16x32, .f32⟩
  | .hbm, ⟨82, _⟩ => ⟨S4x4096x16x32, .f32⟩
  | .hbm, ⟨83, _⟩ => ⟨S1x4096x1x32, .f32⟩
  | .hbm, ⟨84, _⟩ => ⟨S4x4096x16x32, .f32⟩
  | .hbm, ⟨85, _⟩ => ⟨S4x4096x16x32, .f32⟩
  | .hbm, ⟨86, _⟩ => ⟨S1x4096x1x32, .f32⟩
  | .hbm, ⟨87, _⟩ => ⟨S4x4096x16x32, .f32⟩
  | .hbm, ⟨88, _⟩ => ⟨S4x4096x16x32, .f32⟩
  | .hbm, ⟨89, _⟩ => ⟨S4x4096x16x32, .f32⟩
  | .hbm, ⟨90, _⟩ => ⟨S1x4096x1x32, .f32⟩
  | .hbm, ⟨91, _⟩ => ⟨S4x4096x16x32, .f32⟩
  | .hbm, ⟨92, _⟩ => ⟨S4x4096x16x32, .f32⟩
  | .hbm, ⟨93, _⟩ => ⟨S1x4096x1x32, .f32⟩
  | .hbm, ⟨94, _⟩ => ⟨S4x4096x16x32, .f32⟩
  | .hbm, ⟨95, _⟩ => ⟨S4x4096x16x32, .f32⟩
  | .hbm, ⟨96, _⟩ => ⟨S4x4096x16x32, .f32⟩
  | .hbm, ⟨97, _⟩ => ⟨S4x4096x16x64, .f32⟩
  | .hbm, ⟨98, _⟩ => ⟨S4x4096x16x32, .f32⟩
  | .hbm, ⟨99, _⟩ => ⟨S4x4096x16x32, .f32⟩
  | .hbm, ⟨100, _⟩ => ⟨S1x4096x1x32, .f32⟩
  | .hbm, ⟨101, _⟩ => ⟨S4x4096x16x32, .f32⟩
  | .hbm, ⟨102, _⟩ => ⟨S4x4096x16x32, .f32⟩
  | .hbm, ⟨103, _⟩ => ⟨S1x4096x1x32, .f32⟩
  | .hbm, ⟨104, _⟩ => ⟨S4x4096x16x32, .f32⟩
  | .hbm, ⟨105, _⟩ => ⟨S4x4096x16x32, .f32⟩
  | .hbm, ⟨106, _⟩ => ⟨S4x4096x16x32, .f32⟩
  | .hbm, ⟨107, _⟩ => ⟨S1x4096x1x32, .f32⟩
  | .hbm, ⟨108, _⟩ => ⟨S4x4096x16x32, .f32⟩
  | .hbm, ⟨109, _⟩ => ⟨S4x4096x16x32, .f32⟩
  | .hbm, ⟨110, _⟩ => ⟨S1x4096x1x32, .f32⟩
  | .hbm, ⟨111, _⟩ => ⟨S4x4096x16x32, .f32⟩
  | .hbm, ⟨112, _⟩ => ⟨S4x4096x16x32, .f32⟩
  | .hbm, ⟨113, _⟩ => ⟨S4x4096x16x32, .f32⟩
  | .hbm, ⟨114, _⟩ => ⟨S4x4096x16x64, .f32⟩
  | .hbm, ⟨115, _⟩ => ⟨S4x4096x16x128, .f32⟩
  | .hbm, ⟨116, _⟩ => ⟨S16384x2048, .f32⟩
  | .hbm, ⟨117, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst : Ref sig .tc := ⟨.hbm, 52, rfl⟩
abbrev main_v12 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_v18 : Ref sig .tc := ⟨.hbm, 61, rfl⟩
abbrev main_cst_3 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩

abbrev nD : Nat := 1
abbrev τ : Topo := Topo.v7x

variable {F : FTy → Type} [FloatOps F]
-- ==== QueryProj.lean ====
abbrev S16384x2048 : Shape := ⟨2, ![16384, 2048]⟩
abbrev S2x2048x6144 : Shape := ⟨3, ![2, 2048, 6144]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S1x128 : Shape := ⟨2, ![1, 128]⟩

abbrev nBuf : Space → Nat
  | .hbm => 82
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2x2048x6144, .f32⟩
  | .hbm, ⟨2, _⟩ => ⟨S4096, .i32⟩
  | .hbm, ⟨3, _⟩ => ⟨S_, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S_, .i1⟩
  | .hbm, ⟨38, _⟩ => ⟨S4096, .i1⟩
  | .hbm, ⟨39, _⟩ => ⟨S4096, .i1⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S4096x1, .f32⟩
  | .hbm, ⟨60, _⟩ => ⟨S1x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x128, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x128, .f32⟩
  | .hbm, ⟨81, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_cst : Ref sig .tc := ⟨.hbm, 46, rfl⟩
abbrev main_v6 : Ref sig .tc := ⟨.hbm, 47, rfl⟩
abbrev main_v7 : Ref sig .tc := ⟨.hbm, 48, rfl⟩
abbrev main_cst_1 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_cst_2 : Ref sig .tc := ⟨.hbm, 53, rfl⟩
abbrev main_v11 : Ref sig .tc := ⟨.hbm, 54, rfl⟩
abbrev main_v12 : Ref sig .tc := ⟨.hbm, 55, rfl⟩
abbrev main_cst_3 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c8_i32 : BitVec 32 := 8#32
  let v7 : BitVec 32 := Scalar.muli arg0 c8_i32
  let c0_i32_4 : BitVec 32 := 0#32
  let v8 : BitVec 32 := Scalar.addi v7 c0_i32_4
  let c0_i32_5 : BitVec 32 := 0#32
  let v9 : BitVec 1 := Scalar.cmpi .sge v8 c0_i32_5
  let c16_i32 : BitVec 32 := 16#32
  let v10 : BitVec 1 := Scalar.cmpi .slt v8 c16_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond3 (i : grid0.Coords) : BitVec 1 :=
  let arg0 : BitVec 32 := BitVec.ofNat 32 (i 0).val
  let c8_i32 : BitVec 32 := 8#32
  let v7 : BitVec 32 := Scalar.muli arg0 c8_i32
  let c0_i32_4 : BitVec 32 := 0#32
  let v8 : BitVec 32 := Scalar.addi v7 c0_i32_4
  let c16_i32_7 : BitVec 32 := 16#32
  let v14 : BitVec 1 := Scalar.cmpi .sge v8 c16_i32_7
  let c1073741824_i32 : BitVec 32 := 1073741824#32
  let v15 : BitVec 1 := Scalar.cmpi .slt v8 c1073741824_i32
  let v16 : BitVec 1 := Scalar.andi v14 v15
  let v17 : BitVec 32 := Scalar.extui v16
  let c0_i32_8 : BitVec 32 := 0#32
  let v18 : BitVec 1 := Scalar.cmpi .ne v17 c0_i32_8
  v18

def k0_cond4 (i : grid0.Coords) : BitVec 1 :=
  let arg0 : BitVec 32 := BitVec.ofNat 32 (i 0).val
  let c8_i32_9 : BitVec 32 := 8#32
  let v20 : BitVec 32 := Scalar.muli arg0 c8_i32_9
  let c1_i32 : BitVec 32 := 1#32
  let v21 : BitVec 32 := Scalar.addi v20 c1_i32
  let c0_i32_10 : BitVec 32 := 0#32
  let v22 : BitVec 1 := Scalar.cmpi .sge v21 c0_i32_10
  let c16_i32_11 : BitVec 32 := 16#32
  let v23 : BitVec 1 := Scalar.cmpi .slt v21 c16_i32_11
  let v24 : BitVec 1 := Scalar.andi v22 v23
  let v25 : BitVec 32 := Scalar.extui v24
  let c0_i32_12 : BitVec 32 := 0#32
  let v26 : BitVec 1 := Scalar.cmpi .ne v25 c0_i32_12
  v26

def k0_cond5 (i : grid0.Coords) : BitVec 1 :=
  let arg0 : BitVec 32 := BitVec.ofNat 32 (i 0).val
  let c8_i32_9 : BitVec 32 := 8#32
  let v20 : BitVec 32 := Scalar.muli arg0 c8_i32_9
  let c1_i32 : BitVec 32 := 1#32
  let v21 : BitVec 32 := Scalar.addi v20 c1_i32
  let c16_i32_13 : BitVec 32 := 16#32
  let v27 : BitVec 1 := Scalar.cmpi .sge v21 c16_i32_13
  let c1073741824_i32_14 : BitVec 32 := 1073741824#32
  let v28 : BitVec 1 := Scalar.cmpi .slt v21 c1073741824_i32_14
  let v29 : BitVec 1 := Scalar.andi v27 v28
  let v30 : BitVec 32 := Scalar.extui v29
  let c0_i32_15 : BitVec 32 := 0#32
  let v31 : BitVec 1 := Scalar.cmpi .ne v30 c0_i32_15
  v31

def k0_cond6 (i : grid0.Coords) : BitVec 1 :=
  let arg0 : BitVec 32 := BitVec.ofNat 32 (i 0).val
  let c8_i32_16 : BitVec 32 := 8#32
  let v33 : BitVec 32 := Scalar.muli arg0 c8_i32_16
  let c2_i32 : BitVec 32 := 2#32
  let v34 : BitVec 32 := Scalar.addi v33 c2_i32
  let c0_i32_17 : BitVec 32 := 0#32
  let v35 : BitVec 1 := Scalar.cmpi .sge v34 c0_i32_17
  let c16_i32_18 : BitVec 32 := 16#32
  let v36 : BitVec 1 := Scalar.cmpi .slt v34 c16_i32_18
  let v37 : BitVec 1 := Scalar.andi v35 v36
  let v38 : BitVec 32 := Scalar.extui v37
  let c0_i32_19 : BitVec 32 := 0#32
  let v39 : BitVec 1 := Scalar.cmpi .ne v38 c0_i32_19
  v39

def k0_cond7 (i : grid0.Coords) : BitVec 1 :=
  let arg0 : BitVec 32 := BitVec.ofNat 32 (i 0).val
  let c8_i32_16 : BitVec 32 := 8#32
  let v33 : BitVec 32 := Scalar.muli arg0 c8_i32_16
  let c2_i32 : BitVec 32 := 2#32
  let v34 : BitVec 32 := Scalar.addi v33 c2_i32
  let c16_i32_20 : BitVec 32 := 16#32
  let v40 : BitVec 1 := Scalar.cmpi .sge v34 c16_i32_20
  let c1073741824_i32_21 : BitVec 32 := 1073741824#32
  let v41 : BitVec 1 := Scalar.cmpi .slt v34 c1073741824_i32_21
  let v42 : BitVec 1 := Scalar.andi v40 v41
  let v43 : BitVec 32 := Scalar.extui v42
  let c0_i32_22 : BitVec 32 := 0#32
  let v44 : BitVec 1 := Scalar.cmpi .ne v43 c0_i32_22
  v44

def k0_cond8 (i : grid0.Coords) : BitVec 1 :=
  let arg0 : BitVec 32 := BitVec.ofNat 32 (i 0).val
  let c8_i32_23 : BitVec 32 := 8#32
  let v46 : BitVec 32 := Scalar.muli arg0 c8_i32_23
  let c3_i32 : BitVec 32 := 3#32
  let v47 : BitVec 32 := Scalar.addi v46 c3_i32
  let c0_i32_24 : BitVec 32 := 0#32
  let v48 : BitVec 1 := Scalar.cmpi .sge v47 c0_i32_24
  let c16_i32_25 : BitVec 32 := 16#32
  let v49 : BitVec 1 := Scalar.cmpi .slt v47 c16_i32_25
  let v50 : BitVec 1 := Scalar.andi v48 v49
  let v51 : BitVec 32 := Scalar.extui v50
  let c0_i32_26 : BitVec 32 := 0#32
  let v52 : BitVec 1 := Scalar.cmpi .ne v51 c0_i32_26
  v52

def k0_cond9 (i : grid0.Coords) : BitVec 1 :=
  let arg0 : BitVec 32 := BitVec.ofNat 32 (i 0).val
  let c8_i32_23 : BitVec 32 := 8#32
  let v46 : BitVec 32 := Scalar.muli arg0 c8_i32_23
  let c3_i32 : BitVec 32 := 3#32
  let v47 : BitVec 32 := Scalar.addi v46 c3_i32
  let c16_i32_27 : BitVec 32 := 16#32
  let v53 : BitVec 1 := Scalar.cmpi .sge v47 c16_i32_27
  let c1073741824_i32_28 : BitVec 32 := 1073741824#32
  let v54 : BitVec 1 := Scalar.cmpi .slt v47 c1073741824_i32_28
  let v55 : BitVec 1 := Scalar.andi v53 v54
  let v56 : BitVec 32 := Scalar.extui v55
  let c0_i32_29 : BitVec 32 := 0#32
  let v57 : BitVec 1 := Scalar.cmpi .ne v56 c0_i32_29
  v57

def k0_cond10 (i : grid0.Coords) : BitVec 1 :=
  let arg0 : BitVec 32 := BitVec.ofNat 32 (i 0).val
  let c8_i32_30 : BitVec 32 := 8#32
  let v59 : BitVec 32 := Scalar.muli arg0 c8_i32_30
  let c4_i32 : BitVec 32 := 4#32
  let v60 : BitVec 32 := Scalar.addi v59 c4_i32
  let c0_i32_31 : BitVec 32 := 0#32
  let v61 : BitVec 1 := Scalar.cmpi .sge v60 c0_i32_31
  let c16_i32_32 : BitVec 32 := 16#32
  let v62 : BitVec 1 := Scalar.cmpi .slt v60 c16_i32_32
  let v63 : BitVec 1 := Scalar.andi v61 v62
  let v64 : BitVec 32 := Scalar.extui v63
  let c0_i32_33 : BitVec 32 := 0#32
  let v65 : BitVec 1 := Scalar.cmpi .ne v64 c0_i32_33
  v65

def k0_cond11 (i : grid0.Coords) : BitVec 1 :=
  let arg0 : BitVec 32 := BitVec.ofNat 32 (i 0).val
  let c8_i32_30 : BitVec 32 := 8#32
  let v59 : BitVec 32 := Scalar.muli arg0 c8_i32_30
  let c4_i32 : BitVec 32 := 4#32
  let v60 : BitVec 32 := Scalar.addi v59 c4_i32
  let c16_i32_34 : BitVec 32 := 16#32
  let v66 : BitVec 1 := Scalar.cmpi .sge v60 c16_i32_34
  let c1073741824_i32_35 : BitVec 32 := 1073741824#32
  let v67 : BitVec 1 := Scalar.cmpi .slt v60 c1073741824_i32_35
  let v68 : BitVec 1 := Scalar.andi v66 v67
  let v69 : BitVec 32 := Scalar.extui v68
  let c0_i32_36 : BitVec 32 := 0#32
  let v70 : BitVec 1 := Scalar.cmpi .ne v69 c0_i32_36
  v70

def k0_cond12 (i : grid0.Coords) : BitVec 1 :=
  let arg0 : BitVec 32 := BitVec.ofNat 32 (i 0).val
  let c8_i32_37 : BitVec 32 := 8#32
  let v72 : BitVec 32 := Scalar.muli arg0 c8_i32_37
  let c5_i32 : BitVec 32 := 5#32
  let v73 : BitVec 32 := Scalar.addi v72 c5_i32
  let c0_i32_38 : BitVec 32 := 0#32
  let v74 : BitVec 1 := Scalar.cmpi .sge v73 c0_i32_38
  let c16_i32_39 : BitVec 32 := 16#32
  let v75 : BitVec 1 := Scalar.cmpi .slt v73 c16_i32_39
  let v76 : BitVec 1 := Scalar.andi v74 v75
  let v77 : BitVec 32 := Scalar.extui v76
  let c0_i32_40 : BitVec 32 := 0#32
  let v78 : BitVec 1 := Scalar.cmpi .ne v77 c0_i32_40
  v78

def k0_cond13 (i : grid0.Coords) : BitVec 1 :=
  let arg0 : BitVec 32 := BitVec.ofNat 32 (i 0).val
  let c8_i32_37 : BitVec 32 := 8#32
  let v72 : BitVec 32 := Scalar.muli arg0 c8_i32_37
  let c5_i32 : BitVec 32 := 5#32
  let v73 : BitVec 32 := Scalar.addi v72 c5_i32
  let c16_i32_41 : BitVec 32 := 16#32
  let v79 : BitVec 1 := Scalar.cmpi .sge v73 c16_i32_41
  let c1073741824_i32_42 : BitVec 32 := 1073741824#32
  let v80 : BitVec 1 := Scalar.cmpi .slt v73 c1073741824_i32_42
  let v81 : BitVec 1 := Scalar.andi v79 v80
  let v82 : BitVec 32 := Scalar.extui v81
  let c0_i32_43 : BitVec 32 := 0#32
  let v83 : BitVec 1 := Scalar.cmpi .ne v82 c0_i32_43
  v83

def k0_cond14 (i : grid0.Coords) : BitVec 1 :=
  let arg0 : BitVec 32 := BitVec.ofNat 32 (i 0).val
  let c8_i32_44 : BitVec 32 := 8#32
  let v85 : BitVec 32 := Scalar.muli arg0 c8_i32_44
  let c6_i32 : BitVec 32 := 6#32
  let v86 : BitVec 32 := Scalar.addi v85 c6_i32
  let c0_i32_45 : BitVec 32 := 0#32
  let v87 : BitVec 1 := Scalar.cmpi .sge v86 c0_i32_45
  let c16_i32_46 : BitVec 32 := 16#32
  let v88 : BitVec 1 := Scalar.cmpi .slt v86 c16_i32_46
  let v89 : BitVec 1 := Scalar.andi v87 v88
  let v90 : BitVec 32 := Scalar.extui v89
  let c0_i32_47 : BitVec 32 := 0#32
  let v91 : BitVec 1 := Scalar.cmpi .ne v90 c0_i32_47
  v91

def k0_cond15 (i : grid0.Coords) : BitVec 1 :=
  let arg0 : BitVec 32 := BitVec.ofNat 32 (i 0).val
  let c8_i32_44 : BitVec 32 := 8#32
  let v85 : BitVec 32 := Scalar.muli arg0 c8_i32_44
  let c6_i32 : BitVec 32 := 6#32
  let v86 : BitVec 32 := Scalar.addi v85 c6_i32
  let c16_i32_48 : BitVec 32 := 16#32
  let v92 : BitVec 1 := Scalar.cmpi .sge v86 c16_i32_48
  let c1073741824_i32_49 : BitVec 32 := 1073741824#32
  let v93 : BitVec 1 := Scalar.cmpi .slt v86 c1073741824_i32_49
  let v94 : BitVec 1 := Scalar.andi v92 v93
  let v95 : BitVec 32 := Scalar.extui v94
  let c0_i32_50 : BitVec 32 := 0#32
  let v96 : BitVec 1 := Scalar.cmpi .ne v95 c0_i32_50
  v96

def k0_cond16 (i : grid0.Coords) : BitVec 1 :=
  let arg0 : BitVec 32 := BitVec.ofNat 32 (i 0).val
  let c8_i32_51 : BitVec 32 := 8#32
  let v98 : BitVec 32 := Scalar.muli arg0 c8_i32_51
  let c7_i32 : BitVec 32 := 7#32
  let v99 : BitVec 32 := Scalar.addi v98 c7_i32
  let c0_i32_52 : BitVec 32 := 0#32
  let v100 : BitVec 1 := Scalar.cmpi .sge v99 c0_i32_52
  let c16_i32_53 : BitVec 32 := 16#32
  let v101 : BitVec 1 := Scalar.cmpi .slt v99 c16_i32_53
  let v102 : BitVec 1 := Scalar.andi v100 v101
  let v103 : BitVec 32 := Scalar.extui v102
  let c0_i32_54 : BitVec 32 := 0#32
  let v104 : BitVec 1 := Scalar.cmpi .ne v103 c0_i32_54
  v104

def k0_cond17 (i : grid0.Coords) : BitVec 1 :=
  let arg0 : BitVec 32 := BitVec.ofNat 32 (i 0).val
  let c8_i32_51 : BitVec 32 := 8#32
  let v98 : BitVec 32 := Scalar.muli arg0 c8_i32_51
  let c7_i32 : BitVec 32 := 7#32
  let v99 : BitVec 32 := Scalar.addi v98 c7_i32
  let c16_i32_55 : BitVec 32 := 16#32
  let v105 : BitVec 1 := Scalar.cmpi .sge v99 c16_i32_55
  let c1073741824_i32_56 : BitVec 32 := 1073741824#32
  let v106 : BitVec 1 := Scalar.cmpi .slt v99 c1073741824_i32_56
  let v107 : BitVec 1 := Scalar.andi v105 v106
  let v108 : BitVec 32 := Scalar.extui v107
  let c0_i32_57 : BitVec 32 := 0#32
  let v109 : BitVec 1 := Scalar.cmpi .ne v108 c0_i32_57
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueryProjIdeal.lean ====
variable {F : FTy → Type} [FloatOps F] [Named F]
def κ : String → Option EReal := fun
  | "q_prescale" => some ((((Real.sqrt 128) * (Real.log 2))⁻¹ : ℝ) : EReal)
  | _ => none
-- ==== QueryProjRefIdeal.lean ====
abbrev S16384x2048 : Shape := ⟨2, ![16384, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S16384x6144 : Shape := ⟨2, ![16384, 6144]⟩
abbrev S4x4096x16x128 : Shape := ⟨4, ![4, 4096, 16, 128]⟩
abbrev S4096 : Shape := ⟨1, ![4096]⟩
abbrev S_ : Shape := ⟨0, ![]⟩
abbrev S32 : Shape := ⟨1, ![32]⟩
abbrev S4096x1x1 : Shape := ⟨3, ![4096, 1, 1]⟩
abbrev S1x1x32 : Shape := ⟨3, ![1, 1, 32]⟩
abbrev S4096x1x32 : Shape := ⟨3, ![4096, 1, 32]⟩
abbrev S4x4096x16x64 : Shape := ⟨4, ![4, 4096, 16, 64]⟩
abbrev S4x4096x16x32 : Shape := ⟨4, ![4, 4096, 16, 32]⟩
abbrev S1x4096x1x32 : Shape := ⟨4, ![1, 4096, 1, 32]⟩

abbrev nBuf : Space → Nat
  | .hbm => 125
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x6144, .f32⟩
  | .hbm, ⟨2, _⟩ => ⟨S16384x2048, .f32⟩
  | .hbm, ⟨3, _⟩ => ⟨S1x2048x6144, .f32⟩
  | .hbm, ⟨4, _⟩ => ⟨S2048x6144, .f32⟩
  | .hbm, ⟨5, _⟩ => ⟨S16384x6144, .f32⟩
  | .hbm, ⟨6, _⟩ => ⟨S16384x2048, .f32⟩
  | .hbm, ⟨7, _⟩ => ⟨S4x4096x16x128, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S_, .i1⟩
  | .hbm, ⟨44, _⟩ => ⟨S4096, .i1⟩
  | .hbm, ⟨45, _⟩ => ⟨S4096, .i1⟩
  | .hbm, ⟨46, _⟩ => ⟨S4096, .i1⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S4096x1x1, .f32⟩
  | .hbm, ⟨66, _⟩ => ⟨S1x1x32, .f32⟩
  | .hbm, ⟨67, _⟩ => ⟨S4096x1x32, .f32⟩
  | .hbm, ⟨68, _⟩ => ⟨S4096x1x32, .f32⟩
  | .hbm, ⟨69, _⟩ => ⟨S4096x1x32, .f32⟩
  | .hbm, ⟨70, _⟩ => ⟨S4096x1x1, .f32⟩
  | .hbm, ⟨71, _⟩ => ⟨S1x1x32, .f32⟩
  | .hbm, ⟨72, _⟩ => ⟨S4096x1x32, .f32⟩
  | .hbm, ⟨73, _⟩ => ⟨S4096x1x32, .f32⟩
  | .hbm, ⟨74, _⟩ => ⟨S4096x1x32, .f32⟩
  | .hbm, ⟨75, _⟩ => ⟨S4096x1x32, .f32⟩
  | .hbm, ⟨76, _⟩ => ⟨S4096x1x32, .f32⟩
  | .hbm, ⟨77, _⟩ => ⟨S4096x1x32, .f32⟩
  | .hbm, ⟨78, _⟩ => ⟨S4096x1x32, .f32⟩
  | .hbm, ⟨79, _⟩ => ⟨S4x4096x16x64, .f32⟩
  | .hbm, ⟨80, _⟩ => ⟨S4x4096x16x64, .f32⟩
  | .hbm, ⟨81, _⟩ => ⟨S4x4096x16x32, .f32⟩
  | .hbm, ⟨82, _⟩ => ⟨S4x4096x16x32, .f32⟩
  | .hbm, ⟨83, _⟩ => ⟨S1x4096x1x32, .f32⟩
  | .hbm, ⟨84, _⟩ => ⟨S4x4096x16x32, .f32⟩
  | .hbm, ⟨85, _⟩ => ⟨S4x4096x16x32, .f32⟩
  | .hbm, ⟨86, _⟩ => ⟨S1x4096x1x32, .f32⟩
  | .hbm, ⟨87, _⟩ => ⟨S4x4096x16x32, .f32⟩
  | .hbm, ⟨88, _⟩ => ⟨S4x4096x16x32, .f32⟩
  | .hbm, ⟨89, _⟩ => ⟨S4x4096x16x32, .f32⟩
  | .hbm, ⟨90, _⟩ => ⟨S1x4096x1x32, .f32⟩
  | .hbm, ⟨91, _⟩ => ⟨S4x4096x16x32, .f32⟩
  | .hbm, ⟨92, _⟩ => ⟨S4x4096x16x32, .f32⟩
  | .hbm, ⟨93, _⟩ => ⟨S1x4096x1x32, .f32⟩
  | .hbm, ⟨94, _⟩ => ⟨S4x4096x16x32, .f32⟩
  | .hbm, ⟨95, _⟩ => ⟨S4x4096x16x32, .f32⟩
  | .hbm, ⟨96, _⟩ => ⟨S4x4096x16x32, .f32⟩
  | .hbm, ⟨97, _⟩ => ⟨S4x4096x16x64, .f32⟩
  | .hbm, ⟨98, _⟩ => ⟨S4x4096x16x32, .f32⟩
  | .hbm, ⟨99, _⟩ => ⟨S4x4096x16x32, .f32⟩
  | .hbm, ⟨100, _⟩ => ⟨S1x4096x1x32, .f32⟩
  | .hbm, ⟨101, _⟩ => ⟨S4x4096x16x32, .f32⟩
  | .hbm, ⟨102, _⟩ => ⟨S4x4096x16x32, .f32⟩
  | .hbm, ⟨103, _⟩ => ⟨S1x4096x1x32, .f32⟩
  | .hbm, ⟨104, _⟩ => ⟨S4x4096x16x32, .f32⟩
  | .hbm, ⟨105, _⟩ => ⟨S4x4096x16x32, .f32⟩
  | .hbm, ⟨106, _⟩ => ⟨S4x4096x16x32, .f32⟩
  | .hbm, ⟨107, _⟩ => ⟨S1x4096x1x32, .f32⟩
  | .hbm, ⟨108, _⟩ => ⟨S4x4096x16x32, .f32⟩
  | .hbm, ⟨109, _⟩ => ⟨S4x4096x16x32, .f32⟩
  | .hbm, ⟨110, _⟩ => ⟨S1x4096x1x32, .f32⟩
  | .hbm, ⟨111, _⟩ => ⟨S4x4096x16x32, .f32⟩
  | .hbm, ⟨112, _⟩ => ⟨S4x4096x16x32, .f32⟩
  | .hbm, ⟨113, _⟩ => ⟨S4x4096x16x32, .f32⟩
  | .hbm, ⟨114, _⟩ => ⟨S4x4096x16x64, .f32⟩
  | .hbm, ⟨115, _⟩ => ⟨S4x4096x16x128, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S4x4096x16x128, .f32⟩
  | .hbm, ⟨122, _⟩ => ⟨S4x4096x16x128, .f32⟩
  | .hbm, ⟨123, _⟩ => ⟨S16384x2048, .f32⟩
  | .hbm, ⟨124, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst : Ref sig .tc := ⟨.hbm, 52, rfl⟩
abbrev main_v12 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_v18 : Ref sig .tc := ⟨.hbm, 61, rfl⟩
abbrev main_cst_3 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_4 : Ref sig .tc := ⟨.hbm, 116, rfl⟩
abbrev main_v72 : Ref sig .tc := ⟨.hbm, 117, rfl⟩
abbrev main_cst_5 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩

abbrev nD : Nat := 1
abbrev τ : Topo := Topo.v7x

variable {F : FTy → Type} [FloatOps F]
-- ==== OutProj.lean ====
abbrev S16384x2048 : Shape := ⟨2, ![16384, 2048]⟩
abbrev S2x2048x2048 : Shape := ⟨3, ![2, 2048, 2048]⟩
abbrev S4x8x6x2048 : Shape := ⟨4, ![4, 8, 6, 2048]⟩
abbrev S4x2x2048 : Shape := ⟨3, ![4, 2, 2048]⟩
abbrev S4x2048x16 : Shape := ⟨3, ![4, 2048, 16]⟩
abbrev S4x2x1x2048 : Shape := ⟨4, ![4, 2, 1, 2048]⟩
abbrev S4x1x1x2048 : Shape := ⟨4, ![4, 1, 1, 2048]⟩
abbrev S4x1x2048 : Shape := ⟨3, ![4, 1, 2048]⟩
abbrev S16384x16 : Shape := ⟨2, ![16384, 16]⟩
abbrev S256x2048 : Shape := ⟨2, ![256, 2048]⟩
abbrev S1x2048x2048 : Shape := ⟨3, ![1, 2048, 2048]⟩
abbrev S1x1x6x2048 : Shape := ⟨4, ![1, 1, 6, 2048]⟩
abbrev S1x1x2048 : Shape := ⟨3, ![1, 1, 2048]⟩
abbrev S1x2048x16 : Shape := ⟨3, ![1, 2048, 16]⟩
abbrev S256x16 : Shape := ⟨2, ![256, 16]⟩
abbrev S2048x2048 : Shape := ⟨2, ![2048, 2048]⟩
abbrev S1x1x1x2048 : Shape := ⟨4, ![1, 1, 1, 2048]⟩
abbrev S1x2048 : Shape := ⟨2, ![1, 2048]⟩
abbrev S256 : Shape := ⟨1, ![256]⟩
abbrev S256x1 : Shape := ⟨2, ![256, 1]⟩
abbrev S2048x16 : Shape := ⟨2, ![2048, 16]⟩

abbrev nBuf : Space → Nat
  | .hbm => 18
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S4x8x6x2048, .f32⟩
  | .hbm, ⟨4, _⟩ => ⟨S4x2x2048, .f32⟩
  | .hbm, ⟨5, _⟩ => ⟨S4x2x2048, .f32⟩
  | .hbm, ⟨6, _⟩ => ⟨S4x2048x16, .f32⟩
  | .hbm, ⟨7, _⟩ => ⟨S4x2x1x2048, .f32⟩
  | .hbm, ⟨8, _⟩ => ⟨S4x1x1x2048, .f32⟩
  | .hbm, ⟨9, _⟩ => ⟨S4x1x2048, .f32⟩
  | .hbm, ⟨10, _⟩ => ⟨S4x2x1x2048, .f32⟩
  | .hbm, ⟨11, _⟩ => ⟨S4x1x1x2048, .f32⟩
  | .hbm, ⟨12, _⟩ => ⟨S4x1x2048, .f32⟩
  | .hbm, ⟨13, _⟩ => ⟨S2x2048x2048, .bf16⟩
  | .hbm, ⟨14, _⟩ => ⟨S4x2048x16, .bf16⟩
  | .hbm, ⟨15, _⟩ => ⟨S16384x2048, .f32⟩
  | .hbm, ⟨16, _⟩ => ⟨S16384x2048, .bf16⟩
  | .hbm, ⟨17, _⟩ => ⟨S16384x16, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .f32⟩
  | .local _ .vmem, ⟨4, _⟩ => ⟨S256x2048, .f32⟩
  | .local _ .vmem, ⟨5, _⟩ => ⟨S1x1x6x2048, .f32⟩
  | .local _ .vmem, ⟨6, _⟩ => ⟨S1x1x6x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x16, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x16, .f32⟩
  | .local _ .vmem, ⟨15, _⟩ => ⟨S256x16, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.muli v17 c1_i32_4
  let c1_i32_5 : BitVec 32 := 1#32
  let v19 : BitVec 32 := Scalar.addi c1_i32_5 v18
  let c1_i32_6 : BitVec 32 := 1#32
  let c0_i32_7 : BitVec 32 := 0#32
  let c0_i32_8 : BitVec 32 := 0#32
  let c0_i32_9 : BitVec 32 := 0#32
  ![c1_i32_6.toNat, v19.toNat, c0_i32_7.toNat, c0_i32_8.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S16384x2048 : Shape := ⟨2, ![16384, 2048]⟩
abbrev S2x2048x2048 : Shape := ⟨3, ![2, 2048, 2048]⟩
abbrev S4x8x6x2048 : Shape := ⟨4, ![4, 8, 6, 2048]⟩
abbrev S4x2x2048 : Shape := ⟨3, ![4, 2, 2048]⟩
abbrev S4x2048x16 : Shape := ⟨3, ![4, 2048, 16]⟩
abbrev S1x2048x2048 : Shape := ⟨3, ![1, 2048, 2048]⟩
abbrev S2048x2048 : Shape := ⟨2, ![2048, 2048]⟩
abbrev S1x4x6x2048 : Shape := ⟨4, ![1, 4, 6, 2048]⟩
abbrev S4x6x2048 : Shape := ⟨3, ![4, 6, 2048]⟩
abbrev S4x6x1x2048 : Shape := ⟨4, ![4, 6, 1, 2048]⟩
abbrev S4x4096x2048 : Shape := ⟨3, ![4, 4096, 2048]⟩
abbrev S_ : Shape := ⟨0, ![]⟩
abbrev S4x1x1x2048 : Shape := ⟨4, ![4, 1, 1, 2048]⟩
abbrev S4x1x2048 : Shape := ⟨3, ![4, 1, 2048]⟩
abbrev S1x1x2048 : Shape := ⟨3, ![1, 1, 2048]⟩
abbrev S2048 : Shape := ⟨1, ![2048]⟩
abbrev S4x4096 : Shape := ⟨2, ![4, 4096]⟩
abbrev S4x4096x1 : Shape := ⟨3, ![4, 4096, 1]⟩
abbrev S1x2048x16 : Shape := ⟨3, ![1, 2048, 16]⟩
abbrev S2048x16 : Shape := ⟨2, ![2048, 16]⟩
abbrev S4x4096x16 : Shape := ⟨3, ![4, 4096, 16]⟩
abbrev S16384x16 : Shape := ⟨2, ![16384, 16]⟩

abbrev nBuf : Space → Nat
  | .hbm => 89
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S4x8x6x2048, .f32⟩
  | .hbm, ⟨4, _⟩ => ⟨S4x2x2048, .f32⟩
  | .hbm, ⟨5, _⟩ => ⟨S4x2x2048, .f32⟩
  | .hbm, ⟨6, _⟩ => ⟨S4x2048x16, .f32⟩
  | .hbm, ⟨7, _⟩ => ⟨S16384x2048, .f32⟩
  | .hbm, ⟨8, _⟩ => ⟨S1x2048x2048, .f32⟩
  | .hbm, ⟨9, _⟩ => ⟨S2048x2048, .f32⟩
  | .hbm, ⟨10, _⟩ => ⟨S16384x2048, .f32⟩
  | .hbm, ⟨11, _⟩ => ⟨S1x4x6x2048, .f32⟩
  | .hbm, ⟨12, _⟩ => ⟨S4x6x2048, .f32⟩
  | .hbm, ⟨13, _⟩ => ⟨S4x6x1x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096x2048, .f32⟩
  | .hbm, ⟨18, _⟩ => ⟨S4x4096x2048, .f32⟩
  | .hbm, ⟨19, _⟩ => ⟨S4x1x1x2048, .f32⟩
  | .hbm, ⟨20, _⟩ => ⟨S4x1x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S1x1x2048, .f32⟩
  | .hbm, ⟨25, _⟩ => ⟨S2048, .f32⟩
  | .hbm, ⟨26, _⟩ => ⟨S1x1x2048, .f32⟩
  | .hbm, ⟨27, _⟩ => ⟨S2048, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S1x1x2048, .f32⟩
  | .hbm, ⟨55, _⟩ => ⟨S4x4096x2048, .f32⟩
  | .hbm, ⟨56, _⟩ => ⟨S4x4096x2048, .f32⟩
  | .hbm, ⟨57, _⟩ => ⟨S4x1x1x2048, .f32⟩
  | .hbm, ⟨58, _⟩ => ⟨S4x1x2048, .f32⟩
  | .hbm, ⟨59, _⟩ => ⟨S_, .f32⟩
  | .hbm, ⟨60, _⟩ => ⟨S4x1x2048, .f32⟩
  | .hbm, ⟨61, _⟩ => ⟨S4x1x2048, .f32⟩
  | .hbm, ⟨62, _⟩ => ⟨S4x4096x2048, .f32⟩
  | .hbm, ⟨63, _⟩ => ⟨S4x4096x2048, .f32⟩
  | .hbm, ⟨64, _⟩ => ⟨S4x1x1x2048, .f32⟩
  | .hbm, ⟨65, _⟩ => ⟨S4x1x2048, .f32⟩
  | .hbm, ⟨66, _⟩ => ⟨S4x4096x2048, .f32⟩
  | .hbm, ⟨67, _⟩ => ⟨S4x4096x2048, .f32⟩
  | .hbm, ⟨68, _⟩ => ⟨S1x2048x16, .f32⟩
  | .hbm, ⟨69, _⟩ => ⟨S2048x16, .f32⟩
  | .hbm, ⟨70, _⟩ => ⟨S4x4096x16, .f32⟩
  | .hbm, ⟨71, _⟩ => ⟨S_, .f32⟩
  | .hbm, ⟨72, _⟩ => ⟨S4x4096, .f32⟩
  | .hbm, ⟨73, _⟩ => ⟨S_, .f32⟩
  | .hbm, ⟨74, _⟩ => ⟨S4x4096, .f32⟩
  | .hbm, ⟨75, _⟩ => ⟨S4x4096, .f32⟩
  | .hbm, ⟨76, _⟩ => ⟨S4x4096x1, .f32⟩
  | .hbm, ⟨77, _⟩ => ⟨S4x4096x16, .f32⟩
  | .hbm, ⟨78, _⟩ => ⟨S4x4096x16, .f32⟩
  | .hbm, ⟨79, _⟩ => ⟨S4x4096x16, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S4x4096x16, .f32⟩
  | .hbm, ⟨84, _⟩ => ⟨S4x4096x16, .f32⟩
  | .hbm, ⟨85, _⟩ => ⟨S16384x2048, .f32⟩
  | .hbm, ⟨86, _⟩ => ⟨S16384x2048, .f32⟩
  | .hbm, ⟨87, _⟩ => ⟨S16384x2048, .bf16⟩
  | .hbm, ⟨88, _⟩ => ⟨S16384x16, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== NbrProj.lean ====
abbrev S16384x2048 : Shape := ⟨2, ![16384, 2048]⟩
abbrev S2x2048x4608 : Shape := ⟨3, ![2, 2048, 4608]⟩
abbrev S16384x1024 : Shape := ⟨2, ![16384, 1024]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2x2048x4608, .f32⟩
  | .hbm, ⟨2, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NbrProjRefIdeal.lean ====
abbrev S16384x2048 : Shape := ⟨2, ![16384, 2048]⟩
abbrev S2x2048x4608 : Shape := ⟨3, ![2, 2048, 4608]⟩
abbrev S1x2048x4608 : Shape := ⟨3, ![1, 2048, 4608]⟩
abbrev S2048x4608 : Shape := ⟨2, ![2048, 4608]⟩
abbrev S16384x4608 : Shape := ⟨2, ![16384, 4608]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x4608, .f32⟩
  | .hbm, ⟨2, _⟩ => ⟨S16384x2048, .f32⟩
  | .hbm, ⟨3, _⟩ => ⟨S1x2048x4608, .f32⟩
  | .hbm, ⟨4, _⟩ => ⟨S2048x4608, .f32⟩
  | .hbm, ⟨5, _⟩ => ⟨S16384x4608, .f32⟩
  | .hbm, ⟨6, _⟩ => ⟨S16384x1024, .f32⟩
  | .hbm, ⟨7, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NbrQProj.lean ====
abbrev S16384x2048 : Shape := ⟨2, ![16384, 2048]⟩
abbrev S2x2048x4608 : Shape := ⟨3, ![2, 2048, 4608]⟩
abbrev S16384x1024 : Shape := ⟨2, ![16384, 1024]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2x2048x4608, .f32⟩
  | .hbm, ⟨2, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c4_i32 : BitVec 32 := 4#32
  let v7 : BitVec 32 := Scalar.muli arg0 c4_i32
  let c0_i32_4 : BitVec 32 := 0#32
  let v8 : BitVec 32 := Scalar.addi v7 c0_i32_4
  let c0_i32_5 : BitVec 32 := 0#32
  let v9 : BitVec 1 := Scalar.cmpi .sge v8 c0_i32_5
  let c8_i32 : BitVec 32 := 8#32
  let v10 : BitVec 1 := Scalar.cmpi .slt v8 c8_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond3 (i : grid0.Coords) : BitVec 1 :=
  let arg0 : BitVec 32 := BitVec.ofNat 32 (i 0).val
  let c4_i32 : BitVec 32 := 4#32
  let v7 : BitVec 32 := Scalar.muli arg0 c4_i32
  let c0_i32_4 : BitVec 32 := 0#32
  let v8 : BitVec 32 := Scalar.addi v7 c0_i32_4
  let c8_i32_7 : BitVec 32 := 8#32
  let v14 : BitVec 1 := Scalar.cmpi .sge v8 c8_i32_7
  let c1073741824_i32 : BitVec 32 := 1073741824#32
  let v15 : BitVec 1 := Scalar.cmpi .slt v8 c1073741824_i32
  let v16 : BitVec 1 := Scalar.andi v14 v15
  let v17 : BitVec 32 := Scalar.extui v16
  let c0_i32_8 : BitVec 32 := 0#32
  let v18 : BitVec 1 := Scalar.cmpi .ne v17 c0_i32_8
  v18

def k0_cond4 (i : grid0.Coords) : BitVec 1 :=
  let arg0 : BitVec 32 := BitVec.ofNat 32 (i 0).val
  let c4_i32_9 : BitVec 32 := 4#32
  let v20 : BitVec 32 := Scalar.muli arg0 c4_i32_9
  let c1_i32 : BitVec 32 := 1#32
  let v21 : BitVec 32 := Scalar.addi v20 c1_i32
  let c0_i32_10 : BitVec 32 := 0#32
  let v22 : BitVec 1 := Scalar.cmpi .sge v21 c0_i32_10
  let c8_i32_11 : BitVec 32 := 8#32
  let v23 : BitVec 1 := Scalar.cmpi .slt v21 c8_i32_11
  let v24 : BitVec 1 := Scalar.andi v22 v23
  let v25 : BitVec 32 := Scalar.extui v24
  let c0_i32_12 : BitVec 32 := 0#32
  let v26 : BitVec 1 := Scalar.cmpi .ne v25 c0_i32_12
  v26

def k0_cond5 (i : grid0.Coords) : BitVec 1 :=
  let arg0 : BitVec 32 := BitVec.ofNat 32 (i 0).val
  let c4_i32_9 : BitVec 32 := 4#32
  let v20 : BitVec 32 := Scalar.muli arg0 c4_i32_9
  let c1_i32 : BitVec 32 := 1#32
  let v21 : BitVec 32 := Scalar.addi v20 c1_i32
  let c8_i32_13 : BitVec 32 := 8#32
  let v27 : BitVec 1 := Scalar.cmpi .sge v21 c8_i32_13
  let c1073741824_i32_14 : BitVec 32 := 1073741824#32
  let v28 : BitVec 1 := Scalar.cmpi .slt v21 c1073741824_i32_14
  let v29 : BitVec 1 := Scalar.andi v27 v28
  let v30 : BitVec 32 := Scalar.extui v29
  let c0_i32_15 : BitVec 32 := 0#32
  let v31 : BitVec 1 := Scalar.cmpi .ne v30 c0_i32_15
  v31

def k0_cond6 (i : grid0.Coords) : BitVec 1 :=
  let arg0 : BitVec 32 := BitVec.ofNat 32 (i 0).val
  let c4_i32_16 : BitVec 32 := 4#32
  let v33 : BitVec 32 := Scalar.muli arg0 c4_i32_16
  let c2_i32 : BitVec 32 := 2#32
  let v34 : BitVec 32 := Scalar.addi v33 c2_i32
  let c0_i32_17 : BitVec 32 := 0#32
  let v35 : BitVec 1 := Scalar.cmpi .sge v34 c0_i32_17
  let c8_i32_18 : BitVec 32 := 8#32
  let v36 : BitVec 1 := Scalar.cmpi .slt v34 c8_i32_18
  let v37 : BitVec 1 := Scalar.andi v35 v36
  let v38 : BitVec 32 := Scalar.extui v37
  let c0_i32_19 : BitVec 32 := 0#32
  let v39 : BitVec 1 := Scalar.cmpi .ne v38 c0_i32_19
  v39

def k0_cond7 (i : grid0.Coords) : BitVec 1 :=
  let arg0 : BitVec 32 := BitVec.ofNat 32 (i 0).val
  let c4_i32_16 : BitVec 32 := 4#32
  let v33 : BitVec 32 := Scalar.muli arg0 c4_i32_16
  let c2_i32 : BitVec 32 := 2#32
  let v34 : BitVec 32 := Scalar.addi v33 c2_i32
  let c8_i32_20 : BitVec 32 := 8#32
  let v40 : BitVec 1 := Scalar.cmpi .sge v34 c8_i32_20
  let c1073741824_i32_21 : BitVec 32 := 1073741824#32
  let v41 : BitVec 1 := Scalar.cmpi .slt v34 c1073741824_i32_21
  let v42 : BitVec 1 := Scalar.andi v40 v41
  let v43 : BitVec 32 := Scalar.extui v42
  let c0_i32_22 : BitVec 32 := 0#32
  let v44 : BitVec 1 := Scalar.cmpi .ne v43 c0_i32_22
  v44

def k0_cond8 (i : grid0.Coords) : BitVec 1 :=
  let arg0 : BitVec 32 := BitVec.ofNat 32 (i 0).val
  let c4_i32_23 : BitVec 32 := 4#32
  let v46 : BitVec 32 := Scalar.muli arg0 c4_i32_23
  let c3_i32 : BitVec 32 := 3#32
  let v47 : BitVec 32 := Scalar.addi v46 c3_i32
  let c0_i32_24 : BitVec 32 := 0#32
  let v48 : BitVec 1 := Scalar.cmpi .sge v47 c0_i32_24
  let c8_i32_25 : BitVec 32 := 8#32
  let v49 : BitVec 1 := Scalar.cmpi .slt v47 c8_i32_25
  let v50 : BitVec 1 := Scalar.andi v48 v49
  let v51 : BitVec 32 := Scalar.extui v50
  let c0_i32_26 : BitVec 32 := 0#32
  let v52 : BitVec 1 := Scalar.cmpi .ne v51 c0_i32_26
  v52

def k0_cond9 (i : grid0.Coords) : BitVec 1 :=
  let arg0 : BitVec 32 := BitVec.ofNat 32 (i 0).val
  let c4_i32_23 : BitVec 32 := 4#32
  let v46 : BitVec 32 := Scalar.muli arg0 c4_i32_23
  let c3_i32 : BitVec 32 := 3#32
  let v47 : BitVec 32 := Scalar.addi v46 c3_i32
  let c8_i32_27 : BitVec 32 := 8#32
  let v53 : BitVec 1 := Scalar.cmpi .sge v47 c8_i32_27
  let c1073741824_i32_28 : BitVec 32 := 1073741824#32
  let v54 : BitVec 1 := Scalar.cmpi .slt v47 c1073741824_i32_28
  let v55 : BitVec 1 := Scalar.andi v53 v54
  let v56 : BitVec 32 := Scalar.extui v55
  let c0_i32_29 : BitVec 32 := 0#32
  let v57 : BitVec 1 := Scalar.cmpi .ne v56 c0_i32_29
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NbrQProjIdeal.lean ====
variable {F : FTy → Type} [FloatOps F] [Named F]
def κ : String → Option EReal := fun
  | "q_prescale" => some ((((Real.sqrt 128) * (Real.log 2))⁻¹ : ℝ) : EReal)
  | _ => none
-- ==== NbrQProjRefIdeal.lean ====
abbrev S16384x2048 : Shape := ⟨2, ![16384, 2048]⟩
abbrev S2x2048x4608 : Shape := ⟨3, ![2, 2048, 4608]⟩
abbrev S1x2048x4608 : Shape := ⟨3, ![1, 2048, 4608]⟩
abbrev S2048x4608 : Shape := ⟨2, ![2048, 4608]⟩
abbrev S16384x4608 : Shape := ⟨2, ![16384, 4608]⟩
abbrev S16384x1024 : Shape := ⟨2, ![16384, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x4608, .f32⟩
  | .hbm, ⟨2, _⟩ => ⟨S16384x2048, .f32⟩
  | .hbm, ⟨3, _⟩ => ⟨S1x2048x4608, .f32⟩
  | .hbm, ⟨4, _⟩ => ⟨S2048x4608, .f32⟩
  | .hbm, ⟨5, _⟩ => ⟨S16384x4608, .f32⟩
  | .hbm, ⟨6, _⟩ => ⟨S16384x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== CtxWinProj.lean ====
abbrev S8192x2048 : Shape := ⟨2, ![8192, 2048]⟩
abbrev S2x2048x4608 : Shape := ⟨3, ![2, 2048, 4608]⟩
abbrev S8192x1536 : Shape := ⟨2, ![8192, 1536]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x4608, .f32⟩
  | .hbm, ⟨2, _⟩ => ⟨S8192x1536, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1024x768, .f32⟩
  | .local _ .vmem, ⟨5, _⟩ => ⟨S1024x768, .f32⟩
  | .local _ .vmem, ⟨6, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxWinProjRefIdeal.lean ====
abbrev S8192x2048 : Shape := ⟨2, ![8192, 2048]⟩
abbrev S2x2048x4608 : Shape := ⟨3, ![2, 2048, 4608]⟩
abbrev S1x2048x4608 : Shape := ⟨3, ![1, 2048, 4608]⟩
abbrev S2048x4608 : Shape := ⟨2, ![2048, 4608]⟩
abbrev S8192x4608 : Shape := ⟨2, ![8192, 4608]⟩
abbrev S8192x1536 : Shape := ⟨2, ![8192, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x4608, .f32⟩
  | .hbm, ⟨2, _⟩ => ⟨S8192x2048, .f32⟩
  | .hbm, ⟨3, _⟩ => ⟨S1x2048x4608, .f32⟩
  | .hbm, ⟨4, _⟩ => ⟨S2048x4608, .f32⟩
  | .hbm, ⟨5, _⟩ => ⟨S8192x4608, .f32⟩
  | .hbm, ⟨6, _⟩ => ⟨S8192x1536, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CtxNbrProj.lean ====
abbrev S8192x2048 : Shape := ⟨2, ![8192, 2048]⟩
abbrev S2x2048x4608 : Shape := ⟨3, ![2, 2048, 4608]⟩
abbrev S8192x1024 : Shape := ⟨2, ![8192, 1024]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x4608, .f32⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxNbrProjRefIdeal.lean ====
abbrev S8192x2048 : Shape := ⟨2, ![8192, 2048]⟩
abbrev S2x2048x4608 : Shape := ⟨3, ![2, 2048, 4608]⟩
abbrev S1x2048x4608 : Shape := ⟨3, ![1, 2048, 4608]⟩
abbrev S2048x4608 : Shape := ⟨2, ![2048, 4608]⟩
abbrev S8192x4608 : Shape := ⟨2, ![8192, 4608]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x4608, .f32⟩
  | .hbm, ⟨2, _⟩ => ⟨S8192x2048, .f32⟩
  | .hbm, ⟨3, _⟩ => ⟨S1x2048x4608, .f32⟩
  | .hbm, ⟨4, _⟩ => ⟨S2048x4608, .f32⟩
  | .hbm, ⟨5, _⟩ => ⟨S8192x4608, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProjTwo.lean ====
abbrev S16384x1024 : Shape := ⟨2, ![16384, 1024]⟩
abbrev S2x2048x2048 : Shape := ⟨3, ![2, 2048, 2048]⟩
abbrev S16384x2048 : Shape := ⟨2, ![16384, 2048]⟩
abbrev S4x8x6x2048 : Shape := ⟨4, ![4, 8, 6, 2048]⟩
abbrev S4x2x2048 : Shape := ⟨3, ![4, 2, 2048]⟩
abbrev S4x2048x16 : Shape := ⟨3, ![4, 2048, 16]⟩
abbrev S4x2x1x2048 : Shape := ⟨4, ![4, 2, 1, 2048]⟩
abbrev S4x1x1x2048 : Shape := ⟨4, ![4, 1, 1, 2048]⟩
abbrev S4x1x2048 : Shape := ⟨3, ![4, 1, 2048]⟩
abbrev S16384x16 : Shape := ⟨2, ![16384, 16]⟩
abbrev S256x1024 : Shape := ⟨2, ![256, 1024]⟩
abbrev S1x1024x2048 : Shape := ⟨3, ![1, 1024, 2048]⟩
abbrev S256x2048 : Shape := ⟨2, ![256, 2048]⟩
abbrev S1x1x6x2048 : Shape := ⟨4, ![1, 1, 6, 2048]⟩
abbrev S1x1x2048 : Shape := ⟨3, ![1, 1, 2048]⟩
abbrev S1x2048x16 : Shape := ⟨3, ![1, 2048, 16]⟩
abbrev S256x16 : Shape := ⟨2, ![256, 16]⟩
abbrev S1024x2048 : Shape := ⟨2, ![1024, 2048]⟩
abbrev S1x1x1x2048 : Shape := ⟨4, ![1, 1, 1, 2048]⟩
abbrev S1x2048 : Shape := ⟨2, ![1, 2048]⟩
abbrev S256 : Shape := ⟨1, ![256]⟩
abbrev S256x1 : Shape := ⟨2, ![256, 1]⟩
abbrev S2048x16 : Shape := ⟨2, ![2048, 16]⟩

abbrev nBuf : Space → Nat
  | .hbm => 19
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S4x8x6x2048, .f32⟩
  | .hbm, ⟨5, _⟩ => ⟨S4x2x2048, .f32⟩
  | .hbm, ⟨6, _⟩ => ⟨S4x2x2048, .f32⟩
  | .hbm, ⟨7, _⟩ => ⟨S4x2048x16, .f32⟩
  | .hbm, ⟨8, _⟩ => ⟨S4x2x1x2048, .f32⟩
  | .hbm, ⟨9, _⟩ => ⟨S4x1x1x2048, .f32⟩
  | .hbm, ⟨10, _⟩ => ⟨S4x1x2048, .f32⟩
  | .hbm, ⟨11, _⟩ => ⟨S4x2x1x2048, .f32⟩
  | .hbm, ⟨12, _⟩ => ⟨S4x1x1x2048, .f32⟩
  | .hbm, ⟨13, _⟩ => ⟨S4x1x2048, .f32⟩
  | .hbm, ⟨14, _⟩ => ⟨S2x2048x2048, .bf16⟩
  | .hbm, ⟨15, _⟩ => ⟨S4x2048x16, .bf16⟩
  | .hbm, ⟨16, _⟩ => ⟨S16384x2048, .f32⟩
  | .hbm, ⟨17, _⟩ => ⟨S16384x2048, .bf16⟩
  | .hbm, ⟨18, _⟩ => ⟨S16384x16, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S256x2048, .f32⟩
  | .local _ .vmem, ⟨7, _⟩ => ⟨S256x2048, .f32⟩
  | .local _ .vmem, ⟨8, _⟩ => ⟨S1x1x6x2048, .f32⟩
  | .local _ .vmem, ⟨9, _⟩ => ⟨S1x1x6x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048x16, .bf16⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S256x16, .f32⟩
  | .local _ .vmem, ⟨18, _⟩ => ⟨S256x16, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.muli v17 c1_i32_4
  let c1_i32_5 : BitVec 32 := 1#32
  let v19 : BitVec 32 := Scalar.addi c1_i32_5 v18
  let c0_i32_6 : BitVec 32 := 0#32
  let c0_i32_7 : BitVec 32 := 0#32
  let c0_i32_8 : BitVec 32 := 0#32
  let c0_i32_9 : BitVec 32 := 0#32
  ![c0_i32_6.toNat, v19.toNat, c0_i32_7.toNat, c0_i32_8.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutProjTwoRefIdeal.lean ====
abbrev S16384x1024 : Shape := ⟨2, ![16384, 1024]⟩
abbrev S2x2048x2048 : Shape := ⟨3, ![2, 2048, 2048]⟩
abbrev S16384x2048 : Shape := ⟨2, ![16384, 2048]⟩
abbrev S4x8x6x2048 : Shape := ⟨4, ![4, 8, 6, 2048]⟩
abbrev S4x2x2048 : Shape := ⟨3, ![4, 2, 2048]⟩
abbrev S4x2048x16 : Shape := ⟨3, ![4, 2048, 16]⟩
abbrev S1x2048x2048 : Shape := ⟨3, ![1, 2048, 2048]⟩
abbrev S2048x2048 : Shape := ⟨2, ![2048, 2048]⟩
abbrev S1x4x6x2048 : Shape := ⟨4, ![1, 4, 6, 2048]⟩
abbrev S4x6x2048 : Shape := ⟨3, ![4, 6, 2048]⟩
abbrev S4x6x1x2048 : Shape := ⟨4, ![4, 6, 1, 2048]⟩
abbrev S4x4096x2048 : Shape := ⟨3, ![4, 4096, 2048]⟩
abbrev S_ : Shape := ⟨0, ![]⟩
abbrev S4x1x1x2048 : Shape := ⟨4, ![4, 1, 1, 2048]⟩
abbrev S4x1x2048 : Shape := ⟨3, ![4, 1, 2048]⟩
abbrev S1x1x2048 : Shape := ⟨3, ![1, 1, 2048]⟩
abbrev S2048 : Shape := ⟨1, ![2048]⟩
abbrev S4x4096 : Shape := ⟨2, ![4, 4096]⟩
abbrev S4x4096x1 : Shape := ⟨3, ![4, 4096, 1]⟩
abbrev S1x2048x16 : Shape := ⟨3, ![1, 2048, 16]⟩
abbrev S2048x16 : Shape := ⟨2, ![2048, 16]⟩
abbrev S4x4096x16 : Shape := ⟨3, ![4, 4096, 16]⟩
abbrev S16384x16 : Shape := ⟨2, ![16384, 16]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S4x8x6x2048, .f32⟩
  | .hbm, ⟨5, _⟩ => ⟨S4x2x2048, .f32⟩
  | .hbm, ⟨6, _⟩ => ⟨S4x2x2048, .f32⟩
  | .hbm, ⟨7, _⟩ => ⟨S4x2048x16, .f32⟩
  | .hbm, ⟨8, _⟩ => ⟨S16384x1024, .f32⟩
  | .hbm, ⟨9, _⟩ => ⟨S16384x1024, .f32⟩
  | .hbm, ⟨10, _⟩ => ⟨S16384x2048, .f32⟩
  | .hbm, ⟨11, _⟩ => ⟨S1x2048x2048, .f32⟩
  | .hbm, ⟨12, _⟩ => ⟨S2048x2048, .f32⟩
  | .hbm, ⟨13, _⟩ => ⟨S16384x2048, .f32⟩
  | .hbm, ⟨14, _⟩ => ⟨S1x4x6x2048, .f32⟩
  | .hbm, ⟨15, _⟩ => ⟨S4x6x2048, .f32⟩
  | .hbm, ⟨16, _⟩ => ⟨S4x6x1x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S4x1x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S2048, .f32⟩
  | .hbm, ⟨29, _⟩ => ⟨S1x1x2048, .f32⟩
  | .hbm, ⟨30, _⟩ => ⟨S2048, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x2048, .f32⟩
  | .hbm, ⟨47, _⟩ => ⟨S4x4096x2048, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x2048, .f32⟩
  | .hbm, ⟨53, _⟩ => ⟨S4x4096x2048, .f32⟩
  | .hbm, ⟨54, _⟩ => ⟨S1x1x2048, .f32⟩
  | .hbm, ⟨55, _⟩ => ⟨S4x4096x2048, .f32⟩
  | .hbm, ⟨56, _⟩ => ⟨S4x4096x2048, .f32⟩
  | .hbm, ⟨57, _⟩ => ⟨S1x1x2048, .f32⟩
  | .hbm, ⟨58, _⟩ => ⟨S4x4096x2048, .f32⟩
  | .hbm, ⟨59, _⟩ => ⟨S4x4096x2048, .f32⟩
  | .hbm, ⟨60, _⟩ => ⟨S4x1x1x2048, .f32⟩
  | .hbm, ⟨61, _⟩ => ⟨S4x1x2048, .f32⟩
  | .hbm, ⟨62, _⟩ => ⟨S_, .f32⟩
  | .hbm, ⟨63, _⟩ => ⟨S4x1x2048, .f32⟩
  | .hbm, ⟨64, _⟩ => ⟨S4x1x2048, .f32⟩
  | .hbm, ⟨65, _⟩ => ⟨S4x4096x2048, .f32⟩
  | .hbm, ⟨66, _⟩ => ⟨S4x4096x2048, .f32⟩
  | .hbm, ⟨67, _⟩ => ⟨S4x1x1x2048, .f32⟩
  | .hbm, ⟨68, _⟩ => ⟨S4x1x2048, .f32⟩
  | .hbm, ⟨69, _⟩ => ⟨S4x4096x2048, .f32⟩
  | .hbm, ⟨70, _⟩ => ⟨S4x4096x2048, .f32⟩
  | .hbm, ⟨71, _⟩ => ⟨S1x2048x16, .f32⟩
  | .hbm, ⟨72, _⟩ => ⟨S2048x16, .f32⟩
  | .hbm, ⟨73, _⟩ => ⟨S4x4096x16, .f32⟩
  | .hbm, ⟨74, _⟩ => ⟨S_, .f32⟩
  | .hbm, ⟨75, _⟩ => ⟨S4x4096, .f32⟩
  | .hbm, ⟨76, _⟩ => ⟨S_, .f32⟩
  | .hbm, ⟨77, _⟩ => ⟨S4x4096, .f32⟩
  | .hbm, ⟨78, _⟩ => ⟨S4x4096, .f32⟩
  | .hbm, ⟨79, _⟩ => ⟨S4x4096x1, .f32⟩
  | .hbm, ⟨80, _⟩ => ⟨S4x4096x16, .f32⟩
  | .hbm, ⟨81, _⟩ => ⟨S4x4096x16, .f32⟩
  | .hbm, ⟨82, _⟩ => ⟨S4x4096x16, .f32⟩
  | .hbm, ⟨83, _⟩ => ⟨S_, .f32⟩
  | .hbm, ⟨84, _⟩ => ⟨S4x4096, .f32⟩
  | .hbm, ⟨85, _⟩ => ⟨S4x4096x1, .f32⟩
  | .hbm, ⟨86, _⟩ => ⟨S4x4096x16, .f32⟩
  | .hbm, ⟨87, _⟩ => ⟨S4x4096x16, .f32⟩
  | .hbm, ⟨88, _⟩ => ⟨S16384x2048, .f32⟩
  | .hbm, ⟨89, _⟩ => ⟨S16384x2048, .f32⟩
  | .hbm, ⟨90, _⟩ => ⟨S16384x2048, .bf16⟩
  | .hbm, ⟨91, _⟩ => ⟨S16384x16, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== WinProj.lean ====
abbrev S16384x2048 : Shape := ⟨2, ![16384, 2048]⟩
abbrev S2x2048x4608 : Shape := ⟨3, ![2, 2048, 4608]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S16384x1536 : Shape := ⟨2, ![16384, 1536]⟩
abbrev S1024x2048 : Shape := ⟨2, ![1024, 2048]⟩
abbrev S1x2048x768 : Shape := ⟨3, ![1, 2048, 768]⟩
abbrev S1024x128 : Shape := ⟨2, ![1024, 128]⟩
abbrev S1024x768 : Shape := ⟨2, ![1024, 768]⟩
abbrev S2048x768 : Shape := ⟨2, ![2048, 768]⟩
abbrev S1x128 : Shape := ⟨2, ![1, 128]⟩

abbrev nBuf : Space → Nat
  | .hbm => 82
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2x2048x4608, .f32⟩
  | .hbm, ⟨2, _⟩ => ⟨S4096, .i32⟩
  | .hbm, ⟨3, _⟩ => ⟨S_, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S_, .i1⟩
  | .hbm, ⟨38, _⟩ => ⟨S4096, .i1⟩
  | .hbm, ⟨39, _⟩ => ⟨S4096, .i1⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S4096x1, .f32⟩
  | .hbm, ⟨60, _⟩ => ⟨S1x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x128, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x128, .f32⟩
  | .hbm, ⟨81, _⟩ => ⟨S16384x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x768, .bf16⟩
  | .local _ .vmem, ⟨9, _⟩ => ⟨S1024x768, .bf16⟩
  | .local _ .vmem, ⟨10, _⟩ => ⟨S2048x768, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_cst : Ref sig .tc := ⟨.hbm, 46, rfl⟩
abbrev main_v6 : Ref sig .tc := ⟨.hbm, 47, rfl⟩
abbrev main_v7 : Ref sig .tc := ⟨.hbm, 48, rfl⟩
abbrev main_cst_1 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_cst_2 : Ref sig .tc := ⟨.hbm, 53, rfl⟩
abbrev main_v11 : Ref sig .tc := ⟨.hbm, 54, rfl⟩
abbrev main_v12 : Ref sig .tc := ⟨.hbm, 55, rfl⟩
abbrev main_cst_3 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c6_i32 : BitVec 32 := 6#32
  let v7 : BitVec 32 := Scalar.muli arg0 c6_i32
  let c0_i32_4 : BitVec 32 := 0#32
  let v8 : BitVec 32 := Scalar.addi v7 c0_i32_4
  let c0_i32_5 : BitVec 32 := 0#32
  let v9 : BitVec 1 := Scalar.cmpi .sge v8 c0_i32_5
  let c8_i32 : BitVec 32 := 8#32
  let v10 : BitVec 1 := Scalar.cmpi .slt v8 c8_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond3 (i : grid0.Coords) : BitVec 1 :=
  let arg0 : BitVec 32 := BitVec.ofNat 32 (i 0).val
  let c6_i32 : BitVec 32 := 6#32
  let v7 : BitVec 32 := Scalar.muli arg0 c6_i32
  let c0_i32_4 : BitVec 32 := 0#32
  let v8 : BitVec 32 := Scalar.addi v7 c0_i32_4
  let c8_i32_7 : BitVec 32 := 8#32
  let v14 : BitVec 1 := Scalar.cmpi .sge v8 c8_i32_7
  let c10_i32 : BitVec 32 := 10#32
  let v15 : BitVec 1 := Scalar.cmpi .slt v8 c10_i32
  let v16 : BitVec 1 := Scalar.andi v14 v15
  let v17 : BitVec 32 := Scalar.extui v16
  let c0_i32_8 : BitVec 32 := 0#32
  let v18 : BitVec 1 := Scalar.cmpi .ne v17 c0_i32_8
  v18

def k0_cond4 (i : grid0.Coords) : BitVec 1 :=
  let arg0 : BitVec 32 := BitVec.ofNat 32 (i 0).val
  let c6_i32 : BitVec 32 := 6#32
  let v7 : BitVec 32 := Scalar.muli arg0 c6_i32
  let c0_i32_4 : BitVec 32 := 0#32
  let v8 : BitVec 32 := Scalar.addi v7 c0_i32_4
  let c10_i32_9 : BitVec 32 := 10#32
  let v19 : BitVec 1 := Scalar.cmpi .sge v8 c10_i32_9
  let c1073741824_i32 : BitVec 32 := 1073741824#32
  let v20 : BitVec 1 := Scalar.cmpi .slt v8 c1073741824_i32
  let v21 : BitVec 1 := Scalar.andi v19 v20
  let v22 : BitVec 32 := Scalar.extui v21
  let c0_i32_10 : BitVec 32 := 0#32
  let v23 : BitVec 1 := Scalar.cmpi .ne v22 c0_i32_10
  v23

def k0_cond5 (i : grid0.Coords) : BitVec 1 :=
  let arg0 : BitVec 32 := BitVec.ofNat 32 (i 0).val
  let c6_i32_11 : BitVec 32 := 6#32
  let v25 : BitVec 32 := Scalar.muli arg0 c6_i32_11
  let c1_i32 : BitVec 32 := 1#32
  let v26 : BitVec 32 := Scalar.addi v25 c1_i32
  let c0_i32_12 : BitVec 32 := 0#32
  let v27 : BitVec 1 := Scalar.cmpi .sge v26 c0_i32_12
  let c8_i32_13 : BitVec 32 := 8#32
  let v28 : BitVec 1 := Scalar.cmpi .slt v26 c8_i32_13
  let v29 : BitVec 1 := Scalar.andi v27 v28
  let v30 : BitVec 32 := Scalar.extui v29
  let c0_i32_14 : BitVec 32 := 0#32
  let v31 : BitVec 1 := Scalar.cmpi .ne v30 c0_i32_14
  v31

def k0_cond6 (i : grid0.Coords) : BitVec 1 :=
  let arg0 : BitVec 32 := BitVec.ofNat 32 (i 0).val
  let c6_i32_11 : BitVec 32 := 6#32
  let v25 : BitVec 32 := Scalar.muli arg0 c6_i32_11
  let c1_i32 : BitVec 32 := 1#32
  let v26 : BitVec 32 := Scalar.addi v25 c1_i32
  let c8_i32_15 : BitVec 32 := 8#32
  let v32 : BitVec 1 := Scalar.cmpi .sge v26 c8_i32_15
  let c10_i32_16 : BitVec 32 := 10#32
  let v33 : BitVec 1 := Scalar.cmpi .slt v26 c10_i32_16
  let v34 : BitVec 1 := Scalar.andi v32 v33
  let v35 : BitVec 32 := Scalar.extui v34
  let c0_i32_17 : BitVec 32 := 0#32
  let v36 : BitVec 1 := Scalar.cmpi .ne v35 c0_i32_17
  v36

def k0_cond7 (i : grid0.Coords) : BitVec 1 :=
  let arg0 : BitVec 32 := BitVec.ofNat 32 (i 0).val
  let c6_i32_11 : BitVec 32 := 6#32
  let v25 : BitVec 32 := Scalar.muli arg0 c6_i32_11
  let c1_i32 : BitVec 32 := 1#32
  let v26 : BitVec 32 := Scalar.addi v25 c1_i32
  let c10_i32_18 : BitVec 32 := 10#32
  let v37 : BitVec 1 := Scalar.cmpi .sge v26 c10_i32_18
  let c1073741824_i32_19 : BitVec 32 := 1073741824#32
  let v38 : BitVec 1 := Scalar.cmpi .slt v26 c1073741824_i32_19
  let v39 : BitVec 1 := Scalar.andi v37 v38
  let v40 : BitVec 32 := Scalar.extui v39
  let c0_i32_20 : BitVec 32 := 0#32
  let v41 : BitVec 1 := Scalar.cmpi .ne v40 c0_i32_20
  v41

def k0_cond8 (i : grid0.Coords) : BitVec 1 :=
  let arg0 : BitVec 32 := BitVec.ofNat 32 (i 0).val
  let c6_i32_21 : BitVec 32 := 6#32
  let v43 : BitVec 32 := Scalar.muli arg0 c6_i32_21
  let c2_i32 : BitVec 32 := 2#32
  let v44 : BitVec 32 := Scalar.addi v43 c2_i32
  let c0_i32_22 : BitVec 32 := 0#32
  let v45 : BitVec 1 := Scalar.cmpi .sge v44 c0_i32_22
  let c8_i32_23 : BitVec 32 := 8#32
  let v46 : BitVec 1 := Scalar.cmpi .slt v44 c8_i32_23
  let v47 : BitVec 1 := Scalar.andi v45 v46
  let v48 : BitVec 32 := Scalar.extui v47
  let c0_i32_24 : BitVec 32 := 0#32
  let v49 : BitVec 1 := Scalar.cmpi .ne v48 c0_i32_24
  v49

def k0_cond9 (i : grid0.Coords) : BitVec 1 :=
  let arg0 : BitVec 32 := BitVec.ofNat 32 (i 0).val
  let c6_i32_21 : BitVec 32 := 6#32
  let v43 : BitVec 32 := Scalar.muli arg0 c6_i32_21
  let c2_i32 : BitVec 32 := 2#32
  let v44 : BitVec 32 := Scalar.addi v43 c2_i32
  let c8_i32_25 : BitVec 32 := 8#32
  let v50 : BitVec 1 := Scalar.cmpi .sge v44 c8_i32_25
  let c10_i32_26 : BitVec 32 := 10#32
  let v51 : BitVec 1 := Scalar.cmpi .slt v44 c10_i32_26
  let v52 : BitVec 1 := Scalar.andi v50 v51
  let v53 : BitVec 32 := Scalar.extui v52
  let c0_i32_27 : BitVec 32 := 0#32
  let v54 : BitVec 1 := Scalar.cmpi .ne v53 c0_i32_27
  v54

def k0_cond10 (i : grid0.Coords) : BitVec 1 :=
  let arg0 : BitVec 32 := BitVec.ofNat 32 (i 0).val
  let c6_i32_21 : BitVec 32 := 6#32
  let v43 : BitVec 32 := Scalar.muli arg0 c6_i32_21
  let c2_i32 : BitVec 32 := 2#32
  let v44 : BitVec 32 := Scalar.addi v43 c2_i32
  let c10_i32_28 : BitVec 32 := 10#32
  let v55 : BitVec 1 := Scalar.cmpi .sge v44 c10_i32_28
  let c1073741824_i32_29 : BitVec 32 := 1073741824#32
  let v56 : BitVec 1 := Scalar.cmpi .slt v44 c1073741824_i32_29
  let v57 : BitVec 1 := Scalar.andi v55 v56
  let v58 : BitVec 32 := Scalar.extui v57
  let c0_i32_30 : BitVec 32 := 0#32
  let v59 : BitVec 1 := Scalar.cmpi .ne v58 c0_i32_30
  v59

def k0_cond11 (i : grid0.Coords) : BitVec 1 :=
  let arg0 : BitVec 32 := BitVec.ofNat 32 (i 0).val
  let c6_i32_31 : BitVec 32 := 6#32
  let v61 : BitVec 32 := Scalar.muli arg0 c6_i32_31
  let c3_i32 : BitVec 32 := 3#32
  let v62 : BitVec 32 := Scalar.addi v61 c3_i32
  let c0_i32_32 : BitVec 32 := 0#32
  let v63 : BitVec 1 := Scalar.cmpi .sge v62 c0_i32_32
  let c8_i32_33 : BitVec 32 := 8#32
  let v64 : BitVec 1 := Scalar.cmpi .slt v62 c8_i32_33
  let v65 : BitVec 1 := Scalar.andi v63 v64
  let v66 : BitVec 32 := Scalar.extui v65
  let c0_i32_34 : BitVec 32 := 0#32
  let v67 : BitVec 1 := Scalar.cmpi .ne v66 c0_i32_34
  v67

def k0_cond12 (i : grid0.Coords) : BitVec 1 :=
  let arg0 : BitVec 32 := BitVec.ofNat 32 (i 0).val
  let c6_i32_31 : BitVec 32 := 6#32
  let v61 : BitVec 32 := Scalar.muli arg0 c6_i32_31
  let c3_i32 : BitVec 32 := 3#32
  let v62 : BitVec 32 := Scalar.addi v61 c3_i32
  let c8_i32_35 : BitVec 32 := 8#32
  let v68 : BitVec 1 := Scalar.cmpi .sge v62 c8_i32_35
  let c10_i32_36 : BitVec 32 := 10#32
  let v69 : BitVec 1 := Scalar.cmpi .slt v62 c10_i32_36
  let v70 : BitVec 1 := Scalar.andi v68 v69
  let v71 : BitVec 32 := Scalar.extui v70
  let c0_i32_37 : BitVec 32 := 0#32
  let v72 : BitVec 1 := Scalar.cmpi .ne v71 c0_i32_37
  v72

def k0_cond13 (i : grid0.Coords) : BitVec 1 :=
  let arg0 : BitVec 32 := BitVec.ofNat 32 (i 0).val
  let c6_i32_31 : BitVec 32 := 6#32
  let v61 : BitVec 32 := Scalar.muli arg0 c6_i32_31
  let c3_i32 : BitVec 32 := 3#32
  let v62 : BitVec 32 := Scalar.addi v61 c3_i32
  let c10_i32_38 : BitVec 32 := 10#32
  let v73 : BitVec 1 := Scalar.cmpi .sge v62 c10_i32_38
  let c1073741824_i32_39 : BitVec 32 := 1073741824#32
  let v74 : BitVec 1 := Scalar.cmpi .slt v62 c1073741824_i32_39
  let v75 : BitVec 1 := Scalar.andi v73 v74
  let v76 : BitVec 32 := Scalar.extui v75
  let c0_i32_40 : BitVec 32 := 0#32
  let v77 : BitVec 1 := Scalar.cmpi .ne v76 c0_i32_40
  v77

def k0_cond14 (i : grid0.Coords) : BitVec 1 :=
  let arg0 : BitVec 32 := BitVec.ofNat 32 (i 0).val
  let c6_i32_41 : BitVec 32 := 6#32
  let v79 : BitVec 32 := Scalar.muli arg0 c6_i32_41
  let c4_i32 : BitVec 32 := 4#32
  let v80 : BitVec 32 := Scalar.addi v79 c4_i32
  let c0_i32_42 : BitVec 32 := 0#32
  let v81 : BitVec 1 := Scalar.cmpi .sge v80 c0_i32_42
  let c8_i32_43 : BitVec 32 := 8#32
  let v82 : BitVec 1 := Scalar.cmpi .slt v80 c8_i32_43
  let v83 : BitVec 1 := Scalar.andi v81 v82
  let v84 : BitVec 32 := Scalar.extui v83
  let c0_i32_44 : BitVec 32 := 0#32
  let v85 : BitVec 1 := Scalar.cmpi .ne v84 c0_i32_44
  v85

def k0_cond15 (i : grid0.Coords) : BitVec 1 :=
  let arg0 : BitVec 32 := BitVec.ofNat 32 (i 0).val
  let c6_i32_41 : BitVec 32 := 6#32
  let v79 : BitVec 32 := Scalar.muli arg0 c6_i32_41
  let c4_i32 : BitVec 32 := 4#32
  let v80 : BitVec 32 := Scalar.addi v79 c4_i32
  let c8_i32_45 : BitVec 32 := 8#32
  let v86 : BitVec 1 := Scalar.cmpi .sge v80 c8_i32_45
  let c10_i32_46 : BitVec 32 := 10#32
  let v87 : BitVec 1 := Scalar.cmpi .slt v80 c10_i32_46
  let v88 : BitVec 1 := Scalar.andi v86 v87
  let v89 : BitVec 32 := Scalar.extui v88
  let c0_i32_47 : BitVec 32 := 0#32
  let v90 : BitVec 1 := Scalar.cmpi .ne v89 c0_i32_47
  v90

def k0_cond16 (i : grid0.Coords) : BitVec 1 :=
  let arg0 : BitVec 32 := BitVec.ofNat 32 (i 0).val
  let c6_i32_41 : BitVec 32 := 6#32
  let v79 : BitVec 32 := Scalar.muli arg0 c6_i32_41
  let c4_i32 : BitVec 32 := 4#32
  let v80 : BitVec 32 := Scalar.addi v79 c4_i32
  let c10_i32_48 : BitVec 32 := 10#32
  let v91 : BitVec 1 := Scalar.cmpi .sge v80 c10_i32_48
  let c1073741824_i32_49 : BitVec 32 := 1073741824#32
  let v92 : BitVec 1 := Scalar.cmpi .slt v80 c1073741824_i32_49
  let v93 : BitVec 1 := Scalar.andi v91 v92
  let v94 : BitVec 32 := Scalar.extui v93
  let c0_i32_50 : BitVec 32 := 0#32
  let v95 : BitVec 1 := Scalar.cmpi .ne v94 c0_i32_50
  v95

def k0_cond17 (i : grid0.Coords) : BitVec 1 :=
  let arg0 : BitVec 32 := BitVec.ofNat 32 (i 0).val
  let c6_i32_51 : BitVec 32 := 6#32
  let v97 : BitVec 32 := Scalar.muli arg0 c6_i32_51
  let c5_i32 : BitVec 32 := 5#32
  let v98 : BitVec 32 := Scalar.addi v97 c5_i32
  let c0_i32_52 : BitVec 32 := 0#32
  let v99 : BitVec 1 := Scalar.cmpi .sge v98 c0_i32_52
  let c8_i32_53 : BitVec 32 := 8#32
  let v100 : BitVec 1 := Scalar.cmpi .slt v98 c8_i32_53
  let v101 : BitVec 1 := Scalar.andi v99 v100
  let v102 : BitVec 32 := Scalar.extui v101
  let c0_i32_54 : BitVec 32 := 0#32
  let v103 : BitVec 1 := Scalar.cmpi .ne v102 c0_i32_54
  v103

def k0_cond18 (i : grid0.Coords) : BitVec 1 :=
  let arg0 : BitVec 32 := BitVec.ofNat 32 (i 0).val
  let c6_i32_51 : BitVec 32 := 6#32
  let v97 : BitVec 32 := Scalar.muli arg0 c6_i32_51
  let c5_i32 : BitVec 32 := 5#32
  let v98 : BitVec 32 := Scalar.addi v97 c5_i32
  let c8_i32_55 : BitVec 32 := 8#32
  let v104 : BitVec 1 := Scalar.cmpi .sge v98 c8_i32_55
  let c10_i32_56 : BitVec 32 := 10#32
  let v105 : BitVec 1 := Scalar.cmpi .slt v98 c10_i32_56
  let v106 : BitVec 1 := Scalar.andi v104 v105
  let v107 : BitVec 32 := Scalar.extui v106
  let c0_i32_57 : BitVec 32 := 0#32
  let v108 : BitVec 1 := Scalar.cmpi .ne v107 c0_i32_57
  v108

def k0_cond19 (i : grid0.Coords) : BitVec 1 :=
  let arg0 : BitVec 32 := BitVec.ofNat 32 (i 0).val
  let c6_i32_51 : BitVec 32 := 6#32
  let v97 : BitVec 32 := Scalar.muli arg0 c6_i32_51
  let c5_i32 : BitVec 32 := 5#32
  let v98 : BitVec 32 := Scalar.addi v97 c5_i32
  let c10_i32_58 : BitVec 32 := 10#32
  let v109 : BitVec 1 := Scalar.cmpi .sge v98 c10_i32_58
  let c1073741824_i32_59 : BitVec 32 := 1073741824#32
  let v110 : BitVec 1 := Scalar.cmpi .slt v98 c1073741824_i32_59
  let v111 : BitVec 1 := Scalar.andi v109 v110
  let v112 : BitVec 32 := Scalar.extui v111
  let c0_i32_60 : BitVec 32 := 0#32
  let v113 : BitVec 1 := Scalar.cmpi .ne v112 c0_i32_60
  v113

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WinProjIdeal.lean ====
variable {F : FTy → Type} [FloatOps F] [Named F]
def κ : String → Option EReal := fun
  | "q_prescale" => some ((((Real.sqrt 128) * (Real.log 2))⁻¹ : ℝ) : EReal)
  | _ => none
-- ==== WinProjRefIdeal.lean ====
abbrev S16384x2048 : Shape := ⟨2, ![16384, 2048]⟩
abbrev S2x2048x4608 : Shape := ⟨3, ![2, 2048, 4608]⟩
abbrev S1x2048x4608 : Shape := ⟨3, ![1, 2048, 4608]⟩
abbrev S2048x4608 : Shape := ⟨2, ![2048, 4608]⟩
abbrev S16384x4608 : Shape := ⟨2, ![16384, 4608]⟩
abbrev S4096 : Shape := ⟨1, ![4096]⟩
abbrev S_ : Shape := ⟨0, ![]⟩
abbrev S32 : Shape := ⟨1, ![32]⟩
abbrev S4096x1x1 : Shape := ⟨3, ![4096, 1, 1]⟩
abbrev S1x1x32 : Shape := ⟨3, ![1, 1, 32]⟩
abbrev S4096x1x32 : Shape := ⟨3, ![4096, 1, 32]⟩
abbrev S16384x1024 : Shape := ⟨2, ![16384, 1024]⟩
abbrev S4x4096x8x128 : Shape := ⟨4, ![4, 4096, 8, 128]⟩
abbrev S4x4096x8x64 : Shape := ⟨4, ![4, 4096, 8, 64]⟩
abbrev S4x4096x8x32 : Shape := ⟨4, ![4, 4096, 8, 32]⟩
abbrev S1x4096x1x32 : Shape := ⟨4, ![1, 4096, 1, 32]⟩
abbrev S16384x256 : Shape := ⟨2, ![16384, 256]⟩
abbrev S4x4096x2x128 : Shape := ⟨4, ![4, 4096, 2, 128]⟩
abbrev S4x4096x2x64 : Shape := ⟨4, ![4, 4096, 2, 64]⟩
abbrev S4x4096x2x32 : Shape := ⟨4, ![4, 4096, 2, 32]⟩
abbrev S16384x1536 : Shape := ⟨2, ![16384, 1536]⟩

abbrev nBuf : Space → Nat
  | .hbm => 167
  | .vmem => 0
  | .smem => 0
  | _ => 0

abbrev hbmTy0_0 (i : Nat) : BufTy := match i % 128 with
  | 0 => ⟨S16384x2048, .bf16⟩
  | 1 => ⟨S2x2048x4608, .f32⟩
  | 2 => ⟨S16384x2048, .f32⟩
  | 3 => ⟨S1x2048x4608, .f32⟩
  | 4 => ⟨S2048x4608, .f32⟩
  | 5 => ⟨S16384x4608, .f32⟩
  | 6 => ⟨S4096, .i32⟩
  | 7 => ⟨S_, .i32⟩
  | 8 => ⟨S_, .i32⟩
  | 9 => ⟨S4096, .i32⟩
  | 10 => ⟨S4096, .i32⟩
  | 11 => ⟨S4096, .i32⟩
  | 12 => ⟨S_, .i32⟩
  | 13 => ⟨S4096, .i32⟩
  | 14 => ⟨S4096, .i1⟩
  | 15 => ⟨S4096, .i32⟩
  | 16 => ⟨S4096, .i32⟩
  | 17 => ⟨S_, .i32⟩
  | 18 => ⟨S4096, .i32⟩
  | 19 => ⟨S4096, .i1⟩
  | 20 => ⟨S4096, .i1⟩
  | 21 => ⟨S_, .i32⟩
  | 22 => ⟨S4096, .i32⟩
  | 23 => ⟨S4096, .i32⟩
  | 24 => ⟨S4096, .i32⟩
  | 25 => ⟨S4096, .f32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i1⟩
  | 40 => ⟨S_, .i32⟩
  | 41 => ⟨S_, .i1⟩
  | 42 => ⟨S4096, .i1⟩
  | 43 => ⟨S4096, .i1⟩
  | 44 => ⟨S4096, .i1⟩
  | 45 => ⟨S4096, .i32⟩
  | 46 => ⟨S4096, .i32⟩
  | 47 => ⟨S4096, .i32⟩
  | 48 => ⟨S4096, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S4096x1x1, .f32⟩
  | 64 => ⟨S1x1x32, .f32⟩
  | 65 => ⟨S4096x1x32, .f32⟩
  | 66 => ⟨S4096x1x32, .f32⟩
  | 67 => ⟨S4096x1x32, .f32⟩
  | 68 => ⟨S4096x1x1, .f32⟩
  | 69 => ⟨S1x1x32, .f32⟩
  | 70 => ⟨S4096x1x32, .f32⟩
  | 71 => ⟨S4096x1x32, .f32⟩
  | 72 => ⟨S4096x1x32, .f32⟩
  | 73 => ⟨S4096x1x32, .f32⟩
  | 74 => ⟨S4096x1x32, .f32⟩
  | 75 => ⟨S4096x1x32, .f32⟩
  | 76 => ⟨S4096x1x32, .f32⟩
  | 77 => ⟨S16384x1024, .f32⟩
  | 78 => ⟨S4x4096x8x128, .f32⟩
  | 79 => ⟨S4x4096x8x64, .f32⟩
  | 80 => ⟨S4x4096x8x64, .f32⟩
  | 81 => ⟨S4x4096x8x32, .f32⟩
  | 82 => ⟨S4x4096x8x32, .f32⟩
  | 83 => ⟨S1x4096x1x32, .f32⟩
  | 84 => ⟨S4x4096x8x32, .f32⟩
  | 85 => ⟨S4x4096x8x32, .f32⟩
  | 86 => ⟨S1x4096x1x32, .f32⟩
  | 87 => ⟨S4x4096x8x32, .f32⟩
  | 88 => ⟨S4x4096x8x32, .f32⟩
  | 89 => ⟨S4x4096x8x32, .f32⟩
  | 90 => ⟨S1x4096x1x32, .f32⟩
  | 91 => ⟨S4x4096x8x32, .f32⟩
  | 92 => ⟨S4x4096x8x32, .f32⟩
  | 93 => ⟨S1x4096x1x32, .f32⟩
  | 94 => ⟨S4x4096x8x32, .f32⟩
  | 95 => ⟨S4x4096x8x32, .f32⟩
  | 96 => ⟨S4x4096x8x32, .f32⟩
  | 97 => ⟨S4x4096x8x64, .f32⟩
  | 98 => ⟨S4x4096x8x32, .f32⟩
  | 99 => ⟨S4x4096x8x32, .f32⟩
  | 100 => ⟨S1x4096x1x32, .f32⟩
  | 101 => ⟨S4x4096x8x32, .f32⟩
  | 102 => ⟨S4x4096x8x32, .f32⟩
  | 103 => ⟨S1x4096x1x32, .f32⟩
  | 104 => ⟨S4x4096x8x32, .f32⟩
  | 105 => ⟨S4x4096x8x32, .f32⟩
  | 106 => ⟨S4x4096x8x32, .f32⟩
  | 107 => ⟨S1x4096x1x32, .f32⟩
  | 108 => ⟨S4x4096x8x32, .f32⟩
  | 109 => ⟨S4x4096x8x32, .f32⟩
  | 110 => ⟨S1x4096x1x32, .f32⟩
  | 111 => ⟨S4x4096x8x32, .f32⟩
  | 112 => ⟨S4x4096x8x32, .f32⟩
  | 113 => ⟨S4x4096x8x32, .f32⟩
  | 114 => ⟨S4x4096x8x64, .f32⟩
  | 115 => ⟨S4x4096x8x128, .f32⟩
  | 116 => ⟨S_, .f32⟩
  | 117 => ⟨S_, .f32⟩
  | 118 => ⟨S_, .f32⟩
  | 119 => ⟨S_, .f32⟩
  | 120 => ⟨S_, .f32⟩
  | 121 => ⟨S4x4096x8x128, .f32⟩
  | 122 => ⟨S4x4096x8x128, .f32⟩
  | 123 => ⟨S16384x256, .f32⟩
  | 124 => ⟨S4x4096x2x128, .f32⟩
  | 125 => ⟨S4x4096x2x64, .f32⟩
  | 126 => ⟨S4x4096x2x64, .f32⟩
  | 127 => ⟨S4x4096x2x32, .f32⟩
  | _ => ⟨S16384x2048, .bf16⟩

abbrev hbmTy0_1 (i : Nat) : BufTy := match i % 128 with
  | 0 => ⟨S4x4096x2x32, .f32⟩
  | 1 => ⟨S1x4096x1x32, .f32⟩
  | 2 => ⟨S4x4096x2x32, .f32⟩
  | 3 => ⟨S4x4096x2x32, .f32⟩
  | 4 => ⟨S1x4096x1x32, .f32⟩
  | 5 => ⟨S4x4096x2x32, .f32⟩
  | 6 => ⟨S4x4096x2x32, .f32⟩
  | 7 => ⟨S4x4096x2x32, .f32⟩
  | 8 => ⟨S1x4096x1x32, .f32⟩
  | 9 => ⟨S4x4096x2x32, .f32⟩
  | 10 => ⟨S4x4096x2x32, .f32⟩
  | 11 => ⟨S1x4096x1x32, .f32⟩
  | 12 => ⟨S4x4096x2x32, .f32⟩
  | 13 => ⟨S4x4096x2x32, .f32⟩
  | 14 => ⟨S4x4096x2x32, .f32⟩
  | 15 => ⟨S4x4096x2x64, .f32⟩
  | 16 => ⟨S4x4096x2x32, .f32⟩
  | 17 => ⟨S4x4096x2x32, .f32⟩
  | 18 => ⟨S1x4096x1x32, .f32⟩
  | 19 => ⟨S4x4096x2x32, .f32⟩
  | 20 => ⟨S4x4096x2x32, .f32⟩
  | 21 => ⟨S1x4096x1x32, .f32⟩
  | 22 => ⟨S4x4096x2x32, .f32⟩
  | 23 => ⟨S4x4096x2x32, .f32⟩
  | 24 => ⟨S4x4096x2x32, .f32⟩
  | 25 => ⟨S1x4096x1x32, .f32⟩
  | 26 => ⟨S4x4096x2x32, .f32⟩
  | 27 => ⟨S4x4096x2x32, .f32⟩
  | 28 => ⟨S1x4096x1x32, .f32⟩
  | 29 => ⟨S4x4096x2x32, .f32⟩
  | 30 => ⟨S4x4096x2x32, .f32⟩
  | 31 => ⟨S4x4096x2x32, .f32⟩
  | 32 => ⟨S4x4096x2x64, .f32⟩
  | 33 => ⟨S4x4096x2x128, .f32⟩
  | 34 => ⟨S16384x256, .f32⟩
  | 35 => ⟨S16384x1024, .f32⟩
  | 36 => ⟨S16384x256, .f32⟩
  | 37 => ⟨S16384x1536, .f32⟩
  | 38 => ⟨S16384x1536, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_cst : Ref sig .tc := ⟨.hbm, 50, rfl⟩
abbrev main_v10 : Ref sig .tc := ⟨.hbm, 51, rfl⟩
abbrev main_v11 : Ref sig .tc := ⟨.hbm, 52, rfl⟩
abbrev main_cst_1 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst_2 : Ref sig .tc := ⟨.hbm, 57, rfl⟩
abbrev main_v15 : Ref sig .tc := ⟨.hbm, 58, rfl⟩
abbrev main_v16 : Ref sig .tc := ⟨.hbm, 59, rfl⟩
abbrev main_cst_3 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_4 : Ref sig .tc := ⟨.hbm, 116, rfl⟩
abbrev main_v72 : Ref sig .tc := ⟨.hbm, 117, rfl⟩
abbrev main_cst_5 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]
-- ==== CtxAttn.lean ====
abbrev S2x2x4 : Shape := ⟨3, ![2, 2, 4]⟩
abbrev S8192x1536 : Shape := ⟨2, ![8192, 1536]⟩
abbrev S8192x1024 : Shape := ⟨2, ![8192, 1024]⟩
abbrev S16 : Shape := ⟨1, ![16]⟩
abbrev S8192x2048 : Shape := ⟨2, ![8192, 2048]⟩
abbrev S256x1536 : Shape := ⟨2, ![256, 1536]⟩
abbrev S256x1024 : Shape := ⟨2, ![256, 1024]⟩
abbrev S256x2048 : Shape := ⟨2, ![256, 2048]⟩
abbrev S256x128 : Shape := ⟨2, ![256, 128]⟩
abbrev S256x256 : Shape := ⟨2, ![256, 256]⟩
abbrev S1 : Shape := ⟨1, ![1]⟩
abbrev S256x1 : Shape := ⟨2, ![256, 1]⟩
abbrev S256 : Shape := ⟨1, ![256]⟩

abbrev nBuf : Space → Nat
  | .hbm => 7
  | .vmem => 10
  | .smem => 1
  | _ => 0

abbrev bufTy : (tb : Table) → Fin (tcTables nBuf tb) → BufTy
  | .hbm, ⟨0, _⟩ => ⟨S2x2x4, .f32⟩
  | .hbm, ⟨1, _⟩ => ⟨S8192x1536, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S16, .f32⟩
  | .hbm, ⟨6, _⟩ => ⟨S8192x2048, .bf16⟩
  | .local _ .vmem, ⟨0, _⟩ => ⟨S256x1536, .f32⟩
  | .local _ .vmem, ⟨1, _⟩ => ⟨S256x1536, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .bf16⟩
  | .local _ .vmem, ⟨9, _⟩ => ⟨S256x2048, .bf16⟩
  | .local _ .smem, ⟨0, _⟩ => ⟨S16, .f32⟩
  | _, _ => ⟨S2x2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CtxAttnRefIdeal.lean ====
abbrev S2x2x4 : Shape := ⟨3, ![2, 2, 4]⟩
abbrev S8192x1536 : Shape := ⟨2, ![8192, 1536]⟩
abbrev S8192x1024 : Shape := ⟨2, ![8192, 1024]⟩
abbrev S32x256x2x4x128 : Shape := ⟨5, ![32, 256, 2, 4, 128]⟩
abbrev S8192x256 : Shape := ⟨2, ![8192, 256]⟩
abbrev S32x256x2x128 : Shape := ⟨4, ![32, 256, 2, 128]⟩
abbrev S32x256x8x128 : Shape := ⟨4, ![32, 256, 8, 128]⟩
abbrev S1x2x4 : Shape := ⟨3, ![1, 2, 4]⟩
abbrev S2x4 : Shape := ⟨2, ![2, 4]⟩
abbrev S32x2x256x256x4 : Shape := ⟨5, ![32, 2, 256, 256, 4]⟩
abbrev S32x2x4x256x256 : Shape := ⟨5, ![32, 2, 4, 256, 256]⟩
abbrev S_ : Shape := ⟨0, ![]⟩
abbrev S1x2x4x1x1 : Shape := ⟨5, ![1, 2, 4, 1, 1]⟩
abbrev S32x2x4x256 : Shape := ⟨4, ![32, 2, 4, 256]⟩
abbrev S32x2x4x256x1 : Shape := ⟨5, ![32, 2, 4, 256, 1]⟩
abbrev S32x2x128x4x256 : Shape := ⟨5, ![32, 2, 128, 4, 256]⟩
abbrev S32x8x256x256 : Shape := ⟨4, ![32, 8, 256, 256]⟩
abbrev S32x8x256 : Shape := ⟨3, ![32, 8, 256]⟩
abbrev S32x8x256x1 : Shape := ⟨4, ![32, 8, 256, 1]⟩
abbrev S32x8x128x256 : Shape := ⟨4, ![32, 8, 128, 256]⟩
abbrev S8192x2048 : Shape := ⟨2, ![8192, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x2x4, .f32⟩
  | .hbm, ⟨1, _⟩ => ⟨S8192x1536, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S32x256x2x4x128, .f32⟩
  | .hbm, ⟨7, _⟩ => ⟨S8192x256, .f32⟩
  | .hbm, ⟨8, _⟩ => ⟨S32x256x2x128, .f32⟩
  | .hbm, ⟨9, _⟩ => ⟨S8192x256, .f32⟩
  | .hbm, ⟨10, _⟩ => ⟨S32x256x2x128, .f32⟩
  | .hbm, ⟨11, _⟩ => ⟨S32x256x8x128, .f32⟩
  | .hbm, ⟨12, _⟩ => ⟨S32x256x8x128, .f32⟩
  | .hbm, ⟨13, _⟩ => ⟨S32x256x8x128, .f32⟩
  | .hbm, ⟨14, _⟩ => ⟨S1x2x4, .f32⟩
  | .hbm, ⟨15, _⟩ => ⟨S2x4, .f32⟩
  | .hbm, ⟨16, _⟩ => ⟨S32x2x256x256x4, .f32⟩
  | .hbm, ⟨17, _⟩ => ⟨S32x2x4x256x256, .f32⟩
  | .hbm, ⟨18, _⟩ => ⟨S_, .f32⟩
  | .hbm, ⟨19, _⟩ => ⟨S32x2x4x256x256, .f32⟩
  | .hbm, ⟨20, _⟩ => ⟨S32x2x4x256x256, .f32⟩
  | .hbm, ⟨21, _⟩ => ⟨S1x2x4x1x1, .f32⟩
  | .hbm, ⟨22, _⟩ => ⟨S_, .f32⟩
  | .hbm, ⟨23, _⟩ => ⟨S32x2x4x256, .f32⟩
  | .hbm, ⟨24, _⟩ => ⟨S32x2x4x256x1, .f32⟩
  | .hbm, ⟨25, _⟩ => ⟨S32x2x4x256x1, .f32⟩
  | .hbm, ⟨26, _⟩ => ⟨S32x2x4x256x1, .f32⟩
  | .hbm, ⟨27, _⟩ => ⟨S32x2x4x256x256, .f32⟩
  | .hbm, ⟨28, _⟩ => ⟨S32x2x4x256x256, .f32⟩
  | .hbm, ⟨29, _⟩ => ⟨S32x2x4x256x256, .f32⟩
  | .hbm, ⟨30, _⟩ => ⟨S_, .f32⟩
  | .hbm, ⟨31, _⟩ => ⟨S32x2x4x256, .f32⟩
  | .hbm, ⟨32, _⟩ => ⟨S32x2x4x256x1, .f32⟩
  | .hbm, ⟨33, _⟩ => ⟨S32x2x4x256x1, .f32⟩
  | .hbm, ⟨34, _⟩ => ⟨S32x2x4x256x1, .f32⟩
  | .hbm, ⟨35, _⟩ => ⟨S32x2x4x256x1, .f32⟩
  | .hbm, ⟨36, _⟩ => ⟨S32x2x4x256x1, .f32⟩
  | .hbm, ⟨37, _⟩ => ⟨S32x2x4x256x256, .f32⟩
  | .hbm, ⟨38, _⟩ => ⟨S32x2x4x256x256, .f32⟩
  | .hbm, ⟨39, _⟩ => ⟨S32x2x128x4x256, .f32⟩
  | .hbm, ⟨40, _⟩ => ⟨S32x256x2x4x128, .f32⟩
  | .hbm, ⟨41, _⟩ => ⟨S8192x1024, .f32⟩
  | .hbm, ⟨42, _⟩ => ⟨S32x8x256x256, .f32⟩
  | .hbm, ⟨43, _⟩ => ⟨S_, .f32⟩
  | .hbm, ⟨44, _⟩ => ⟨S32x8x256x256, .f32⟩
  | .hbm, ⟨45, _⟩ => ⟨S32x8x256x256, .f32⟩
  | .hbm, ⟨46, _⟩ => ⟨S_, .f32⟩
  | .hbm, ⟨47, _⟩ => ⟨S32x8x256, .f32⟩
  | .hbm, ⟨48, _⟩ => ⟨S_, .f32⟩
  | .hbm, ⟨49, _⟩ => ⟨S32x8x256, .f32⟩
  | .hbm, ⟨50, _⟩ => ⟨S32x8x256, .f32⟩
  | .hbm, ⟨51, _⟩ => ⟨S32x8x256x1, .f32⟩
  | .hbm, ⟨52, _⟩ => ⟨S32x8x256x256, .f32⟩
  | .hbm, ⟨53, _⟩ => ⟨S32x8x256x256, .f32⟩
  | .hbm, ⟨54, _⟩ => ⟨S32x8x256x256, .f32⟩
  | .hbm, ⟨55, _⟩ => ⟨S_, .f32⟩
  | .hbm, ⟨56, _⟩ => ⟨S32x8x256, .f32⟩
  | .hbm, ⟨57, _⟩ => ⟨S32x8x256x1, .f32⟩
  | .hbm, ⟨58, _⟩ => ⟨S32x8x256x256, .f32⟩
  | .hbm, ⟨59, _⟩ => ⟨S32x8x256x256, .f32⟩
  | .hbm, ⟨60, _⟩ => ⟨S32x8x128x256, .f32⟩
  | .hbm, ⟨61, _⟩ => ⟨S32x256x8x128, .f32⟩
  | .hbm, ⟨62, _⟩ => ⟨S8192x1024, .f32⟩
  | .hbm, ⟨63, _⟩ => ⟨S8192x2048, .f32⟩
  | .hbm, ⟨64, _⟩ => ⟨S8192x2048, .bf16⟩
  | _, _ => ⟨S2x2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Proof.ExpertGateUp.lean ====
module

public import proofs.«01_k».proof.Defs
public import proofs.«01_k».proof.Proof.Gen.GateUpIdeal.Value
public import proofs.«01_k».proof.Proof.Gen.GateUpRefIdeal.Run
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)

namespace Cert.GateUpRefIdeal.Value
open Cert.GateUpRefIdeal Cert.GateUpRefIdeal.Gen

/-- The reference of the experts' gated product: silu of the first product times the second one. -/
def REF (x : FVec Ideal S16x3072x2048 .bf16) (wg wu : FVec Ideal S4x16x2048x2048 .f32) : FVec Ideal S16x3072x2048 .bf16 :=
  truncf .bf16 (mulf (mulf (Host.dotGeneral dot_S16x3072x2048_S16x2048x2048_S16x3072x2048_2_1_1_2_0_0 none (extf .f32 x bitsLt_bf16_f32) (shapeCast _ (extractStridedSlice S1x16x2048x2048 ![1, 0, 0, 0] wg slices_S4x16x2048x2048_S1x16x2048x2048_1_0_0_0) shapeCasts_S1x16x2048x2048_S16x2048x2048)) (Host.divf (broadcastInDim S16x3072x2048 ![] bcast_S_S16x3072x2048 (constant S_ .f32 0x3F800000#32)) (addf (broadcastInDim S16x3072x2048 ![] bcast_S_S16x3072x2048 (constant S_ .f32 0x3F800000#32)) (Host.exp (Host.negf (Host.dotGeneral dot_S16x3072x2048_S16x2048x2048_S16x3072x2048_2_1_1_2_0_0 none (extf .f32 x bitsLt_bf16_f32) (shapeCast _ (extractStridedSlice S1x16x2048x2048 ![1, 0, 0, 0] wg slices_S4x16x2048x2048_S1x16x2048x2048_1_0_0_0) shapeCasts_S1x16x2048x2048_S16x2048x2048))))))) (Host.dotGeneral dot_S16x3072x2048_S16x2048x2048_S16x3072x2048_2_1_1_2_0_0 none (extf .f32 x bitsLt_bf16_f32) (shapeCast _ (extractStridedSlice S1x16x2048x2048 ![1, 0, 0, 0] wu slices_S4x16x2048x2048_S1x16x2048x2048_1_0_0_0) shapeCasts_S1x16x2048x2048_S16x2048x2048))) bitsLt_bf16_f32

end Cert.GateUpRefIdeal.Value

namespace Cert.GateUpIdeal.Value
open Cert.GateUpIdeal Cert.GateUpIdeal.Gen

variable (m : (ℓ : Loc nD τ sig) → Buf (Elt Ideal) ℓ)

/-- Which block each window shows at a grid point: expert `t / 8`, column tile `t % 8`. -/
theorem idx : ∀ t : Fin cfg0.N, win0_0.index t = ![t.val / 8, 0, 0] ∧ win0_1.index t = ![1, t.val / 8, 0, t.val % 8]
    ∧ win0_2.index t = ![1, t.val / 8, 0, t.val % 8] ∧ win0_3.index t = ![t.val / 8, 0, t.val % 8] :=
  (by decide +kernel : ∀ t : Fin grid0.N, _)

/-- The array the call leaves is the reference's term over its arguments. -/
theorem final (c : Dev nD) : (dats m 0 c).arrAt 3 (cfgs 0).N
    = Cert.GateUpRefIdeal.Value.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, Cert.GateUpRefIdeal.Value.REF, Ideal.logistic]
  blk_point [iblk, V, idx t]

end Cert.GateUpIdeal.Value

namespace Cert.Proof

/-- The experts' gated product: the kernel's call and the reference run and end with the same array. -/
theorem algebraic_gate_up : algebraic_GateUpIdeal_GateUpRefIdeal (hGateUpIdeal := Cert.GateUpIdeal.Gen.facts) (hGateUpRefIdeal := Cert.GateUpRefIdeal.Gen.facts) := by
  pair_intro
  · run_from Cert.GateUpIdeal.Gen.run_main m g
  · run_from Cert.GateUpRefIdeal.Value.run m' g'
    exact (Cert.GateUpIdeal.Value.final m c).symm

end Cert.Proof
-- ==== Proof.ExpertDown.lean ====
module

public import proofs.«01_k».proof.Defs
public import proofs.«01_k».proof.Proof.Gen.DownIdeal.Value
public import proofs.«01_k».proof.Proof.Gen.DownRefIdeal.Run
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)

namespace Cert.DownRefIdeal.Value
open Cert.DownRefIdeal Cert.DownRefIdeal.Gen

/-- The reference of the experts' second product: each expert's rows times its matrix, times the row's gate. -/
def REF (h : FVec Ideal S16x3072x2048 .bf16) (w : FVec Ideal S4x16x2048x2048 .f32) (g : FVec Ideal S16x3072x128 .f32) : FVec Ideal S16x3072x2048 .bf16 :=
  truncf .bf16 (mulf (Host.dotGeneral dot_S16x3072x2048_S16x2048x2048_S16x3072x2048_2_1_1_2_0_0 none (extf .f32 h bitsLt_bf16_f32) (shapeCast _ (extractStridedSlice S1x16x2048x2048 ![1, 0, 0, 0] w slices_S4x16x2048x2048_S1x16x2048x2048_1_0_0_0) shapeCasts_S1x16x2048x2048_S16x2048x2048)) (broadcastInDim S16x3072x2048 ![0, 1, 2] bcast_S16x3072x1_S16x3072x2048_0_1_2 (extractStridedSlice S16x3072x1 ![0, 0, 0] g slices_S16x3072x128_S16x3072x1_0_0_0))) bitsLt_bf16_f32

end Cert.DownRefIdeal.Value

namespace Cert.DownIdeal.Value
open Cert.DownIdeal Cert.DownIdeal.Gen

variable (m : (ℓ : Loc nD τ sig) → Buf (Elt Ideal) ℓ)

/-- Which block each window shows at a grid point: expert `t / 4`, column tile `t % 4`. -/
theorem idx : ∀ t : Fin cfg0.N, win0_0.index t = ![t.val / 4, 0, 0] ∧ win0_1.index t = ![1, t.val / 4, 0, t.val % 4]
    ∧ win0_2.index t = ![t.val / 4, 0, 0] ∧ win0_3.index t = ![t.val / 4, 0, t.val % 4] :=
  (by decide +kernel : ∀ t : Fin grid0.N, _)

/-- The array the call leaves is the reference's term over its arguments. -/
theorem final (c : Dev nD) : (dats m 0 c).arrAt 3 (cfgs 0).N
    = Cert.DownRefIdeal.Value.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, Cert.DownRefIdeal.Value.REF]
  blk_point [iblk, V, idx t]

end Cert.DownIdeal.Value

namespace Cert.Proof

/-- The experts' second product: the kernel's call and the reference run and end with the same array. -/
theorem algebraic_down : algebraic_DownIdeal_DownRefIdeal (hDownIdeal := Cert.DownIdeal.Gen.facts) (hDownRefIdeal := Cert.DownRefIdeal.Gen.facts) := by
  pair_intro
  · run_from Cert.DownIdeal.Gen.run_main m g
  · run_from Cert.DownRefIdeal.Value.run m' g'
    exact (Cert.DownIdeal.Value.final m c).symm

end Cert.Proof
-- ==== Proof.DiffMath.lean ====
module

public import Idealize.ShloMosaic.Lib.Pipeline.ValueKit

@[expose] public section

noncomputable section
open Idealize.ShloMosaic

namespace Cert.Diff

/-- The bit pattern of minus infinity. -/
theorem negInf : Ideal.ofBits .f32 0xFF800000#32 = ⊥ := by
  simp [Ideal.ofBits, Ideal.ieee]

/-- The bit pattern of 128. -/
theorem bits128 : Ideal.ofBits .f32 0x43000000#32 = ((128 : ℝ) : EReal) := by
  simp [Ideal.ofBits, Ideal.ieee, -EReal.coe_mul]
  norm_num

/-- The bit pattern of 2. -/
theorem bits2 : Ideal.ofBits .f32 0x40000000#32 = ((2 : ℝ) : EReal) := by
  simp [Ideal.ofBits, Ideal.ieee, -EReal.coe_mul]
  norm_num

/-- The greatest of two rows of scores. -/
def top {n n' : ℕ} (a : Fin n → EReal) (b : Fin n' → EReal) : EReal :=
  max (Finset.univ.fold max (Ideal.ofBits .f32 0xFF800000#32) a) (Finset.univ.fold max (Ideal.ofBits .f32 0xFF800000#32) b)

/-- The sum of a softmax's numerators, the base being two, over two rows of scores. -/
def den {n n' : ℕ} (a : Fin n → EReal) (b : Fin n' → EReal) : EReal :=
  (∑ j, Ideal.exp2 (a j - top a b)) + ∑ j, Ideal.exp2 (b j - top a b)

/-- The greatest of a nonempty row of real scores is one of them. -/
theorem fold_max_coe {n : ℕ} (hn : 0 < n) (φ : Fin n → ℝ) :
    ∃ j₀, (∀ j, φ j ≤ φ j₀) ∧ Finset.univ.fold max (⊥ : EReal) (fun j => (φ j : EReal)) = (φ j₀ : EReal) := by
  haveI : Nonempty (Fin n) := ⟨⟨0, hn⟩⟩
  obtain ⟨j₀, -, h⟩ := Finset.exists_max_image Finset.univ φ Finset.univ_nonempty
  refine ⟨j₀, fun j => h j (Finset.mem_univ j), le_antisymm ?_ ?_⟩
  · exact Finset.fold_max_le _ |>.mpr ⟨bot_le, fun j hj => EReal.coe_le_coe_iff.mpr (h j hj)⟩
  · exact Finset.le_fold_max _ |>.mpr (Or.inr ⟨j₀, Finset.mem_univ _, le_rfl⟩)

/-- A fold of `max` is what it is bounded by and attains. -/
theorem fold_max_eq {n : ℕ} (f : Fin n → EReal) (M : EReal) (hle : ∀ j, f j ≤ M) (j₀ : Fin n) (h : f j₀ = M) :
    Finset.univ.fold max (⊥ : EReal) f = M :=
  le_antisymm (Finset.fold_max_le _ |>.mpr ⟨bot_le, fun j _ => hle j⟩)
    (Finset.le_fold_max _ |>.mpr (Or.inr ⟨j₀, Finset.mem_univ _, h.ge⟩))

/-- Over real scores the greatest is real, and bounds and is one of the scores. -/
theorem top_coe {n n' : ℕ} (hn : 0 < n) (hn' : 0 < n') (α : Fin n → ℝ) (β : Fin n' → ℝ) :
    ∃ M : ℝ, top (fun j => (α j : EReal)) (fun j => (β j : EReal)) = (M : EReal)
      ∧ (∀ j, α j ≤ M) ∧ (∀ j, β j ≤ M) ∧ ((∃ j, α j = M) ∨ ∃ j, β j = M) := by
  obtain ⟨j₀, ha, ea⟩ := fold_max_coe hn α
  obtain ⟨j₁, hb, eb⟩ := fold_max_coe hn' β
  refine ⟨max (α j₀) (β j₁), ?_, fun j => (ha j).trans (le_max_left _ _), fun j => (hb j).trans (le_max_right _ _), ?_⟩
  · unfold top
    rw [negInf, ea, eb]
    exact (EReal.coe_strictMono.monotone.map_max).symm
  · rcases le_total (β j₁) (α j₀) with h | h
    · exact Or.inl ⟨j₀, (max_eq_left h).symm⟩
    · exact Or.inr ⟨j₁, (max_eq_right h).symm⟩

/-- The exponential of scores multiplied by `log 2` is the power of two. -/
theorem exp_log2 (x M : ℝ) : Ideal.exp (((x * Real.log 2 : ℝ) : EReal) - ((M * Real.log 2 : ℝ) : EReal))
    = Ideal.exp2 ((x : EReal) - (M : EReal)) := by
  rw [← EReal.coe_sub, ← EReal.coe_sub]
  show ((Real.exp _ : ℝ) : EReal) = ((Real.rpow 2 _ : ℝ) : EReal)
  congr 1
  show _ = (2 : ℝ) ^ (x - M)
  rw [Real.rpow_def_of_pos (by norm_num : (0 : ℝ) < 2)]
  congr 1
  ring

/-- A power of two with a real exponent is positive. -/
theorem exp2_pos (x : ℝ) : 0 < Ideal.exp2 (x : EReal) := by
  show (0 : EReal) < ((Real.rpow 2 x : ℝ) : EReal)
  exact EReal.coe_pos.mpr (Real.rpow_pos_of_pos (by norm_num) x)

/-- The sum of the numerators is not zero. -/
theorem den_ne_zero {n n' : ℕ} (hn : 0 < n) (hn' : 0 < n') (α : Fin n → ℝ) (β : Fin n' → ℝ) :
    den (fun j => (α j : EReal)) (fun j => (β j : EReal)) ≠ 0 := by
  obtain ⟨M, hM, -, -, -⟩ := top_coe hn hn' α β
  unfold den
  rw [hM]
  refine ne_of_gt (lt_of_lt_of_le ?_ (le_add_of_nonneg_right ?_))
  · refine lt_of_lt_of_le ?_ (Finset.single_le_sum (f := fun j => Ideal.exp2 ((α j : EReal) - M)) (fun j _ => ?_) (Finset.mem_univ (⟨0, hn⟩ : Fin n)))
    · rw [← EReal.coe_sub]; exact exp2_pos _
    · show (0 : EReal) ≤ Ideal.exp2 ((α j : EReal) - M)
      rw [← EReal.coe_sub]; exact (exp2_pos _).le
  · refine Finset.sum_nonneg fun j _ => ?_
    rw [← EReal.coe_sub]; exact (exp2_pos _).le

/-- Dividing is multiplying by the quotient of one. -/
theorem div_eq_mul {e d : EReal} (h : d ≠ 0) : Ideal.div e d = e * Ideal.div 1 d := by
  unfold Ideal.div
  rw [if_neg h, if_neg h, one_mul]

/-- A softmax over one row of `n + n'` scores, each a real number times `log 2`, written with `exp`: its numerators are the powers of two
    less the greatest, and their sum is the two rows' sums added. -/
theorem softmax_eq {n n' : ℕ} (hn : 0 < n) (hn' : 0 < n') (α : Fin n → ℝ) (β : Fin n' → ℝ) (s : Fin (n + n') → EReal)
    (ha : ∀ j : Fin n, s (Fin.castAdd n' j) = ((α j * Real.log 2 : ℝ) : EReal))
    (hb : ∀ j : Fin n', s (Fin.natAdd n j) = ((β j * Real.log 2 : ℝ) : EReal)) :
    (∀ j : Fin n, Ideal.exp (s (Fin.castAdd n' j) - Finset.univ.fold max (⊥ : EReal) s)
        = Ideal.exp2 ((α j : EReal) - top (fun j => (α j : EReal)) (fun j => (β j : EReal))))
    ∧ (∀ j : Fin n', Ideal.exp (s (Fin.natAdd n j) - Finset.univ.fold max (⊥ : EReal) s)
        = Ideal.exp2 ((β j : EReal) - top (fun j => (α j : EReal)) (fun j => (β j : EReal))))
    ∧ (∑ x, Ideal.exp (s x - Finset.univ.fold max (⊥ : EReal) s)) = den (fun j => (α j : EReal)) (fun j => (β j : EReal)) := by
  obtain ⟨M, hM, hα, hβ, hatt⟩ := top_coe hn hn' α β
  have hl : (0 : ℝ) ≤ Real.log 2 := Real.log_nonneg (by norm_num)
  have hmax : Finset.univ.fold max (⊥ : EReal) s = ((M * Real.log 2 : ℝ) : EReal) := by
    have hle : ∀ j, s j ≤ ((M * Real.log 2 : ℝ) : EReal) := fun j => by
      refine Fin.addCases (fun j => ?_) (fun j => ?_) j
      · rw [ha]; exact EReal.coe_le_coe_iff.mpr (mul_le_mul_of_nonneg_right (hα j) hl)
      · rw [hb]; exact EReal.coe_le_coe_iff.mpr (mul_le_mul_of_nonneg_right (hβ j) hl)
    rcases hatt with ⟨j, hj⟩ | ⟨j, hj⟩
    · exact fold_max_eq s _ hle (Fin.castAdd n' j) (by rw [ha, hj])
    · exact fold_max_eq s _ hle (Fin.natAdd n j) (by rw [hb, hj])
  have h1 : ∀ j : Fin n, Ideal.exp (s (Fin.castAdd n' j) - ((M * Real.log 2 : ℝ) : EReal)) = Ideal.exp2 ((α j : EReal) - M) := fun j => by
    rw [ha]; exact exp_log2 _ _
  have h2 : ∀ j : Fin n', Ideal.exp (s (Fin.natAdd n j) - ((M * Real.log 2 : ℝ) : EReal)) = Ideal.exp2 ((β j : EReal) - M) := fun j => by
    rw [hb]; exact exp_log2 _ _
  unfold den
  rw [hmax, hM]
  refine ⟨h1, h2, ?_⟩
  rw [Fin.sum_univ_add]
  simp only [h1, h2]

/-- A sum of real numbers is real. -/
theorem sum_coe {n : ℕ} (f : Fin n → ℝ) : ((∑ x, f x : ℝ) : EReal) = ∑ x, (f x : EReal) :=
  map_sum (⟨⟨fun r : ℝ => (r : EReal), EReal.coe_zero⟩, EReal.coe_add⟩ : ℝ →+ EReal) f Finset.univ

/-- A product of real rows is real. -/
theorem dot_coe {n : ℕ} (q k : Fin n → ℝ) : (∑ x, (q x : EReal) * (k x : EReal)) = ((∑ x, q x * k x : ℝ) : EReal) := by
  rw [sum_coe]
  exact Finset.sum_congr rfl fun x _ => (EReal.coe_mul _ _).symm

/-- The reference's score: the query multiplied by `√128 · log 2`, times the key, over `√128`, is the product times `log 2`. -/
theorem score_eq {n : ℕ} (q k : Fin n → ℝ) :
    Ideal.div (∑ x, (q x : EReal) * (Ideal.sqrt (Ideal.ofBits .f32 0x43000000#32) * Ideal.log (Ideal.ofBits .f32 0x40000000#32)) * (k x : EReal))
        (Ideal.sqrt (Ideal.ofBits .f32 0x43000000#32)) = (((∑ x, q x * k x) * Real.log 2 : ℝ) : EReal) := by
  have hs : Ideal.sqrt (Ideal.ofBits .f32 0x43000000#32) = ((Real.sqrt 128 : ℝ) : EReal) := by
    rw [bits128]
    show (if (128 : ℝ) < 0 then (⊥ : EReal) else (Real.sqrt 128 : EReal)) = _
    rw [if_neg (by norm_num)]
  have hl : Ideal.log (Ideal.ofBits .f32 0x40000000#32) = ((Real.log 2 : ℝ) : EReal) := by
    rw [bits2]
    show (if (2 : ℝ) ≤ 0 then (⊥ : EReal) else (Real.log 2 : EReal)) = _
    rw [if_neg (by norm_num)]
  have h0 : Real.sqrt 128 ≠ 0 := (Real.sqrt_pos.mpr (by norm_num)).ne'
  rw [hs, hl]
  have e : (∑ x, (q x : EReal) * (((Real.sqrt 128 : ℝ) : EReal) * ((Real.log 2 : ℝ) : EReal)) * (k x : EReal))
      = ((∑ x, q x * (Real.sqrt 128 * Real.log 2) * k x : ℝ) : EReal) := by
    rw [sum_coe]
    exact Finset.sum_congr rfl fun x _ => by rw [EReal.coe_mul, EReal.coe_mul, EReal.coe_mul]
  rw [e]
  unfold Ideal.div
  rw [if_neg (by exact_mod_cast h0), ← EReal.coe_inv, ← EReal.coe_mul]
  congr 1
  rw [Finset.sum_mul, Finset.sum_mul]
  refine Finset.sum_congr rfl fun x _ => ?_
  field_simp

end Cert.Diff
-- ==== Proof.DiffStep.lean ====
module

public import proofs.«01_k».proof.Defs
public import proofs.«01_k».proof.Proof.DiffMath
public import proofs.«01_k».proof.Proof.Gen.DiffAttnIdeal.Value
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.DiffAttnIdeal.Value
open Cert.DiffAttnIdeal Cert.DiffAttnIdeal.Gen Cert.Diff

/-! ## What one grid point computes, as functions of its blocks -/

/-- Lane `x` of half `d` of a head's 256 lanes. -/
def lane (d : Fin 2) (x : Fin 128) : Fin 256 := ⟨d.val * 128 + x.val, by omega⟩

/-- A block's scores against the latent keys, half `d`, row `r`. -/
def sa (Q : Vec Ideal S256x256 .bf16) (K : Vec Ideal S4096x256 .bf16) (d : Fin 2) (r : Fin 256) (j : Fin 4096) : EReal :=
  ∑ x : Fin 128, Q (ix2 r (lane d x)) * K (ix2 j (lane d x))

/-- A block's scores against the cached keys, half `d`, row `r`. -/
def sb (Q : Vec Ideal S256x256 .bf16) (C : Vec Ideal S1x1x512x256 .f32) (d : Fin 2) (r : Fin 256) (j : Fin 512) : EReal :=
  ∑ x : Fin 128, Q (ix2 r (lane d x)) * C (ix4 0 0 j (lane d x))

/-- The latent keys' numerators of both halves. -/
def elG (Q : Vec Ideal S256x256 .bf16) (K : Vec Ideal S4096x256 .bf16) (C : Vec Ideal S1x1x512x256 .f32) : Vec Ideal S2x256x4096 .f32 :=
  fun y => Ideal.exp2 (sa Q K (y 0) (y 1) (y 2) - top (sa Q K (y 0) (y 1)) (sb Q C (y 0) (y 1)))

/-- The cached keys' numerators of both halves. -/
def ecG (Q : Vec Ideal S256x256 .bf16) (K : Vec Ideal S4096x256 .bf16) (C : Vec Ideal S1x1x512x256 .f32) : Vec Ideal S2x256x512 .f32 :=
  fun y => Ideal.exp2 (sb Q C (y 0) (y 1) (y 2) - top (sa Q K (y 0) (y 1)) (sb Q C (y 0) (y 1)))

/-- The weight of the second softmax, from the block of its parameters. -/
def lamG (L : Vec Ideal S1x4x128 .f32) : EReal :=
  Ideal.exp (∑ x, L (ix3 0 0 x) * L (ix3 0 1 x)) - Ideal.exp (∑ x, L (ix3 0 2 x) * L (ix3 0 3 x)) + Ideal.ofBits .f32 0x3EB60549#32

/-- The coefficients of both halves: one over the sum of the numerators, the second half's times the weight. -/
def cfG (L : Vec Ideal S1x4x128 .f32) (Q : Vec Ideal S256x256 .bf16) (K : Vec Ideal S4096x256 .bf16) (C : Vec Ideal S1x1x512x256 .f32) : Vec Ideal S2x256x128 .f32 :=
  fun y => if (y 0).val = 0 then Ideal.div 1 (den (sa Q K (y 0) (y 1)) (sb Q C (y 0) (y 1)))
    else Ideal.div 1 (den (sa Q K (y 0) (y 1)) (sb Q C (y 0) (y 1))) * lamG L

/-- The attention of one row and lane, from the numerators and coefficients of both halves. -/
def attn (el : Vec Ideal S2x256x4096 .f32) (ec : Vec Ideal S2x256x512 .f32) (cf : Vec Ideal S2x256x128 .f32) (V : Vec Ideal S4096x256 .bf16)
    (C : Vec Ideal S1x1x512x256 .f32) (r e : Fin 256) : EReal :=
  (∑ x, (el (ix3 0 r x) * cf (ix3 0 r 0) - el (ix3 1 r x) * cf (ix3 1 r 0)) * V (ix2 x e))
    + ∑ x, (ec (ix3 0 r x) * cf (ix3 0 r 0) - ec (ix3 1 r x) * cf (ix3 1 r 0)) * C (ix4 0 0 x e)

/-- A head's row divided by its root mean square, times the gain and the constant. -/
def headNorm (o : Fin 256 → EReal) (g : EReal) (e : Fin 256) : EReal :=
  o e * Ideal.rsqrt (Ideal.div (∑ x, o x * o x) (Ideal.ofBits .f32 0x43800000#32) + Ideal.ofBits .f32 0x3727C5AC#32) * g * Ideal.ofBits .f32 0x3F24FD5C#32

/-! ## The printed values at an index -/

section Pay

variable (q : Vec Ideal S256x128 .bf16) (k : Vec Ideal S4096x128 .bf16) (ck : Vec Ideal S1x1x512x128 .f32)

/-- One half's scores against the latent keys. -/
theorem pay8_at (r : Fin 256) (j : Fin 4096) : k0_pay8 q k (ix2 r j) = ∑ x, q (ix2 r x) * k (ix2 j x) := by
  pointwise [k0_pay8]

/-- One half's scores against the cached keys. -/
theorem pay9_at (r : Fin 256) (j : Fin 512) : k0_pay9 q ck (ix2 r j) = ∑ x, q (ix2 r x) * ck (ix4 0 0 j x) := by
  pointwise [k0_pay9]

/-- One half's greatest score. -/
theorem pay10_at (r : Fin 256) : k0_pay10 q k ck (ix2 r 0) = top (fun j => k0_pay8 q k (ix2 r j)) (fun j => k0_pay9 q ck (ix2 r j)) := by
  unfold k0_pay10 top
  generalize k0_pay8 q k = A
  generalize k0_pay9 q ck = B
  pointwise

/-- One half's numerators of the latent keys. -/
theorem pay11_at (r : Fin 256) (j : Fin 4096) : k0_pay11 q k ck (ix2 r j)
    = Ideal.exp2 (k0_pay8 q k (ix2 r j) - top (fun j => k0_pay8 q k (ix2 r j)) (fun j => k0_pay9 q ck (ix2 r j))) := by
  rw [← pay10_at q k ck r]
  unfold k0_pay11
  generalize k0_pay8 q k = A
  generalize k0_pay10 q k ck = B
  pointwise
  rfl

/-- One half's numerators of the cached keys. -/
theorem pay12_at (r : Fin 256) (j : Fin 512) : k0_pay12 q k ck (ix2 r j)
    = Ideal.exp2 (k0_pay9 q ck (ix2 r j) - top (fun j => k0_pay8 q k (ix2 r j)) (fun j => k0_pay9 q ck (ix2 r j))) := by
  rw [← pay10_at q k ck r]
  unfold k0_pay12
  generalize k0_pay9 q ck = A
  generalize k0_pay10 q k ck = B
  pointwise
  rfl

/-- One half's sum of numerators. -/
theorem pay13_at (r : Fin 256) : k0_pay13 q k ck (ix2 r 0) = den (fun j => k0_pay8 q k (ix2 r j)) (fun j => k0_pay9 q ck (ix2 r j)) := by
  have e : k0_pay13 q k ck (ix2 r 0) = (∑ x, k0_pay11 q k ck (ix2 r x)) + ∑ x, k0_pay12 q k ck (ix2 r x) := by
    unfold k0_pay13
    generalize k0_pay11 q k ck = A
    generalize k0_pay12 q k ck = B
    pointwise
  rw [e]
  unfold den
  simp only [pay11_at, pay12_at]

/-- The first half's coefficient. -/
theorem pay16_at (v : FVec Ideal S256x1 .f32) (r : Fin 256) (l : Fin 128) : k0_pay16 v (ix3 0 r l) = Ideal.div 1 (v (ix2 r 0)) := by
  pointwise [k0_pay16]

/-- The second half's coefficient. -/
theorem pay30_at (lam : FVec Ideal S1x1 .f32) (r : Fin 256) (l : Fin 128) :
    k0_pay30 lam q k (constant S256x4096 .f32 0x00000000#32) ck (ix3 0 r l) = Ideal.div 1 (k0_pay13 q k ck (ix2 r 0)) * lam (ix2 0 0) := by
  have e : k0_pay13 q k ck (ix2 r 0) = (∑ x, k0_pay11 q k ck (ix2 r x)) + ∑ x, k0_pay12 q k ck (ix2 r x) := by
    unfold k0_pay13
    generalize k0_pay11 q k ck = A
    generalize k0_pay12 q k ck = B
    pointwise
  have h1 : k0_pay26 q k (constant S256x4096 .f32 0x00000000#32) ck = k0_pay11 q k ck := rfl
  have h2 : k0_pay27 q k (constant S256x4096 .f32 0x00000000#32) ck = k0_pay12 q k ck := rfl
  rw [e]
  unfold k0_pay30
  rw [h1, h2]
  generalize k0_pay11 q k ck = A
  generalize k0_pay12 q k ck = B
  pointwise

/-- The weight of the second softmax. -/
theorem pay7_at (L : Vec Ideal S1x4x128 .f32) : k0_pay7 L (ix2 0 0) = lamG L := by
  pointwise [k0_pay7, lamG]

end Pay

/-- The output block, from the two halves of the numerators and the coefficients. -/
theorem pay22_at (v82 v85 : Vec Ideal S1x256x128 .f32) (v88 v92 : Vec Ideal S1x256x4096 .f32) (v98 v102 : Vec Ideal S1x256x512 .f32)
    (v108 : Vec Ideal S4096x256 .bf16) (v110 : Vec Ideal S1x1x512x256 .f32) (v125 : Vec Ideal S1x1x256 .f32) (r e : Fin 256) :
    k0_pay22 (k0_pay18 v85) (k0_pay19 v82 v85 v88 v92) (k0_pay20 v98) (k0_pay21 v82) v102 v108 v110 v125 (ix2 r e)
      = headNorm (fun e => (∑ x, (v88 (ix3 0 r x) * v82 (ix3 0 r 0) - v92 (ix3 0 r x) * v85 (ix3 0 r 0)) * v108 (ix2 x e))
          + ∑ x, (v98 (ix3 0 r x) * v82 (ix3 0 r 0) - v102 (ix3 0 r x) * v85 (ix3 0 r 0)) * v110 (ix4 0 0 x e)) (v125 (ix3 0 0 e)) e := by
  pointwise [k0_pay22, k0_pay18, k0_pay19, k0_pay17, k0_pay20, k0_pay21, headNorm]

/-! ## One half's stored values against the two-half arrays -/

/-- An index of one half is that half's row and column. -/
theorem idx_one {n : ℕ} (x : (⟨3, ![1, 256, n]⟩ : Shape).Idx) : ∃ (r : Fin 256) (j : Fin n), x = ix3 0 r j := by
  refine ⟨x 1, x 2, ?_⟩
  funext a
  match a with
  | ⟨0, _⟩ => exact Subsingleton.elim (α := Fin 1) _ _
  | ⟨1, _⟩ => rfl
  | ⟨2, _⟩ => rfl

/-- Storing one half's latent numerators changes no value. -/
theorem pay14_at (A : FVec Ideal S256x4096 .f32) (r : Fin 256) (j : Fin 4096) : k0_pay14 A (ix3 0 r j) = A (ix2 r j) := by
  pointwise [k0_pay14]

/-- Storing one half's cached numerators changes no value. -/
theorem pay15_at (A : FVec Ideal S256x512 .f32) (r : Fin 256) (j : Fin 512) : k0_pay15 A (ix3 0 r j) = A (ix2 r j) := by
  pointwise [k0_pay15]

section Piece

variable (Q : Vec Ideal S256x256 .bf16) (K : Vec Ideal S4096x256 .bf16) (C : Vec Ideal S1x1x512x256 .f32) (L : Vec Ideal S1x4x128 .f32) (d : Fin 2)
  (q : Vec Ideal S256x128 .bf16) (k : Vec Ideal S4096x128 .bf16) (ck : Vec Ideal S1x1x512x128 .f32)
  (hq : ∀ (r : Fin 256) (x : Fin 128), q (ix2 r x) = Q (ix2 r (lane d x)))
  (hk : ∀ (j : Fin 4096) (x : Fin 128), k (ix2 j x) = K (ix2 j (lane d x)))
  (hc : ∀ (j : Fin 512) (x : Fin 128), ck (ix4 0 0 j x) = C (ix4 0 0 j (lane d x)))

include hq hk in
/-- Half `d`'s latent scores. -/
theorem sa_eq (r : Fin 256) : (fun j => k0_pay8 q k (ix2 r j)) = sa Q K d r := by
  funext j
  rw [pay8_at]
  exact Finset.sum_congr rfl fun x _ => by rw [hq, hk]

include hq hc in
/-- Half `d`'s cached scores. -/
theorem sb_eq (r : Fin 256) : (fun j => k0_pay9 q ck (ix2 r j)) = sb Q C d r := by
  funext j
  rw [pay9_at]
  exact Finset.sum_congr rfl fun x _ => by rw [hq, hc]

include hq hk hc in
/-- Half `d`'s stored latent numerators. -/
theorem el_piece (x : S1x256x4096.Idx) (y : S2x256x4096.Idx) (h0 : (y 0 : ℕ) = d.val + (x 0 : ℕ)) (h1 : (y 1 : ℕ) = (x 1 : ℕ)) (h2 : (y 2 : ℕ) = (x 2 : ℕ)) :
    k0_pay14 (k0_pay11 q k ck) x = elG Q K C y := by
  obtain ⟨r, j, rfl⟩ := idx_one x
  have y0 : y 0 = d := Fin.ext h0
  have y1 : y 1 = r := Fin.ext h1
  have y2 : y 2 = j := Fin.ext h2
  rw [pay14_at, pay11_at, sa_eq Q K d q k hq hk, sb_eq Q C d q ck hq hc]
  unfold elG
  rw [y0, y1, y2, ← sa_eq Q K d q k hq hk]

include hq hk hc in
/-- Half `d`'s stored cached numerators. -/
theorem ec_piece (x : S1x256x512.Idx) (y : S2x256x512.Idx) (h0 : (y 0 : ℕ) = d.val + (x 0 : ℕ)) (h1 : (y 1 : ℕ) = (x 1 : ℕ)) (h2 : (y 2 : ℕ) = (x 2 : ℕ)) :
    k0_pay15 (k0_pay12 q k ck) x = ecG Q K C y := by
  obtain ⟨r, j, rfl⟩ := idx_one x
  have y0 : y 0 = d := Fin.ext h0
  have y1 : y 1 = r := Fin.ext h1
  have y2 : y 2 = j := Fin.ext h2
  rw [pay15_at, pay12_at, sa_eq Q K d q k hq hk, sb_eq Q C d q ck hq hc]
  unfold ecG
  rw [y0, y1, y2, ← sb_eq Q C d q ck hq hc]

include hq hk hc in
/-- The first half's stored coefficients. -/
theorem cf_piece0 (hd : d = 0) (x : S1x256x128.Idx) (y : S2x256x128.Idx) (h0 : (y 0 : ℕ) = 0 + (x 0 : ℕ)) (h1 : (y 1 : ℕ) = (x 1 : ℕ)) :
    k0_pay16 (k0_pay13 q k ck) x = cfG L Q K C y := by
  obtain ⟨r, j, rfl⟩ := idx_one x
  have y0 : y 0 = d := Fin.ext (by rw [hd]; exact h0)
  have y1 : y 1 = r := Fin.ext h1
  rw [pay16_at, pay13_at, sa_eq Q K d q k hq hk, sb_eq Q C d q ck hq hc]
  unfold cfG
  rw [y0, y1, if_pos (by rw [hd]; rfl)]

include hq hk hc in
/-- The second half's stored coefficients. -/
theorem cf_piece1 (hd : d = 1) (x : S1x256x128.Idx) (y : S2x256x128.Idx) (h0 : (y 0 : ℕ) = 1 + (x 0 : ℕ)) (h1 : (y 1 : ℕ) = (x 1 : ℕ)) :
    k0_pay30 (k0_pay7 L) q k (constant S256x4096 .f32 0x00000000#32) ck x = cfG L Q K C y := by
  obtain ⟨r, j, rfl⟩ := idx_one x
  have y0 : y 0 = d := Fin.ext (by rw [hd]; exact h0)
  have y1 : y 1 = r := Fin.ext h1
  rw [pay30_at, pay13_at, pay7_at, sa_eq Q K d q k hq hk, sb_eq Q C d q ck hq hc]
  unfold cfG
  rw [y0, y1, if_neg (by rw [hd]; decide)]

end Piece

end Cert.DiffAttnIdeal.Value
-- ==== Proof.DiffSlot.lean ====
module

public import proofs.«01_k».proof.Proof.DiffStep

@[expose] public section

set_option maxRecDepth 16384
noncomputable section
open Idealize.ShloMosaic Idealize.ShloMosaic.TcCoe Idealize.SL.Sem
open Idealize.ShloMosaic.Pipeline (Dat)

namespace Cert.DiffAttnIdeal.Value
open Cert.DiffAttnIdeal Cert.DiffAttnIdeal.Gen Cert.Diff

/-! ## The odd step's printed values are the even step's -/

section Same

variable (q : Vec Ideal S256x128 .bf16) (k : Vec Ideal S4096x128 .bf16) (ck : Vec Ideal S1x1x512x128 .f32) (L : Vec Ideal S1x4x128 .f32)

/-- The second half's stored latent numerators, even step. -/
theorem pay28_eq : k0_pay28 q k (constant S256x4096 .f32 0x00000000#32) ck = k0_pay14 (k0_pay11 q k ck) := rfl
/-- The second half's stored cached numerators, even step. -/
theorem pay29_eq : k0_pay29 q k (constant S256x4096 .f32 0x00000000#32) ck = k0_pay15 (k0_pay12 q k ck) := rfl
/-- The second half's stored latent numerators, odd step. -/
theorem pay52_eq : k0_pay52 q k (constant S256x4096 .f32 0x00000000#32) ck = k0_pay14 (k0_pay11 q k ck) := rfl
/-- The second half's stored cached numerators, odd step. -/
theorem pay53_eq : k0_pay53 q k (constant S256x4096 .f32 0x00000000#32) ck = k0_pay15 (k0_pay12 q k ck) := rfl
/-- The second half's stored coefficients, odd step. -/
theorem pay54_eq : k0_pay54 (k0_pay31 L) q k (constant S256x4096 .f32 0x00000000#32) ck = k0_pay30 (k0_pay7 L) q k (constant S256x4096 .f32 0x00000000#32) ck := rfl
/-- The first half's stored latent numerators, odd step. -/
theorem pay38_eq : k0_pay38 (k0_pay35 q k ck) = k0_pay14 (k0_pay11 q k ck) := rfl
/-- The first half's stored cached numerators, odd step. -/
theorem pay39_eq : k0_pay39 (k0_pay36 q k ck) = k0_pay15 (k0_pay12 q k ck) := rfl
/-- The first half's stored coefficients, odd step. -/
theorem pay40_eq : k0_pay40 (k0_pay37 q k ck) = k0_pay16 (k0_pay13 q k ck) := rfl

end Same

/-! ## What a step leaves in its slots -/

variable (m : (ℓ : Loc nD τ sig) → Buf (Elt Ideal) ℓ)

/-- The latent numerators the odd step leaves. -/
theorem el_B (c : Dev nD) (t : Fin cfg0.N) (h0 : ¬t.val % 17 = 0) (h1 : ¬¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : (t.val % 17 = 1 ∨ t.val % 17 = 3 ∨ t.val % 17 = 5 ∨ t.val % 17 = 7 ∨ t.val % 17 = 9 ∨ t.val % 17 = 11 ∨ t.val % 17 = 13 ∨ t.val % 17 = 15))
    (y : S2x256x4096.Idx) : (outsAt0 m c t.val t.isLt).2.2.1 y = elG (iblk m c 2 t) (iblk m c 3 t) (iblk m c 5 t) y := by
  rw [outsAt0_B m c t h0 h1 h2]
  frame_out
  canon_tiles x h
  · rw [pay52_eq]
    exact el_piece _ _ _ 1 _ _ _ (by intro r x; pointwise [lane]) (by intro r x; pointwise [lane]) (by intro r x; pointwise [lane]) x y h0 h1 h2
  · rw [pay38_eq]
    exact el_piece _ _ _ 0 _ _ _ (by intro r x; pointwise [lane]) (by intro r x; pointwise [lane]) (by intro r x; pointwise [lane]) x y (h0.trans (Nat.zero_add _).symm) h1 h2

/-- The cached numerators the odd step leaves. -/
theorem ec_B (c : Dev nD) (t : Fin cfg0.N) (h0 : ¬t.val % 17 = 0) (h1 : ¬¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : (t.val % 17 = 1 ∨ t.val % 17 = 3 ∨ t.val % 17 = 5 ∨ t.val % 17 = 7 ∨ t.val % 17 = 9 ∨ t.val % 17 = 11 ∨ t.val % 17 = 13 ∨ t.val % 17 = 15))
    (y : S2x256x512.Idx) : (outsAt0 m c t.val t.isLt).2.2.2.2.1 y = ecG (iblk m c 2 t) (iblk m c 3 t) (iblk m c 5 t) y := by
  rw [outsAt0_B m c t h0 h1 h2]
  frame_out
  canon_tiles x h
  · rw [pay53_eq]
    exact ec_piece _ _ _ 1 _ _ _ (by intro r x; pointwise [lane]) (by intro r x; pointwise [lane]) (by intro r x; pointwise [lane]) x y h0 h1 h2
  · rw [pay39_eq]
    exact ec_piece _ _ _ 0 _ _ _ (by intro r x; pointwise [lane]) (by intro r x; pointwise [lane]) (by intro r x; pointwise [lane]) x y (h0.trans (Nat.zero_add _).symm) h1 h2

/-- The coefficients the odd step leaves. -/
theorem cf_B (c : Dev nD) (t : Fin cfg0.N) (h0 : ¬t.val % 17 = 0) (h1 : ¬¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : (t.val % 17 = 1 ∨ t.val % 17 = 3 ∨ t.val % 17 = 5 ∨ t.val % 17 = 7 ∨ t.val % 17 = 9 ∨ t.val % 17 = 11 ∨ t.val % 17 = 13 ∨ t.val % 17 = 15))
    (y : S2x256x128.Idx) : (outsAt0 m c t.val t.isLt).2.2.2.2.2.2 y = cfG (iblk m c 0 t) (iblk m c 2 t) (iblk m c 3 t) (iblk m c 5 t) y := by
  rw [outsAt0_B m c t h0 h1 h2]
  frame_out
  canon_tiles x h
  · rw [pay54_eq]
    exact cf_piece1 _ _ _ _ 1 _ _ _ (by intro r x; pointwise [lane]) (by intro r x; pointwise [lane]) (by intro r x; pointwise [lane]) rfl x y h0 h1
  · rw [pay40_eq]
    exact cf_piece0 _ _ _ _ 0 _ _ _ (by intro r x; pointwise [lane]) (by intro r x; pointwise [lane]) (by intro r x; pointwise [lane]) rfl x y (h0.trans (Nat.zero_add _).symm) h1

/-- The latent numerators the later even step leaves. -/
theorem el_C (c : Dev nD) (t : Fin cfg0.N) (h0 : ¬t.val % 17 = 0) (h1 : ¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : ¬(t.val % 17 = 1 ∨ t.val % 17 = 3 ∨ t.val % 17 = 5 ∨ t.val % 17 = 7 ∨ t.val % 17 = 9 ∨ t.val % 17 = 11 ∨ t.val % 17 = 13 ∨ t.val % 17 = 15))
    (y : S2x256x4096.Idx) : (outsAt0 m c t.val t.isLt).2.1 y = elG (iblk m c 2 t) (iblk m c 3 t) (iblk m c 5 t) y := by
  rw [outsAt0_C m c t h0 h1 h2]
  frame_out
  canon_tiles x h
  · rw [pay28_eq]
    exact el_piece _ _ _ 1 _ _ _ (by intro r x; pointwise [lane]) (by intro r x; pointwise [lane]) (by intro r x; pointwise [lane]) x y h0 h1 h2
  · exact el_piece _ _ _ 0 _ _ _ (by intro r x; pointwise [lane]) (by intro r x; pointwise [lane]) (by intro r x; pointwise [lane]) x y (h0.trans (Nat.zero_add _).symm) h1 h2

/-- The cached numerators the later even step leaves. -/
theorem ec_C (c : Dev nD) (t : Fin cfg0.N) (h0 : ¬t.val % 17 = 0) (h1 : ¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : ¬(t.val % 17 = 1 ∨ t.val % 17 = 3 ∨ t.val % 17 = 5 ∨ t.val % 17 = 7 ∨ t.val % 17 = 9 ∨ t.val % 17 = 11 ∨ t.val % 17 = 13 ∨ t.val % 17 = 15))
    (y : S2x256x512.Idx) : (outsAt0 m c t.val t.isLt).2.2.2.1 y = ecG (iblk m c 2 t) (iblk m c 3 t) (iblk m c 5 t) y := by
  rw [outsAt0_C m c t h0 h1 h2]
  frame_out
  canon_tiles x h
  · rw [pay29_eq]
    exact ec_piece _ _ _ 1 _ _ _ (by intro r x; pointwise [lane]) (by intro r x; pointwise [lane]) (by intro r x; pointwise [lane]) x y h0 h1 h2
  · exact ec_piece _ _ _ 0 _ _ _ (by intro r x; pointwise [lane]) (by intro r x; pointwise [lane]) (by intro r x; pointwise [lane]) x y (h0.trans (Nat.zero_add _).symm) h1 h2

/-- The coefficients the later even step leaves. -/
theorem cf_C (c : Dev nD) (t : Fin cfg0.N) (h0 : ¬t.val % 17 = 0) (h1 : ¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : ¬(t.val % 17 = 1 ∨ t.val % 17 = 3 ∨ t.val % 17 = 5 ∨ t.val % 17 = 7 ∨ t.val % 17 = 9 ∨ t.val % 17 = 11 ∨ t.val % 17 = 13 ∨ t.val % 17 = 15))
    (y : S2x256x128.Idx) : (outsAt0 m c t.val t.isLt).2.2.2.2.2.1 y = cfG (iblk m c 0 t) (iblk m c 2 t) (iblk m c 3 t) (iblk m c 5 t) y := by
  rw [outsAt0_C m c t h0 h1 h2]
  frame_out
  canon_tiles x h
  · exact cf_piece1 _ _ _ _ 1 _ _ _ (by intro r x; pointwise [lane]) (by intro r x; pointwise [lane]) (by intro r x; pointwise [lane]) rfl x y h0 h1
  · exact cf_piece0 _ _ _ _ 0 _ _ _ (by intro r x; pointwise [lane]) (by intro r x; pointwise [lane]) (by intro r x; pointwise [lane]) rfl x y (h0.trans (Nat.zero_add _).symm) h1

/-- The latent numerators the first step leaves. -/
theorem el_A (c : Dev nD) (t : Fin cfg0.N) (h0 : t.val % 17 = 0) (h1 : ¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : ¬(t.val % 17 = 1 ∨ t.val % 17 = 3 ∨ t.val % 17 = 5 ∨ t.val % 17 = 7 ∨ t.val % 17 = 9 ∨ t.val % 17 = 11 ∨ t.val % 17 = 13 ∨ t.val % 17 = 15))
    (y : S2x256x4096.Idx) : (outsAt0 m c t.val t.isLt).2.1 y = elG (iblk m c 2 t) (iblk m c 3 t) (iblk m c 5 t) y := by
  rw [outsAt0_A m c t h0 h1 h2]
  frame_out
  refine View.canon_append_of_piecesOf (elG (iblk m c 2 t) (iblk m c 3 t) (iblk m c 5 t)) [_] [_, _] ⟨fun x => ?_, fun x => ?_, trivial⟩ y (View.cover_of_tiledL _ ![1, 256, 4096] (by rfl) y)
  · erw [pay28_eq]
    refine el_piece _ _ _ 1 _ _ _ ?_ ?_ ?_ x _ ?_ ?_ ?_
    · intro r x; pointwise [lane]
    · intro r x; pointwise [lane]
    · intro r x; pointwise [lane]
    · exact ValueKit.rect_emb_unit_val _ _ inb_S2x256x4096_S1x256x4096_1_0_0 x 0
    · exact (ValueKit.rect_emb_unit_val _ _ inb_S2x256x4096_S1x256x4096_1_0_0 x 1).trans (Nat.zero_add (x 1).val)
    · exact (ValueKit.rect_emb_unit_val _ _ inb_S2x256x4096_S1x256x4096_1_0_0 x 2).trans (Nat.zero_add (x 2).val)
  · refine el_piece _ _ _ 0 _ _ _ ?_ ?_ ?_ x _ ?_ ?_ ?_
    · intro r x; pointwise [lane]
    · intro r x; pointwise [lane]
    · intro r x; pointwise [lane]
    · exact ValueKit.rect_emb_unit_val _ _ inb_S2x256x4096_S1x256x4096_0_0_0 x 0
    · exact (ValueKit.rect_emb_unit_val _ _ inb_S2x256x4096_S1x256x4096_0_0_0 x 1).trans (Nat.zero_add (x 1).val)
    · exact (ValueKit.rect_emb_unit_val _ _ inb_S2x256x4096_S1x256x4096_0_0_0 x 2).trans (Nat.zero_add (x 2).val)

/-- The cached numerators the first step leaves. -/
theorem ec_A (c : Dev nD) (t : Fin cfg0.N) (h0 : t.val % 17 = 0) (h1 : ¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : ¬(t.val % 17 = 1 ∨ t.val % 17 = 3 ∨ t.val % 17 = 5 ∨ t.val % 17 = 7 ∨ t.val % 17 = 9 ∨ t.val % 17 = 11 ∨ t.val % 17 = 13 ∨ t.val % 17 = 15))
    (y : S2x256x512.Idx) : (outsAt0 m c t.val t.isLt).2.2.2.1 y = ecG (iblk m c 2 t) (iblk m c 3 t) (iblk m c 5 t) y := by
  rw [outsAt0_A m c t h0 h1 h2]
  frame_out
  refine View.canon_append_of_piecesOf (ecG (iblk m c 2 t) (iblk m c 3 t) (iblk m c 5 t)) [_] [_, _] ⟨fun x => ?_, fun x => ?_, trivial⟩ y (View.cover_of_tiledL _ ![1, 256, 512] (by rfl) y)
  · erw [pay29_eq]
    refine ec_piece _ _ _ 1 _ _ _ ?_ ?_ ?_ x _ ?_ ?_ ?_
    · intro r x; pointwise [lane]
    · intro r x; pointwise [lane]
    · intro r x; pointwise [lane]
    · exact ValueKit.rect_emb_unit_val _ _ inb_S2x256x512_S1x256x512_1_0_0 x 0
    · exact (ValueKit.rect_emb_unit_val _ _ inb_S2x256x512_S1x256x512_1_0_0 x 1).trans (Nat.zero_add (x 1).val)
    · exact (ValueKit.rect_emb_unit_val _ _ inb_S2x256x512_S1x256x512_1_0_0 x 2).trans (Nat.zero_add (x 2).val)
  · refine ec_piece _ _ _ 0 _ _ _ ?_ ?_ ?_ x _ ?_ ?_ ?_
    · intro r x; pointwise [lane]
    · intro r x; pointwise [lane]
    · intro r x; pointwise [lane]
    · exact ValueKit.rect_emb_unit_val _ _ inb_S2x256x512_S1x256x512_0_0_0 x 0
    · exact (ValueKit.rect_emb_unit_val _ _ inb_S2x256x512_S1x256x512_0_0_0 x 1).trans (Nat.zero_add (x 1).val)
    · exact (ValueKit.rect_emb_unit_val _ _ inb_S2x256x512_S1x256x512_0_0_0 x 2).trans (Nat.zero_add (x 2).val)

/-- The coefficients the first step leaves. -/
theorem cf_A (c : Dev nD) (t : Fin cfg0.N) (h0 : t.val % 17 = 0) (h1 : ¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : ¬(t.val % 17 = 1 ∨ t.val % 17 = 3 ∨ t.val % 17 = 5 ∨ t.val % 17 = 7 ∨ t.val % 17 = 9 ∨ t.val % 17 = 11 ∨ t.val % 17 = 13 ∨ t.val % 17 = 15))
    (y : S2x256x128.Idx) : (outsAt0 m c t.val t.isLt).2.2.2.2.2.1 y = cfG (iblk m c 0 t) (iblk m c 2 t) (iblk m c 3 t) (iblk m c 5 t) y := by
  rw [outsAt0_A m c t h0 h1 h2]
  frame_out
  refine View.canon_append_of_piecesOf (cfG (iblk m c 0 t) (iblk m c 2 t) (iblk m c 3 t) (iblk m c 5 t)) [_] [_, _] ⟨fun x => ?_, fun x => ?_, trivial⟩ y (View.cover_of_tiledL _ ![1, 256, 128] (by rfl) y)
  · refine cf_piece1 _ _ _ _ 1 _ _ _ ?_ ?_ ?_ rfl x _ ?_ ?_
    · intro r x; pointwise [lane]
    · intro r x; pointwise [lane]
    · intro r x; pointwise [lane]
    · exact ValueKit.rect_emb_unit_val _ _ inb_S2x256x128_S1x256x128_1_0_0 x 0
    · exact (ValueKit.rect_emb_unit_val _ _ inb_S2x256x128_S1x256x128_1_0_0 x 1).trans (Nat.zero_add (x 1).val)
  · refine cf_piece0 _ _ _ _ 0 _ _ _ ?_ ?_ ?_ rfl x _ ?_ ?_
    · intro r x; pointwise [lane]
    · intro r x; pointwise [lane]
    · intro r x; pointwise [lane]
    · exact ValueKit.rect_emb_unit_val _ _ inb_S2x256x128_S1x256x128_0_0_0 x 0
    · exact (ValueKit.rect_emb_unit_val _ _ inb_S2x256x128_S1x256x128_0_0_0 x 1).trans (Nat.zero_add (x 1).val)

end Cert.DiffAttnIdeal.Value
-- ==== Proof.DiffOut.lean ====
module

public import proofs.«01_k».proof.Proof.DiffStep

@[expose] public section

set_option maxRecDepth 16384
noncomputable section
open Idealize.ShloMosaic Idealize.ShloMosaic.TcCoe Idealize.SL.Sem
open Idealize.ShloMosaic.Pipeline (Dat)

namespace Cert.DiffAttnIdeal.Value
open Cert.DiffAttnIdeal Cert.DiffAttnIdeal.Gen Cert.Diff

/-! ## What a step emits, from the slots of the step before -/

/-- The odd step's output block. -/
theorem pay46_at (v82 v85 : Vec Ideal S1x256x128 .f32) (v88 v92 : Vec Ideal S1x256x4096 .f32) (v98 v102 : Vec Ideal S1x256x512 .f32)
    (v108 : Vec Ideal S4096x256 .bf16) (v110 : Vec Ideal S1x1x512x256 .f32) (v125 : Vec Ideal S1x1x256 .f32) (r e : Fin 256) :
    k0_pay46 (k0_pay42 v85) (k0_pay43 v82 v85 v88 v92) (k0_pay44 v98) (k0_pay45 v82) v102 v108 v110 v125 (ix2 r e)
      = headNorm (fun e => (∑ x, (v88 (ix3 0 r x) * v82 (ix3 0 r 0) - v92 (ix3 0 r x) * v85 (ix3 0 r 0)) * v108 (ix2 x e))
          + ∑ x, (v98 (ix3 0 r x) * v82 (ix3 0 r 0) - v102 (ix3 0 r x) * v85 (ix3 0 r 0)) * v110 (ix4 0 0 x e)) (v125 (ix3 0 0 e)) e :=
  pay22_at v82 v85 v88 v92 v98 v102 v108 v110 v125 r e

variable (m : (ℓ : Loc nD τ sig) → Buf (Elt Ideal) ℓ)

/-- The block an odd step emits. -/
theorem out_B (c : Dev nD) (t : Fin cfg0.N) (h0 : ¬t.val % 17 = 0) (h1 : ¬¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : (t.val % 17 = 1 ∨ t.val % 17 = 3 ∨ t.val % 17 = 5 ∨ t.val % 17 = 7 ∨ t.val % 17 = 9 ∨ t.val % 17 = 11 ∨ t.val % 17 = 13 ∨ t.val % 17 = 15))
    (r e : Fin 256) : (outsAt0 m c t.val t.isLt).1 (ix2 r e)
      = headNorm (attn (outsAt0 m c (t.val - 1) (Nat.lt_of_le_of_lt (Nat.sub_le _ _) t.isLt)).2.1 (outsAt0 m c (t.val - 1) (Nat.lt_of_le_of_lt (Nat.sub_le _ _) t.isLt)).2.2.2.1
          (outsAt0 m c (t.val - 1) (Nat.lt_of_le_of_lt (Nat.sub_le _ _) t.isLt)).2.2.2.2.2.1 (iblk m c 4 t) (iblk m c 6 t) r) (iblk m c 1 t (ix3 0 0 e)) e := by
  rw [outsAt0_B m c t h0 h1 h2]
  frame_out
  simp only [read_unread_whole]
  refine (pay46_at _ _ _ _ _ _ _ _ _ r e).trans ?_
  congr 1
  funext e
  unfold attn
  generalize (outsAt0 m c (t.val - 1) (Nat.lt_of_le_of_lt (Nat.sub_le _ _) t.isLt)) = X
  pointwise

/-- The block an even step emits. -/
theorem out_C (c : Dev nD) (t : Fin cfg0.N) (h0 : ¬t.val % 17 = 0) (h1 : ¬(t.val % 17 = 1 ∨ t.val % 17 = 3 ∨ t.val % 17 = 5 ∨ t.val % 17 = 7 ∨ t.val % 17 = 9 ∨ t.val % 17 = 11 ∨ t.val % 17 = 13 ∨ t.val % 17 = 15)) (h2 : ¬(t.val % 17 = 1 ∨ t.val % 17 = 3 ∨ t.val % 17 = 5 ∨ t.val % 17 = 7 ∨ t.val % 17 = 9 ∨ t.val % 17 = 11 ∨ t.val % 17 = 13 ∨ t.val % 17 = 15))
    (r e : Fin 256) : (outsAt0 m c t.val t.isLt).1 (ix2 r e)
      = headNorm (attn (outsAt0 m c (t.val - 1) (Nat.lt_of_le_of_lt (Nat.sub_le _ _) t.isLt)).2.2.1 (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2.2 (iblk m c 4 t) (iblk m c 6 t) r) (iblk m c 1 t (ix3 0 0 e)) e := by
  rw [outsAt0_C m c t h0 h1 h2]
  frame_out
  simp only [read_unread_whole]
  refine (pay22_at _ _ _ _ _ _ _ _ _ r e).trans ?_
  congr 1
  funext e
  unfold attn
  generalize (outsAt0 m c (t.val - 1) (Nat.lt_of_le_of_lt (Nat.sub_le _ _) t.isLt)) = X
  pointwise

end Cert.DiffAttnIdeal.Value
-- ==== Proof.DiffRef.lean ====
module

public import proofs.«01_k».proof.Proof.Gen.DiffAttnRefIdeal.Run
public import Idealize.ShloMosaic.Lib.Pipeline.ValueKit

@[expose] public section

set_option maxRecDepth 16384
noncomputable section
open Idealize.ShloMosaic Idealize.ShloMosaic.TcCoe Idealize.SL.Sem Idealize.ShloMosaic.StableHlo
namespace Cert.DiffAttnRefIdeal.Value
open Cert.DiffAttnRefIdeal Cert.DiffAttnRefIdeal.Gen

/-- The reference's queries: the given ones times √128 · log 2, one axis per request, token, head, half and lane. -/
def refQ (q : FVec Ideal S16384x2048 .bf16) : FVec Ideal S4x4096x8x2x128 .f32 :=
  shapeCast _ (mulf (extf .f32 q bitsLt_bf16_f32) (broadcastInDim S16384x2048 ![] bcast_S_S16384x2048 (mulf (Host.sqrt (constant S_ .f32 0x43000000#32)) (Host.log (constant S_ .f32 0x40000000#32))))) shapeCasts_S16384x2048_S4x4096x8x2x128

/-- The reference's keys: the latent tokens' own, then the cached ones. -/
def refK (k : FVec Ideal S16384x2048 .bf16) (ck : FVec Ideal S4x2x512x2048 .f32) : FVec Ideal S4x4608x8x2x128 .f32 :=
  concatenate S4x4608x8x2x128 1 [⟨S4x4096x8x2x128, (shapeCast _ (extf .f32 k bitsLt_bf16_f32) shapeCasts_S16384x2048_S4x4096x8x2x128)⟩, ⟨S4x512x8x2x128, (shapeCast _ (shapeCast _ (extractStridedSlice S4x1x512x2048 ![0, 0, 0, 0] ck slices_S4x2x512x2048_S4x1x512x2048_0_0_0_0) shapeCasts_S4x1x512x2048_S4x512x2048) shapeCasts_S4x512x2048_S4x512x8x2x128)⟩] concatenates_S4x4096x8x2x128_S4x512x8x2x128_S4x4608x8x2x128_d1

/-- The reference's values: the latent tokens' own, then the cached ones. -/
def refV (v : FVec Ideal S16384x2048 .bf16) (cv : FVec Ideal S4x2x512x2048 .f32) : FVec Ideal S4x4608x8x256 .f32 :=
  concatenate S4x4608x8x256 1 [⟨S4x4096x8x256, (shapeCast _ (extf .f32 v bitsLt_bf16_f32) shapeCasts_S16384x2048_S4x4096x8x256)⟩, ⟨S4x512x8x256, (shapeCast _ (shapeCast _ (extractStridedSlice S4x1x512x2048 ![0, 0, 0, 0] cv slices_S4x2x512x2048_S4x1x512x2048_0_0_0_0) shapeCasts_S4x1x512x2048_S4x512x2048) shapeCasts_S4x512x2048_S4x512x8x256)⟩] concatenates_S4x4096x8x256_S4x512x8x256_S4x4608x8x256_d1

/-- The reference's scores: query times key over √128. -/
def refS (q k : FVec Ideal S16384x2048 .bf16) (ck : FVec Ideal S4x2x512x2048 .f32) : FVec Ideal S4x8x2x4096x4608 .f32 :=
  Host.divf (Host.dotGeneral dot_S4x4096x8x2x128_S4x4608x8x2x128_S4x8x2x4096x4608_4_4_1_1_023_023 none (refQ q) (refK k ck)) (broadcastInDim S4x8x2x4096x4608 ![] bcast_S_S4x8x2x4096x4608 (Host.sqrt (constant S_ .f32 0x43000000#32)))

/-- A softmax's numerators over the last axis: the exponential of each score less its row's maximum. -/
def refE (s : FVec Ideal S4x8x2x4096x4608 .f32) : FVec Ideal S4x8x2x4096x4608 .f32 :=
  Host.exp (subf s (broadcastInDim S4x8x2x4096x4608 ![0, 1, 2, 3, 4] bcast_S4x8x2x4096x1_S4x8x2x4096x4608_0_1_2_3_4 (broadcastInDim S4x8x2x4096x1 ![0, 1, 2, 3] bcast_S4x8x2x4096_S4x8x2x4096x1_0_1_2_3 (maximumf (broadcastInDim S4x8x2x4096 ![] bcast_S_S4x8x2x4096 (constant S_ .f32 0xFF800000#32)) (Host.reduce FloatOps.maximumf s (constant S_ .f32 0xFF800000#32) reducesTo_S4x8x2x4096x4608_S4x8x2x4096_d4 h_S_)))))

/-- A softmax over the last axis, from its numerators. -/
def refP (e : FVec Ideal S4x8x2x4096x4608 .f32) : FVec Ideal S4x8x2x4096x4608 .f32 :=
  Host.divf e (broadcastInDim S4x8x2x4096x4608 ![0, 1, 2, 3, 4] bcast_S4x8x2x4096x1_S4x8x2x4096x4608_0_1_2_3_4 (broadcastInDim S4x8x2x4096x1 ![0, 1, 2, 3] bcast_S4x8x2x4096_S4x8x2x4096x1_0_1_2_3 (Host.reduceAdd e (constant S_ .f32 0x00000000#32) reducesTo_S4x8x2x4096x4608_S4x8x2x4096_d4 h_S_)))

/-- The reference's weight of the second softmax. -/
def refLam (lp : FVec Ideal S2x4x128 .f32) : FVec Ideal S_ .f32 :=
  addf (subf (Host.exp (Host.reduceAdd (mulf (shapeCast _ (extractStridedSlice S1x128 ![0, 0] (shapeCast _ (extractStridedSlice S1x4x128 ![0, 0, 0] lp slices_S2x4x128_S1x4x128_0_0_0) shapeCasts_S1x4x128_S4x128) slices_S4x128_S1x128_0_0) shapeCasts_S1x128_S128) (shapeCast _ (extractStridedSlice S1x128 ![1, 0] (shapeCast _ (extractStridedSlice S1x4x128 ![0, 0, 0] lp slices_S2x4x128_S1x4x128_0_0_0) shapeCasts_S1x4x128_S4x128) slices_S4x128_S1x128_1_0) shapeCasts_S1x128_S128)) (constant S_ .f32 0x00000000#32) reducesTo_S128_S_d0 h_S_)) (Host.exp (Host.reduceAdd (mulf (shapeCast _ (extractStridedSlice S1x128 ![2, 0] (shapeCast _ (extractStridedSlice S1x4x128 ![0, 0, 0] lp slices_S2x4x128_S1x4x128_0_0_0) shapeCasts_S1x4x128_S4x128) slices_S4x128_S1x128_2_0) shapeCasts_S1x128_S128) (shapeCast _ (extractStridedSlice S1x128 ![3, 0] (shapeCast _ (extractStridedSlice S1x4x128 ![0, 0, 0] lp slices_S2x4x128_S1x4x128_0_0_0) shapeCasts_S1x4x128_S4x128) slices_S4x128_S1x128_3_0) shapeCasts_S1x128_S128)) (constant S_ .f32 0x00000000#32) reducesTo_S128_S_d0 h_S_))) (constant S_ .f32 0x3EB60549#32)

/-- The reference's attention output, from the two softmaxes, the weight and the values. -/
def refO (lam : FVec Ideal S_ .f32) (p : FVec Ideal S4x8x2x4096x4608 .f32) (v : FVec Ideal S4x4608x8x256 .f32) : FVec Ideal S4x4096x8x256 .f32 :=
  transpose S4x4096x8x256 [0, 3, 1, 2] (Host.dotGeneral dot_S4x4608x8x256_S4x8x4096x4608_S4x8x256x4096_1_3_3_2_02_01 none v (subf (shapeCast _ (extractStridedSlice S4x8x1x4096x4608 ![0, 0, 0, 0, 0] p slices_S4x8x2x4096x4608_S4x8x1x4096x4608_0_0_0_0_0) shapeCasts_S4x8x1x4096x4608_S4x8x4096x4608) (mulf (broadcastInDim S4x8x4096x4608 ![] bcast_S_S4x8x4096x4608 lam) (shapeCast _ (extractStridedSlice S4x8x1x4096x4608 ![0, 0, 1, 0, 0] p slices_S4x8x2x4096x4608_S4x8x1x4096x4608_0_0_1_0_0) shapeCasts_S4x8x1x4096x4608_S4x8x4096x4608)))) transposes_S4x8x256x4096_S4x4096x8x256_0_3_1_2

/-- The reference's normalised heads, laid out as rows of 2048. -/
def refN (o : FVec Ideal S4x4096x8x256 .f32) (g : FVec Ideal S2x256 .f32) : FVec Ideal S16384x2048 .bf16 :=
  truncf .bf16 (shapeCast _ (mulf (mulf (mulf o (broadcastInDim S4x4096x8x256 ![0, 1, 2, 3] bcast_S4x4096x8x1_S4x4096x8x256_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x256_S4x4096x8_d3 h_S_)) (broadcastInDim S4x4096x8x1 ![] bcast_S_S4x4096x8x1 (constant S_ .f32 0x43800000#32))) (broadcastInDim S4x4096x8x1 ![] bcast_S_S4x4096x8x1 (constant S_ .f32 0x3727C5AC#32)))))) (broadcastInDim S4x4096x8x256 ![0, 1, 2, 3] bcast_S1x1x1x256_S4x4096x8x256_0_1_2_3 (broadcastInDim S1x1x1x256 ![3] bcast_S256_S1x1x1x256_3 (shapeCast _ (extractStridedSlice S1x256 ![0, 0] g slices_S2x256_S1x256_0_0) shapeCasts_S1x256_S256)))) (broadcastInDim S4x4096x8x256 ![] bcast_S_S4x4096x8x256 (constant S_ .f32 0x3F24FD5C#32))) shapeCasts_S4x4096x8x256_S16384x2048) bitsLt_bf16_f32

/-- The reference's result is its stages one after the other. -/
theorem res_eq (m : (ℓ : Loc nD τ sig) → Buf (Elt Ideal) ℓ) (c : Dev nD) :
    res_main_v79 m c = refN (refO (refLam (m ((c.tc : Thread nD τ).loc main_arg0)))
      (refP (refE (refS (m ((c.tc : Thread nD τ).loc main_arg2)) (m ((c.tc : Thread nD τ).loc main_arg3)) (m ((c.tc : Thread nD τ).loc main_arg5)))))
      (refV (m ((c.tc : Thread nD τ).loc main_arg4)) (m ((c.tc : Thread nD τ).loc main_arg6)))) (m ((c.tc : Thread nD τ).loc main_arg1)) := by
  unfold res_main_v79 refN refO refLam refP refE refS refV refK refQ
  rfl

end Cert.DiffAttnRefIdeal.Value
-- ==== Proof.DiffRefRead.lean ====
module

public import proofs.«01_k».proof.Proof.DiffRef
public import Idealize.ShloMosaic.Lib.Pipeline.ValueKit

@[expose] public section

set_option maxRecDepth 16384
noncomputable section
open Idealize.ShloMosaic Idealize.ShloMosaic.TcCoe Idealize.SL.Sem Idealize.ShloMosaic.StableHlo
namespace Cert.DiffAttnRefIdeal.Value
open Cert.DiffAttnRefIdeal Cert.DiffAttnRefIdeal.Gen

/-! ## The reference's stages at an index -/

/-- Token `r` of request `n`, as a row of the flat arrays. -/
def tok (n : Fin 4) (r : Fin 4096) : Fin 16384 := ⟨n.val * 4096 + r.val, by omega⟩

/-- Lane `x` of half `d` of head `h`, as a column of the flat arrays. -/
def col (h : Fin 8) (d : Fin 2) (x : Fin 128) : Fin 2048 := ⟨h.val * 256 + d.val * 128 + x.val, by omega⟩

/-- Lane `e` of head `h`, as a column of the flat arrays. -/
def vcol (h : Fin 8) (e : Fin 256) : Fin 2048 := ⟨h.val * 256 + e.val, by omega⟩

/-- A maximum over the last of five axes, as a fold. -/
theorem hostMax5 {a b c d e : ℕ} {u : Shape} (x : FVec Ideal (⟨5, ![a, b, c, d, e]⟩ : Shape) .f32) (init : FVec Ideal u .f32)
    (hr : (⟨5, ![a, b, c, d, e]⟩ : Shape).ReducesTo [4] (⟨4, ![a, b, c, d]⟩ : Shape)) (hu : 0 < u.numel) (i : Fin a) (j : Fin b) (k : Fin c) (l : Fin d) :
    Host.reduce FloatOps.maximumf x init hr hu (ix4 i j k l) = (Finset.univ : Finset (Fin e)).fold max (init (Shape.Idx.first hu)) (fun y => x (ix5 i j k l y)) := by
  rw [Host.reduce_eq_fold, Shape.ReducesTo.fold_fiber_r5_a4]
  rfl

/-- The scores against the latent keys. -/
theorem refS_latent (q k : FVec Ideal S16384x2048 .bf16) (ck : FVec Ideal S4x2x512x2048 .f32) (n : Fin 4) (h : Fin 8) (d : Fin 2) (r j : Fin 4096) :
    refS q k ck (ix5 n h d r (Fin.castAdd 512 j : Fin (4096 + 512)))
      = Ideal.div (∑ x, q (ix2 (tok n r) (col h d x)) * (Ideal.sqrt (Ideal.ofBits .f32 0x43000000#32) * Ideal.log (Ideal.ofBits .f32 0x40000000#32)) * k (ix2 (tok n j) (col h d x)))
          (Ideal.sqrt (Ideal.ofBits .f32 0x43000000#32)) := by
  show refS q k ck (ix5 n h d r (⟨j.val, by omega⟩ : Fin 4608)) = _
  pointwise [refS, refQ, refK, tok, col]

/-- The scores against the cached keys. -/
theorem refS_cached (q k : FVec Ideal S16384x2048 .bf16) (ck : FVec Ideal S4x2x512x2048 .f32) (n : Fin 4) (h : Fin 8) (d : Fin 2) (r : Fin 4096) (j : Fin 512) :
    refS q k ck (ix5 n h d r (Fin.natAdd 4096 j : Fin (4096 + 512)))
      = Ideal.div (∑ x, q (ix2 (tok n r) (col h d x)) * (Ideal.sqrt (Ideal.ofBits .f32 0x43000000#32) * Ideal.log (Ideal.ofBits .f32 0x40000000#32)) * ck (ix4 n 0 j (col h d x)))
          (Ideal.sqrt (Ideal.ofBits .f32 0x43000000#32)) := by
  show refS q k ck (ix5 n h d r (⟨4096 + j.val, by omega⟩ : Fin 4608)) = _
  pointwise [refS, refQ, refK, tok, col]

/-- The numerators over any row maxima. -/
theorem refE_over (s : FVec Ideal S4x8x2x4096x4608 .f32) (M : FVec Ideal S4x8x2x4096 .f32) (n : Fin 4) (h : Fin 8) (d : Fin 2) (r : Fin 4096) (j : Fin 4608) :
    Host.exp (subf s (broadcastInDim S4x8x2x4096x4608 ![0, 1, 2, 3, 4] bcast_S4x8x2x4096x1_S4x8x2x4096x4608_0_1_2_3_4 (broadcastInDim S4x8x2x4096x1 ![0, 1, 2, 3] bcast_S4x8x2x4096_S4x8x2x4096x1_0_1_2_3 (maximumf (broadcastInDim S4x8x2x4096 ![] bcast_S_S4x8x2x4096 (constant S_ .f32 0xFF800000#32)) M)))) (ix5 n h d r j)
      = Ideal.exp (s (ix5 n h d r j) - max (Ideal.ofBits .f32 0xFF800000#32) (M (ix4 n h d r))) := by
  pointwise

/-- The row maxima. -/
theorem refMax_at (s : FVec Ideal S4x8x2x4096x4608 .f32) (n : Fin 4) (h : Fin 8) (d : Fin 2) (r : Fin 4096) :
    Host.reduce FloatOps.maximumf s (constant S_ .f32 0xFF800000#32) reducesTo_S4x8x2x4096x4608_S4x8x2x4096_d4 h_S_ (ix4 n h d r)
      = (Finset.univ : Finset (Fin 4608)).fold max (constant (F := Ideal) S_ .f32 0xFF800000#32 (Shape.Idx.first h_S_)) (fun x => s (ix5 n h d r x)) :=
  hostMax5 s _ _ _ n h d r

/-- The numerators. -/
theorem refE_at (s : FVec Ideal S4x8x2x4096x4608 .f32) (n : Fin 4) (h : Fin 8) (d : Fin 2) (r : Fin 4096) (j : Fin 4608) :
    refE s (ix5 n h d r j) = Ideal.exp (s (ix5 n h d r j)
      - max (Ideal.ofBits .f32 0xFF800000#32) ((Finset.univ : Finset (Fin 4608)).fold max (constant (F := Ideal) S_ .f32 0xFF800000#32 (Shape.Idx.first h_S_)) (fun x => s (ix5 n h d r x)))) := by
  rw [← refMax_at s n h d r]
  exact refE_over s _ n h d r j

/-- The softmax. -/
theorem refP_at (s : FVec Ideal S4x8x2x4096x4608 .f32) (n : Fin 4) (h : Fin 8) (d : Fin 2) (r : Fin 4096) (j : Fin 4608) :
    refP s (ix5 n h d r j) = Ideal.div (s (ix5 n h d r j)) (∑ x, s (ix5 n h d r x)) := by
  pointwise [refP]

/-- The weight of the second softmax. -/
theorem refLam_at (lp : FVec Ideal S2x4x128 .f32) : refLam lp ix0
    = Ideal.exp (∑ x, lp (ix3 0 0 x) * lp (ix3 0 1 x)) - Ideal.exp (∑ x, lp (ix3 0 2 x) * lp (ix3 0 3 x)) + Ideal.ofBits .f32 0x3EB60549#32 := by
  pointwise [refLam]

/-- The attention output. -/
theorem refO_at (lam : FVec Ideal S_ .f32) (p : FVec Ideal S4x8x2x4096x4608 .f32) (v : FVec Ideal S16384x2048 .bf16) (cv : FVec Ideal S4x2x512x2048 .f32)
    (n : Fin 4) (r : Fin 4096) (h : Fin 8) (e : Fin 256) :
    refO lam p (refV v cv) (ix4 n r h e)
      = (∑ x : Fin 4096, v (ix2 (tok n x) (vcol h e)) * (p (ix5 n h 0 r (Fin.castAdd 512 x : Fin (4096 + 512))) - lam ix0 * p (ix5 n h 1 r (Fin.castAdd 512 x : Fin (4096 + 512)))))
        + ∑ x : Fin 512, cv (ix4 n 0 x (vcol h e)) * (p (ix5 n h 0 r (Fin.natAdd 4096 x : Fin (4096 + 512))) - lam ix0 * p (ix5 n h 1 r (Fin.natAdd 4096 x : Fin (4096 + 512)))) := by
  pointwise [refO, refV, tok, vcol]
  rfl

/-- The normalised heads. -/
theorem refN_at (o : FVec Ideal S4x4096x8x256 .f32) (g : FVec Ideal S2x256 .f32) (n : Fin 4) (r : Fin 4096) (h : Fin 8) (e : Fin 256) :
    refN o g (ix2 (tok n r) (vcol h e))
      = o (ix4 n r h e) * Ideal.rsqrt (Ideal.div (∑ x, o (ix4 n r h x) * o (ix4 n r h x)) (Ideal.ofBits .f32 0x43800000#32) + Ideal.ofBits .f32 0x3727C5AC#32)
        * g (ix2 0 e) * Ideal.ofBits .f32 0x3F24FD5C#32 := by
  pointwise [refN, tok, vcol]

end Cert.DiffAttnRefIdeal.Value
-- ==== Proof.DiffRefSoft.lean ====
module

public import proofs.«01_k».proof.Proof.DiffRefRead
public import proofs.«01_k».proof.Proof.DiffMath

@[expose] public section

set_option maxRecDepth 16384
noncomputable section
open Idealize.ShloMosaic Idealize.ShloMosaic.TcCoe Idealize.SL.Sem Idealize.ShloMosaic.StableHlo
namespace Cert.DiffAttnRefIdeal.Value
open Cert.DiffAttnRefIdeal Cert.DiffAttnRefIdeal.Gen Cert.Diff

/-! ## The reference's attention over powers of two -/

/-- A row's products of query and latent key. -/
def rowA (q k : FVec Ideal S16384x2048 .bf16) (n : Fin 4) (h : Fin 8) (d : Fin 2) (r : Fin 4096) (j : Fin 4096) : EReal :=
  ∑ x : Fin 128, q (ix2 (tok n r) (col h d x)) * k (ix2 (tok n j) (col h d x))

/-- A row's products of query and cached key. -/
def rowB (q : FVec Ideal S16384x2048 .bf16) (ck : FVec Ideal S4x2x512x2048 .f32) (n : Fin 4) (h : Fin 8) (d : Fin 2) (r : Fin 4096) (j : Fin 512) : EReal :=
  ∑ x : Fin 128, q (ix2 (tok n r) (col h d x)) * ck (ix4 n 0 j (col h d x))

/-- The greatest of a row and minus infinity, twice. -/
theorem rowMax (s : Fin (4096 + 512) → EReal) : max (Ideal.ofBits .f32 0xFF800000#32) ((Finset.univ : Finset (Fin (4096 + 512))).fold max (constant (F := Ideal) S_ .f32 0xFF800000#32 (Shape.Idx.first h_S_)) s)
    = Finset.univ.fold max (⊥ : EReal) s := by
  have e : constant (F := Ideal) S_ .f32 0xFF800000#32 (Shape.Idx.first h_S_) = (⊥ : EReal) := negInf
  rw [e, negInf]
  exact max_eq_right bot_le

section Soft

variable (q k : FVec Ideal S16384x2048 .bf16) (ck : FVec Ideal S4x2x512x2048 .f32)
  (hq : ∀ i, ∃ a : ℝ, q i = (a : EReal)) (hk : ∀ i, ∃ a : ℝ, k i = (a : EReal)) (hc : ∀ i, ∃ a : ℝ, ck i = (a : EReal))
  (n : Fin 4) (h : Fin 8) (d : Fin 2) (r : Fin 4096)

include hq hk hc in
/-- A row of the softmax: the sum of its numerators is not zero, and its numerators and their sum are the kernel's. -/
theorem row_soft : den (rowA q k n h d r) (rowB q ck n h d r) ≠ 0
    ∧ (∀ j : Fin 4096, refE (refS q k ck) (ix5 n h d r (Fin.castAdd 512 j : Fin (4096 + 512))) = Ideal.exp2 (rowA q k n h d r j - top (rowA q k n h d r) (rowB q ck n h d r)))
    ∧ (∀ j : Fin 512, refE (refS q k ck) (ix5 n h d r (Fin.natAdd 4096 j : Fin (4096 + 512))) = Ideal.exp2 (rowB q ck n h d r j - top (rowA q k n h d r) (rowB q ck n h d r)))
    ∧ (∑ x : Fin 4608, refE (refS q k ck) (ix5 n h d r x)) = den (rowA q k n h d r) (rowB q ck n h d r) := by
  choose qf hqf using hq
  choose kf hkf using hk
  choose cf hcf using hc
  obtain ⟨α, hα⟩ : ∃ α : Fin 4096 → ℝ, ∀ j, α j = ∑ x : Fin 128, qf (ix2 (tok n r) (col h d x)) * kf (ix2 (tok n j) (col h d x)) := ⟨_, fun _ => rfl⟩
  obtain ⟨β, hβ⟩ : ∃ β : Fin 512 → ℝ, ∀ j, β j = ∑ x : Fin 128, qf (ix2 (tok n r) (col h d x)) * cf (ix4 n 0 j (col h d x)) := ⟨_, fun _ => rfl⟩
  have hA : rowA q k n h d r = fun j => (α j : EReal) := by
    funext j
    unfold rowA
    simp only [hqf, hkf, hα]
    exact dot_coe _ _
  have hB : rowB q ck n h d r = fun j => (β j : EReal) := by
    funext j
    unfold rowB
    simp only [hqf, hcf, hβ]
    exact dot_coe _ _
  have ha : ∀ j : Fin 4096, refS q k ck (ix5 n h d r (Fin.castAdd 512 j : Fin (4096 + 512))) = ((α j * Real.log 2 : ℝ) : EReal) := by
    intro j
    rw [refS_latent]
    simp only [hqf, hkf, hα]
    exact score_eq _ _
  have hb : ∀ j : Fin 512, refS q k ck (ix5 n h d r (Fin.natAdd 4096 j : Fin (4096 + 512))) = ((β j * Real.log 2 : ℝ) : EReal) := by
    intro j
    rw [refS_cached]
    simp only [hqf, hcf, hβ]
    exact score_eq _ _
  generalize refS q k ck = S at ha hb ⊢
  obtain ⟨h1, h2, h3⟩ := softmax_eq (n := 4096) (n' := 512) (by norm_num) (by norm_num) α β (fun j => S (ix5 n h d r j)) ha hb
  have hE : ∀ j : Fin (4096 + 512), refE S (ix5 n h d r j) = Ideal.exp (S (ix5 n h d r j) - Finset.univ.fold max (⊥ : EReal) (fun j : Fin (4096 + 512) => S (ix5 n h d r j))) := by
    intro j
    rw [← rowMax]
    exact refE_at S n h d r j
  rw [hA, hB]
  refine ⟨den_ne_zero (by norm_num) (by norm_num) α β, fun j => (hE _).trans (h1 j), fun j => (hE _).trans (h2 j), ?_⟩
  rw [← h3]
  exact Finset.sum_congr rfl fun x _ => hE x

include hq hk hc in
/-- The softmax at a latent key. -/
theorem refP_latent (j : Fin 4096) : refP (refE (refS q k ck)) (ix5 n h d r (Fin.castAdd 512 j : Fin (4096 + 512)))
    = Ideal.exp2 (rowA q k n h d r j - top (rowA q k n h d r) (rowB q ck n h d r)) * Ideal.div 1 (den (rowA q k n h d r) (rowB q ck n h d r)) := by
  obtain ⟨h0, h1, h2, h3⟩ := row_soft q k ck hq hk hc n h d r
  refine (refP_at _ n h d r _).trans ?_
  rw [h3, h1, div_eq_mul h0]

include hq hk hc in
/-- The softmax at a cached key. -/
theorem refP_cached (j : Fin 512) : refP (refE (refS q k ck)) (ix5 n h d r (Fin.natAdd 4096 j : Fin (4096 + 512)))
    = Ideal.exp2 (rowB q ck n h d r j - top (rowA q k n h d r) (rowB q ck n h d r)) * Ideal.div 1 (den (rowA q k n h d r) (rowB q ck n h d r)) := by
  obtain ⟨h0, h1, h2, h3⟩ := row_soft q k ck hq hk hc n h d r
  refine (refP_at _ n h d r _).trans ?_
  rw [h3, h2, div_eq_mul h0]

end Soft

/-- One value times a difference of softmaxes, in the kernel's order. -/
theorem diff_term (v e0 i0 e1 i1 l : EReal) : v * (e0 * i0 - l * (e1 * i1)) = (e0 * i0 - e1 * (i1 * l)) * v := by
  rw [mul_comm v, mul_comm l, mul_assoc]

/-- The reference's attention output of a row and lane, over powers of two. -/
theorem refO_pow (q k v : FVec Ideal S16384x2048 .bf16) (ck cv : FVec Ideal S4x2x512x2048 .f32) (lam : FVec Ideal S_ .f32)
    (hq : ∀ i, ∃ a : ℝ, q i = (a : EReal)) (hk : ∀ i, ∃ a : ℝ, k i = (a : EReal)) (hc : ∀ i, ∃ a : ℝ, ck i = (a : EReal))
    (n : Fin 4) (h : Fin 8) (r : Fin 4096) (e : Fin 256) :
    refO lam (refP (refE (refS q k ck))) (refV v cv) (ix4 n r h e)
      = (∑ x : Fin 4096, (Ideal.exp2 (rowA q k n h 0 r x - top (rowA q k n h 0 r) (rowB q ck n h 0 r)) * Ideal.div 1 (den (rowA q k n h 0 r) (rowB q ck n h 0 r))
            - Ideal.exp2 (rowA q k n h 1 r x - top (rowA q k n h 1 r) (rowB q ck n h 1 r)) * (Ideal.div 1 (den (rowA q k n h 1 r) (rowB q ck n h 1 r)) * lam ix0)) * v (ix2 (tok n x) (vcol h e)))
        + ∑ x : Fin 512, (Ideal.exp2 (rowB q ck n h 0 r x - top (rowA q k n h 0 r) (rowB q ck n h 0 r)) * Ideal.div 1 (den (rowA q k n h 0 r) (rowB q ck n h 0 r))
            - Ideal.exp2 (rowB q ck n h 1 r x - top (rowA q k n h 1 r) (rowB q ck n h 1 r)) * (Ideal.div 1 (den (rowA q k n h 1 r) (rowB q ck n h 1 r)) * lam ix0)) * cv (ix4 n 0 x (vcol h e)) := by
  rw [refO_at]
  refine congrArg₂ (· + ·) (Finset.sum_congr rfl fun x _ => ?_) (Finset.sum_congr rfl fun x _ => ?_)
  · rw [refP_latent q k ck hq hk hc, refP_latent q k ck hq hk hc]
    exact diff_term _ _ _ _ _ _
  · rw [refP_cached q k ck hq hk hc, refP_cached q k ck hq hk hc]
    exact diff_term _ _ _ _ _ _

end Cert.DiffAttnRefIdeal.Value
-- ==== Proof.DiffFinal.lean ====
module

public import proofs.«01_k».proof.Defs
public import proofs.«01_k».proof.Proof.DiffSlot
public import proofs.«01_k».proof.Proof.DiffOut
public import proofs.«01_k».proof.Proof.DiffRefSoft
public import proofs.«01_k».proof.Proof.Gen.DiffAttnIdeal.Value
public import proofs.«01_k».proof.Proof.Gen.DiffAttnRefIdeal.Run
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)

namespace Cert.DiffAttnIdeal.Value
open Cert.DiffAttnIdeal Cert.DiffAttnIdeal.Gen Cert.Diff
open Cert.DiffAttnRefIdeal.Value (tok col vcol rowA rowB)

variable (m : (ℓ : Loc nD τ sig) → Buf (Elt Ideal) ℓ)

/-- The point before. -/
def prev (t : Fin cfg0.N) : Fin cfg0.N := ⟨t.val - 1, Nat.lt_of_le_of_lt (Nat.sub_le _ _) t.isLt⟩

/-- What an emitting step writes: the attention over the numerators and coefficients of the step before, normalised. -/
theorem step_out (c : Dev nD) (t : Fin cfg0.N) (ht : ¬t.val % 17 = 0) (r e : Fin 256) :
    (outsAt0 m c t.val t.isLt).1 (ix2 r e)
      = headNorm (attn (elG (iblk m c 2 (prev t)) (iblk m c 3 (prev t)) (iblk m c 5 (prev t))) (ecG (iblk m c 2 (prev t)) (iblk m c 3 (prev t)) (iblk m c 5 (prev t)))
          (cfG (iblk m c 0 (prev t)) (iblk m c 2 (prev t)) (iblk m c 3 (prev t)) (iblk m c 5 (prev t))) (iblk m c 4 t) (iblk m c 6 t) r) (iblk m c 1 t (ix3 0 0 e)) e := by
  have hp : (prev t).val = t.val - 1 := rfl
  by_cases h2 : t.val % 17 = 1 ∨ t.val % 17 = 3 ∨ t.val % 17 = 5 ∨ t.val % 17 = 7 ∨ t.val % 17 = 9 ∨ t.val % 17 = 11 ∨ t.val % 17 = 13 ∨ t.val % 17 = 15
  · rw [out_B m c t ht (not_not_intro h2) h2 r e]
    have h1' : ¬((prev t).val % 17 = 1 ∨ (prev t).val % 17 = 3 ∨ (prev t).val % 17 = 5 ∨ (prev t).val % 17 = 7 ∨ (prev t).val % 17 = 9 ∨ (prev t).val % 17 = 11 ∨ (prev t).val % 17 = 13 ∨ (prev t).val % 17 = 15) := by omega
    by_cases h0 : (prev t).val % 17 = 0
    · rw [← funext (el_A m c (prev t) h0 h1' h1'), ← funext (ec_A m c (prev t) h0 h1' h1'), ← funext (cf_A m c (prev t) h0 h1' h1')]
      rfl
    · rw [← funext (el_C m c (prev t) h0 h1' h1'), ← funext (ec_C m c (prev t) h0 h1' h1'), ← funext (cf_C m c (prev t) h0 h1' h1')]
      rfl
  · rw [out_C m c t ht h2 h2 r e]
    have h1' : ((prev t).val % 17 = 1 ∨ (prev t).val % 17 = 3 ∨ (prev t).val % 17 = 5 ∨ (prev t).val % 17 = 7 ∨ (prev t).val % 17 = 9 ∨ (prev t).val % 17 = 11 ∨ (prev t).val % 17 = 13 ∨ (prev t).val % 17 = 15) := by omega
    have h0 : ¬(prev t).val % 17 = 0 := by omega
    rw [← funext (el_B m c (prev t) h0 (not_not_intro h1') h1'), ← funext (ec_B m c (prev t) h0 (not_not_intro h1') h1'), ← funext (cf_B m c (prev t) h0 (not_not_intro h1') h1')]
    rfl

/-- Which block each window shows at a grid point: request `t / 136`, head `t / 17 % 8`, step `t % 17`. -/
theorem idx : ∀ t : Fin cfg0.N, win0_0.index t = ![0, 0, 0] ∧ win0_1.index t = ![0, 0, 0]
    ∧ win0_2.index t = ![t.val / 136 * 16 + min (t.val % 17) 15, t.val / 17 % 8] ∧ win0_3.index t = ![t.val / 136, t.val / 17 % 8]
    ∧ win0_4.index t = ![t.val / 136, t.val / 17 % 8] ∧ win0_5.index t = ![t.val / 136, 0, 0, t.val / 17 % 8]
    ∧ win0_6.index t = ![t.val / 136, 0, 0, t.val / 17 % 8] ∧ win0_7.index t = ![t.val / 136 * 16 + (t.val % 17 - 1), t.val / 17 % 8] :=
  (by decide +kernel : ∀ t : Fin grid0.N, _)

/-- The request of a point. -/
def pn (t : Fin cfg0.N) : Fin 4 := ⟨t.val / 136, by have h : t.val < 544 := t.isLt; omega⟩

/-- The head of a point. -/
def ph (t : Fin cfg0.N) : Fin 8 := ⟨t.val / 17 % 8, by omega⟩

/-- The token a row of an emitting point's output block is. -/
def pr (t : Fin cfg0.N) (r : Fin 256) : Fin 4096 := ⟨(t.val % 17 - 1) * 256 + r.val, by omega⟩

section Reads

variable (c : Dev nD) (t : Fin cfg0.N)

/-- The queries' block of the step before an emitting one. -/
theorem q_at (ht : ¬t.val % 17 = 0) (r : Fin 256) (d : Fin 2) (x : Fin 128) :
    iblk m c 2 (prev t) (ix2 r (lane d x)) = m ((c : Thread nD τ).loc main_arg2) (ix2 (tok (pn t) (pr t r)) (col (ph t) d x)) := by
  have hp : (prev t).val = t.val - 1 := rfl
  have h : t.val < 544 := t.isLt
  have e1 : (t.val - 1) / 136 = t.val / 136 := by omega
  have e2 : (t.val - 1) / 17 = t.val / 17 := by omega
  have e3 : min ((t.val - 1) % 17) 15 = t.val % 17 - 1 := by omega
  blk_ext [iblk, V, idx (prev t), lane, tok, col, pn, pr, ph, hp, e1, e2, e3]

/-- The keys' block of the step before an emitting one. -/
theorem k_at (ht : ¬t.val % 17 = 0) (j : Fin 4096) (d : Fin 2) (x : Fin 128) :
    iblk m c 3 (prev t) (ix2 j (lane d x)) = m ((c : Thread nD τ).loc main_arg3) (ix2 (tok (pn t) j) (col (ph t) d x)) := by
  have hp : (prev t).val = t.val - 1 := rfl
  have h : t.val < 544 := t.isLt
  have e1 : (t.val - 1) / 136 = t.val / 136 := by omega
  have e2 : (t.val - 1) / 17 = t.val / 17 := by omega
  blk_ext [iblk, V, idx (prev t), lane, tok, col, pn, ph, hp, e1, e2]

/-- The cached keys' block of the step before an emitting one. -/
theorem ck_at (ht : ¬t.val % 17 = 0) (j : Fin 512) (d : Fin 2) (x : Fin 128) :
    iblk m c 5 (prev t) (ix4 0 0 j (lane d x)) = m ((c : Thread nD τ).loc main_arg5) (ix4 (pn t) 0 j (col (ph t) d x)) := by
  have hp : (prev t).val = t.val - 1 := rfl
  have h : t.val < 544 := t.isLt
  have e1 : (t.val - 1) / 136 = t.val / 136 := by omega
  have e2 : (t.val - 1) / 17 = t.val / 17 := by omega
  blk_ext [iblk, V, idx (prev t), lane, col, pn, ph, hp, e1, e2]

/-- The values' block. -/
theorem v_at (x : Fin 4096) (e : Fin 256) : iblk m c 4 t (ix2 x e) = m ((c : Thread nD τ).loc main_arg4) (ix2 (tok (pn t) x) (vcol (ph t) e)) := by
  blk_ext [iblk, V, idx t, tok, vcol, pn, ph]

/-- The cached values' block. -/
theorem cv_at (x : Fin 512) (e : Fin 256) : iblk m c 6 t (ix4 0 0 x e) = m ((c : Thread nD τ).loc main_arg6) (ix4 (pn t) 0 x (vcol (ph t) e)) := by
  blk_ext [iblk, V, idx t, vcol, pn, ph]

/-- The gains' block. -/
theorem g_at (e : Fin 256) : iblk m c 1 t (ix3 0 0 e) = m ((c : Thread nD τ).loc main_arg1) (ix2 0 e) := by
  blk_point [iblk, idx t]

/-- The parameters' block of the second softmax's weight. -/
theorem lam_at (i : Fin 4) (x : Fin 128) : iblk m c 0 t (ix3 0 i x) = m ((c : Thread nD τ).loc main_arg0) (ix3 0 i x) := by
  blk_ext [iblk, V, idx t]

/-- The scores against the latent keys are the reference's products. -/
theorem sa_row (ht : ¬t.val % 17 = 0) (d : Fin 2) (r : Fin 256) :
    sa (iblk m c 2 (prev t)) (iblk m c 3 (prev t)) d r
      = rowA (m ((c : Thread nD τ).loc main_arg2)) (m ((c : Thread nD τ).loc main_arg3)) (pn t) (ph t) d (pr t r) := by
  funext j
  exact Finset.sum_congr rfl fun x _ => congrArg₂ (· * ·) (q_at m c t ht r d x) (k_at m c t ht j d x)

/-- The scores against the cached keys are the reference's products. -/
theorem sb_row (ht : ¬t.val % 17 = 0) (d : Fin 2) (r : Fin 256) :
    sb (iblk m c 2 (prev t)) (iblk m c 5 (prev t)) d r
      = rowB (m ((c : Thread nD τ).loc main_arg2)) (m ((c : Thread nD τ).loc main_arg5)) (pn t) (ph t) d (pr t r) := by
  funext j
  exact Finset.sum_congr rfl fun x _ => congrArg₂ (· * ·) (q_at m c t ht r d x) (ck_at m c t ht j d x)

/-- The weight of the second softmax is the reference's. -/
theorem lam_row : lamG (iblk m c 0 t) = Cert.DiffAttnRefIdeal.Value.refLam (m ((c : Thread nD τ).loc main_arg0)) ix0 := by
  unfold lamG
  simp only [lam_at m c t]
  exact (Cert.DiffAttnRefIdeal.Value.refLam_at _).symm

end Reads

end Cert.DiffAttnIdeal.Value
-- ==== Proof.DiffClaim.lean ====
module

public import proofs.«01_k».proof.Proof.DiffFinal

@[expose] public section

set_option maxRecDepth 16384
noncomputable section
open Idealize.ShloMosaic Idealize.ShloMosaic.TcCoe Idealize.SL.Sem
open Idealize.ShloMosaic.Pipeline (Dat)

namespace Cert.DiffAttnIdeal.Value
open Cert.DiffAttnIdeal Cert.DiffAttnIdeal.Gen Cert.Diff
open Cert.DiffAttnRefIdeal.Value (tok col vcol rowA rowB refN refO refP refE refS refV refLam refO_pow refN_at)

variable (m : (ℓ : Loc nD τ sig) → Buf (Elt Ideal) ℓ) (c : Dev nD)

/-- The reference's array over the call's arguments. -/
def REF : FVec Ideal Cert.DiffAttnRefIdeal.S16384x2048 .bf16 :=
  refN (refO (refLam (m ((c : Thread nD τ).loc main_arg0)))
    (refP (refE (refS (m ((c : Thread nD τ).loc main_arg2)) (m ((c : Thread nD τ).loc main_arg3)) (m ((c : Thread nD τ).loc main_arg5)))))
    (refV (m ((c : Thread nD τ).loc main_arg4)) (m ((c : Thread nD τ).loc main_arg6)))) (m ((c : Thread nD τ).loc main_arg1))

section Rows

variable (t : Fin cfg0.N) (ht : ¬t.val % 17 = 0) (r : Fin 256) (d : Fin 2)

include ht in
/-- A numerator of a latent key, over the reference's products. -/
theorem el_row (x : Fin 4096) : elG (iblk m c 2 (prev t)) (iblk m c 3 (prev t)) (iblk m c 5 (prev t)) (ix3 d r x)
    = Ideal.exp2 (rowA (m ((c : Thread nD τ).loc main_arg2)) (m ((c : Thread nD τ).loc main_arg3)) (pn t) (ph t) d (pr t r) x
      - top (rowA (m ((c : Thread nD τ).loc main_arg2)) (m ((c : Thread nD τ).loc main_arg3)) (pn t) (ph t) d (pr t r))
          (rowB (m ((c : Thread nD τ).loc main_arg2)) (m ((c : Thread nD τ).loc main_arg5)) (pn t) (ph t) d (pr t r))) := by
  rw [← sa_row m c t ht d r, ← sb_row m c t ht d r]
  rfl

include ht in
/-- A numerator of a cached key, over the reference's products. -/
theorem ec_row (x : Fin 512) : ecG (iblk m c 2 (prev t)) (iblk m c 3 (prev t)) (iblk m c 5 (prev t)) (ix3 d r x)
    = Ideal.exp2 (rowB (m ((c : Thread nD τ).loc main_arg2)) (m ((c : Thread nD τ).loc main_arg5)) (pn t) (ph t) d (pr t r) x
      - top (rowA (m ((c : Thread nD τ).loc main_arg2)) (m ((c : Thread nD τ).loc main_arg3)) (pn t) (ph t) d (pr t r))
          (rowB (m ((c : Thread nD τ).loc main_arg2)) (m ((c : Thread nD τ).loc main_arg5)) (pn t) (ph t) d (pr t r))) := by
  rw [← sa_row m c t ht d r, ← sb_row m c t ht d r]
  rfl

include ht in
/-- The first half's coefficient, over the reference's products. -/
theorem cf_row0 (l : Fin 128) : cfG (iblk m c 0 (prev t)) (iblk m c 2 (prev t)) (iblk m c 3 (prev t)) (iblk m c 5 (prev t)) (ix3 0 r l)
    = Ideal.div 1 (den (rowA (m ((c : Thread nD τ).loc main_arg2)) (m ((c : Thread nD τ).loc main_arg3)) (pn t) (ph t) 0 (pr t r))
          (rowB (m ((c : Thread nD τ).loc main_arg2)) (m ((c : Thread nD τ).loc main_arg5)) (pn t) (ph t) 0 (pr t r))) := by
  rw [← sa_row m c t ht 0 r, ← sb_row m c t ht 0 r]
  exact if_pos rfl

include ht in
/-- The second half's coefficient, over the reference's products. -/
theorem cf_row1 (l : Fin 128) : cfG (iblk m c 0 (prev t)) (iblk m c 2 (prev t)) (iblk m c 3 (prev t)) (iblk m c 5 (prev t)) (ix3 1 r l)
    = Ideal.div 1 (den (rowA (m ((c : Thread nD τ).loc main_arg2)) (m ((c : Thread nD τ).loc main_arg3)) (pn t) (ph t) 1 (pr t r))
          (rowB (m ((c : Thread nD τ).loc main_arg2)) (m ((c : Thread nD τ).loc main_arg5)) (pn t) (ph t) 1 (pr t r)))
        * refLam (m ((c : Thread nD τ).loc main_arg0)) ix0 := by
  rw [← sa_row m c t ht 1 r, ← sb_row m c t ht 1 r, ← lam_row m c (prev t)]
  exact if_neg (by decide : ¬(1 : ℕ) = 0)

end Rows

variable (hq : ∀ i, ∃ a : ℝ, m ((c : Thread nD τ).loc main_arg2) i = (a : EReal)) (hk : ∀ i, ∃ a : ℝ, m ((c : Thread nD τ).loc main_arg3) i = (a : EReal))
  (hc : ∀ i, ∃ a : ℝ, m ((c : Thread nD τ).loc main_arg5) i = (a : EReal))

include hq hk hc in
/-- The attention of a row is the reference's. -/
theorem attn_row (t : Fin cfg0.N) (ht : ¬t.val % 17 = 0) (r e : Fin 256) :
    attn (elG (iblk m c 2 (prev t)) (iblk m c 3 (prev t)) (iblk m c 5 (prev t))) (ecG (iblk m c 2 (prev t)) (iblk m c 3 (prev t)) (iblk m c 5 (prev t)))
        (cfG (iblk m c 0 (prev t)) (iblk m c 2 (prev t)) (iblk m c 3 (prev t)) (iblk m c 5 (prev t))) (iblk m c 4 t) (iblk m c 6 t) r e
      = refO (refLam (m ((c : Thread nD τ).loc main_arg0)))
          (refP (refE (refS (m ((c : Thread nD τ).loc main_arg2)) (m ((c : Thread nD τ).loc main_arg3)) (m ((c : Thread nD τ).loc main_arg5)))))
          (refV (m ((c : Thread nD τ).loc main_arg4)) (m ((c : Thread nD τ).loc main_arg6))) (ix4 (pn t) (pr t r) (ph t) e) := by
  rw [refO_pow _ _ _ _ _ _ hq hk hc]
  unfold attn
  refine congrArg₂ (· + ·) (Finset.sum_congr rfl fun x _ => ?_) (Finset.sum_congr rfl fun x _ => ?_)
  · rw [el_row m c t ht, el_row m c t ht, cf_row0 m c t ht, cf_row1 m c t ht, v_at m c t]
  · rw [ec_row m c t ht, ec_row m c t ht, cf_row0 m c t ht, cf_row1 m c t ht, cv_at m c t]

include hq hk hc in
/-- What an emitting step writes is the reference's. -/
theorem point (t : Fin cfg0.N) (ht : ¬t.val % 17 = 0) (r e : Fin 256) :
    (outsAt0 m c t.val t.isLt).1 (ix2 r e) = REF m c (ix2 (tok (pn t) (pr t r)) (vcol (ph t) e)) := by
  rw [step_out m c t ht r e]
  unfold REF
  rw [refN_at, g_at m c t]
  simp only [← attn_row m c hq hk hc t ht r]
  rfl

/-- The points whose block is written back are the emitting ones. -/
theorem flush_emits : ∀ t : Fin cfg0.N, (cfg0.win 7).flush t = true → ¬t.val % 17 = 0 :=
  (by decide +kernel : ∀ t : Fin grid0.N, _)

/-- An index of a block is its row and lane. -/
theorem idx_two (y : S256x256.Idx) : ∃ r e : Fin 256, y = ix2 r e := by
  refine ⟨y 0, y 1, ?_⟩
  funext a
  match a with
  | ⟨0, _⟩ => rfl
  | ⟨1, _⟩ => rfl

include hq hk hc in
/-- The array the call leaves is the reference's. -/
theorem final : (dats m 0 c).arrAt 7 (cfgs 0).N = REF m c := by
  refine (dats m 0 c).arrAt_eq_of_covers 7 _ (by decide +kernel) fun t hf y => ?_
  have ht := flush_emits t hf
  obtain ⟨r, e, rfl⟩ := idx_two y
  have h : t.val < 544 := t.isLt
  blk_simp
  rw [after0_7]
  refine (point m c hq hk hc t ht r e).trans ?_
  blk_ext [idx t, tok, vcol, pn, ph, pr]

end Cert.DiffAttnIdeal.Value
-- ==== Proof.DiffAttention.lean ====
module

public import proofs.«01_k».proof.Defs
public import proofs.«01_k».proof.Proof.DiffClaim
public import proofs.«01_k».proof.Proof.Gen.Pre_finite
public import Idealize.ShloMosaic.Lib.ReduceAll

@[expose] public section

set_option maxRecDepth 16384
noncomputable section
open Idealize.ShloMosaic Idealize.ShloMosaic.TcCoe Idealize.SL.Sem

namespace Cert.Proof

/-- The bit pattern of plus infinity. -/
theorem posInf : Ideal.ofBits .f32 0x7F800000#32 = ⊤ := by
  simp [Ideal.ofBits, Ideal.ieee]

/-- A number whose absolute value compares below plus infinity is real. -/
theorem real_of_lt (x : EReal) (h : BitVec.ofBool (decide (max x (-x) < Ideal.ofBits .f32 0x7F800000#32)) = 1#1) : ∃ a : ℝ, x = (a : EReal) := by
  have hl : max x (-x) < ⊤ := by
    by_contra hn
    rw [posInf, decide_eq_false hn] at h
    exact absurd h (by decide)
  induction x using EReal.rec with
  | bot => exact absurd hl (by simp)
  | top => exact absurd hl (by simp)
  | coe a => exact ⟨a, rfl⟩

/-- Where the precondition holds, the queries, the keys and the cached keys are real. -/
theorem finite_reals (x0 : FVec Ideal Cert.Pre_finite.S2x4x128 .f32) (x1 : FVec Ideal Cert.Pre_finite.S2x256 .f32)
    (x2 x3 x4 : FVec Ideal Cert.Pre_finite.S16384x2048 .bf16) (x5 x6 : FVec Ideal Cert.Pre_finite.S4x2x512x2048 .f32)
    (h : @Cert.Pre_finite.fn Cert.Pre_finite.Gen.facts Ideal _ x0 x1 x2 x3 x4 x5 x6 = fun _ => 1#1) :
    (∀ i, ∃ a : ℝ, x2 i = (a : EReal)) ∧ (∀ i, ∃ a : ℝ, x3 i = (a : EReal)) ∧ (∀ i, ∃ a : ℝ, x5 i = (a : EReal)) := by
  haveI : Subsingleton Cert.Pre_finite.S_.Idx := ⟨fun a b => funext fun i => i.elim0⟩
  have h0 := congrFun h ix0
  dsimp only [Cert.Pre_finite.fn] at h0
  obtain ⟨h1, hc⟩ := IntOp.andi_eq_one.mp h0
  obtain ⟨hq, hk⟩ := IntOp.andi_eq_one.mp h1
  exact ⟨fun i => real_of_lt _ (Host.reduce_andi_all _ _ _ _ _ hq i), fun i => real_of_lt _ (Host.reduce_andi_all _ _ _ _ _ hk i),
    fun i => real_of_lt _ (Host.reduce_andi_all _ _ _ _ _ hc i)⟩

/-- The differential attention: on real queries, keys and cached keys the kernel's call and the reference run and end with the same array. -/
theorem algebraic_diff : algebraic_DiffAttnIdeal_DiffAttnRefIdeal_pre_finite (hDiffAttnIdeal := Cert.DiffAttnIdeal.Gen.facts)
    (hDiffAttnRefIdeal := Cert.DiffAttnRefIdeal.Gen.facts) (hPre_finite := Cert.Pre_finite.Gen.facts) := by
  pair_intro
  · run_from Cert.DiffAttnIdeal.Value.run_blocks m g
  · run_from Cert.DiffAttnRefIdeal.Value.run m' g'
    obtain ⟨hq, hk, hc'⟩ := finite_reals _ _ _ _ _ _ _ (hpre c)
    rw [Cert.DiffAttnIdeal.Value.final m c hq hk hc', Cert.DiffAttnRefIdeal.Value.res_eq]
    unfold Cert.DiffAttnIdeal.Value.REF
    obtain ⟨e0, e1, e2, e3, e4, e5, e6⟩ := hagree c
    rw [e0, e1, e2, e3, e4, e5, e6]

end Cert.Proof
-- ==== Proof.ProjCtx.lean ====
module

public import proofs.«01_k».proof.Defs
public import proofs.«01_k».proof.Proof.Gen.CtxProjIdeal.Value
public import proofs.«01_k».proof.Proof.Gen.CtxProjRefIdeal.Run
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.CtxProjRefIdeal.Value
open Cert.CtxProjRefIdeal Cert.CtxProjRefIdeal.Gen

/-- The reference of the prompts' projection: the rows times the matrix, and of the columns the ones this call makes. -/
def REF (h : FVec Ideal S8192x2048 .bf16) (w : FVec Ideal S2x2048x6144 .f32) : FVec Ideal S8192x2048 .f32 :=
  extractStridedSlice S8192x2048 ![0, 2048] (Host.dotGeneral dot_S8192x2048_S2048x6144_S8192x6144_1_0_0_1_n_n none (extf .f32 h bitsLt_bf16_f32) (shapeCast _ (extractStridedSlice S1x2048x6144 ![0, 0, 0] w slices_S2x2048x6144_S1x2048x6144_0_0_0) shapeCasts_S1x2048x6144_S2048x6144)) slices_S8192x6144_S8192x2048_0_2048

end Cert.CtxProjRefIdeal.Value

namespace Cert.CtxProjIdeal.Value
open Cert.CtxProjIdeal Cert.CtxProjIdeal.Gen

variable (m : (ℓ : Loc nD τ sig) → Buf (Elt Ideal) ℓ)

/-- Which block each window shows at a grid point: row block `t % 8`, column tile `t / 8`. -/
theorem idx : ∀ t : Fin cfg0.N, win0_0.index t = ![t.val % 8, 0] ∧ win0_1.index t = ![0, 0, 2 + t.val / 8]
    ∧ win0_2.index t = ![t.val % 8, t.val / 8] :=
  (by decide +kernel : ∀ t : Fin grid0.N, _)

/-- Points of the same column tile show the same block of the matrix. -/
theorem same_matrix (c : Dev nD) (t t' : Fin cfg0.N) (h : t.val / 8 = t'.val / 8) : iblk m c 1 t = iblk m c 1 t' := by
  funext y
  blk_point [iblk, V, idx t, idx t']

/-- The scratch holds, after every point, the column tile of the matrix that the point shows: the first
    point of a tile writes it, the others keep it. -/
theorem kept (c : Dev nD) : ∀ (n : ℕ) (h : n < cfg0.N), (outsAt0 m c n h).2 = k0_pay1 (F := Ideal) (iblk m c 1 ⟨n, h⟩) := by
  intro n
  induction n with
  | zero =>
    intro h
    rw [outsAt0_A m c ⟨0, h⟩ (Nat.zero_mod _)]
    frame_out
  | succ n ih =>
    intro h
    by_cases h0 : (n + 1) % 8 = 0
    · rw [outsAt0_A m c ⟨n + 1, h⟩ h0]
      frame_out
    · rw [outsAt0_B m c ⟨n + 1, h⟩ h0]
      refine (ih (Nat.lt_of_succ_lt h)).trans (congrArg _ (same_matrix m c _ _ ?_))
      show n / 8 = (n + 1) / 8
      omega

/-- What the first point of a tile leaves in the result's buffer: the row block times the column tile of the matrix. -/
theorem tile_first (c : Dev nD) (t : Fin cfg0.N) (h0 : t.val % 8 = 0) (y : S1024x1024.Idx) :
    (outsAt0 m c t.val t.isLt).1 y = k0_pay2 (F := Ideal) (iblk m c 0 t) (k0_pay1 (F := Ideal) (iblk m c 1 t)) y := by
  rw [outsAt0_A m c t h0]
  frame_out
  try simp only [read_unread_whole]
  generalize k0_pay1 (iblk m c 1 t) = W
  generalize iblk m c 0 t = X
  unfold k0_pay3 k0_pay4 k0_pay5 k0_pay6 k0_pay7 k0_pay8 k0_pay9 k0_pay10
  generalize k0_pay2 X W = T
  canon_tiles x h
  all_goals (pointwise; blk_ext)

/-- What every other point leaves there: the same, the scratch holding the tile. -/
theorem tile_next (c : Dev nD) (t : Fin cfg0.N) (h0 : ¬ t.val % 8 = 0) (y : S1024x1024.Idx) :
    (outsAt0 m c t.val t.isLt).1 y = k0_pay2 (F := Ideal) (iblk m c 0 t) (k0_pay1 (F := Ideal) (iblk m c 1 t)) y := by
  have hp : 0 < t.val := Nat.pos_of_ne_zero fun h => h0 (by rw [h])
  have hk := kept m c (t.val - 1) (Nat.lt_of_le_of_lt (Nat.sub_le _ _) t.isLt)
  rw [same_matrix m c ⟨t.val - 1, Nat.lt_of_le_of_lt (Nat.sub_le _ _) t.isLt⟩ t (show (t.val - 1) / 8 = t.val / 8 by omega)] at hk
  rw [outsAt0_B m c t h0, hk]
  frame_out
  try simp only [read_unread_whole]
  generalize k0_pay1 (iblk m c 1 t) = W
  generalize iblk m c 0 t = X
  unfold k0_pay3 k0_pay4 k0_pay5 k0_pay6 k0_pay7 k0_pay8 k0_pay9 k0_pay10
  generalize k0_pay2 X W = T
  canon_tiles x h
  all_goals (pointwise; blk_ext)

/-- What a point leaves in the result's buffer. -/
theorem tile (c : Dev nD) (t : Fin cfg0.N) (y : S1024x1024.Idx) :
    (outsAt0 m c t.val t.isLt).1 y = k0_pay2 (F := Ideal) (iblk m c 0 t) (k0_pay1 (F := Ideal) (iblk m c 1 t)) y := by
  by_cases h0 : t.val % 8 = 0
  · exact tile_first m c t h0 y
  · exact tile_next m c t h0 y

/-- The array the call leaves is the reference's term over its arguments. -/
theorem final (c : Dev nD) : (dats m 0 c).arrAt 2 (cfgs 0).N
    = Cert.CtxProjRefIdeal.Value.REF (m ((c : Thread nD τ).loc main_arg0)) (m ((c : Thread nD τ).loc main_arg1)) := by
  refine (dats m 0 c).arrAt_eq_of_covers 2 _ (by decide +kernel) fun t _ y => ?_
  blk_simp
  rw [after0_2]
  refine (tile m c t y).trans ?_
  pointwise [k0_pay2, k0_pay1, Cert.CtxProjRefIdeal.Value.REF]
  blk_point [iblk, V, idx t]

end Cert.CtxProjIdeal.Value

namespace Cert.Proof

/-- The prompts' projection: the kernel's call and the reference run and end with the same array. -/
theorem algebraic_ctx_proj : algebraic_CtxProjIdeal_CtxProjRefIdeal (hCtxProjIdeal := Cert.CtxProjIdeal.Gen.facts) (hCtxProjRefIdeal := Cert.CtxProjRefIdeal.Gen.facts) := by
  pair_intro
  · run_from Cert.CtxProjIdeal.Gen.run_main m g
  · run_from Cert.CtxProjRefIdeal.Value.run m' g'
    exact (Cert.CtxProjIdeal.Value.final m c).symm

end Cert.Proof
-- ==== Proof.ProjVal.lean ====
module

public import proofs.«01_k».proof.Defs
public import proofs.«01_k».proof.Proof.Gen.ValProjIdeal.Value
public import proofs.«01_k».proof.Proof.Gen.ValProjRefIdeal.Run
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.ValProjRefIdeal.Value
open Cert.ValProjRefIdeal Cert.ValProjRefIdeal.Gen

/-- The reference of the value projection: the rows times the matrix, and of the columns the ones this call makes. -/
def REF (h : FVec Ideal S16384x2048 .bf16) (w : FVec Ideal S2x2048x6144 .f32) : FVec Ideal S16384x2048 .bf16 :=
  truncf .bf16 (extractStridedSlice S16384x2048 ![0, 4096] (Host.dotGeneral dot_S16384x2048_S2048x6144_S16384x6144_1_0_0_1_n_n none (extf .f32 h bitsLt_bf16_f32) (shapeCast _ (extractStridedSlice S1x2048x6144 ![0, 0, 0] w slices_S2x2048x6144_S1x2048x6144_0_0_0) shapeCasts_S1x2048x6144_S2048x6144)) slices_S16384x6144_S16384x2048_0_4096) bitsLt_bf16_f32

end Cert.ValProjRefIdeal.Value

namespace Cert.ValProjIdeal.Value
open Cert.ValProjIdeal Cert.ValProjIdeal.Gen

variable (m : (ℓ : Loc nD τ sig) → Buf (Elt Ideal) ℓ)

/-- Which block each window shows at a grid point: row block `t % 16`, column tile `t / 16`. -/
theorem idx : ∀ t : Fin cfg0.N, win0_0.index t = ![t.val % 16, 0] ∧ win0_1.index t = ![0, 0, 4 + t.val / 16]
    ∧ win0_2.index t = ![t.val % 16, t.val / 16] :=
  (by decide +kernel : ∀ t : Fin grid0.N, _)

/-- Points of the same column tile show the same block of the matrix. -/
theorem same_matrix (c : Dev nD) (t t' : Fin cfg0.N) (h : t.val / 16 = t'.val / 16) : iblk m c 1 t = iblk m c 1 t' := by
  funext y
  blk_point [iblk, V, idx t, idx t']

/-- The scratch holds, after every point, the column tile of the matrix that the point shows: the first
    point of a tile writes it, the others keep it. -/
theorem kept (c : Dev nD) : ∀ (n : ℕ) (h : n < cfg0.N), (outsAt0 m c n h).2 = k0_pay1 (F := Ideal) (iblk m c 1 ⟨n, h⟩) := by
  intro n
  induction n with
  | zero =>
    intro h
    rw [outsAt0_A m c ⟨0, h⟩ (Nat.zero_mod _)]
    frame_out
  | succ n ih =>
    intro h
    by_cases h0 : (n + 1) % 16 = 0
    · rw [outsAt0_A m c ⟨n + 1, h⟩ h0]
      frame_out
    · rw [outsAt0_B m c ⟨n + 1, h⟩ h0]
      refine (ih (Nat.lt_of_succ_lt h)).trans (congrArg _ (same_matrix m c _ _ ?_))
      show n / 16 = (n + 1) / 16
      omega

/-- What the first point of a tile leaves in the result's buffer: the row block times the column tile of the matrix. -/
theorem tile_first (c : Dev nD) (t : Fin cfg0.N) (h0 : t.val % 16 = 0) (y : S1024x1024.Idx) :
    (outsAt0 m c t.val t.isLt).1 y = k0_pay2 (F := Ideal) (iblk m c 0 t) (k0_pay1 (F := Ideal) (iblk m c 1 t)) y := by
  rw [outsAt0_A m c t h0]
  frame_out
  try simp only [read_unread_whole]
  generalize k0_pay1 (iblk m c 1 t) = W
  generalize iblk m c 0 t = X
  unfold k0_pay3 k0_pay4 k0_pay5 k0_pay6 k0_pay7 k0_pay8 k0_pay9 k0_pay10
  generalize k0_pay2 X W = T
  canon_tiles x h
  all_goals (pointwise; blk_ext)

/-- What every other point leaves there: the same, the scratch holding the tile. -/
theorem tile_next (c : Dev nD) (t : Fin cfg0.N) (h0 : ¬ t.val % 16 = 0) (y : S1024x1024.Idx) :
    (outsAt0 m c t.val t.isLt).1 y = k0_pay2 (F := Ideal) (iblk m c 0 t) (k0_pay1 (F := Ideal) (iblk m c 1 t)) y := by
  have hp : 0 < t.val := Nat.pos_of_ne_zero fun h => h0 (by rw [h])
  have hk := kept m c (t.val - 1) (Nat.lt_of_le_of_lt (Nat.sub_le _ _) t.isLt)
  rw [same_matrix m c ⟨t.val - 1, Nat.lt_of_le_of_lt (Nat.sub_le _ _) t.isLt⟩ t (show (t.val - 1) / 16 = t.val / 16 by omega)] at hk
  rw [outsAt0_B m c t h0, hk]
  frame_out
  try simp only [read_unread_whole]
  generalize k0_pay1 (iblk m c 1 t) = W
  generalize iblk m c 0 t = X
  unfold k0_pay3 k0_pay4 k0_pay5 k0_pay6 k0_pay7 k0_pay8 k0_pay9 k0_pay10
  generalize k0_pay2 X W = T
  canon_tiles x h
  all_goals (pointwise; blk_ext)

/-- What a point leaves in the result's buffer. -/
theorem tile (c : Dev nD) (t : Fin cfg0.N) (y : S1024x1024.Idx) :
    (outsAt0 m c t.val t.isLt).1 y = k0_pay2 (F := Ideal) (iblk m c 0 t) (k0_pay1 (F := Ideal) (iblk m c 1 t)) y := by
  by_cases h0 : t.val % 16 = 0
  · exact tile_first m c t h0 y
  · exact tile_next m c t h0 y

/-- The array the call leaves is the reference's term over its arguments. -/
theorem final (c : Dev nD) : (dats m 0 c).arrAt 2 (cfgs 0).N
    = Cert.ValProjRefIdeal.Value.REF (m ((c : Thread nD τ).loc main_arg0)) (m ((c : Thread nD τ).loc main_arg1)) := by
  refine (dats m 0 c).arrAt_eq_of_covers 2 _ (by decide +kernel) fun t _ y => ?_
  blk_simp
  rw [after0_2]
  refine (tile m c t y).trans ?_
  pointwise [k0_pay2, k0_pay1, Cert.ValProjRefIdeal.Value.REF]
  blk_point [iblk, V, idx t]

end Cert.ValProjIdeal.Value

namespace Cert.Proof

/-- The value projection: the kernel's call and the reference run and end with the same array. -/
theorem algebraic_val_proj : algebraic_ValProjIdeal_ValProjRefIdeal (hValProjIdeal := Cert.ValProjIdeal.Gen.facts) (hValProjRefIdeal := Cert.ValProjRefIdeal.Gen.facts) := by
  pair_intro
  · run_from Cert.ValProjIdeal.Gen.run_main m g
  · run_from Cert.ValProjRefIdeal.Value.run m' g'
    exact (Cert.ValProjIdeal.Value.final m c).symm

end Cert.Proof
-- ==== Proof.KeyTables.lean ====
module

public import proofs.«01_k».proof.Defs
public import proofs.«01_k».proof.Proof.Gen.KeyProjIdeal.Value
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.KeyProjIdeal.Value
open Cert.KeyProjIdeal Cert.KeyProjIdeal.Gen

/-- The first `b` of a line of operations, then the rest. -/
theorem stretches (a b : List (HloOp τ sig (Elt Ideal))) (W : Valuation τ sig (Elt Ideal)) :
    StableHlo.after (a ++ b) W = StableHlo.after b (StableHlo.after a W) := by
  induction a generalizing W with
  | nil => rfl
  | cons op a ih => exact ih _

/-- The whole quotient, rounded down: the truncated one, less one where signs differ and something is left. -/
def QUOTIENT (i : IVec S4096 32) (d : IVec S_ 32) : IVec S4096 32 :=
  select (andi (cmpi .ne (signi i) (broadcastInDim S4096 ![] bcast_S_S4096 (signi (id d)))) (cmpi .ne (Host.remsi i (broadcastInDim S4096 ![] bcast_S_S4096 (id d))) (broadcastInDim S4096 ![] bcast_S_S4096 (constantI S_ 32 0#32)))) (subi (Host.divsi i (broadcastInDim S4096 ![] bcast_S_S4096 (id d))) (broadcastInDim S4096 ![] bcast_S_S4096 (constantI S_ 32 1#32))) (Host.divsi i (broadcastInDim S4096 ![] bcast_S_S4096 (id d)))

/-- A divisor, or one where it is zero. -/
def DIVISOR (d : IVec S_ 32) : IVec S_ 32 := select (cmpi .eq (id d) (constantI S_ 32 0#32)) (constantI S_ 32 1#32) (id d)

/-- The remainder that goes with the quotient rounded down. -/
def REMAINDER (i : IVec S4096 32) (d : IVec S_ 32) : IVec S4096 32 :=
  select (andi (cmpi .ne (cmpi .slt (Host.remsi i (broadcastInDim S4096 ![] bcast_S_S4096 (DIVISOR d))) (broadcastInDim S4096 ![] bcast_S_S4096 (constantI S_ 32 0#32))) (broadcastInDim S4096 ![] bcast_S_S4096 (cmpi .slt (DIVISOR d) (constantI S_ 32 0#32)))) (cmpi .ne (Host.remsi i (broadcastInDim S4096 ![] bcast_S_S4096 (DIVISOR d))) (broadcastInDim S4096 ![] bcast_S_S4096 (constantI S_ 32 0#32)))) (addi (Host.remsi i (broadcastInDim S4096 ![] bcast_S_S4096 (DIVISOR d))) (broadcastInDim S4096 ![] bcast_S_S4096 (DIVISOR d))) (Host.remsi i (broadcastInDim S4096 ![] bcast_S_S4096 (DIVISOR d)))

/-- The frequencies: ten thousand to the power `-(0 + 2 k) / 64`. -/
def POWERS : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles: a place along one side of the image times the frequencies. -/
def ANGLES (n : FVec Ideal S4096 .f32) : FVec Ideal S4096x32 .f32 :=
  mulf (broadcastInDim S4096x32 ![0, 1] bcast_S4096x1_S4096x32_0_1 (broadcastInDim S4096x1 ![0] bcast_S4096_S4096x1_0 n)) (broadcastInDim S4096x32 ![0, 1] bcast_S1x32_S4096x32_0_1 (broadcastInDim S1x32 ![1] bcast_S32_S1x32_1 POWERS))

variable (W : Valuation τ sig (Elt Ideal))

/-- The stretch that rounds the quotient down leaves it in its result. -/
theorem quotient_line : StableHlo.after (hostOps0_1 (F := Ideal)) W (Proc.devRef .tc main_v1) = QUOTIENT (W (Proc.devRef .tc main_v0)) (W (Proc.devRef .tc main_c)) := by
  simp only [hostOps0_1, StableHlo.after_cons, StableHlo.after_nil]
  after_results_simp
  after_results_loop
  simp only [StableHlo.TRef.ofBuf_toBuf]
  rfl

/-- The stretch that takes the remainder leaves it in its result. -/
theorem remainder_line : StableHlo.after (hostOps0_3 (F := Ideal)) W (Proc.devRef .tc main_v3) = REMAINDER (W (Proc.devRef .tc main_v0)) (W (Proc.devRef .tc main_c_0)) := by
  simp only [hostOps0_3, StableHlo.after_cons, StableHlo.after_nil]
  after_results_simp
  after_results_loop
  simp only [StableHlo.TRef.ofBuf_toBuf]
  rfl

/-- The quotients as numbers pass through the remainder's stretch. -/
theorem remainder_keeps : StableHlo.after (hostOps0_3 (F := Ideal)) W (Proc.devRef .tc main_v2) = W (Proc.devRef .tc main_v2) := by
  simp only [hostOps0_3, StableHlo.after_cons, StableHlo.after_nil]
  after_results_simp

/-- The row numbers pass through the quotient's stretch. -/
theorem quotient_keeps : StableHlo.after (hostOps0_1 (F := Ideal)) W (Proc.devRef .tc main_v0) = W (Proc.devRef .tc main_v0) := by
  simp only [hostOps0_1, StableHlo.after_cons, StableHlo.after_nil]
  after_results_simp

/-- The last stretch, cut after the two arrays of angles. -/
theorem cut : hostOps0_4 (F := Ideal) = (hostOps0_4 (F := Ideal)).take 25 ++ (hostOps0_4 (F := Ideal)).drop 25 := (List.take_append_drop 25 _).symm

/-- The first array of angles. -/
theorem first_angles : StableHlo.after ((hostOps0_4 (F := Ideal)).take 25) W (Proc.devRef .tc main_v19) = ANGLES (W (Proc.devRef .tc main_v2)) := by
  simp only [hostOps0_4, List.take_succ_cons, List.take_zero, StableHlo.after_cons, StableHlo.after_nil]
  after_results_simp
  rfl

/-- The second array of angles. -/
theorem second_angles : StableHlo.after ((hostOps0_4 (F := Ideal)).take 25) W (Proc.devRef .tc main_v24) = ANGLES (sitofp .f32 (W (Proc.devRef .tc main_v3))) := by
  simp only [hostOps0_4, List.take_succ_cons, List.take_zero, StableHlo.after_cons, StableHlo.after_nil]
  after_results_simp
  rfl

/-- The cosines from the angles: four pieces, of the first angles twice and of the second twice. -/
theorem cosine_end : StableHlo.after ((hostOps0_4 (F := Ideal)).drop 25) W (Proc.devRef .tc main_v29)
    = concatenate S4096x128 1 [⟨S4096x32, Host.cos (F := Ideal) (φ := .f32) (W (Proc.devRef .tc main_v19))⟩, ⟨S4096x32, Host.cos (F := Ideal) (φ := .f32) (W (Proc.devRef .tc main_v19))⟩, ⟨S4096x32, Host.cos (F := Ideal) (φ := .f32) (W (Proc.devRef .tc main_v24))⟩, ⟨S4096x32, Host.cos (F := Ideal) (φ := .f32) (W (Proc.devRef .tc main_v24))⟩] concatenates_S4096x32_S4096x32_S4096x32_S4096x32_S4096x128_d1 := by
  simp only [hostOps0_4, List.drop_succ_cons, List.drop_zero, StableHlo.after_cons, StableHlo.after_nil]
  after_results_steps
  rfl

set_option maxHeartbeats 1600000 in
/-- The sines from the angles: the same pieces, the first and third with their sign turned. -/
theorem sine_end : StableHlo.after ((hostOps0_4 (F := Ideal)).drop 25) W (Proc.devRef .tc main_v36)
    = concatenate S4096x128 1 [⟨S4096x32, Host.negf (F := Ideal) (φ := .f32) (Host.sin (F := Ideal) (φ := .f32) (W (Proc.devRef .tc main_v19)))⟩, ⟨S4096x32, Host.sin (F := Ideal) (φ := .f32) (W (Proc.devRef .tc main_v19))⟩, ⟨S4096x32, Host.negf (F := Ideal) (φ := .f32) (Host.sin (F := Ideal) (φ := .f32) (W (Proc.devRef .tc main_v24)))⟩, ⟨S4096x32, Host.sin (F := Ideal) (φ := .f32) (W (Proc.devRef .tc main_v24))⟩] concatenates_S4096x32_S4096x32_S4096x32_S4096x32_S4096x128_d1 := by
  simp only [hostOps0_4, List.drop_succ_cons, List.drop_zero, StableHlo.after_cons, StableHlo.after_nil]
  after_results_steps
  rfl

/-- The cosines' line, from the numbers it starts from. -/
theorem cosine_line : StableHlo.after (hostOps0_4 (F := Ideal)) W (Proc.devRef .tc main_v29)
    = concatenate S4096x128 1 [⟨S4096x32, Host.cos (ANGLES (W (Proc.devRef .tc main_v2)))⟩, ⟨S4096x32, Host.cos (ANGLES (W (Proc.devRef .tc main_v2)))⟩, ⟨S4096x32, Host.cos (ANGLES (sitofp .f32 (W (Proc.devRef .tc main_v3))))⟩, ⟨S4096x32, Host.cos (ANGLES (sitofp .f32 (W (Proc.devRef .tc main_v3))))⟩] concatenates_S4096x32_S4096x32_S4096x32_S4096x32_S4096x128_d1 := by
  rw [cut, stretches, cosine_end, first_angles, second_angles]

/-- The sines' line, from the numbers it starts from. -/
theorem sine_line : StableHlo.after (hostOps0_4 (F := Ideal)) W (Proc.devRef .tc main_v36)
    = concatenate S4096x128 1 [⟨S4096x32, Host.negf (Host.sin (ANGLES (W (Proc.devRef .tc main_v2))))⟩, ⟨S4096x32, Host.sin (ANGLES (W (Proc.devRef .tc main_v2)))⟩, ⟨S4096x32, Host.negf (Host.sin (ANGLES (sitofp .f32 (W (Proc.devRef .tc main_v3)))))⟩, ⟨S4096x32, Host.sin (ANGLES (sitofp .f32 (W (Proc.devRef .tc main_v3))))⟩] concatenates_S4096x32_S4096x32_S4096x32_S4096x32_S4096x128_d1 := by
  rw [cut, stretches, sine_end, first_angles, second_angles]

/-- The rows' angles: the row number's quotient by 64. -/
def ROWS : FVec Ideal S4096x32 .f32 := ANGLES (sitofp .f32 (QUOTIENT (iotaInDim S4096 32 0) (constantI S_ 32 64#32)))

/-- The columns' angles: the row number's remainder by 64. -/
def COLUMNS : FVec Ideal S4096x32 .f32 := ANGLES (sitofp .f32 (REMAINDER (iotaInDim S4096 32 0) (constantI S_ 32 64#32)))

variable (m : (ℓ : Loc nD τ sig) → Buf (Elt Ideal) ℓ)

/-- What the last stretch finds where it reads the row quotients. -/
theorem rows_found : StableHlo.after (hostOps0_3 (F := Ideal)) (StableHlo.after (hostOps0_2 (F := Ideal)) (StableHlo.after (hostOps0_1 (F := Ideal)) (StableHlo.after (hostOps0 (F := Ideal)) W))) (Proc.devRef .tc main_v2)
    = sitofp (F := Ideal) .f32 (QUOTIENT (iotaInDim S4096 32 0) (constantI S_ 32 64#32)) := by
  have h : ∀ U : Valuation τ sig (Elt Ideal), StableHlo.after (hostOps0_2 (F := Ideal)) U (Proc.devRef .tc main_v2) = sitofp (F := Ideal) .f32 (U (Proc.devRef .tc main_v1)) := by
    intro U
    simp only [hostOps0_2, StableHlo.after_cons, StableHlo.after_nil]
    after_results_simp
  have a : StableHlo.after (hostOps0 (F := Ideal)) W (Proc.devRef .tc main_v0) = iotaInDim S4096 32 0 := by
    simp only [hostOps0, StableHlo.after_cons, StableHlo.after_nil]
    after_results_simp
  have b : StableHlo.after (hostOps0 (F := Ideal)) W (Proc.devRef .tc main_c) = constantI S_ 32 64#32 := by
    simp only [hostOps0, StableHlo.after_cons, StableHlo.after_nil]
    after_results_simp
  rw [remainder_keeps, h, quotient_line, a, b]

/-- What it finds where it reads the remainders. -/
theorem columns_found : StableHlo.after (hostOps0_3 (F := Ideal)) (StableHlo.after (hostOps0_2 (F := Ideal)) (StableHlo.after (hostOps0_1 (F := Ideal)) (StableHlo.after (hostOps0 (F := Ideal)) W))) (Proc.devRef .tc main_v3)
    = REMAINDER (iotaInDim S4096 32 0) (constantI S_ 32 64#32) := by
  have h : ∀ U : Valuation τ sig (Elt Ideal), StableHlo.after (hostOps0_2 (F := Ideal)) U (Proc.devRef .tc main_v0) = U (Proc.devRef .tc main_v0) := by
    intro U
    simp only [hostOps0_2, StableHlo.after_cons, StableHlo.after_nil]
    after_results_simp
  have k : ∀ U : Valuation τ sig (Elt Ideal), StableHlo.after (hostOps0_2 (F := Ideal)) U (Proc.devRef .tc main_c_0) = constantI S_ 32 64#32 := by
    intro U
    simp only [hostOps0_2, StableHlo.after_cons, StableHlo.after_nil]
    after_results_simp
  have a : StableHlo.after (hostOps0 (F := Ideal)) W (Proc.devRef .tc main_v0) = iotaInDim S4096 32 0 := by
    simp only [hostOps0, StableHlo.after_cons, StableHlo.after_nil]
    after_results_simp
  rw [remainder_line, h, k, quotient_keeps, a]

/-- The region finds the memory as the five stretches leave it, one after the other. -/
theorem found (c : Dev nD) (b : Ref sig .tc) : V m c b = StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (fun r => m (c, r)))))) (Proc.devRef .tc b) := by
  rw [← stretches, ← stretches, ← stretches, ← stretches]
  rfl

/-- The table of cosines. -/
theorem cosines (c : Dev nD) : V m c main_v29 = concatenate S4096x128 1 [⟨S4096x32, Host.cos ROWS⟩, ⟨S4096x32, Host.cos ROWS⟩, ⟨S4096x32, Host.cos COLUMNS⟩, ⟨S4096x32, Host.cos COLUMNS⟩] concatenates_S4096x32_S4096x32_S4096x32_S4096x32_S4096x128_d1 := by
  rw [found, cosine_line, rows_found, columns_found]
  rfl

/-- The table of sines. -/
theorem sines (c : Dev nD) : V m c main_v36 = concatenate S4096x128 1 [⟨S4096x32, Host.negf (Host.sin ROWS)⟩, ⟨S4096x32, Host.sin ROWS⟩, ⟨S4096x32, Host.negf (Host.sin COLUMNS)⟩, ⟨S4096x32, Host.sin COLUMNS⟩] concatenates_S4096x32_S4096x32_S4096x32_S4096x32_S4096x128_d1 := by
  rw [found, sine_line, rows_found, columns_found]
  rfl

end Cert.KeyProjIdeal.Value
-- ==== Proof.KeyRef.lean ====
module

public import proofs.«01_k».proof.Defs
public import proofs.«01_k».proof.Proof.Gen.KeyProjRefIdeal.Run
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.KeyProjRefIdeal.Value
open Cert.KeyProjRefIdeal Cert.KeyProjRefIdeal.Gen

/-- The columns this call makes, of the rows times the matrix. -/
def PRODUCT (h : FVec Ideal S16384x2048 .bf16) (w : FVec Ideal S2x2048x6144 .f32) : FVec Ideal S16384x2048 .f32 :=
  extractStridedSlice S16384x2048 ![0, 2048] (Host.dotGeneral dot_S16384x2048_S2048x6144_S16384x6144_1_0_0_1_n_n none (extf .f32 h bitsLt_bf16_f32) (shapeCast _ (extractStridedSlice S1x2048x6144 ![0, 0, 0] w slices_S2x2048x6144_S1x2048x6144_0_0_0) shapeCasts_S1x2048x6144_S2048x6144)) slices_S16384x6144_S16384x2048_0_2048

/-- The same by sample, row, head and lane. -/
def HEADS (x : FVec Ideal S16384x2048 .f32) : FVec Ideal S4x4096x16x128 .f32 := shapeCast _ x shapeCasts_S16384x2048_S4x4096x16x128

/-- The row numbers' quotients by 64. -/
def QUOTIENTS : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The row numbers' remainders by 64. -/
def REMAINDERS : IVec S4096 32 :=
  select (andi (cmpi .ne (cmpi .slt (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (constantI S_ 32 0#32))) (broadcastInDim S4096 ![] bcast_S_S4096 (cmpi .slt (select (cmpi .eq (id (constantI S_ 32 64#32)) (constantI S_ 32 0#32)) (constantI S_ 32 1#32) (id (constantI S_ 32 64#32))) (constantI S_ 32 0#32)))) (cmpi .ne (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (constantI S_ 32 0#32)))) (addi (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (select (cmpi .eq (id (constantI S_ 32 64#32)) (constantI S_ 32 0#32)) (constantI S_ 32 1#32) (id (constantI S_ 32 64#32))))) (Host.remsi (iotaInDim S4096 32 0) (broadcastInDim S4096 ![] bcast_S_S4096 (select (cmpi .eq (id (constantI S_ 32 64#32)) (constantI S_ 32 0#32)) (constantI S_ 32 1#32) (id (constantI S_ 32 64#32)))))

/-- The frequencies. -/
def FREQUENCIES : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles: a place along one side of the image times the frequencies. -/
def TURNS (n : IVec S4096 32) : FVec Ideal S4096x1x32 .f32 :=
  mulf (broadcastInDim S4096x1x32 ![0, 1, 2] bcast_S4096x1x1_S4096x1x32_0_1_2 (broadcastInDim S4096x1x1 ![0] bcast_S4096_S4096x1x1_0 (sitofp .f32 n))) (broadcastInDim S4096x1x32 ![0, 1, 2] bcast_S1x1x32_S4096x1x32_0_1_2 (broadcastInDim S1x1x32 ![2] bcast_S32_S1x1x32_2 FREQUENCIES))

/-- An array over row numbers and lanes, the same for every sample and head. -/
def SPREAD (g : FVec Ideal S4096x1x32 .f32) : FVec Ideal S4x4096x16x32 .f32 :=
  broadcastInDim S4x4096x16x32 ![0, 1, 2, 3] bcast_S1x4096x1x32_S4x4096x16x32_0_1_2_3 (broadcastInDim S1x4096x1x32 ![1, 2, 3] bcast_S4096x1x32_S1x4096x1x32_1_2_3 g)

/-- The first 32 of 64 lanes. -/
def FORE (x : FVec Ideal S4x4096x16x64 .f32) : FVec Ideal S4x4096x16x32 .f32 :=
  extractStridedSlice S4x4096x16x32 ![0, 0, 0, 0] x slices_S4x4096x16x64_S4x4096x16x32_0_0_0_0

/-- The last 32 of 64 lanes. -/
def AFT (x : FVec Ideal S4x4096x16x64 .f32) : FVec Ideal S4x4096x16x32 .f32 :=
  extractStridedSlice S4x4096x16x32 ![0, 0, 0, 32] x slices_S4x4096x16x64_S4x4096x16x32_0_0_0_32

/-- 64 lanes turned by their angles. -/
def TURNED (x : FVec Ideal S4x4096x16x64 .f32) (g : FVec Ideal S4096x1x32 .f32) : FVec Ideal S4x4096x16x64 .f32 :=
  concatenate S4x4096x16x64 3 [⟨S4x4096x16x32, (subf (mulf (FORE x) (SPREAD (Host.cos g))) (mulf (AFT x) (SPREAD (Host.sin g))))⟩, ⟨S4x4096x16x32, (addf (mulf (AFT x) (SPREAD (Host.cos g))) (mulf (FORE x) (SPREAD (Host.sin g))))⟩] concatenates_S4x4096x16x32_S4x4096x16x32_S4x4096x16x64_d3

/-- 128 lanes turned: the first 64 by the quotients' angles, the last by the remainders'. -/
def WHOLE (x : FVec Ideal S4x4096x16x128 .f32) : FVec Ideal S4x4096x16x128 .f32 :=
  concatenate S4x4096x16x128 3 [⟨S4x4096x16x64, TURNED (extractStridedSlice S4x4096x16x64 ![0, 0, 0, 0] x slices_S4x4096x16x128_S4x4096x16x64_0_0_0_0) (TURNS QUOTIENTS)⟩, ⟨S4x4096x16x64, TURNED (extractStridedSlice S4x4096x16x64 ![0, 0, 0, 64] x slices_S4x4096x16x128_S4x4096x16x64_0_0_0_64) (TURNS REMAINDERS)⟩] concatenates_S4x4096x16x64_S4x4096x16x64_S4x4096x16x128_d3

/-- The reference of the key projection: the product's rows turned. -/
def REF (h : FVec Ideal S16384x2048 .bf16) (w : FVec Ideal S2x2048x6144 .f32) : FVec Ideal S16384x2048 .bf16 :=
  truncf .bf16 (shapeCast _ (WHOLE (HEADS (PRODUCT h w))) shapeCasts_S4x4096x16x128_S16384x2048) bitsLt_bf16_f32

/-- The angle of a row number at a lane: the quotients' for the lanes below 64, the remainders' above. -/
def bend (p : Fin 4096) (l : ℕ) : EReal :=
  if l < 64 then TURNS QUOTIENTS (ix3 p 0 ⟨l % 32, Nat.mod_lt _ (by decide)⟩) else TURNS REMAINDERS (ix3 p 0 ⟨l % 32, Nat.mod_lt _ (by decide)⟩)

/-- 64 turned lanes, element by element. -/
theorem turned_at (x : FVec Ideal S4x4096x16x64 .f32) (g : FVec Ideal S4096x1x32 .f32) (i : Fin 4) (p : Fin 4096) (n : Fin 16) (l : Fin 64) :
    TURNED x g (ix4 i p n l) = x (ix4 i p n l) * Ideal.cos (g (ix3 p 0 ⟨(l : ℕ) % 32, Nat.mod_lt _ (by decide)⟩))
      + (if (l : ℕ) < 32 then x (ix4 i p n ⟨((l : ℕ) + 32) % 64, Nat.mod_lt _ (by decide)⟩) * -(Ideal.sin (g (ix3 p 0 ⟨(l : ℕ) % 32, Nat.mod_lt _ (by decide)⟩)))
          else x (ix4 i p n ⟨((l : ℕ) + 32) % 64, Nat.mod_lt _ (by decide)⟩) * Ideal.sin (g (ix3 p 0 ⟨(l : ℕ) % 32, Nat.mod_lt _ (by decide)⟩))) := by
  pointwise [TURNED, FORE, AFT, SPREAD]
  by_cases h : (l : ℕ) < 32
  · have e1 : (l : ℕ) % 32 = l := Nat.mod_eq_of_lt h
    have e2 : ((l : ℕ) + 32) % 64 = 32 + l := by omega
    simp only [dif_pos h, if_pos h, e1, e2, mul_neg, sub_eq_add_neg]
  · have e1 : (l : ℕ) % 32 = l - 32 := by omega
    have e2 : ((l : ℕ) + 32) % 64 = l - 32 := by omega
    have e3 : 32 + ((l : ℕ) - 32) = l := by omega
    simp only [dif_neg h, if_neg h, e1, e2, e3, Fin.eta]

/-- A head's turned lanes, element by element. -/
theorem whole_at (x : FVec Ideal S4x4096x16x128 .f32) (i : Fin 4) (p : Fin 4096) (n : Fin 16) (l : Fin 128) :
    WHOLE x (ix4 i p n l) = x (ix4 i p n l) * Ideal.cos (bend p l)
      + (if (l : ℕ) % 64 < 32 then x (ix4 i p n ⟨((l : ℕ) + 32) % 128, Nat.mod_lt _ (by decide)⟩) * -(Ideal.sin (bend p l))
          else x (ix4 i p n ⟨((l : ℕ) + 96) % 128, Nat.mod_lt _ (by decide)⟩) * Ideal.sin (bend p l)) := by
  unfold bend
  pointwise [WHOLE]
  by_cases h : (l : ℕ) < 64
  · rw [dif_pos h, turned_at]
    simp only [if_pos h]
    pointwise
    by_cases k : (l : ℕ) < 32
    · have f : (l : ℕ) % 64 < 32 := by omega
      have e1 : ((l : ℕ) + 32) % 64 = (l + 32) % 128 := by omega
      simp only [if_pos k, if_pos f, e1]
    · have f : ¬ (l : ℕ) % 64 < 32 := by omega
      have e1 : ((l : ℕ) + 32) % 64 = (l + 96) % 128 := by omega
      simp only [if_neg k, if_neg f, e1]
  · rw [dif_neg h, turned_at]
    simp only [if_neg h]
    pointwise
    have e0 : 64 + ((l : ℕ) - 64) = l := by omega
    have e2 : ((l : ℕ) - 64) % 32 = l % 32 := by omega
    by_cases k : (l : ℕ) - 64 < 32
    · have f : (l : ℕ) % 64 < 32 := by omega
      have e1 : 64 + ((l : ℕ) - 64 + 32) % 64 = (l + 32) % 128 := by omega
      simp only [if_pos k, if_pos f, e0, e1, e2, Fin.eta]
    · have f : ¬ (l : ℕ) % 64 < 32 := by omega
      have e1 : 64 + ((l : ℕ) - 64 + 32) % 64 = (l + 96) % 128 := by omega
      simp only [if_neg k, if_neg f, e0, e1, e2, Fin.eta]

/-- An angle as one product. -/
theorem turns_at (n : IVec S4096 32) (p : Fin 4096) (k : Fin 32) :
    TURNS n (ix3 p 0 k) = FloatOps.sitofp (F := Ideal) .f32 (n (ix1 p)) * FREQUENCIES (ix1 k) := by
  pointwise [TURNS]

/-- The turned product at a row and a column. -/
def turnedProduct (D : FVec Ideal S16384x2048 .f32) (r : Fin 16384) (j : Fin 2048) : EReal :=
  D (ix2 r j) * Ideal.cos (bend ⟨(r : ℕ) % 4096, Nat.mod_lt _ (by decide)⟩ ((j : ℕ) % 128))
    + (if (j : ℕ) % 64 < 32 then D (ix2 r ⟨((j : ℕ) + 32) % 2048, Nat.mod_lt _ (by decide)⟩) * -(Ideal.sin (bend ⟨(r : ℕ) % 4096, Nat.mod_lt _ (by decide)⟩ ((j : ℕ) % 128)))
        else D (ix2 r ⟨((j : ℕ) + 2016) % 2048, Nat.mod_lt _ (by decide)⟩) * Ideal.sin (bend ⟨(r : ℕ) % 4096, Nat.mod_lt _ (by decide)⟩ ((j : ℕ) % 128)))

/-- The reference's term at a row and a column. -/
theorem ref_at (h : FVec Ideal S16384x2048 .bf16) (w : FVec Ideal S2x2048x6144 .f32) (r : Fin 16384) (j : Fin 2048) :
    REF h w (ix2 r j) = turnedProduct (PRODUCT h w) r j := by
  unfold REF
  generalize PRODUCT h w = D
  pointwise
  rw [whole_at]
  pointwise [HEADS]
  unfold turnedProduct
  have hj := j.isLt
  by_cases k : (j : ℕ) % 64 < 32
  · have f : (j : ℕ) % 128 % 64 < 32 := by omega
    have e : (j : ℕ) / 128 * 128 + ((j : ℕ) % 128 + 32) % 128 = (j + 32) % 2048 := by omega
    simp only [if_pos k, if_pos f, e]
  · have f : ¬ (j : ℕ) % 128 % 64 < 32 := by omega
    have e : (j : ℕ) / 128 * 128 + ((j : ℕ) % 128 + 96) % 128 = (j + 2016) % 2048 := by omega
    simp only [if_neg k, if_neg f, e]

/-- What the run's result is written as. -/
theorem ref_run (m : (ℓ : Loc nD τ sig) → Buf (Elt Ideal) ℓ) (c : Dev nD) : res_main_v73 (F := Ideal) m c = REF (m ((c.tc : Thread nD τ).loc main_arg0)) (m ((c.tc : Thread nD τ).loc main_arg1)) := rfl

end Cert.KeyProjRefIdeal.Value
-- ==== Proof.ProjKey.lean ====
module

public import proofs.«01_k».proof.Defs
public import proofs.«01_k».proof.Proof.Gen.KeyProjIdeal.Value
public import proofs.«01_k».proof.Proof.Gen.KeyProjRefIdeal.Run
public import proofs.«01_k».proof.Proof.KeyTables
public import proofs.«01_k».proof.Proof.KeyRef
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.KeyProjIdeal.Value
open Cert.KeyProjIdeal Cert.KeyProjIdeal.Gen

/-- The lanes of the first half of each 64: where the payloads choose the lane 32 on. -/
theorem lane_low : ∀ l : Fin 128, IntOp.cmpi CmpIPredicate.slt
            (Scalar.select
              (IntOp.andi
                (IntOp.xori
                  (IntOp.cmpi CmpIPredicate.slt
                    (IntOp.remsi ArithUnit.vector (BitVec.ofNat 32 ↑l)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 ↑l)
                    (Scalar.select (Scalar.cmpi CmpIPredicate.eq 64#32 0#32) 1#32 64#32))
                  0#32))
              (IntOp.addi
                (IntOp.remsi ArithUnit.vector (BitVec.ofNat 32 ↑l)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 ↑l)
                (Scalar.select (Scalar.cmpi CmpIPredicate.eq 64#32 0#32) 1#32 64#32)))
            32#32 = if (l : ℕ) % 64 < 32 then 1#1 else 0#1 := by decide +kernel

/-- One head's payload at a row and a lane. -/
theorem turn_at (x c s : FVec Ideal S1024x128 .f32) (r : Fin 1024) (l : Fin 128) :
    k0_pay1 (F := Ideal) x c s (ix2 r l) = x (ix2 r l) * c (ix2 r l)
      + (if (l : ℕ) % 64 < 32 then x (ix2 r ⟨((l : ℕ) + 128 - 96) % 128, Nat.mod_lt _ (by decide)⟩)
          else x (ix2 r ⟨((l : ℕ) + 128 - 32) % 128, Nat.mod_lt _ (by decide)⟩)) * s (ix2 r l) := by
  pointwise [k0_pay1]
  rw [lane_low l]
  by_cases h : (l : ℕ) % 64 < 32
  · rw [if_pos h, if_pos h]; rfl
  · rw [if_neg h, if_neg h]; rfl

/-- The turned rows of a tile: each element times its cosine, and its partner 32 lanes on or back times its sine. -/
def turned (T : FVec Ideal S1024x1024 .f32) (C S : FVec Ideal S1024x128 .f32) (y : S1024x1024.Idx) : EReal :=
  T y * C (ix2 (y 0) ⟨(y 1 : ℕ) % 128, Nat.mod_lt _ (by decide)⟩)
    + (if (y 1 : ℕ) % 64 < 32 then T (ix2 (y 0) ⟨((y 1 : ℕ) + 32) % 1024, Nat.mod_lt _ (by decide)⟩)
        else T (ix2 (y 0) ⟨((y 1 : ℕ) + 992) % 1024, Nat.mod_lt _ (by decide)⟩)) * S (ix2 (y 0) ⟨(y 1 : ℕ) % 128, Nat.mod_lt _ (by decide)⟩)

/-- A payload over the columns `128 k …` of a tile is the turned rows' part over those columns. -/
theorem head (T : FVec Ideal S1024x1024 .f32) (C S P : FVec Ideal S1024x128 .f32) (k : ℕ) (hk : k < 8)
    (hP : ∀ (r : Fin 1024) (l : Fin 128), P (ix2 r l) = T (ix2 r ⟨(128 * k + (l : ℕ)) % 1024, Nat.mod_lt _ (by decide)⟩))
    (x : S1024x128.Idx) (y : S1024x1024.Idx) (h0 : (y 0 : ℕ) = (x 0 : ℕ)) (h1 : (y 1 : ℕ) = 128 * k + (x 1 : ℕ)) :
    k0_pay1 (F := Ideal) P C S x = turned T C S y := by
  idx_vars x
  idx_vars y
  have h0' : y0 = x0 := Fin.ext h0
  have h1' : (y1 : ℕ) = 128 * k + (x1 : ℕ) := h1
  subst h0'
  have hx := x1.isLt
  rw [turn_at, hP, hP, hP]
  unfold turned
  have e1 : (⟨(128 * k + (x1 : ℕ)) % 1024, Nat.mod_lt _ (by decide)⟩ : Fin 1024) = y1 := Fin.ext (by show _ % 1024 = _; omega)
  have e2 : (⟨(y1 : ℕ) % 128, Nat.mod_lt _ (by decide)⟩ : Fin 128) = x1 := Fin.ext (by show (y1 : ℕ) % 128 = _; omega)
  show _ = T (ix2 y0 y1) * C (ix2 y0 ⟨(y1 : ℕ) % 128, _⟩) + (if (y1 : ℕ) % 64 < 32 then T (ix2 y0 ⟨((y1 : ℕ) + 32) % 1024, _⟩) else T (ix2 y0 ⟨((y1 : ℕ) + 992) % 1024, _⟩)) * S (ix2 y0 ⟨(y1 : ℕ) % 128, _⟩)
  rw [e1, e2]
  by_cases h : (x1 : ℕ) % 64 < 32
  · rw [if_pos h, if_pos (show (y1 : ℕ) % 64 < 32 by omega)]
    refine congrArg (fun u => _ + T (ix2 y0 u) * _) (Fin.ext ?_)
    show (128 * k + ((x1 : ℕ) + 128 - 96) % 128) % 1024 = ((y1 : ℕ) + 32) % 1024
    omega
  · rw [if_neg h, if_neg (show ¬ (y1 : ℕ) % 64 < 32 by omega)]
    refine congrArg (fun u => _ + T (ix2 y0 u) * _) (Fin.ext ?_)
    show (128 * k + ((x1 : ℕ) + 128 - 32) % 128) % 1024 = ((y1 : ℕ) + 992) % 1024
    omega

variable (m : (ℓ : Loc nD τ sig) → Buf (Elt Ideal) ℓ)

/-- Which block each window shows at a grid point. -/
theorem idx : ∀ t : Fin cfg0.N, win0_0.index t = ![t.val % 16, 0] ∧ win0_1.index t = ![0, 0, 2 + t.val / 16]
    ∧ win0_2.index t = ![t.val % 4, 0] ∧ win0_3.index t = ![t.val % 4, 0] ∧ win0_4.index t = ![t.val % 16, t.val / 16] :=
  (by decide +kernel : ∀ t : Fin grid0.N, _)

/-- Points of the same column tile show the same block of the matrix. -/
theorem same_matrix (c : Dev nD) (t t' : Fin cfg0.N) (h : t.val / 16 = t'.val / 16) : iblk m c 1 t = iblk m c 1 t' := by
  funext y
  blk_point [iblk, V, idx t, idx t']

/-- The scratch holds, after every point, the column tile of the matrix that the point shows: the first
    point of a tile writes it, the others keep it. -/
theorem kept (c : Dev nD) : ∀ (n : ℕ) (h : n < cfg0.N), (outsAt0 m c n h).2 = k0_pay3 (F := Ideal) (iblk m c 1 ⟨n, h⟩) := by
  intro n
  induction n with
  | zero =>
    intro h
    rw [outsAt0_A m c ⟨0, h⟩ (Nat.zero_mod _)]
    frame_out
  | succ n ih =>
    intro h
    by_cases h0 : (n + 1) % 16 = 0
    · rw [outsAt0_A m c ⟨n + 1, h⟩ h0]
      frame_out
    · rw [outsAt0_B m c ⟨n + 1, h⟩ h0]
      refine (ih (Nat.lt_of_succ_lt h)).trans (congrArg _ (same_matrix m c _ _ ?_))
      show n / 16 = (n + 1) / 16
      omega

/-- What the first point of a tile leaves in the result's buffer: the turned rows of the product. -/
theorem tile_first (c : Dev nD) (t : Fin cfg0.N) (h0 : t.val % 16 = 0) (y : S1024x1024.Idx) :
    (outsAt0 m c t.val t.isLt).1 y = turned (k0_pay4 (F := Ideal) (iblk m c 0 t) (k0_pay3 (F := Ideal) (iblk m c 1 t))) (iblk m c 2 t) (iblk m c 3 t) y := by
  rw [outsAt0_A m c t h0]
  frame_out
  try simp only [read_unread_whole]
  generalize k0_pay3 (iblk m c 1 t) = W
  generalize iblk m c 0 t = X
  generalize iblk m c 2 t = C
  generalize iblk m c 3 t = S
  canon_tiles x h
  case piece0 => exact head (k0_pay4 (F := Ideal) X W) C S (k0_pay26 (F := Ideal) (k0_pay4 (F := Ideal) X W)) 7 (by decide) (fun r l => by pointwise [k0_pay26]; blk_ext) x y h0 (h1.trans (by omega))
  case piece1 => exact head (k0_pay4 (F := Ideal) X W) C S (k0_pay23 (F := Ideal) (k0_pay4 (F := Ideal) X W)) 6 (by decide) (fun r l => by pointwise [k0_pay23]; blk_ext) x y h0 (h1.trans (by omega))
  case piece2 => exact head (k0_pay4 (F := Ideal) X W) C S (k0_pay20 (F := Ideal) (k0_pay4 (F := Ideal) X W)) 5 (by decide) (fun r l => by pointwise [k0_pay20]; blk_ext) x y h0 (h1.trans (by omega))
  case piece3 => exact head (k0_pay4 (F := Ideal) X W) C S (k0_pay17 (F := Ideal) (k0_pay4 (F := Ideal) X W)) 4 (by decide) (fun r l => by pointwise [k0_pay17]; blk_ext) x y h0 (h1.trans (by omega))
  case piece4 => exact head (k0_pay4 (F := Ideal) X W) C S (k0_pay14 (F := Ideal) (k0_pay4 (F := Ideal) X W)) 3 (by decide) (fun r l => by pointwise [k0_pay14]; blk_ext) x y h0 (h1.trans (by omega))
  case piece5 => exact head (k0_pay4 (F := Ideal) X W) C S (k0_pay11 (F := Ideal) (k0_pay4 (F := Ideal) X W)) 2 (by decide) (fun r l => by pointwise [k0_pay11]; blk_ext) x y h0 (h1.trans (by omega))
  case piece6 => exact head (k0_pay4 (F := Ideal) X W) C S (k0_pay8 (F := Ideal) X W) 1 (by decide) (fun r l => by pointwise [k0_pay8]; blk_ext) x y h0 (h1.trans (by omega))
  case piece7 => exact head (k0_pay4 (F := Ideal) X W) C S (k0_pay5 (F := Ideal) X W) 0 (by decide) (fun r l => by pointwise [k0_pay5]; blk_ext) x y h0 (h1.trans (by omega))

/-- What every other point leaves there: the same, the scratch holding the tile. -/
theorem tile_next (c : Dev nD) (t : Fin cfg0.N) (h0 : ¬ t.val % 16 = 0) (y : S1024x1024.Idx) :
    (outsAt0 m c t.val t.isLt).1 y = turned (k0_pay4 (F := Ideal) (iblk m c 0 t) (k0_pay3 (F := Ideal) (iblk m c 1 t))) (iblk m c 2 t) (iblk m c 3 t) y := by
  have hp : 0 < t.val := Nat.pos_of_ne_zero fun h => h0 (by rw [h])
  have hk := kept m c (t.val - 1) (Nat.lt_of_le_of_lt (Nat.sub_le _ _) t.isLt)
  rw [same_matrix m c ⟨t.val - 1, Nat.lt_of_le_of_lt (Nat.sub_le _ _) t.isLt⟩ t (show (t.val - 1) / 16 = t.val / 16 by omega)] at hk
  rw [outsAt0_B m c t h0, hk]
  frame_out
  try simp only [read_unread_whole]
  generalize k0_pay3 (iblk m c 1 t) = W
  generalize iblk m c 0 t = X
  generalize iblk m c 2 t = C
  generalize iblk m c 3 t = S
  canon_tiles x h
  case piece0 => exact head (k0_pay4 (F := Ideal) X W) C S (k0_pay26 (F := Ideal) (k0_pay4 (F := Ideal) X W)) 7 (by decide) (fun r l => by pointwise [k0_pay26]; blk_ext) x y h0 (h1.trans (by omega))
  case piece1 => exact head (k0_pay4 (F := Ideal) X W) C S (k0_pay23 (F := Ideal) (k0_pay4 (F := Ideal) X W)) 6 (by decide) (fun r l => by pointwise [k0_pay23]; blk_ext) x y h0 (h1.trans (by omega))
  case piece2 => exact head (k0_pay4 (F := Ideal) X W) C S (k0_pay20 (F := Ideal) (k0_pay4 (F := Ideal) X W)) 5 (by decide) (fun r l => by pointwise [k0_pay20]; blk_ext) x y h0 (h1.trans (by omega))
  case piece3 => exact head (k0_pay4 (F := Ideal) X W) C S (k0_pay17 (F := Ideal) (k0_pay4 (F := Ideal) X W)) 4 (by decide) (fun r l => by pointwise [k0_pay17]; blk_ext) x y h0 (h1.trans (by omega))
  case piece4 => exact head (k0_pay4 (F := Ideal) X W) C S (k0_pay14 (F := Ideal) (k0_pay4 (F := Ideal) X W)) 3 (by decide) (fun r l => by pointwise [k0_pay14]; blk_ext) x y h0 (h1.trans (by omega))
  case piece5 => exact head (k0_pay4 (F := Ideal) X W) C S (k0_pay11 (F := Ideal) (k0_pay4 (F := Ideal) X W)) 2 (by decide) (fun r l => by pointwise [k0_pay11]; blk_ext) x y h0 (h1.trans (by omega))
  case piece6 => exact head (k0_pay4 (F := Ideal) X W) C S (k0_pay8 (F := Ideal) X W) 1 (by decide) (fun r l => by pointwise [k0_pay8]; blk_ext) x y h0 (h1.trans (by omega))
  case piece7 => exact head (k0_pay4 (F := Ideal) X W) C S (k0_pay5 (F := Ideal) X W) 0 (by decide) (fun r l => by pointwise [k0_pay5]; blk_ext) x y h0 (h1.trans (by omega))

/-- What a point leaves in the result's buffer. -/
theorem tile (c : Dev nD) (t : Fin cfg0.N) (y : S1024x1024.Idx) :
    (outsAt0 m c t.val t.isLt).1 y = turned (k0_pay4 (F := Ideal) (iblk m c 0 t) (k0_pay3 (F := Ideal) (iblk m c 1 t))) (iblk m c 2 t) (iblk m c 3 t) y := by
  by_cases h0 : t.val % 16 = 0
  · exact tile_first m c t h0 y
  · exact tile_next m c t h0 y

/-- The angle of a row number at a lane: the rows' for the lanes below 64, the columns' above. -/
def angle (p : Fin 4096) (l : ℕ) : EReal :=
  if l < 64 then ROWS (ix2 p ⟨l % 32, Nat.mod_lt _ (by decide)⟩) else COLUMNS (ix2 p ⟨l % 32, Nat.mod_lt _ (by decide)⟩)

/-- The cosine at a row number and a lane. -/
theorem cosine_at (c : Dev nD) (p : Fin 4096) (l : Fin 128) : V m c main_v29 (ix2 p l) = Ideal.cos (angle p l) := by
  rw [cosines]
  generalize hR : ROWS = R
  generalize hQ : COLUMNS = Q
  unfold angle
  rw [hR, hQ]
  pointwise
  by_cases a : (l : ℕ) < 32
  · have e : (l : ℕ) % 32 = l := by omega
    have g : (l : ℕ) < 64 := by omega
    have f : (l : ℕ) % 64 < 32 := by omega
    simp only [dif_pos a, if_pos g, e]
  by_cases b : (l : ℕ) - 32 < 32
  · have e : (l : ℕ) % 32 = l - 32 := by omega
    have g : (l : ℕ) < 64 := by omega
    have f : ¬ (l : ℕ) % 64 < 32 := by omega
    simp only [dif_neg a, dif_pos b, if_pos g, e]
  by_cases d : (l : ℕ) - 32 - 32 < 32
  · have e : (l : ℕ) % 32 = l - 32 - 32 := by omega
    have g : ¬ (l : ℕ) < 64 := by omega
    have f : (l : ℕ) % 64 < 32 := by omega
    simp only [dif_neg a, dif_neg b, dif_pos d, if_neg g, e]
  · have e : (l : ℕ) % 32 = l - 32 - 32 - 32 := by omega
    have g : ¬ (l : ℕ) < 64 := by omega
    have f : ¬ (l : ℕ) % 64 < 32 := by omega
    simp only [dif_neg a, dif_neg b, dif_neg d, if_neg g, e]

/-- The sine at a row number and a lane, its sign turned in the first half of each 64 lanes. -/
theorem sine_at (c : Dev nD) (p : Fin 4096) (l : Fin 128) : V m c main_v36 (ix2 p l)
    = if (l : ℕ) % 64 < 32 then -(Ideal.sin (angle p l)) else Ideal.sin (angle p l) := by
  rw [sines]
  generalize hR : ROWS = R
  generalize hQ : COLUMNS = Q
  unfold angle
  rw [hR, hQ]
  pointwise
  by_cases a : (l : ℕ) < 32
  · have e : (l : ℕ) % 32 = l := by omega
    have g : (l : ℕ) < 64 := by omega
    have f : (l : ℕ) % 64 < 32 := by omega
    simp only [dif_pos a, if_pos g, if_pos f, e]
  by_cases b : (l : ℕ) - 32 < 32
  · have e : (l : ℕ) % 32 = l - 32 := by omega
    have g : (l : ℕ) < 64 := by omega
    have f : ¬ (l : ℕ) % 64 < 32 := by omega
    simp only [dif_neg a, dif_pos b, if_pos g, if_neg f, e]
  by_cases d : (l : ℕ) - 32 - 32 < 32
  · have e : (l : ℕ) % 32 = l - 32 - 32 := by omega
    have g : ¬ (l : ℕ) < 64 := by omega
    have f : (l : ℕ) % 64 < 32 := by omega
    simp only [dif_neg a, dif_neg b, dif_pos d, if_neg g, if_pos f, e]
  · have e : (l : ℕ) % 32 = l - 32 - 32 - 32 := by omega
    have g : ¬ (l : ℕ) < 64 := by omega
    have f : ¬ (l : ℕ) % 64 < 32 := by omega
    simp only [dif_neg a, dif_neg b, dif_neg d, if_neg g, if_neg f, e]

/-- The kernel's angles are the reference's. -/
theorem angle_eq (p : Fin 4096) (l : ℕ) : angle p l = Cert.KeyProjRefIdeal.Value.bend p l := by
  have hr : ∀ k : Fin 32, ROWS (ix2 p k) = Cert.KeyProjRefIdeal.Value.TURNS Cert.KeyProjRefIdeal.Value.QUOTIENTS (ix3 p 0 k) := by
    intro k
    rw [Cert.KeyProjRefIdeal.Value.turns_at]
    pointwise [ROWS, ANGLES]
    rfl
  have hc : ∀ k : Fin 32, COLUMNS (ix2 p k) = Cert.KeyProjRefIdeal.Value.TURNS Cert.KeyProjRefIdeal.Value.REMAINDERS (ix3 p 0 k) := by
    intro k
    rw [Cert.KeyProjRefIdeal.Value.turns_at]
    pointwise [COLUMNS, ANGLES]
    rfl
  unfold angle Cert.KeyProjRefIdeal.Value.bend
  rw [hr, hc]

/-- The cosines' block at a point. -/
theorem cosine_read (c : Dev nD) (t : Fin cfg0.N) (r : Fin 1024) (l : Fin 128) (p : Fin 4096) (hp : (p : ℕ) = t.val % 4 * 1024 + r) :
    iblk m c 2 t (ix2 r l) = Ideal.cos (Cert.KeyProjRefIdeal.Value.bend p l) := by
  rw [← angle_eq, ← cosine_at m c p l]
  blk_point [iblk, idx t]

/-- The sines' block at a point. -/
theorem sine_read (c : Dev nD) (t : Fin cfg0.N) (r : Fin 1024) (l : Fin 128) (p : Fin 4096) (hp : (p : ℕ) = t.val % 4 * 1024 + r) :
    iblk m c 3 t (ix2 r l) = if (l : ℕ) % 64 < 32 then -(Ideal.sin (Cert.KeyProjRefIdeal.Value.bend p l)) else Ideal.sin (Cert.KeyProjRefIdeal.Value.bend p l) := by
  rw [← angle_eq, ← sine_at m c p l]
  blk_point [iblk, idx t]

/-- A tile of the product, element by element. -/
theorem product_read (c : Dev nD) (t : Fin cfg0.N) (a : Fin 1024) (b : Fin 1024) (r : Fin 16384) (j : Fin 2048)
    (hr : (r : ℕ) = t.val % 16 * 1024 + a) (hj : (j : ℕ) = t.val / 16 * 1024 + b) :
    k0_pay4 (F := Ideal) (iblk m c 0 t) (k0_pay3 (F := Ideal) (iblk m c 1 t)) (ix2 a b)
      = Cert.KeyProjRefIdeal.Value.PRODUCT (m ((c : Thread nD τ).loc main_arg0)) (m ((c : Thread nD τ).loc main_arg1)) (ix2 r j) := by
  pointwise [k0_pay4, k0_pay3, Cert.KeyProjRefIdeal.Value.PRODUCT]
  blk_point [iblk, V, idx t]

/-- A tile of the turned product, element by element. -/
theorem turned_read (c : Dev nD) (t : Fin cfg0.N) (a : Fin 1024) (b : Fin 1024) (r : Fin 16384) (j : Fin 2048)
    (hr : (r : ℕ) = t.val % 16 * 1024 + a) (hj : (j : ℕ) = t.val / 16 * 1024 + b) :
    turned (k0_pay4 (F := Ideal) (iblk m c 0 t) (k0_pay3 (F := Ideal) (iblk m c 1 t))) (iblk m c 2 t) (iblk m c 3 t) (ix2 a b)
      = Cert.KeyProjRefIdeal.Value.turnedProduct (Cert.KeyProjRefIdeal.Value.PRODUCT (m ((c : Thread nD τ).loc main_arg0)) (m ((c : Thread nD τ).loc main_arg1))) r j := by
  have ht : t.val < 32 := t.isLt
  have ha := a.isLt
  have hb := b.isLt
  have hp : (r : ℕ) % 4096 = t.val % 4 * 1024 + a := by omega
  have hl : (b : ℕ) % 128 = (j : ℕ) % 128 := by omega
  have hs : (b : ℕ) % 64 = (j : ℕ) % 64 := by omega
  have hs' : (b : ℕ) % 128 % 64 = (j : ℕ) % 64 := by omega
  have hj' : (j : ℕ) % 128 % 64 = (j : ℕ) % 64 := by omega
  unfold turned Cert.KeyProjRefIdeal.Value.turnedProduct
  show k0_pay4 (F := Ideal) (iblk m c 0 t) (k0_pay3 (F := Ideal) (iblk m c 1 t)) (ix2 a b) * iblk m c 2 t (ix2 a ⟨(b : ℕ) % 128, _⟩)
    + (if (b : ℕ) % 64 < 32 then k0_pay4 (F := Ideal) (iblk m c 0 t) (k0_pay3 (F := Ideal) (iblk m c 1 t)) (ix2 a ⟨((b : ℕ) + 32) % 1024, _⟩)
        else k0_pay4 (F := Ideal) (iblk m c 0 t) (k0_pay3 (F := Ideal) (iblk m c 1 t)) (ix2 a ⟨((b : ℕ) + 992) % 1024, _⟩)) * iblk m c 3 t (ix2 a ⟨(b : ℕ) % 128, _⟩) = _
  rw [product_read m c t a b r j hr hj, cosine_read m c t a _ ⟨(r : ℕ) % 4096, Nat.mod_lt _ (by decide)⟩ hp, sine_read m c t a _ ⟨(r : ℕ) % 4096, Nat.mod_lt _ (by decide)⟩ hp]
  simp only [hl, hs, hj']
  by_cases k : (j : ℕ) % 64 < 32
  · rw [if_pos k, if_pos k, if_pos k]
    rw [product_read m c t a _ r ⟨((j : ℕ) + 32) % 2048, Nat.mod_lt _ (by decide)⟩ hr (by show ((j : ℕ) + 32) % 2048 = t.val / 16 * 1024 + ((b : ℕ) + 32) % 1024; omega)]
  · rw [if_neg k, if_neg k, if_neg k]
    rw [product_read m c t a _ r ⟨((j : ℕ) + 2016) % 2048, Nat.mod_lt _ (by decide)⟩ hr (by show ((j : ℕ) + 2016) % 2048 = t.val / 16 * 1024 + ((b : ℕ) + 992) % 1024; omega)]

/-- The array the call leaves is the reference's term over its arguments. -/
theorem final (c : Dev nD) : (dats m 0 c).arrAt 4 (cfgs 0).N
    = Cert.KeyProjRefIdeal.Value.REF (m ((c : Thread nD τ).loc main_arg0)) (m ((c : Thread nD τ).loc main_arg1)) := by
  refine (dats m 0 c).arrAt_eq_of_covers 4 _ (by decide +kernel) fun t _ y => ?_
  blk_simp
  rw [after0_4]
  refine (tile m c t y).trans ?_
  have ht : t.val < 32 := t.isLt
  idx_vars y
  have hy0 := y0.isLt
  have hy1 := y1.isLt
  rw [turned_read m c t y0 y1 ⟨t.val % 16 * 1024 + y0, by omega⟩ ⟨t.val / 16 * 1024 + y1, by omega⟩ rfl rfl, ← Cert.KeyProjRefIdeal.Value.ref_at]
  generalize Cert.KeyProjRefIdeal.Value.REF (m ((c : Thread nD τ).loc main_arg0)) (m ((c : Thread nD τ).loc main_arg1)) = R
  blk_point [idx t]

end Cert.KeyProjIdeal.Value

namespace Cert.Proof

/-- The key projection: the kernel's call and the reference run and end with the same array. -/
theorem algebraic_key_proj : algebraic_KeyProjIdeal_KeyProjRefIdeal (hKeyProjIdeal := Cert.KeyProjIdeal.Gen.facts) (hKeyProjRefIdeal := Cert.KeyProjRefIdeal.Gen.facts) := by
  pair_intro
  · run_from Cert.KeyProjIdeal.Gen.run_main m g
  · run_from Cert.KeyProjRefIdeal.Value.run m' g'
    rw [Cert.KeyProjRefIdeal.Value.ref_run]
    rw [(hagree c).1, (hagree c).2]
    exact (Cert.KeyProjIdeal.Value.final m c).symm

end Cert.Proof
-- ==== Proof.QueryTables.lean ====
module

public import proofs.«01_k».proof.Defs
public import proofs.«01_k».proof.Proof.Gen.QueryProjIdeal.Value
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.QueryProjIdeal.Value
open Cert.QueryProjIdeal Cert.QueryProjIdeal.Gen

/-- The first `b` of a line of operations, then the rest. -/
theorem stretches (a b : List (HloOp τ sig (Elt Ideal))) (W : Valuation τ sig (Elt Ideal)) :
    StableHlo.after (a ++ b) W = StableHlo.after b (StableHlo.after a W) := by
  induction a generalizing W with
  | nil => rfl
  | cons op a ih => exact ih _

/-- The whole quotient, rounded down: the truncated one, less one where signs differ and something is left. -/
def QUOTIENT (i : IVec S4096 32) (d : IVec S_ 32) : IVec S4096 32 :=
  select (andi (cmpi .ne (signi i) (broadcastInDim S4096 ![] bcast_S_S4096 (signi (id d)))) (cmpi .ne (Host.remsi i (broadcastInDim S4096 ![] bcast_S_S4096 (id d))) (broadcastInDim S4096 ![] bcast_S_S4096 (constantI S_ 32 0#32)))) (subi (Host.divsi i (broadcastInDim S4096 ![] bcast_S_S4096 (id d))) (broadcastInDim S4096 ![] bcast_S_S4096 (constantI S_ 32 1#32))) (Host.divsi i (broadcastInDim S4096 ![] bcast_S_S4096 (id d)))

/-- A divisor, or one where it is zero. -/
def DIVISOR (d : IVec S_ 32) : IVec S_ 32 := select (cmpi .eq (id d) (constantI S_ 32 0#32)) (constantI S_ 32 1#32) (id d)

/-- The remainder that goes with the quotient rounded down. -/
def REMAINDER (i : IVec S4096 32) (d : IVec S_ 32) : IVec S4096 32 :=
  select (andi (cmpi .ne (cmpi .slt (Host.remsi i (broadcastInDim S4096 ![] bcast_S_S4096 (DIVISOR d))) (broadcastInDim S4096 ![] bcast_S_S4096 (constantI S_ 32 0#32))) (broadcastInDim S4096 ![] bcast_S_S4096 (cmpi .slt (DIVISOR d) (constantI S_ 32 0#32)))) (cmpi .ne (Host.remsi i (broadcastInDim S4096 ![] bcast_S_S4096 (DIVISOR d))) (broadcastInDim S4096 ![] bcast_S_S4096 (constantI S_ 32 0#32)))) (addi (Host.remsi i (broadcastInDim S4096 ![] bcast_S_S4096 (DIVISOR d))) (broadcastInDim S4096 ![] bcast_S_S4096 (DIVISOR d))) (Host.remsi i (broadcastInDim S4096 ![] bcast_S_S4096 (DIVISOR d)))

/-- The frequencies: ten thousand to the power `-(0 + 2 k) / 64`. -/
def POWERS : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles: a place along one side of the image times the frequencies. -/
def ANGLES (n : FVec Ideal S4096 .f32) : FVec Ideal S4096x32 .f32 :=
  mulf (broadcastInDim S4096x32 ![0, 1] bcast_S4096x1_S4096x32_0_1 (broadcastInDim S4096x1 ![0] bcast_S4096_S4096x1_0 n)) (broadcastInDim S4096x32 ![0, 1] bcast_S1x32_S4096x32_0_1 (broadcastInDim S1x32 ![1] bcast_S32_S1x32_1 POWERS))

variable (W : Valuation τ sig (Elt Ideal))

/-- The stretch that rounds the quotient down leaves it in its result. -/
theorem quotient_line : StableHlo.after (hostOps0_1 (F := Ideal)) W (Proc.devRef .tc main_v1) = QUOTIENT (W (Proc.devRef .tc main_v0)) (W (Proc.devRef .tc main_c)) := by
  simp only [hostOps0_1, StableHlo.after_cons, StableHlo.after_nil]
  after_results_simp
  after_results_loop
  simp only [StableHlo.TRef.ofBuf_toBuf]
  rfl

/-- The stretch that takes the remainder leaves it in its result. -/
theorem remainder_line : StableHlo.after (hostOps0_3 (F := Ideal)) W (Proc.devRef .tc main_v3) = REMAINDER (W (Proc.devRef .tc main_v0)) (W (Proc.devRef .tc main_c_0)) := by
  simp only [hostOps0_3, StableHlo.after_cons, StableHlo.after_nil]
  after_results_simp
  after_results_loop
  simp only [StableHlo.TRef.ofBuf_toBuf]
  rfl

/-- The quotients as numbers pass through the remainder's stretch. -/
theorem remainder_keeps : StableHlo.after (hostOps0_3 (F := Ideal)) W (Proc.devRef .tc main_v2) = W (Proc.devRef .tc main_v2) := by
  simp only [hostOps0_3, StableHlo.after_cons, StableHlo.after_nil]
  after_results_simp

/-- The row numbers pass through the quotient's stretch. -/
theorem quotient_keeps : StableHlo.after (hostOps0_1 (F := Ideal)) W (Proc.devRef .tc main_v0) = W (Proc.devRef .tc main_v0) := by
  simp only [hostOps0_1, StableHlo.after_cons, StableHlo.after_nil]
  after_results_simp

/-- The last stretch, cut after the two arrays of angles. -/
theorem cut : hostOps0_4 (F := Ideal) = (hostOps0_4 (F := Ideal)).take 25 ++ (hostOps0_4 (F := Ideal)).drop 25 := (List.take_append_drop 25 _).symm

/-- The first array of angles. -/
theorem first_angles : StableHlo.after ((hostOps0_4 (F := Ideal)).take 25) W (Proc.devRef .tc main_v19) = ANGLES (W (Proc.devRef .tc main_v2)) := by
  simp only [hostOps0_4, List.take_succ_cons, List.take_zero, StableHlo.after_cons, StableHlo.after_nil]
  after_results_simp
  rfl

/-- The second array of angles. -/
theorem second_angles : StableHlo.after ((hostOps0_4 (F := Ideal)).take 25) W (Proc.devRef .tc main_v24) = ANGLES (sitofp .f32 (W (Proc.devRef .tc main_v3))) := by
  simp only [hostOps0_4, List.take_succ_cons, List.take_zero, StableHlo.after_cons, StableHlo.after_nil]
  after_results_simp
  rfl

/-- The cosines from the angles: four pieces, of the first angles twice and of the second twice. -/
theorem cosine_end : StableHlo.after ((hostOps0_4 (F := Ideal)).drop 25) W (Proc.devRef .tc main_v29)
    = concatenate S4096x128 1 [⟨S4096x32, Host.cos (F := Ideal) (φ := .f32) (W (Proc.devRef .tc main_v19))⟩, ⟨S4096x32, Host.cos (F := Ideal) (φ := .f32) (W (Proc.devRef .tc main_v19))⟩, ⟨S4096x32, Host.cos (F := Ideal) (φ := .f32) (W (Proc.devRef .tc main_v24))⟩, ⟨S4096x32, Host.cos (F := Ideal) (φ := .f32) (W (Proc.devRef .tc main_v24))⟩] concatenates_S4096x32_S4096x32_S4096x32_S4096x32_S4096x128_d1 := by
  simp only [hostOps0_4, List.drop_succ_cons, List.drop_zero, StableHlo.after_cons, StableHlo.after_nil]
  after_results_steps
  rfl

set_option maxHeartbeats 1600000 in
/-- The sines from the angles: the same pieces, the first and third with their sign turned. -/
theorem sine_end : StableHlo.after ((hostOps0_4 (F := Ideal)).drop 25) W (Proc.devRef .tc main_v36)
    = concatenate S4096x128 1 [⟨S4096x32, Host.negf (F := Ideal) (φ := .f32) (Host.sin (F := Ideal) (φ := .f32) (W (Proc.devRef .tc main_v19)))⟩, ⟨S4096x32, Host.sin (F := Ideal) (φ := .f32) (W (Proc.devRef .tc main_v19))⟩, ⟨S4096x32, Host.negf (F := Ideal) (φ := .f32) (Host.sin (F := Ideal) (φ := .f32) (W (Proc.devRef .tc main_v24)))⟩, ⟨S4096x32, Host.sin (F := Ideal) (φ := .f32) (W (Proc.devRef .tc main_v24))⟩] concatenates_S4096x32_S4096x32_S4096x32_S4096x32_S4096x128_d1 := by
  simp only [hostOps0_4, List.drop_succ_cons, List.drop_zero, StableHlo.after_cons, StableHlo.after_nil]
  after_results_steps
  rfl

/-- The cosines' line, from the numbers it starts from. -/
theorem cosine_line : StableHlo.after (hostOps0_4 (F := Ideal)) W (Proc.devRef .tc main_v29)
    = concatenate S4096x128 1 [⟨S4096x32, Host.cos (ANGLES (W (Proc.devRef .tc main_v2)))⟩, ⟨S4096x32, Host.cos (ANGLES (W (Proc.devRef .tc main_v2)))⟩, ⟨S4096x32, Host.cos (ANGLES (sitofp .f32 (W (Proc.devRef .tc main_v3))))⟩, ⟨S4096x32, Host.cos (ANGLES (sitofp .f32 (W (Proc.devRef .tc main_v3))))⟩] concatenates_S4096x32_S4096x32_S4096x32_S4096x32_S4096x128_d1 := by
  rw [cut, stretches, cosine_end, first_angles, second_angles]

/-- The sines' line, from the numbers it starts from. -/
theorem sine_line : StableHlo.after (hostOps0_4 (F := Ideal)) W (Proc.devRef .tc main_v36)
    = concatenate S4096x128 1 [⟨S4096x32, Host.negf (Host.sin (ANGLES (W (Proc.devRef .tc main_v2))))⟩, ⟨S4096x32, Host.sin (ANGLES (W (Proc.devRef .tc main_v2)))⟩, ⟨S4096x32, Host.negf (Host.sin (ANGLES (sitofp .f32 (W (Proc.devRef .tc main_v3)))))⟩, ⟨S4096x32, Host.sin (ANGLES (sitofp .f32 (W (Proc.devRef .tc main_v3))))⟩] concatenates_S4096x32_S4096x32_S4096x32_S4096x32_S4096x128_d1 := by
  rw [cut, stretches, sine_end, first_angles, second_angles]

/-- The rows' angles: the row number's quotient by 64. -/
def ROWS : FVec Ideal S4096x32 .f32 := ANGLES (sitofp .f32 (QUOTIENT (iotaInDim S4096 32 0) (constantI S_ 32 64#32)))

/-- The columns' angles: the row number's remainder by 64. -/
def COLUMNS : FVec Ideal S4096x32 .f32 := ANGLES (sitofp .f32 (REMAINDER (iotaInDim S4096 32 0) (constantI S_ 32 64#32)))

variable (m : (ℓ : Loc nD τ sig) → Buf (Elt Ideal) ℓ)

/-- What the last stretch finds where it reads the row quotients. -/
theorem rows_found : StableHlo.after (hostOps0_3 (F := Ideal)) (StableHlo.after (hostOps0_2 (F := Ideal)) (StableHlo.after (hostOps0_1 (F := Ideal)) (StableHlo.after (hostOps0 (F := Ideal)) W))) (Proc.devRef .tc main_v2)
    = sitofp (F := Ideal) .f32 (QUOTIENT (iotaInDim S4096 32 0) (constantI S_ 32 64#32)) := by
  have h : ∀ U : Valuation τ sig (Elt Ideal), StableHlo.after (hostOps0_2 (F := Ideal)) U (Proc.devRef .tc main_v2) = sitofp (F := Ideal) .f32 (U (Proc.devRef .tc main_v1)) := by
    intro U
    simp only [hostOps0_2, StableHlo.after_cons, StableHlo.after_nil]
    after_results_simp
  have a : StableHlo.after (hostOps0 (F := Ideal)) W (Proc.devRef .tc main_v0) = iotaInDim S4096 32 0 := by
    simp only [hostOps0, StableHlo.after_cons, StableHlo.after_nil]
    after_results_simp
  have b : StableHlo.after (hostOps0 (F := Ideal)) W (Proc.devRef .tc main_c) = constantI S_ 32 64#32 := by
    simp only [hostOps0, StableHlo.after_cons, StableHlo.after_nil]
    after_results_simp
  rw [remainder_keeps, h, quotient_line, a, b]

/-- What it finds where it reads the remainders. -/
theorem columns_found : StableHlo.after (hostOps0_3 (F := Ideal)) (StableHlo.after (hostOps0_2 (F := Ideal)) (StableHlo.after (hostOps0_1 (F := Ideal)) (StableHlo.after (hostOps0 (F := Ideal)) W))) (Proc.devRef .tc main_v3)
    = REMAINDER (iotaInDim S4096 32 0) (constantI S_ 32 64#32) := by
  have h : ∀ U : Valuation τ sig (Elt Ideal), StableHlo.after (hostOps0_2 (F := Ideal)) U (Proc.devRef .tc main_v0) = U (Proc.devRef .tc main_v0) := by
    intro U
    simp only [hostOps0_2, StableHlo.after_cons, StableHlo.after_nil]
    after_results_simp
  have k : ∀ U : Valuation τ sig (Elt Ideal), StableHlo.after (hostOps0_2 (F := Ideal)) U (Proc.devRef .tc main_c_0) = constantI S_ 32 64#32 := by
    intro U
    simp only [hostOps0_2, StableHlo.after_cons, StableHlo.after_nil]
    after_results_simp
  have a : StableHlo.after (hostOps0 (F := Ideal)) W (Proc.devRef .tc main_v0) = iotaInDim S4096 32 0 := by
    simp only [hostOps0, StableHlo.after_cons, StableHlo.after_nil]
    after_results_simp
  rw [remainder_line, h, k, quotient_keeps, a]

/-- The region finds the memory as the five stretches leave it, one after the other. -/
theorem found (c : Dev nD) (b : Ref sig .tc) : V m c b = StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (fun r => m (c, r)))))) (Proc.devRef .tc b) := by
  rw [← stretches, ← stretches, ← stretches, ← stretches]
  rfl

/-- The table of cosines. -/
theorem cosines (c : Dev nD) : V m c main_v29 = concatenate S4096x128 1 [⟨S4096x32, Host.cos ROWS⟩, ⟨S4096x32, Host.cos ROWS⟩, ⟨S4096x32, Host.cos COLUMNS⟩, ⟨S4096x32, Host.cos COLUMNS⟩] concatenates_S4096x32_S4096x32_S4096x32_S4096x32_S4096x128_d1 := by
  rw [found, cosine_line, rows_found, columns_found]
  rfl

/-- The table of sines. -/
theorem sines (c : Dev nD) : V m c main_v36 = concatenate S4096x128 1 [⟨S4096x32, Host.negf (Host.sin ROWS)⟩, ⟨S4096x32, Host.sin ROWS⟩, ⟨S4096x32, Host.negf (Host.sin COLUMNS)⟩, ⟨S4096x32, Host.sin COLUMNS⟩] concatenates_S4096x32_S4096x32_S4096x32_S4096x32_S4096x128_d1 := by
  rw [found, sine_line, rows_found, columns_found]
  rfl

end Cert.QueryProjIdeal.Value
-- ==== Proof.QueryRef.lean ====
module

public import proofs.«01_k».proof.Defs
public import proofs.«01_k».proof.Proof.Gen.QueryProjRefIdeal.Run
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.QueryProjRefIdeal.Value
open Cert.QueryProjRefIdeal Cert.QueryProjRefIdeal.Gen

/-- The columns this call makes, of the rows times the matrix. -/
def PRODUCT (h : FVec Ideal S16384x2048 .bf16) (w : FVec Ideal S2x2048x6144 .f32) : FVec Ideal S16384x2048 .f32 :=
  extractStridedSlice S16384x2048 ![0, 0] (Host.dotGeneral dot_S16384x2048_S2048x6144_S16384x6144_1_0_0_1_n_n none (extf .f32 h bitsLt_bf16_f32) (shapeCast _ (extractStridedSlice S1x2048x6144 ![0, 0, 0] w slices_S2x2048x6144_S1x2048x6144_0_0_0) shapeCasts_S1x2048x6144_S2048x6144)) slices_S16384x6144_S16384x2048_0_0

/-- The same by sample, row, head and lane. -/
def HEADS (x : FVec Ideal S16384x2048 .f32) : FVec Ideal S4x4096x16x128 .f32 := shapeCast _ x shapeCasts_S16384x2048_S4x4096x16x128

/-- The row numbers' quotients by 64. -/
def QUOTIENTS : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The row numbers' remainders by 64. -/
def REMAINDERS : IVec S4096 32 :=
  select (andi (cmpi .ne (cmpi .slt (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (constantI S_ 32 0#32))) (broadcastInDim S4096 ![] bcast_S_S4096 (cmpi .slt (select (cmpi .eq (id (constantI S_ 32 64#32)) (constantI S_ 32 0#32)) (constantI S_ 32 1#32) (id (constantI S_ 32 64#32))) (constantI S_ 32 0#32)))) (cmpi .ne (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (constantI S_ 32 0#32)))) (addi (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (select (cmpi .eq (id (constantI S_ 32 64#32)) (constantI S_ 32 0#32)) (constantI S_ 32 1#32) (id (constantI S_ 32 64#32))))) (Host.remsi (iotaInDim S4096 32 0) (broadcastInDim S4096 ![] bcast_S_S4096 (select (cmpi .eq (id (constantI S_ 32 64#32)) (constantI S_ 32 0#32)) (constantI S_ 32 1#32) (id (constantI S_ 32 64#32)))))

/-- The frequencies. -/
def FREQUENCIES : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles: a place along one side of the image times the frequencies. -/
def TURNS (n : IVec S4096 32) : FVec Ideal S4096x1x32 .f32 :=
  mulf (broadcastInDim S4096x1x32 ![0, 1, 2] bcast_S4096x1x1_S4096x1x32_0_1_2 (broadcastInDim S4096x1x1 ![0] bcast_S4096_S4096x1x1_0 (sitofp .f32 n))) (broadcastInDim S4096x1x32 ![0, 1, 2] bcast_S1x1x32_S4096x1x32_0_1_2 (broadcastInDim S1x1x32 ![2] bcast_S32_S1x1x32_2 FREQUENCIES))

/-- An array over row numbers and lanes, the same for every sample and head. -/
def SPREAD (g : FVec Ideal S4096x1x32 .f32) : FVec Ideal S4x4096x16x32 .f32 :=
  broadcastInDim S4x4096x16x32 ![0, 1, 2, 3] bcast_S1x4096x1x32_S4x4096x16x32_0_1_2_3 (broadcastInDim S1x4096x1x32 ![1, 2, 3] bcast_S4096x1x32_S1x4096x1x32_1_2_3 g)

/-- The first 32 of 64 lanes. -/
def FORE (x : FVec Ideal S4x4096x16x64 .f32) : FVec Ideal S4x4096x16x32 .f32 :=
  extractStridedSlice S4x4096x16x32 ![0, 0, 0, 0] x slices_S4x4096x16x64_S4x4096x16x32_0_0_0_0

/-- The last 32 of 64 lanes. -/
def AFT (x : FVec Ideal S4x4096x16x64 .f32) : FVec Ideal S4x4096x16x32 .f32 :=
  extractStridedSlice S4x4096x16x32 ![0, 0, 0, 32] x slices_S4x4096x16x64_S4x4096x16x32_0_0_0_32

/-- 64 lanes turned by their angles. -/
def TURNED (x : FVec Ideal S4x4096x16x64 .f32) (g : FVec Ideal S4096x1x32 .f32) : FVec Ideal S4x4096x16x64 .f32 :=
  concatenate S4x4096x16x64 3 [⟨S4x4096x16x32, (subf (mulf (FORE x) (SPREAD (Host.cos g))) (mulf (AFT x) (SPREAD (Host.sin g))))⟩, ⟨S4x4096x16x32, (addf (mulf (AFT x) (SPREAD (Host.cos g))) (mulf (FORE x) (SPREAD (Host.sin g))))⟩] concatenates_S4x4096x16x32_S4x4096x16x32_S4x4096x16x64_d3

/-- 128 lanes turned: the first 64 by the quotients' angles, the last by the remainders'. -/
def WHOLE (x : FVec Ideal S4x4096x16x128 .f32) : FVec Ideal S4x4096x16x128 .f32 :=
  concatenate S4x4096x16x128 3 [⟨S4x4096x16x64, TURNED (extractStridedSlice S4x4096x16x64 ![0, 0, 0, 0] x slices_S4x4096x16x128_S4x4096x16x64_0_0_0_0) (TURNS QUOTIENTS)⟩, ⟨S4x4096x16x64, TURNED (extractStridedSlice S4x4096x16x64 ![0, 0, 0, 64] x slices_S4x4096x16x128_S4x4096x16x64_0_0_0_64) (TURNS REMAINDERS)⟩] concatenates_S4x4096x16x64_S4x4096x16x64_S4x4096x16x128_d3

/-- The reference of the query projection: the product's rows turned, over a constant. -/
def REF (h : FVec Ideal S16384x2048 .bf16) (w : FVec Ideal S2x2048x6144 .f32) : FVec Ideal S16384x2048 .bf16 :=
  truncf .bf16 (shapeCast _ (Host.divf (WHOLE (HEADS (PRODUCT h w))) (broadcastInDim S4x4096x16x128 ![] bcast_S_S4x4096x16x128 (mulf (Host.sqrt (constant S_ .f32 0x43000000#32)) (Host.log (constant S_ .f32 0x40000000#32))))) shapeCasts_S4x4096x16x128_S16384x2048) bitsLt_bf16_f32

/-- The angle of a row number at a lane: the quotients' for the lanes below 64, the remainders' above. -/
def bend (p : Fin 4096) (l : ℕ) : EReal :=
  if l < 64 then TURNS QUOTIENTS (ix3 p 0 ⟨l % 32, Nat.mod_lt _ (by decide)⟩) else TURNS REMAINDERS (ix3 p 0 ⟨l % 32, Nat.mod_lt _ (by decide)⟩)

/-- 64 turned lanes, element by element. -/
theorem turned_at (x : FVec Ideal S4x4096x16x64 .f32) (g : FVec Ideal S4096x1x32 .f32) (i : Fin 4) (p : Fin 4096) (n : Fin 16) (l : Fin 64) :
    TURNED x g (ix4 i p n l) = x (ix4 i p n l) * Ideal.cos (g (ix3 p 0 ⟨(l : ℕ) % 32, Nat.mod_lt _ (by decide)⟩))
      + (if (l : ℕ) < 32 then x (ix4 i p n ⟨((l : ℕ) + 32) % 64, Nat.mod_lt _ (by decide)⟩) * -(Ideal.sin (g (ix3 p 0 ⟨(l : ℕ) % 32, Nat.mod_lt _ (by decide)⟩)))
          else x (ix4 i p n ⟨((l : ℕ) + 32) % 64, Nat.mod_lt _ (by decide)⟩) * Ideal.sin (g (ix3 p 0 ⟨(l : ℕ) % 32, Nat.mod_lt _ (by decide)⟩))) := by
  pointwise [TURNED, FORE, AFT, SPREAD]
  by_cases h : (l : ℕ) < 32
  · have e1 : (l : ℕ) % 32 = l := Nat.mod_eq_of_lt h
    have e2 : ((l : ℕ) + 32) % 64 = 32 + l := by omega
    simp only [dif_pos h, if_pos h, e1, e2, mul_neg, sub_eq_add_neg]
  · have e1 : (l : ℕ) % 32 = l - 32 := by omega
    have e2 : ((l : ℕ) + 32) % 64 = l - 32 := by omega
    have e3 : 32 + ((l : ℕ) - 32) = l := by omega
    simp only [dif_neg h, if_neg h, e1, e2, e3, Fin.eta]

/-- A head's turned lanes, element by element. -/
theorem whole_at (x : FVec Ideal S4x4096x16x128 .f32) (i : Fin 4) (p : Fin 4096) (n : Fin 16) (l : Fin 128) :
    WHOLE x (ix4 i p n l) = x (ix4 i p n l) * Ideal.cos (bend p l)
      + (if (l : ℕ) % 64 < 32 then x (ix4 i p n ⟨((l : ℕ) + 32) % 128, Nat.mod_lt _ (by decide)⟩) * -(Ideal.sin (bend p l))
          else x (ix4 i p n ⟨((l : ℕ) + 96) % 128, Nat.mod_lt _ (by decide)⟩) * Ideal.sin (bend p l)) := by
  unfold bend
  pointwise [WHOLE]
  by_cases h : (l : ℕ) < 64
  · rw [dif_pos h, turned_at]
    simp only [if_pos h]
    pointwise
    by_cases k : (l : ℕ) < 32
    · have f : (l : ℕ) % 64 < 32 := by omega
      have e1 : ((l : ℕ) + 32) % 64 = (l + 32) % 128 := by omega
      simp only [if_pos k, if_pos f, e1]
    · have f : ¬ (l : ℕ) % 64 < 32 := by omega
      have e1 : ((l : ℕ) + 32) % 64 = (l + 96) % 128 := by omega
      simp only [if_neg k, if_neg f, e1]
  · rw [dif_neg h, turned_at]
    simp only [if_neg h]
    pointwise
    have e0 : 64 + ((l : ℕ) - 64) = l := by omega
    have e2 : ((l : ℕ) - 64) % 32 = l % 32 := by omega
    by_cases k : (l : ℕ) - 64 < 32
    · have f : (l : ℕ) % 64 < 32 := by omega
      have e1 : 64 + ((l : ℕ) - 64 + 32) % 64 = (l + 32) % 128 := by omega
      simp only [if_pos k, if_pos f, e0, e1, e2, Fin.eta]
    · have f : ¬ (l : ℕ) % 64 < 32 := by omega
      have e1 : 64 + ((l : ℕ) - 64 + 32) % 64 = (l + 96) % 128 := by omega
      simp only [if_neg k, if_neg f, e0, e1, e2, Fin.eta]

/-- An angle as one product. -/
theorem turns_at (n : IVec S4096 32) (p : Fin 4096) (k : Fin 32) :
    TURNS n (ix3 p 0 k) = FloatOps.sitofp (F := Ideal) .f32 (n (ix1 p)) * FREQUENCIES (ix1 k) := by
  pointwise [TURNS]

/-- The turned product at a row and a column. -/
def turnedProduct (D : FVec Ideal S16384x2048 .f32) (r : Fin 16384) (j : Fin 2048) : EReal :=
  D (ix2 r j) * Ideal.cos (bend ⟨(r : ℕ) % 4096, Nat.mod_lt _ (by decide)⟩ ((j : ℕ) % 128))
    + (if (j : ℕ) % 64 < 32 then D (ix2 r ⟨((j : ℕ) + 32) % 2048, Nat.mod_lt _ (by decide)⟩) * -(Ideal.sin (bend ⟨(r : ℕ) % 4096, Nat.mod_lt _ (by decide)⟩ ((j : ℕ) % 128)))
        else D (ix2 r ⟨((j : ℕ) + 2016) % 2048, Nat.mod_lt _ (by decide)⟩) * Ideal.sin (bend ⟨(r : ℕ) % 4096, Nat.mod_lt _ (by decide)⟩ ((j : ℕ) % 128)))

/-- The reference's term at a row and a column. -/
theorem ref_at (h : FVec Ideal S16384x2048 .bf16) (w : FVec Ideal S2x2048x6144 .f32) (r : Fin 16384) (j : Fin 2048) :
    REF h w (ix2 r j) = Ideal.div (turnedProduct (PRODUCT h w) r j) (Ideal.sqrt (Ideal.ofBits FTy.f32 1124073472#32) * Ideal.log (Ideal.ofBits FTy.f32 1073741824#32)) := by
  unfold REF
  generalize PRODUCT h w = D
  pointwise
  rw [whole_at]
  pointwise [HEADS]
  unfold turnedProduct
  have hj := j.isLt
  by_cases k : (j : ℕ) % 64 < 32
  · have f : (j : ℕ) % 128 % 64 < 32 := by omega
    have e : (j : ℕ) / 128 * 128 + ((j : ℕ) % 128 + 32) % 128 = (j + 32) % 2048 := by omega
    simp only [if_pos k, if_pos f, e]
  · have f : ¬ (j : ℕ) % 128 % 64 < 32 := by omega
    have e : (j : ℕ) / 128 * 128 + ((j : ℕ) % 128 + 96) % 128 = (j + 2016) % 2048 := by omega
    simp only [if_neg k, if_neg f, e]

/-- What the run's result is written as. -/
theorem ref_run (m : (ℓ : Loc nD τ sig) → Buf (Elt Ideal) ℓ) (c : Dev nD) : res_main_v78 (F := Ideal) m c = REF (m ((c.tc : Thread nD τ).loc main_arg0)) (m ((c.tc : Thread nD τ).loc main_arg1)) := rfl

end Cert.QueryProjRefIdeal.Value
-- ==== Proof.ProjQuery.lean ====
module

public import proofs.«01_k».proof.Defs
public import proofs.«01_k».proof.Proof.Gen.QueryProjIdeal.Value
public import proofs.«01_k».proof.Proof.Gen.QueryProjRefIdeal.Run
public import proofs.«01_k».proof.Proof.QueryTables
public import proofs.«01_k».proof.Proof.DiffMath
public import proofs.«01_k».proof.Proof.QueryRef
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.QueryProjIdeal.Value
open Cert.QueryProjIdeal Cert.QueryProjIdeal.Gen

/-- The lanes of the first half of each 64: where the payloads choose the lane 32 on. -/
theorem lane_low : ∀ l : Fin 128, IntOp.cmpi CmpIPredicate.slt
            (Scalar.select
              (IntOp.andi
                (IntOp.xori
                  (IntOp.cmpi CmpIPredicate.slt
                    (IntOp.remsi ArithUnit.vector (BitVec.ofNat 32 ↑l)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 ↑l)
                    (Scalar.select (Scalar.cmpi CmpIPredicate.eq 64#32 0#32) 1#32 64#32))
                  0#32))
              (IntOp.addi
                (IntOp.remsi ArithUnit.vector (BitVec.ofNat 32 ↑l)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 ↑l)
                (Scalar.select (Scalar.cmpi CmpIPredicate.eq 64#32 0#32) 1#32 64#32)))
            32#32 = if (l : ℕ) % 64 < 32 then 1#1 else 0#1 := by decide +kernel

/-- The query's scale, as the program names it. -/
def prescale : EReal := (Named.named κ "q_prescale" 0x3E0293EE#32 : Ideal .f32)

/-- The name's value: one over the root of 128 times the logarithm of two. -/
theorem prescale_eq : prescale = (((Real.sqrt 128 * Real.log 2)⁻¹ : ℝ) : EReal) :=
  IdealRules.named_const.ideal_named_scalar _ _ _ _ rfl

/-- Dividing by the reference's constant is multiplying by the name's value. -/
theorem over_constant (x : EReal) : Ideal.div x (Ideal.sqrt (Ideal.ofBits .f32 1124073472#32) * Ideal.log (Ideal.ofBits .f32 1073741824#32)) = x * prescale := by
  have hs : Ideal.sqrt (Ideal.ofBits .f32 1124073472#32) = ((Real.sqrt 128 : ℝ) : EReal) := by
    rw [Cert.Diff.bits128]
    show (if (128 : ℝ) < 0 then (⊥ : EReal) else (Real.sqrt 128 : EReal)) = _
    rw [if_neg (by norm_num)]
  have hl : Ideal.log (Ideal.ofBits .f32 1073741824#32) = ((Real.log 2 : ℝ) : EReal) := by
    rw [Cert.Diff.bits2]
    show (if (2 : ℝ) ≤ 0 then (⊥ : EReal) else (Real.log 2 : EReal)) = _
    rw [if_neg (by norm_num)]
  have h0 : Real.sqrt 128 * Real.log 2 ≠ 0 :=
    mul_ne_zero (Real.sqrt_pos.mpr (by norm_num)).ne' (Real.log_pos (by norm_num)).ne'
  rw [hs, hl, prescale_eq, ← EReal.coe_mul]
  unfold Ideal.div
  rw [if_neg (by exact_mod_cast h0), EReal.coe_inv]

/-- One head's payload at a row and a lane. -/
theorem turn_at (x c s : FVec Ideal S1024x128 .f32) (r : Fin 1024) (l : Fin 128) :
    k0_pay1 (F := Ideal) x c s (ix2 r l) = (x (ix2 r l) * c (ix2 r l)
      + (if (l : ℕ) % 64 < 32 then x (ix2 r ⟨((l : ℕ) + 128 - 96) % 128, Nat.mod_lt _ (by decide)⟩)
          else x (ix2 r ⟨((l : ℕ) + 128 - 32) % 128, Nat.mod_lt _ (by decide)⟩)) * s (ix2 r l)) * prescale := by
  pointwise [k0_pay1]
  rw [lane_low l]
  by_cases h : (l : ℕ) % 64 < 32
  · rw [if_pos h, if_pos h]; rfl
  · rw [if_neg h, if_neg h]; rfl

/-- The turned rows of a tile: each element times its cosine, and its partner 32 lanes on or back times its sine. -/
def turned (T : FVec Ideal S1024x1024 .f32) (C S : FVec Ideal S1024x128 .f32) (y : S1024x1024.Idx) : EReal :=
  T y * C (ix2 (y 0) ⟨(y 1 : ℕ) % 128, Nat.mod_lt _ (by decide)⟩)
    + (if (y 1 : ℕ) % 64 < 32 then T (ix2 (y 0) ⟨((y 1 : ℕ) + 32) % 1024, Nat.mod_lt _ (by decide)⟩)
        else T (ix2 (y 0) ⟨((y 1 : ℕ) + 992) % 1024, Nat.mod_lt _ (by decide)⟩)) * S (ix2 (y 0) ⟨(y 1 : ℕ) % 128, Nat.mod_lt _ (by decide)⟩)

/-- A payload over the columns `128 k …` of a tile is the turned rows' part over those columns. -/
theorem head (T : FVec Ideal S1024x1024 .f32) (C S P : FVec Ideal S1024x128 .f32) (k : ℕ) (hk : k < 8)
    (hP : ∀ (r : Fin 1024) (l : Fin 128), P (ix2 r l) = T (ix2 r ⟨(128 * k + (l : ℕ)) % 1024, Nat.mod_lt _ (by decide)⟩))
    (x : S1024x128.Idx) (y : S1024x1024.Idx) (h0 : (y 0 : ℕ) = (x 0 : ℕ)) (h1 : (y 1 : ℕ) = 128 * k + (x 1 : ℕ)) :
    k0_pay1 (F := Ideal) P C S x = turned T C S y * prescale := by
  idx_vars x
  idx_vars y
  have h0' : y0 = x0 := Fin.ext h0
  have h1' : (y1 : ℕ) = 128 * k + (x1 : ℕ) := h1
  subst h0'
  have hx := x1.isLt
  rw [turn_at, hP, hP, hP]
  unfold turned
  have e1 : (⟨(128 * k + (x1 : ℕ)) % 1024, Nat.mod_lt _ (by decide)⟩ : Fin 1024) = y1 := Fin.ext (by show _ % 1024 = _; omega)
  have e2 : (⟨(y1 : ℕ) % 128, Nat.mod_lt _ (by decide)⟩ : Fin 128) = x1 := Fin.ext (by show (y1 : ℕ) % 128 = _; omega)
  show _ = (T (ix2 y0 y1) * C (ix2 y0 ⟨(y1 : ℕ) % 128, _⟩) + (if (y1 : ℕ) % 64 < 32 then T (ix2 y0 ⟨((y1 : ℕ) + 32) % 1024, _⟩) else T (ix2 y0 ⟨((y1 : ℕ) + 992) % 1024, _⟩)) * S (ix2 y0 ⟨(y1 : ℕ) % 128, _⟩)) * prescale
  rw [e1, e2]
  by_cases h : (x1 : ℕ) % 64 < 32
  · rw [if_pos h, if_pos (show (y1 : ℕ) % 64 < 32 by omega)]
    refine congrArg (fun u => (_ + T (ix2 y0 u) * _) * prescale) (Fin.ext ?_)
    show (128 * k + ((x1 : ℕ) + 128 - 96) % 128) % 1024 = ((y1 : ℕ) + 32) % 1024
    omega
  · rw [if_neg h, if_neg (show ¬ (y1 : ℕ) % 64 < 32 by omega)]
    refine congrArg (fun u => (_ + T (ix2 y0 u) * _) * prescale) (Fin.ext ?_)
    show (128 * k + ((x1 : ℕ) + 128 - 32) % 128) % 1024 = ((y1 : ℕ) + 992) % 1024
    omega

variable (m : (ℓ : Loc nD τ sig) → Buf (Elt Ideal) ℓ)

/-- Which block each window shows at a grid point. -/
theorem idx : ∀ t : Fin cfg0.N, win0_0.index t = ![t.val % 16, 0] ∧ win0_1.index t = ![0, 0, 0 + t.val / 16]
    ∧ win0_2.index t = ![t.val % 4, 0] ∧ win0_3.index t = ![t.val % 4, 0] ∧ win0_4.index t = ![t.val % 16, t.val / 16] :=
  (by decide +kernel : ∀ t : Fin grid0.N, _)

/-- Points of the same column tile show the same block of the matrix. -/
theorem same_matrix (c : Dev nD) (t t' : Fin cfg0.N) (h : t.val / 16 = t'.val / 16) : iblk m c 1 t = iblk m c 1 t' := by
  funext y
  blk_point [iblk, V, idx t, idx t']

/-- The scratch holds, after every point, the column tile of the matrix that the point shows: the first
    point of a tile writes it, the others keep it. -/
theorem kept (c : Dev nD) : ∀ (n : ℕ) (h : n < cfg0.N), (outsAt0 m c n h).2 = k0_pay3 (F := Ideal) (iblk m c 1 ⟨n, h⟩) := by
  intro n
  induction n with
  | zero =>
    intro h
    rw [outsAt0_A m c ⟨0, h⟩ (Nat.zero_mod _)]
    frame_out
  | succ n ih =>
    intro h
    by_cases h0 : (n + 1) % 16 = 0
    · rw [outsAt0_A m c ⟨n + 1, h⟩ h0]
      frame_out
    · rw [outsAt0_B m c ⟨n + 1, h⟩ h0]
      refine (ih (Nat.lt_of_succ_lt h)).trans (congrArg _ (same_matrix m c _ _ ?_))
      show n / 16 = (n + 1) / 16
      omega

/-- What the first point of a tile leaves in the result's buffer: the turned rows of the product. -/
theorem tile_first (c : Dev nD) (t : Fin cfg0.N) (h0 : t.val % 16 = 0) (y : S1024x1024.Idx) :
    (outsAt0 m c t.val t.isLt).1 y = turned (k0_pay4 (F := Ideal) (iblk m c 0 t) (k0_pay3 (F := Ideal) (iblk m c 1 t))) (iblk m c 2 t) (iblk m c 3 t) y * prescale := by
  rw [outsAt0_A m c t h0]
  frame_out
  try simp only [read_unread_whole]
  generalize k0_pay3 (iblk m c 1 t) = W
  generalize iblk m c 0 t = X
  generalize iblk m c 2 t = C
  generalize iblk m c 3 t = S
  canon_tiles x h
  case piece0 => exact head (k0_pay4 (F := Ideal) X W) C S (k0_pay26 (F := Ideal) (k0_pay4 (F := Ideal) X W)) 7 (by decide) (fun r l => by pointwise [k0_pay26]; blk_ext) x y h0 (h1.trans (by omega))
  case piece1 => exact head (k0_pay4 (F := Ideal) X W) C S (k0_pay23 (F := Ideal) (k0_pay4 (F := Ideal) X W)) 6 (by decide) (fun r l => by pointwise [k0_pay23]; blk_ext) x y h0 (h1.trans (by omega))
  case piece2 => exact head (k0_pay4 (F := Ideal) X W) C S (k0_pay20 (F := Ideal) (k0_pay4 (F := Ideal) X W)) 5 (by decide) (fun r l => by pointwise [k0_pay20]; blk_ext) x y h0 (h1.trans (by omega))
  case piece3 => exact head (k0_pay4 (F := Ideal) X W) C S (k0_pay17 (F := Ideal) (k0_pay4 (F := Ideal) X W)) 4 (by decide) (fun r l => by pointwise [k0_pay17]; blk_ext) x y h0 (h1.trans (by omega))
  case piece4 => exact head (k0_pay4 (F := Ideal) X W) C S (k0_pay14 (F := Ideal) (k0_pay4 (F := Ideal) X W)) 3 (by decide) (fun r l => by pointwise [k0_pay14]; blk_ext) x y h0 (h1.trans (by omega))
  case piece5 => exact head (k0_pay4 (F := Ideal) X W) C S (k0_pay11 (F := Ideal) (k0_pay4 (F := Ideal) X W)) 2 (by decide) (fun r l => by pointwise [k0_pay11]; blk_ext) x y h0 (h1.trans (by omega))
  case piece6 => exact head (k0_pay4 (F := Ideal) X W) C S (k0_pay8 (F := Ideal) X W) 1 (by decide) (fun r l => by pointwise [k0_pay8]; blk_ext) x y h0 (h1.trans (by omega))
  case piece7 => exact head (k0_pay4 (F := Ideal) X W) C S (k0_pay5 (F := Ideal) X W) 0 (by decide) (fun r l => by pointwise [k0_pay5]; blk_ext) x y h0 (h1.trans (by omega))

/-- What every other point leaves there: the same, the scratch holding the tile. -/
theorem tile_next (c : Dev nD) (t : Fin cfg0.N) (h0 : ¬ t.val % 16 = 0) (y : S1024x1024.Idx) :
    (outsAt0 m c t.val t.isLt).1 y = turned (k0_pay4 (F := Ideal) (iblk m c 0 t) (k0_pay3 (F := Ideal) (iblk m c 1 t))) (iblk m c 2 t) (iblk m c 3 t) y * prescale := by
  have hp : 0 < t.val := Nat.pos_of_ne_zero fun h => h0 (by rw [h])
  have hk := kept m c (t.val - 1) (Nat.lt_of_le_of_lt (Nat.sub_le _ _) t.isLt)
  rw [same_matrix m c ⟨t.val - 1, Nat.lt_of_le_of_lt (Nat.sub_le _ _) t.isLt⟩ t (show (t.val - 1) / 16 = t.val / 16 by omega)] at hk
  rw [outsAt0_B m c t h0, hk]
  frame_out
  try simp only [read_unread_whole]
  generalize k0_pay3 (iblk m c 1 t) = W
  generalize iblk m c 0 t = X
  generalize iblk m c 2 t = C
  generalize iblk m c 3 t = S
  canon_tiles x h
  case piece0 => exact head (k0_pay4 (F := Ideal) X W) C S (k0_pay26 (F := Ideal) (k0_pay4 (F := Ideal) X W)) 7 (by decide) (fun r l => by pointwise [k0_pay26]; blk_ext) x y h0 (h1.trans (by omega))
  case piece1 => exact head (k0_pay4 (F := Ideal) X W) C S (k0_pay23 (F := Ideal) (k0_pay4 (F := Ideal) X W)) 6 (by decide) (fun r l => by pointwise [k0_pay23]; blk_ext) x y h0 (h1.trans (by omega))
  case piece2 => exact head (k0_pay4 (F := Ideal) X W) C S (k0_pay20 (F := Ideal) (k0_pay4 (F := Ideal) X W)) 5 (by decide) (fun r l => by pointwise [k0_pay20]; blk_ext) x y h0 (h1.trans (by omega))
  case piece3 => exact head (k0_pay4 (F := Ideal) X W) C S (k0_pay17 (F := Ideal) (k0_pay4 (F := Ideal) X W)) 4 (by decide) (fun r l => by pointwise [k0_pay17]; blk_ext) x y h0 (h1.trans (by omega))
  case piece4 => exact head (k0_pay4 (F := Ideal) X W) C S (k0_pay14 (F := Ideal) (k0_pay4 (F := Ideal) X W)) 3 (by decide) (fun r l => by pointwise [k0_pay14]; blk_ext) x y h0 (h1.trans (by omega))
  case piece5 => exact head (k0_pay4 (F := Ideal) X W) C S (k0_pay11 (F := Ideal) (k0_pay4 (F := Ideal) X W)) 2 (by decide) (fun r l => by pointwise [k0_pay11]; blk_ext) x y h0 (h1.trans (by omega))
  case piece6 => exact head (k0_pay4 (F := Ideal) X W) C S (k0_pay8 (F := Ideal) X W) 1 (by decide) (fun r l => by pointwise [k0_pay8]; blk_ext) x y h0 (h1.trans (by omega))
  case piece7 => exact head (k0_pay4 (F := Ideal) X W) C S (k0_pay5 (F := Ideal) X W) 0 (by decide) (fun r l => by pointwise [k0_pay5]; blk_ext) x y h0 (h1.trans (by omega))

/-- What a point leaves in the result's buffer. -/
theorem tile (c : Dev nD) (t : Fin cfg0.N) (y : S1024x1024.Idx) :
    (outsAt0 m c t.val t.isLt).1 y = turned (k0_pay4 (F := Ideal) (iblk m c 0 t) (k0_pay3 (F := Ideal) (iblk m c 1 t))) (iblk m c 2 t) (iblk m c 3 t) y * prescale := by
  by_cases h0 : t.val % 16 = 0
  · exact tile_first m c t h0 y
  · exact tile_next m c t h0 y

/-- The angle of a row number at a lane: the rows' for the lanes below 64, the columns' above. -/
def angle (p : Fin 4096) (l : ℕ) : EReal :=
  if l < 64 then ROWS (ix2 p ⟨l % 32, Nat.mod_lt _ (by decide)⟩) else COLUMNS (ix2 p ⟨l % 32, Nat.mod_lt _ (by decide)⟩)

/-- The cosine at a row number and a lane. -/
theorem cosine_at (c : Dev nD) (p : Fin 4096) (l : Fin 128) : V m c main_v29 (ix2 p l) = Ideal.cos (angle p l) := by
  rw [cosines]
  generalize hR : ROWS = R
  generalize hQ : COLUMNS = Q
  unfold angle
  rw [hR, hQ]
  pointwise
  by_cases a : (l : ℕ) < 32
  · have e : (l : ℕ) % 32 = l := by omega
    have g : (l : ℕ) < 64 := by omega
    have f : (l : ℕ) % 64 < 32 := by omega
    simp only [dif_pos a, if_pos g, e]
  by_cases b : (l : ℕ) - 32 < 32
  · have e : (l : ℕ) % 32 = l - 32 := by omega
    have g : (l : ℕ) < 64 := by omega
    have f : ¬ (l : ℕ) % 64 < 32 := by omega
    simp only [dif_neg a, dif_pos b, if_pos g, e]
  by_cases d : (l : ℕ) - 32 - 32 < 32
  · have e : (l : ℕ) % 32 = l - 32 - 32 := by omega
    have g : ¬ (l : ℕ) < 64 := by omega
    have f : (l : ℕ) % 64 < 32 := by omega
    simp only [dif_neg a, dif_neg b, dif_pos d, if_neg g, e]
  · have e : (l : ℕ) % 32 = l - 32 - 32 - 32 := by omega
    have g : ¬ (l : ℕ) < 64 := by omega
    have f : ¬ (l : ℕ) % 64 < 32 := by omega
    simp only [dif_neg a, dif_neg b, dif_neg d, if_neg g, e]

/-- The sine at a row number and a lane, its sign turned in the first half of each 64 lanes. -/
theorem sine_at (c : Dev nD) (p : Fin 4096) (l : Fin 128) : V m c main_v36 (ix2 p l)
    = if (l : ℕ) % 64 < 32 then -(Ideal.sin (angle p l)) else Ideal.sin (angle p l) := by
  rw [sines]
  generalize hR : ROWS = R
  generalize hQ : COLUMNS = Q
  unfold angle
  rw [hR, hQ]
  pointwise
  by_cases a : (l : ℕ) < 32
  · have e : (l : ℕ) % 32 = l := by omega
    have g : (l : ℕ) < 64 := by omega
    have f : (l : ℕ) % 64 < 32 := by omega
    simp only [dif_pos a, if_pos g, if_pos f, e]
  by_cases b : (l : ℕ) - 32 < 32
  · have e : (l : ℕ) % 32 = l - 32 := by omega
    have g : (l : ℕ) < 64 := by omega
    have f : ¬ (l : ℕ) % 64 < 32 := by omega
    simp only [dif_neg a, dif_pos b, if_pos g, if_neg f, e]
  by_cases d : (l : ℕ) - 32 - 32 < 32
  · have e : (l : ℕ) % 32 = l - 32 - 32 := by omega
    have g : ¬ (l : ℕ) < 64 := by omega
    have f : (l : ℕ) % 64 < 32 := by omega
    simp only [dif_neg a, dif_neg b, dif_pos d, if_neg g, if_pos f, e]
  · have e : (l : ℕ) % 32 = l - 32 - 32 - 32 := by omega
    have g : ¬ (l : ℕ) < 64 := by omega
    have f : ¬ (l : ℕ) % 64 < 32 := by omega
    simp only [dif_neg a, dif_neg b, dif_neg d, if_neg g, if_neg f, e]

/-- The kernel's angles are the reference's. -/
theorem angle_eq (p : Fin 4096) (l : ℕ) : angle p l = Cert.QueryProjRefIdeal.Value.bend p l := by
  have hr : ∀ k : Fin 32, ROWS (ix2 p k) = Cert.QueryProjRefIdeal.Value.TURNS Cert.QueryProjRefIdeal.Value.QUOTIENTS (ix3 p 0 k) := by
    intro k
    rw [Cert.QueryProjRefIdeal.Value.turns_at]
    pointwise [ROWS, ANGLES]
    rfl
  have hc : ∀ k : Fin 32, COLUMNS (ix2 p k) = Cert.QueryProjRefIdeal.Value.TURNS Cert.QueryProjRefIdeal.Value.REMAINDERS (ix3 p 0 k) := by
    intro k
    rw [Cert.QueryProjRefIdeal.Value.turns_at]
    pointwise [COLUMNS, ANGLES]
    rfl
  unfold angle Cert.QueryProjRefIdeal.Value.bend
  rw [hr, hc]

/-- The cosines' block at a point. -/
theorem cosine_read (c : Dev nD) (t : Fin cfg0.N) (r : Fin 1024) (l : Fin 128) (p : Fin 4096) (hp : (p : ℕ) = t.val % 4 * 1024 + r) :
    iblk m c 2 t (ix2 r l) = Ideal.cos (Cert.QueryProjRefIdeal.Value.bend p l) := by
  rw [← angle_eq, ← cosine_at m c p l]
  blk_point [iblk, idx t]

/-- The sines' block at a point. -/
theorem sine_read (c : Dev nD) (t : Fin cfg0.N) (r : Fin 1024) (l : Fin 128) (p : Fin 4096) (hp : (p : ℕ) = t.val % 4 * 1024 + r) :
    iblk m c 3 t (ix2 r l) = if (l : ℕ) % 64 < 32 then -(Ideal.sin (Cert.QueryProjRefIdeal.Value.bend p l)) else Ideal.sin (Cert.QueryProjRefIdeal.Value.bend p l) := by
  rw [← angle_eq, ← sine_at m c p l]
  blk_point [iblk, idx t]

/-- A tile of the product, element by element. -/
theorem product_read (c : Dev nD) (t : Fin cfg0.N) (a : Fin 1024) (b : Fin 1024) (r : Fin 16384) (j : Fin 2048)
    (hr : (r : ℕ) = t.val % 16 * 1024 + a) (hj : (j : ℕ) = t.val / 16 * 1024 + b) :
    k0_pay4 (F := Ideal) (iblk m c 0 t) (k0_pay3 (F := Ideal) (iblk m c 1 t)) (ix2 a b)
      = Cert.QueryProjRefIdeal.Value.PRODUCT (m ((c : Thread nD τ).loc main_arg0)) (m ((c : Thread nD τ).loc main_arg1)) (ix2 r j) := by
  pointwise [k0_pay4, k0_pay3, Cert.QueryProjRefIdeal.Value.PRODUCT]
  blk_point [iblk, V, idx t]

/-- A tile of the turned product, element by element. -/
theorem turned_read (c : Dev nD) (t : Fin cfg0.N) (a : Fin 1024) (b : Fin 1024) (r : Fin 16384) (j : Fin 2048)
    (hr : (r : ℕ) = t.val % 16 * 1024 + a) (hj : (j : ℕ) = t.val / 16 * 1024 + b) :
    turned (k0_pay4 (F := Ideal) (iblk m c 0 t) (k0_pay3 (F := Ideal) (iblk m c 1 t))) (iblk m c 2 t) (iblk m c 3 t) (ix2 a b)
      = Cert.QueryProjRefIdeal.Value.turnedProduct (Cert.QueryProjRefIdeal.Value.PRODUCT (m ((c : Thread nD τ).loc main_arg0)) (m ((c : Thread nD τ).loc main_arg1))) r j := by
  have ht : t.val < 32 := t.isLt
  have ha := a.isLt
  have hb := b.isLt
  have hp : (r : ℕ) % 4096 = t.val % 4 * 1024 + a := by omega
  have hl : (b : ℕ) % 128 = (j : ℕ) % 128 := by omega
  have hs : (b : ℕ) % 64 = (j : ℕ) % 64 := by omega
  have hs' : (b : ℕ) % 128 % 64 = (j : ℕ) % 64 := by omega
  have hj' : (j : ℕ) % 128 % 64 = (j : ℕ) % 64 := by omega
  unfold turned Cert.QueryProjRefIdeal.Value.turnedProduct
  show k0_pay4 (F := Ideal) (iblk m c 0 t) (k0_pay3 (F := Ideal) (iblk m c 1 t)) (ix2 a b) * iblk m c 2 t (ix2 a ⟨(b : ℕ) % 128, _⟩)
    + (if (b : ℕ) % 64 < 32 then k0_pay4 (F := Ideal) (iblk m c 0 t) (k0_pay3 (F := Ideal) (iblk m c 1 t)) (ix2 a ⟨((b : ℕ) + 32) % 1024, _⟩)
        else k0_pay4 (F := Ideal) (iblk m c 0 t) (k0_pay3 (F := Ideal) (iblk m c 1 t)) (ix2 a ⟨((b : ℕ) + 992) % 1024, _⟩)) * iblk m c 3 t (ix2 a ⟨(b : ℕ) % 128, _⟩) = _
  rw [product_read m c t a b r j hr hj, cosine_read m c t a _ ⟨(r : ℕ) % 4096, Nat.mod_lt _ (by decide)⟩ hp, sine_read m c t a _ ⟨(r : ℕ) % 4096, Nat.mod_lt _ (by decide)⟩ hp]
  simp only [hl, hs, hj']
  by_cases k : (j : ℕ) % 64 < 32
  · rw [if_pos k, if_pos k, if_pos k]
    rw [product_read m c t a _ r ⟨((j : ℕ) + 32) % 2048, Nat.mod_lt _ (by decide)⟩ hr (by show ((j : ℕ) + 32) % 2048 = t.val / 16 * 1024 + ((b : ℕ) + 32) % 1024; omega)]
  · rw [if_neg k, if_neg k, if_neg k]
    rw [product_read m c t a _ r ⟨((j : ℕ) + 2016) % 2048, Nat.mod_lt _ (by decide)⟩ hr (by show ((j : ℕ) + 2016) % 2048 = t.val / 16 * 1024 + ((b : ℕ) + 992) % 1024; omega)]

/-- The array the call leaves is the reference's term over its arguments. -/
theorem final (c : Dev nD) : (dats m 0 c).arrAt 4 (cfgs 0).N
    = Cert.QueryProjRefIdeal.Value.REF (m ((c : Thread nD τ).loc main_arg0)) (m ((c : Thread nD τ).loc main_arg1)) := by
  refine (dats m 0 c).arrAt_eq_of_covers 4 _ (by decide +kernel) fun t _ y => ?_
  blk_simp
  rw [after0_4]
  refine (tile m c t y).trans ?_
  have ht : t.val < 32 := t.isLt
  idx_vars y
  have hy0 := y0.isLt
  have hy1 := y1.isLt
  rw [turned_read m c t y0 y1 ⟨t.val % 16 * 1024 + y0, by omega⟩ ⟨t.val / 16 * 1024 + y1, by omega⟩ rfl rfl, ← over_constant, ← Cert.QueryProjRefIdeal.Value.ref_at]
  generalize Cert.QueryProjRefIdeal.Value.REF (m ((c : Thread nD τ).loc main_arg0)) (m ((c : Thread nD τ).loc main_arg1)) = R
  blk_point [idx t]

end Cert.QueryProjIdeal.Value

namespace Cert.Proof

/-- The query projection: the kernel's call and the reference run and end with the same array. -/
theorem algebraic_query_proj : algebraic_QueryProjIdeal_QueryProjRefIdeal (hQueryProjIdeal := Cert.QueryProjIdeal.Gen.facts) (hQueryProjRefIdeal := Cert.QueryProjRefIdeal.Gen.facts) := by
  pair_intro
  · run_from Cert.QueryProjIdeal.Gen.run_main m g
  · run_from Cert.QueryProjRefIdeal.Value.run m' g'
    rw [Cert.QueryProjRefIdeal.Value.ref_run]
    rw [(hagree c).1, (hagree c).2]
    exact (Cert.QueryProjIdeal.Value.final m c).symm

/-- The named constant keeps the program: its value is the name's, to the bits' precision. -/
theorem preserves_query_proj : preserves_QueryProj_QueryProjIdeal :=
  IdealRules.named_const.statement Cert.QueryProjIdeal.κ "q_prescale" .f32 0x3E0293EE#32 ((((Real.sqrt 128) * (Real.log 2))⁻¹ : ℝ) : EReal) rfl

end Cert.Proof
-- ==== Proof.OutMath.lean ====
module

public import proofs.«01_k».proof.Defs
public import proofs.«01_k».proof.Proof.Gen.OutProjIdeal.Skeleton
public import Idealize.ShloMosaic.Lib.Pipeline.ValueKit

@[expose] public section

set_option maxRecDepth 16384
noncomputable section
open Idealize.ShloMosaic Idealize.ShloMosaic.TcCoe Idealize.SL.Sem

namespace Cert.OutMath

/-- The mean of a row: its sum divided by its length. -/
def mean (s : Fin 2048 → EReal) : EReal := Ideal.div (∑ k, s k) (Ideal.ofBits .f32 0x45000000#32)

/-- The reciprocal of a row's deviation: of the mean of its squared distances from the mean, kept off zero. -/
def inverseDeviation (s : Fin 2048 → EReal) : EReal :=
  Ideal.rsqrt (mean (fun k => (s k - mean s) * (s k - mean s)) + Ideal.ofBits .f32 0x3727C5AC#32)

/-- A row normalized, before its offset is added. -/
def scaled (s g : Fin 2048 → EReal) (l : Fin 2048) : EReal := (s l - mean s) * inverseDeviation s * g l

/-- A row normalized. -/
def normalized (s g b : Fin 2048 → EReal) (l : Fin 2048) : EReal := scaled s g l + b l

/-- The largest of a row's scores. -/
def largest (z : Fin 16 → EReal) : EReal := Finset.univ.fold max (Ideal.ofBits .f32 0xFF800000#32) z

/-- The softmax of a row's scores. -/
def soft (z : Fin 16 → EReal) (e : Fin 16) : EReal :=
  Ideal.div (Ideal.exp (z e - largest z)) (∑ k, Ideal.exp (z k - largest z))

/-- Taking the maximum with the value the fold starts from changes nothing. -/
theorem max_largest (z : Fin 16 → EReal) : max (Ideal.ofBits .f32 0xFF800000#32) (largest z) = largest z :=
  max_eq_right ((Finset.le_fold_max _).2 (Or.inl le_rfl))

end Cert.OutMath

namespace Cert.OutProjIdeal.Value
open Cert.OutProjIdeal Cert.OutProjIdeal.Gen Cert.OutMath

/-- The residual sum of a row of a block: the scaled input plus the gate times the projection. -/
def blockSum (o : FVec Ideal S256x2048 .bf16) (w : FVec Ideal S1x2048x2048 .bf16) (x : FVec Ideal S256x2048 .f32)
    (g : FVec Ideal S1x1x1x2048 .f32) (r : Fin 256) (l : Fin 2048) : EReal :=
  Ideal.ofBits .f32 0x3FD744FD#32 * x (ix2 r l) + g (ix4 0 0 0 l) * ∑ k : Fin 2048, o (ix2 r k) * w (ix3 0 k l)

/-- The kernel's normalized rows, before the offset. -/
theorem scaled_at (o : FVec Ideal S256x2048 .bf16) (w : FVec Ideal S1x2048x2048 .bf16) (x : FVec Ideal S256x2048 .f32)
    (g : FVec Ideal S1x1x1x2048 .f32) (a : FVec Ideal S1x1x2048 .f32) (r : Fin 256) (l : Fin 2048) :
    k0_pay4 (F := Ideal) o w x g a (ix2 r l) = scaled (blockSum o w x g r) (fun k => a (ix3 0 0 k)) l := by
  pointwise [k0_pay4, scaled, inverseDeviation, mean, blockSum, zero_add]

/-- The kernel's normalized rows. -/
theorem normalized_at (o : FVec Ideal S256x2048 .bf16) (w : FVec Ideal S1x2048x2048 .bf16) (x : FVec Ideal S256x2048 .f32)
    (g : FVec Ideal S1x1x1x2048 .f32) (a b : FVec Ideal S1x1x2048 .f32) (r : Fin 256) (l : Fin 2048) :
    k0_pay1 (F := Ideal) (k0_pay4 o w x g a) (k0_pay5 b) (ix2 r l)
      = normalized (blockSum o w x g r) (fun k => a (ix3 0 0 k)) (fun k => b (ix3 0 0 k)) l := by
  pointwise [k0_pay1, k0_pay5, normalized, scaled_at]

/-- The kernel's modulated rows. -/
theorem modulated_at (u v : FVec Ideal S256x2048 .f32) (c d : FVec Ideal S1x1x1x2048 .f32) (r : Fin 256) (l : Fin 2048) :
    k0_pay2 (F := Ideal) u v c d (ix2 r l)
      = k0_pay1 (F := Ideal) u v (ix2 r l) * (1 + c (ix4 0 0 0 l)) + d (ix4 0 0 0 l) := by
  pointwise [k0_pay2]

/-- The kernel's affinities. -/
theorem affinity_at (u v : FVec Ideal S256x2048 .f32) (c d : FVec Ideal S1x1x1x2048 .f32) (w : FVec Ideal S1x2048x16 .bf16)
    (r : Fin 256) (e : Fin 16) :
    k0_pay3 (F := Ideal) u v c d w (ix2 r e)
      = soft (fun e => ∑ k : Fin 2048, k0_pay2 (F := Ideal) u v c d (ix2 r k) * w (ix3 0 k e)) e := by
  pointwise [k0_pay3, soft, largest, zero_add]

end Cert.OutProjIdeal.Value
-- ==== Proof.OutRef.lean ====
module

public import proofs.«01_k».proof.Proof.OutMath
public import proofs.«01_k».proof.Proof.Gen.OutProjRefIdeal.Run

@[expose] public section

set_option maxRecDepth 16384
noncomputable section
open Idealize.ShloMosaic Idealize.ShloMosaic.TcCoe Idealize.SL.Sem

namespace Cert.OutProjRefIdeal.Value
open Cert.OutProjRefIdeal Cert.OutProjRefIdeal.Gen Cert.OutMath

/-- The requests' modulation rows of this layer. -/
def SHIFTS (d : FVec Ideal S4x8x6x2048 .f32) : FVec Ideal S4x6x1x2048 .f32 :=
  shapeCast _ (shapeCast _ (extractStridedSlice S1x4x6x2048 ![1, 1, 0, 0] d slices_S4x8x6x2048_S1x4x6x2048_1_1_0_0) shapeCasts_S1x4x6x2048_S4x6x2048) shapeCasts_S4x6x2048_S4x6x1x2048

/-- The residual sum: the scaled input plus the gate times the projection. -/
def SUM (o : FVec Ideal S16384x2048 .bf16) (w : FVec Ideal S2x2048x2048 .f32) (x : FVec Ideal S16384x2048 .f32) (d : FVec Ideal S4x8x6x2048 .f32) : FVec Ideal S4x4096x2048 .f32 :=
  addf (mulf (broadcastInDim S4x4096x2048 ![] bcast_S_S4x4096x2048 (constant S_ .f32 0x3FD744FD#32)) (shapeCast _ x shapeCasts_S16384x2048_S4x4096x2048)) (mulf (broadcastInDim S4x4096x2048 ![0, 1, 2] bcast_S4x1x2048_S4x4096x2048_0_1_2 (shapeCast _ (extractStridedSlice S4x1x1x2048 ![0, 2, 0, 0] (SHIFTS d) slices_S4x6x1x2048_S4x1x1x2048_0_2_0_0) shapeCasts_S4x1x1x2048_S4x1x2048)) (shapeCast _ (Host.dotGeneral dot_S16384x2048_S2048x2048_S16384x2048_1_0_0_1_n_n none (extf .f32 o bitsLt_bf16_f32) (shapeCast _ (extractStridedSlice S1x2048x2048 ![0, 0, 0] w slices_S2x2048x2048_S1x2048x2048_0_0_0) shapeCasts_S1x2048x2048_S2048x2048)) shapeCasts_S16384x2048_S4x4096x2048))

/-- The rows' means. -/
def MEAN (s : FVec Ideal S4x4096x2048 .f32) : FVec Ideal S4x4096x1 .f32 :=
  Host.divf (broadcastInDim S4x4096x1 ![0, 1] bcast_S4x4096_S4x4096x1_0_1 (Host.reduceAdd s (constant S_ .f32 0x00000000#32) reducesTo_S4x4096x2048_S4x4096_d2 h_S_)) (broadcastInDim S4x4096x1 ![] bcast_S_S4x4096x1 (constant S_ .f32 0x45000000#32))

/-- The rows less their means. -/
def CENTRED (s : FVec Ideal S4x4096x2048 .f32) : FVec Ideal S4x4096x2048 .f32 :=
  subf s (broadcastInDim S4x4096x2048 ![0, 1, 2] bcast_S4x4096x1_S4x4096x2048_0_1_2 (MEAN s))

/-- The rows normalized. -/
def NORM (s : FVec Ideal S4x4096x2048 .f32) (a b : FVec Ideal S4x2x2048 .f32) : FVec Ideal S4x4096x2048 .f32 :=
  addf (mulf (mulf (CENTRED s) (broadcastInDim S4x4096x2048 ![0, 1, 2] bcast_S4x4096x1_S4x4096x2048_0_1_2 (Host.rsqrt (addf (MEAN (mulf (CENTRED s) (CENTRED s))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 (shapeCast _ (extractStridedSlice S1x1x2048 ![1, 0, 0] a slices_S4x2x2048_S1x1x2048_1_0_0) shapeCasts_S1x1x2048_S2048)))) (broadcastInDim S4x4096x2048 ![0, 1, 2] bcast_S1x1x2048_S4x4096x2048_0_1_2 (broadcastInDim S1x1x2048 ![2] bcast_S2048_S1x1x2048_2 (shapeCast _ (extractStridedSlice S1x1x2048 ![1, 0, 0] b slices_S4x2x2048_S1x1x2048_1_0_0) shapeCasts_S1x1x2048_S2048)))

/-- The rows modulated. -/
def SHIFTED (n : FVec Ideal S4x4096x2048 .f32) (d : FVec Ideal S4x8x6x2048 .f32) : FVec Ideal S4x4096x2048 .f32 :=
  addf (mulf n (broadcastInDim S4x4096x2048 ![0, 1, 2] bcast_S4x1x2048_S4x4096x2048_0_1_2 (addf (broadcastInDim S4x1x2048 ![] bcast_S_S4x1x2048 (constant S_ .f32 0x3F800000#32)) (shapeCast _ (extractStridedSlice S4x1x1x2048 ![0, 4, 0, 0] (SHIFTS d) slices_S4x6x1x2048_S4x1x1x2048_0_4_0_0) shapeCasts_S4x1x1x2048_S4x1x2048)))) (broadcastInDim S4x4096x2048 ![0, 1, 2] bcast_S4x1x2048_S4x4096x2048_0_1_2 (shapeCast _ (extractStridedSlice S4x1x1x2048 ![0, 3, 0, 0] (SHIFTS d) slices_S4x6x1x2048_S4x1x1x2048_0_3_0_0) shapeCasts_S4x1x1x2048_S4x1x2048))

/-- The rows' scores for the experts. -/
def SCORES (h : FVec Ideal S4x4096x2048 .f32) (w : FVec Ideal S4x2048x16 .f32) : FVec Ideal S4x4096x16 .f32 :=
  Host.dotGeneral dot_S4x4096x2048_S2048x16_S4x4096x16_2_0_01_1_n_n none h (shapeCast _ (extractStridedSlice S1x2048x16 ![1, 0, 0] w slices_S4x2048x16_S1x2048x16_1_0_0) shapeCasts_S1x2048x16_S2048x16)

/-- The exponentials of the scores less the largest. -/
def EXPS (z : FVec Ideal S4x4096x16 .f32) : FVec Ideal S4x4096x16 .f32 :=
  Host.exp (subf z (broadcastInDim S4x4096x16 ![0, 1, 2] bcast_S4x4096x1_S4x4096x16_0_1_2 (broadcastInDim S4x4096x1 ![0, 1] bcast_S4x4096_S4x4096x1_0_1 (maximumf (broadcastInDim S4x4096 ![] bcast_S_S4x4096 (constant S_ .f32 0xFF800000#32)) (Host.reduce FloatOps.maximumf z (constant S_ .f32 0xFF800000#32) reducesTo_S4x4096x16_S4x4096_d2 h_S_)))))

/-- The softmax of the scores. -/
def SOFT (z : FVec Ideal S4x4096x16 .f32) : FVec Ideal S4x4096x16 .f32 :=
  Host.divf (EXPS z) (broadcastInDim S4x4096x16 ![0, 1, 2] bcast_S4x4096x1_S4x4096x16_0_1_2 (broadcastInDim S4x4096x1 ![0, 1] bcast_S4x4096_S4x4096x1_0_1 (Host.reduceAdd (EXPS z) (constant S_ .f32 0x00000000#32) reducesTo_S4x4096x16_S4x4096_d2 h_S_)))

/-- The reference's first result: the rows normalized, one request after another. -/
def REF0 (o : FVec Ideal S16384x2048 .bf16) (w : FVec Ideal S2x2048x2048 .f32) (x : FVec Ideal S16384x2048 .f32) (d : FVec Ideal S4x8x6x2048 .f32) (a b : FVec Ideal S4x2x2048 .f32) : FVec Ideal S16384x2048 .f32 :=
  shapeCast _ (NORM (SUM o w x d) a b) shapeCasts_S4x4096x2048_S16384x2048

/-- The reference's second result: the rows modulated. -/
def REF1 (o : FVec Ideal S16384x2048 .bf16) (w : FVec Ideal S2x2048x2048 .f32) (x : FVec Ideal S16384x2048 .f32) (d : FVec Ideal S4x8x6x2048 .f32) (a b : FVec Ideal S4x2x2048 .f32) : FVec Ideal S16384x2048 .bf16 :=
  truncf .bf16 (shapeCast _ (SHIFTED (NORM (SUM o w x d) a b) d) shapeCasts_S4x4096x2048_S16384x2048) bitsLt_bf16_f32

/-- The reference's third result: the affinities. -/
def REF2 (o : FVec Ideal S16384x2048 .bf16) (w : FVec Ideal S2x2048x2048 .f32) (x : FVec Ideal S16384x2048 .f32) (d : FVec Ideal S4x8x6x2048 .f32) (a b : FVec Ideal S4x2x2048 .f32) (e : FVec Ideal S4x2048x16 .f32) : FVec Ideal S16384x16 .f32 :=
  shapeCast _ (SOFT (SCORES (SHIFTED (NORM (SUM o w x d) a b) d) e)) shapeCasts_S4x4096x16_S16384x16

/-- The mean of a row of the reference. -/
theorem MEAN_at (s : FVec Ideal S4x4096x2048 .f32) (q : Fin 4) (p : Fin 4096) :
    MEAN s (ix3 q p 0) = mean (fun l => s (ix3 q p l)) := by
  pointwise [MEAN, mean, zero_add]

/-- A row of the reference, less its mean. -/
theorem CENTRED_at (s : FVec Ideal S4x4096x2048 .f32) (q : Fin 4) (p : Fin 4096) (l : Fin 2048) :
    CENTRED s (ix3 q p l) = s (ix3 q p l) - mean (fun l => s (ix3 q p l)) := by
  pointwise [CENTRED, MEAN_at]

/-- A row of the reference, normalized. -/
theorem NORM_at (s : FVec Ideal S4x4096x2048 .f32) (a b : FVec Ideal S4x2x2048 .f32) (q : Fin 4) (p : Fin 4096) (l : Fin 2048) :
    NORM s a b (ix3 q p l) = normalized (fun l => s (ix3 q p l)) (fun l => a (ix3 1 0 l)) (fun l => b (ix3 1 0 l)) l := by
  pointwise [NORM, MEAN_at, CENTRED_at, normalized, scaled, inverseDeviation]

/-- A row of the reference, modulated. -/
theorem SHIFTED_at (n : FVec Ideal S4x4096x2048 .f32) (d : FVec Ideal S4x8x6x2048 .f32) (q : Fin 4) (p : Fin 4096) (l : Fin 2048) :
    SHIFTED n d (ix3 q p l)
      = n (ix3 q p l) * (1 + d (ix4 1 ⟨1 + q.val, by omega⟩ 4 l)) + d (ix4 1 ⟨1 + q.val, by omega⟩ 3 l) := by
  pointwise [SHIFTED, SHIFTS]

/-- A row's softmax in the reference. -/
theorem SOFT_at (z : FVec Ideal S4x4096x16 .f32) (q : Fin 4) (p : Fin 4096) (e : Fin 16) :
    SOFT z (ix3 q p e) = soft (fun e => z (ix3 q p e)) e := by
  pointwise [SOFT, EXPS, soft, zero_add]
  rw [show Finset.univ.fold max (Ideal.ofBits .f32 0xFF800000#32) (fun k : Fin 16 => z (ix3 q p k)) = largest (fun e => z (ix3 q p e)) from rfl, max_largest]

/-- A row's scores in the reference. -/
theorem SCORES_at (h : FVec Ideal S4x4096x2048 .f32) (w : FVec Ideal S4x2048x16 .f32) (q : Fin 4) (p : Fin 4096) (e : Fin 16) :
    SCORES h w (ix3 q p e) = ∑ k : Fin 2048, h (ix3 q p k) * w (ix3 1 k e) := by
  pointwise [SCORES]

/-- The composed terms of the run are these. -/
theorem run_terms (m : (ℓ : Loc nD τ sig) → Buf (Elt Ideal) ℓ) (c : Dev nD) :
    res_main_v68 m c = REF0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ res_main_v70 m c = REF1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ res_main_v71 m c = REF2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := ⟨rfl, rfl, rfl⟩

end Cert.OutProjRefIdeal.Value
-- ==== Proof.OutProjection.lean ====
module

public import proofs.«01_k».proof.Defs
public import proofs.«01_k».proof.Proof.OutRef
public import proofs.«01_k».proof.Proof.Gen.OutProjIdeal.Value
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)

namespace Cert.OutProjIdeal.Value
open Cert.OutProjIdeal Cert.OutProjIdeal.Gen Cert.OutMath

variable (m : (ℓ : Loc nD τ sig) → Buf (Elt Ideal) ℓ)

/-- Which block each window shows at a grid point: row block `t`, of request `t / 16`. -/
theorem idx : ∀ t : Fin cfg0.N, win0_0.index t = ![t.val, 0] ∧ win0_1.index t = ![0, 0, 0]
    ∧ win0_2.index t = ![t.val, 0] ∧ win0_3.index t = ![1, 1 + t.val / 16, 0, 0]
    ∧ win0_4.index t = ![1, 0, 0] ∧ win0_5.index t = ![1, 0, 0] ∧ win0_6.index t = ![1, 0, 0]
    ∧ win0_7.index t = ![t.val, 0] ∧ win0_8.index t = ![t.val, 0] ∧ win0_9.index t = ![t.val, 0] :=
  (by decide +kernel : ∀ t : Fin grid0.N, _)

/-- The reference's residual sum over the call's arguments. -/
def refSum (c : Dev nD) : FVec Ideal Cert.OutProjRefIdeal.S4x4096x2048 .f32 :=
  Cert.OutProjRefIdeal.Value.SUM (m ((c : Thread nD τ).loc main_arg0)) (m ((c : Thread nD τ).loc main_arg1)) (m ((c : Thread nD τ).loc main_arg2)) (m ((c : Thread nD τ).loc main_arg3))

/-- The reference's normalized rows over the call's arguments. -/
def refNorm (c : Dev nD) : FVec Ideal Cert.OutProjRefIdeal.S4x4096x2048 .f32 :=
  Cert.OutProjRefIdeal.Value.NORM (refSum m c) (m ((c : Thread nD τ).loc main_arg4)) (m ((c : Thread nD τ).loc main_arg5))

/-- The reference's modulated rows over the call's arguments. -/
def refShifted (c : Dev nD) : FVec Ideal Cert.OutProjRefIdeal.S4x4096x2048 .f32 :=
  Cert.OutProjRefIdeal.Value.SHIFTED (refNorm m c) (m ((c : Thread nD τ).loc main_arg3))

/-- A point has one of 64 numbers. -/
theorem point_lt (t : Fin cfg0.N) : t.val < 64 := t.isLt

/-- The request of row `r` of block `t`. -/
def req (t : Fin cfg0.N) (r : Fin 256) : Fin 4 := ⟨(t.val * 256 + r.val) / 4096, by have := point_lt t; omega⟩

/-- The position of row `r` of block `t` in its request. -/
def pos (t : Fin cfg0.N) (r : Fin 256) : Fin 4096 := ⟨(t.val * 256 + r.val) % 4096, by omega⟩

/-- The residual sum of a row of a block is the reference's. -/
theorem sum_eq (c : Dev nD) (t : Fin cfg0.N) (r : Fin 256) (l : Fin 2048) :
    blockSum (iblk m c 0 t) (iblk m c 1 t) (iblk m c 2 t) (fun i => iblk m c 3 t (ix4 0 0 2 (i 3))) r l
      = refSum m c (ix3 (req t r) (pos t r) l) := by
  have := point_lt t
  have h0 : (t.val * 256 + r.val) / 4096 = t.val / 16 := by omega
  pointwise [blockSum, refSum, Cert.OutProjRefIdeal.Value.SUM, Cert.OutProjRefIdeal.Value.SHIFTS]
  simp only [req, pos]
  blk_point [iblk, V, idx t]

/-- The normalized rows of a block are the reference's. -/
theorem norm_eq (c : Dev nD) (t : Fin cfg0.N) (r : Fin 256) (l : Fin 2048) :
    k0_pay1 (F := Ideal) (k0_pay4 (iblk m c 0 t) (iblk m c 1 t) (iblk m c 2 t) (fun i => iblk m c 3 t (ix4 0 0 2 (i 3))) (iblk m c 4 t)) (k0_pay5 (iblk m c 5 t)) (ix2 r l)
      = refNorm m c (ix3 (req t r) (pos t r) l) := by
  refine (normalized_at _ _ _ _ _ _ r l).trans (Eq.trans ?_ (Cert.OutProjRefIdeal.Value.NORM_at _ _ _ (req t r) (pos t r) l).symm)
  rw [show blockSum (iblk m c 0 t) (iblk m c 1 t) (iblk m c 2 t) (fun i => iblk m c 3 t (ix4 0 0 2 (i 3))) r
      = fun l => refSum m c (ix3 (req t r) (pos t r) l) from funext fun l => sum_eq m c t r l]
  generalize (fun l => refSum m c (ix3 (req t r) (pos t r) l)) = s
  unfold normalized scaled
  refine Ideal.add_congr (Ideal.mul_congr rfl ?_) ?_
  all_goals (blk_simp [iblk]; entry_read; pointwise; blk_ext [idx t])

/-- The modulated rows of a block are the reference's. -/
theorem shifted_eq (c : Dev nD) (t : Fin cfg0.N) (r : Fin 256) (l : Fin 2048) :
    k0_pay2 (F := Ideal) (k0_pay4 (iblk m c 0 t) (iblk m c 1 t) (iblk m c 2 t) (fun i => iblk m c 3 t (ix4 0 0 2 (i 3))) (iblk m c 4 t)) (k0_pay5 (iblk m c 5 t)) (fun i => iblk m c 3 t (ix4 0 0 4 (i 3))) (fun i => iblk m c 3 t (ix4 0 0 3 (i 3))) (ix2 r l)
      = refShifted m c (ix3 (req t r) (pos t r) l) := by
  have := point_lt t
  refine (modulated_at _ _ _ _ r l).trans (Eq.trans ?_ (Cert.OutProjRefIdeal.Value.SHIFTED_at _ _ (req t r) (pos t r) l).symm)
  refine Ideal.add_congr (Ideal.mul_congr (norm_eq m c t r l) ?_) ?_
  all_goals (simp only [req]; blk_point [iblk, V, idx t])

/-- The affinities of a block are the reference's. -/
theorem affinity_eq (c : Dev nD) (t : Fin cfg0.N) (r : Fin 256) (e : Fin 16) :
    k0_pay3 (F := Ideal) (k0_pay4 (iblk m c 0 t) (iblk m c 1 t) (iblk m c 2 t) (fun i => iblk m c 3 t (ix4 0 0 2 (i 3))) (iblk m c 4 t)) (k0_pay5 (iblk m c 5 t)) (fun i => iblk m c 3 t (ix4 0 0 4 (i 3))) (fun i => iblk m c 3 t (ix4 0 0 3 (i 3))) (iblk m c 6 t) (ix2 r e)
      = Cert.OutProjRefIdeal.Value.SOFT (Cert.OutProjRefIdeal.Value.SCORES (refShifted m c) (m ((c : Thread nD τ).loc main_arg6))) (ix3 (req t r) (pos t r) e) := by
  refine (affinity_at _ _ _ _ _ r e).trans (Eq.trans ?_ (Cert.OutProjRefIdeal.Value.SOFT_at _ (req t r) (pos t r) e).symm)
  refine congrArg (fun z => soft z e) (funext fun e => ?_)
  refine Eq.trans ?_ (Cert.OutProjRefIdeal.Value.SCORES_at _ _ (req t r) (pos t r) e).symm
  refine Finset.sum_congr rfl fun k _ => Ideal.mul_congr (shifted_eq m c t r k) ?_
  blk_simp [iblk]; entry_read; pointwise; blk_ext [idx t]

/-- The first array the call leaves: the normalized rows. -/
theorem final0 (c : Dev nD) : (dats m 0 c).arrAt 7 (cfgs 0).N
    = Cert.OutProjRefIdeal.Value.REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  idx_vars y
  unfold k0_pay6 k0_pay7
  try frame_out
  have e2 : View.ld (iblk m c 3 t) r0_2 = fun i => iblk m c 3 t (ix4 0 0 2 (i 3)) := by
    funext i
    pointwise
  erw [e2]
  refine (norm_eq m c t y0 y1).trans ?_
  have := point_lt t
  unfold Cert.OutProjRefIdeal.Value.REF0  refNorm refSum
  pointwise
  blk_ext [idx t, req, pos]

/-- The second array: the modulated rows. -/
theorem final1 (c : Dev nD) : (dats m 0 c).arrAt 8 (cfgs 0).N
    = Cert.OutProjRefIdeal.Value.REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  frame_out
  idx_vars y
  unfold k0_pay6 k0_pay7
  try frame_out
  have e2 : View.ld (iblk m c 3 t) r0_2 = fun i => iblk m c 3 t (ix4 0 0 2 (i 3)) := by
    funext i
    pointwise
  have e4 : View.ld (iblk m c 3 t) r0_4 = fun i => iblk m c 3 t (ix4 0 0 4 (i 3)) := by
    funext i
    pointwise
  have e5 : View.ld (iblk m c 3 t) r0_5 = fun i => iblk m c 3 t (ix4 0 0 3 (i 3)) := by
    funext i
    pointwise
  erw [e2, e4, e5]
  refine (shifted_eq m c t y0 y1).trans ?_
  have := point_lt t
  unfold Cert.OutProjRefIdeal.Value.REF1 refShifted refNorm refSum
  pointwise
  blk_ext [idx t, req, pos]

/-- The third array: the affinities. -/
theorem final2 (c : Dev nD) : (dats m 0 c).arrAt 9 (cfgs 0).N
    = Cert.OutProjRefIdeal.Value.REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  frame_out
  idx_vars y
  unfold k0_pay6 k0_pay7
  try frame_out
  have e2 : View.ld (iblk m c 3 t) r0_2 = fun i => iblk m c 3 t (ix4 0 0 2 (i 3)) := by
    funext i
    pointwise
  have e4 : View.ld (iblk m c 3 t) r0_4 = fun i => iblk m c 3 t (ix4 0 0 4 (i 3)) := by
    funext i
    pointwise
  have e5 : View.ld (iblk m c 3 t) r0_5 = fun i => iblk m c 3 t (ix4 0 0 3 (i 3)) := by
    funext i
    pointwise
  erw [e2, e4, e5]
  refine (affinity_eq m c t y0 y1).trans ?_
  have := point_lt t
  unfold Cert.OutProjRefIdeal.Value.REF2 refShifted refNorm refSum
  pointwise
  blk_ext [idx t, req, pos]

end Cert.OutProjIdeal.Value

namespace Cert.Proof

/-- The output projection with the layer norm, the modulation and the router: the kernel's call and the
    reference run and end with the same three arrays. -/
theorem algebraic_out_proj : algebraic_OutProjIdeal_OutProjRefIdeal (hOutProjIdeal := Cert.OutProjIdeal.Gen.facts) (hOutProjRefIdeal := Cert.OutProjRefIdeal.Gen.facts) := by
  pair_intro
  · run_from Cert.OutProjIdeal.Gen.run_main m g
  · run_from Cert.OutProjRefIdeal.Value.run m' g'
    · exact (Cert.OutProjRefIdeal.Value.run_terms m' c).1.trans (by simp only [hagree c]; exact (Cert.OutProjIdeal.Value.final0 m c).symm)
    · exact (Cert.OutProjRefIdeal.Value.run_terms m' c).2.1.trans (by simp only [hagree c]; exact (Cert.OutProjIdeal.Value.final1 m c).symm)
    · exact (Cert.OutProjRefIdeal.Value.run_terms m' c).2.2.trans (by simp only [hagree c]; exact (Cert.OutProjIdeal.Value.final2 m c).symm)

end Cert.Proof
-- ==== Proof.ProjNbr.lean ====
module

public import proofs.«01_k».proof.Defs
public import proofs.«01_k».proof.Proof.Gen.NbrProjIdeal.Value
public import proofs.«01_k».proof.Proof.Gen.NbrProjRefIdeal.Run
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.NbrProjRefIdeal.Value
open Cert.NbrProjRefIdeal Cert.NbrProjRefIdeal.Gen

/-- The reference of the neighbourhood attention's key projection: the rows times the matrix, and of the columns the ones this call makes. -/
def REF (h : FVec Ideal S16384x2048 .bf16) (w : FVec Ideal S2x2048x4608 .f32) : FVec Ideal S16384x1024 .bf16 :=
  truncf .bf16 (extractStridedSlice S16384x1024 ![0, 2560] (Host.dotGeneral dot_S16384x2048_S2048x4608_S16384x4608_1_0_0_1_n_n none (extf .f32 h bitsLt_bf16_f32) (shapeCast _ (extractStridedSlice S1x2048x4608 ![0, 0, 0] w slices_S2x2048x4608_S1x2048x4608_0_0_0) shapeCasts_S1x2048x4608_S2048x4608)) slices_S16384x4608_S16384x1024_0_2560) bitsLt_bf16_f32

end Cert.NbrProjRefIdeal.Value

namespace Cert.NbrProjIdeal.Value
open Cert.NbrProjIdeal Cert.NbrProjIdeal.Gen

variable (m : (ℓ : Loc nD τ sig) → Buf (Elt Ideal) ℓ)

/-- Which block each window shows at a grid point: row block `t % 16`, column tile `t / 16`. -/
theorem idx : ∀ t : Fin cfg0.N, win0_0.index t = ![t.val % 16, 0] ∧ win0_1.index t = ![0, 0, 5 + t.val / 16]
    ∧ win0_2.index t = ![t.val % 16, t.val / 16] :=
  (by decide +kernel : ∀ t : Fin grid0.N, _)

/-- Points of the same column tile show the same block of the matrix. -/
theorem same_matrix (c : Dev nD) (t t' : Fin cfg0.N) (h : t.val / 16 = t'.val / 16) : iblk m c 1 t = iblk m c 1 t' := by
  funext y
  blk_point [iblk, V, idx t, idx t']

/-- The scratch holds, after every point, the column tile of the matrix that the point shows: the first
    point of a tile writes it, the others keep it. -/
theorem kept (c : Dev nD) : ∀ (n : ℕ) (h : n < cfg0.N), (outsAt0 m c n h).2 = k0_pay1 (F := Ideal) (iblk m c 1 ⟨n, h⟩) := by
  intro n
  induction n with
  | zero =>
    intro h
    rw [outsAt0_A m c ⟨0, h⟩ (Nat.zero_mod _)]
    frame_out
  | succ n ih =>
    intro h
    by_cases h0 : (n + 1) % 16 = 0
    · rw [outsAt0_A m c ⟨n + 1, h⟩ h0]
      frame_out
    · rw [outsAt0_B m c ⟨n + 1, h⟩ h0]
      refine (ih (Nat.lt_of_succ_lt h)).trans (congrArg _ (same_matrix m c _ _ ?_))
      show n / 16 = (n + 1) / 16
      omega

/-- What the first point of a tile leaves in the result's buffer: the row block times the column tile of the matrix. -/
theorem tile_first (c : Dev nD) (t : Fin cfg0.N) (h0 : t.val % 16 = 0) (y : S1024x512.Idx) :
    (outsAt0 m c t.val t.isLt).1 y = k0_pay2 (F := Ideal) (iblk m c 0 t) (k0_pay1 (F := Ideal) (iblk m c 1 t)) y := by
  rw [outsAt0_A m c t h0]
  frame_out
  try simp only [read_unread_whole]
  generalize k0_pay1 (iblk m c 1 t) = W
  generalize iblk m c 0 t = X
  unfold k0_pay3 k0_pay4 k0_pay5 k0_pay6
  generalize k0_pay2 X W = T
  canon_tiles x h
  all_goals (pointwise; blk_ext)

/-- What every other point leaves there: the same, the scratch holding the tile. -/
theorem tile_next (c : Dev nD) (t : Fin cfg0.N) (h0 : ¬ t.val % 16 = 0) (y : S1024x512.Idx) :
    (outsAt0 m c t.val t.isLt).1 y = k0_pay2 (F := Ideal) (iblk m c 0 t) (k0_pay1 (F := Ideal) (iblk m c 1 t)) y := by
  have hp : 0 < t.val := Nat.pos_of_ne_zero fun h => h0 (by rw [h])
  have hk := kept m c (t.val - 1) (Nat.lt_of_le_of_lt (Nat.sub_le _ _) t.isLt)
  rw [same_matrix m c ⟨t.val - 1, Nat.lt_of_le_of_lt (Nat.sub_le _ _) t.isLt⟩ t (show (t.val - 1) / 16 = t.val / 16 by omega)] at hk
  rw [outsAt0_B m c t h0, hk]
  frame_out
  try simp only [read_unread_whole]
  generalize k0_pay1 (iblk m c 1 t) = W
  generalize iblk m c 0 t = X
  unfold k0_pay3 k0_pay4 k0_pay5 k0_pay6
  generalize k0_pay2 X W = T
  canon_tiles x h
  all_goals (pointwise; blk_ext)

/-- What a point leaves in the result's buffer. -/
theorem tile (c : Dev nD) (t : Fin cfg0.N) (y : S1024x512.Idx) :
    (outsAt0 m c t.val t.isLt).1 y = k0_pay2 (F := Ideal) (iblk m c 0 t) (k0_pay1 (F := Ideal) (iblk m c 1 t)) y := by
  by_cases h0 : t.val % 16 = 0
  · exact tile_first m c t h0 y
  · exact tile_next m c t h0 y

/-- The array the call leaves is the reference's term over its arguments. -/
theorem final (c : Dev nD) : (dats m 0 c).arrAt 2 (cfgs 0).N
    = Cert.NbrProjRefIdeal.Value.REF (m ((c : Thread nD τ).loc main_arg0)) (m ((c : Thread nD τ).loc main_arg1)) := by
  refine (dats m 0 c).arrAt_eq_of_covers 2 _ (by decide +kernel) fun t _ y => ?_
  blk_simp
  rw [after0_2]
  refine (tile m c t y).trans ?_
  pointwise [k0_pay2, k0_pay1, Cert.NbrProjRefIdeal.Value.REF]
  blk_point [iblk, V, idx t]

end Cert.NbrProjIdeal.Value

namespace Cert.Proof

/-- The neighbourhood attention's key projection: the kernel's call and the reference run and end with the same array. -/
theorem algebraic_nbr_proj : algebraic_NbrProjIdeal_NbrProjRefIdeal (hNbrProjIdeal := Cert.NbrProjIdeal.Gen.facts) (hNbrProjRefIdeal := Cert.NbrProjRefIdeal.Gen.facts) := by
  pair_intro
  · run_from Cert.NbrProjIdeal.Gen.run_main m g
  · run_from Cert.NbrProjRefIdeal.Value.run m' g'
    exact (Cert.NbrProjIdeal.Value.final m c).symm

end Cert.Proof
-- ==== Proof.ProjNbrQ.lean ====
module

public import proofs.«01_k».proof.Defs
public import proofs.«01_k».proof.Proof.Gen.NbrQProjIdeal.Value
public import proofs.«01_k».proof.Proof.Gen.NbrQProjRefIdeal.Run
public import proofs.«01_k».proof.Proof.ProjQuery
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.NbrQProjRefIdeal.Value
open Cert.NbrQProjRefIdeal Cert.NbrQProjRefIdeal.Gen

/-- The reference of the neighbourhood attention's query projection: the rows times the matrix, and of the columns the ones this call makes. -/
def REF (h : FVec Ideal S16384x2048 .bf16) (w : FVec Ideal S2x2048x4608 .f32) : FVec Ideal S16384x1024 .bf16 :=
  truncf .bf16 (Host.divf (extractStridedSlice S16384x1024 ![0, 1536] (Host.dotGeneral dot_S16384x2048_S2048x4608_S16384x4608_1_0_0_1_n_n none (extf .f32 h bitsLt_bf16_f32) (shapeCast _ (extractStridedSlice S1x2048x4608 ![0, 0, 0] w slices_S2x2048x4608_S1x2048x4608_0_0_0) shapeCasts_S1x2048x4608_S2048x4608)) slices_S16384x4608_S16384x1024_0_1536) (broadcastInDim S16384x1024 ![] bcast_S_S16384x1024 (mulf (Host.sqrt (constant S_ .f32 0x43000000#32)) (Host.log (constant S_ .f32 0x40000000#32))))) bitsLt_bf16_f32

end Cert.NbrQProjRefIdeal.Value

namespace Cert.NbrQProjIdeal.Value
open Cert.NbrQProjIdeal Cert.NbrQProjIdeal.Gen

/-- The query's scale, as the program names it. -/
def prescale : EReal := (Named.named κ "q_prescale" 0x3E0293EE#32 : Ideal .f32)

/-- The name's value is the value the other query projection's name has. -/
theorem prescale_same : prescale = Cert.QueryProjIdeal.Value.prescale := by
  rw [Cert.QueryProjIdeal.Value.prescale_eq]
  exact IdealRules.named_const.ideal_named_scalar _ _ _ _ rfl

/-- Dividing by the reference's constant is multiplying by the name's value. -/
theorem over_constant (x : EReal) : Ideal.div x (Ideal.sqrt (Ideal.ofBits .f32 1124073472#32) * Ideal.log (Ideal.ofBits .f32 1073741824#32)) = x * prescale := by
  rw [prescale_same, Cert.QueryProjIdeal.Value.over_constant]

variable (m : (ℓ : Loc nD τ sig) → Buf (Elt Ideal) ℓ)

/-- Which block each window shows at a grid point: row block `t % 16`, column tile `t / 16`. -/
theorem idx : ∀ t : Fin cfg0.N, win0_0.index t = ![t.val % 16, 0] ∧ win0_1.index t = ![0, 0, 3 + t.val / 16]
    ∧ win0_2.index t = ![t.val % 16, t.val / 16] :=
  (by decide +kernel : ∀ t : Fin grid0.N, _)

/-- Points of the same column tile show the same block of the matrix. -/
theorem same_matrix (c : Dev nD) (t t' : Fin cfg0.N) (h : t.val / 16 = t'.val / 16) : iblk m c 1 t = iblk m c 1 t' := by
  funext y
  blk_point [iblk, V, idx t, idx t']

/-- The scratch holds, after every point, the column tile of the matrix that the point shows: the first
    point of a tile writes it, the others keep it. -/
theorem kept (c : Dev nD) : ∀ (n : ℕ) (h : n < cfg0.N), (outsAt0 m c n h).2 = k0_pay8 (F := Ideal) (iblk m c 1 ⟨n, h⟩) := by
  intro n
  induction n with
  | zero =>
    intro h
    rw [outsAt0_A m c ⟨0, h⟩ (Nat.zero_mod _)]
    frame_out
  | succ n ih =>
    intro h
    by_cases h0 : (n + 1) % 16 = 0
    · rw [outsAt0_A m c ⟨n + 1, h⟩ h0]
      frame_out
    · rw [outsAt0_B m c ⟨n + 1, h⟩ h0]
      refine (ih (Nat.lt_of_succ_lt h)).trans (congrArg _ (same_matrix m c _ _ ?_))
      show n / 16 = (n + 1) / 16
      omega

/-- What the first point of a tile leaves in the result's buffer: the row block times the column tile of the matrix. -/
theorem tile_first (c : Dev nD) (t : Fin cfg0.N) (h0 : t.val % 16 = 0) (y : S1024x512.Idx) :
    (outsAt0 m c t.val t.isLt).1 y = k0_pay9 (F := Ideal) (iblk m c 0 t) (k0_pay8 (F := Ideal) (iblk m c 1 t)) y * prescale := by
  rw [outsAt0_A m c t h0]
  frame_out
  try simp only [read_unread_whole]
  generalize k0_pay8 (iblk m c 1 t) = W
  generalize iblk m c 0 t = X
  unfold k0_pay3 k0_pay6 k0_pay11 k0_pay14 k0_pay2 k0_pay5 k0_pay10 k0_pay13
  generalize k0_pay9 X W = T
  canon_tiles x h
  all_goals (pointwise; refine Ideal.mul_congr ?_ rfl; blk_ext)

/-- What every other point leaves there: the same, the scratch holding the tile. -/
theorem tile_next (c : Dev nD) (t : Fin cfg0.N) (h0 : ¬ t.val % 16 = 0) (y : S1024x512.Idx) :
    (outsAt0 m c t.val t.isLt).1 y = k0_pay9 (F := Ideal) (iblk m c 0 t) (k0_pay8 (F := Ideal) (iblk m c 1 t)) y * prescale := by
  have hp : 0 < t.val := Nat.pos_of_ne_zero fun h => h0 (by rw [h])
  have hk := kept m c (t.val - 1) (Nat.lt_of_le_of_lt (Nat.sub_le _ _) t.isLt)
  rw [same_matrix m c ⟨t.val - 1, Nat.lt_of_le_of_lt (Nat.sub_le _ _) t.isLt⟩ t (show (t.val - 1) / 16 = t.val / 16 by omega)] at hk
  rw [outsAt0_B m c t h0, hk]
  frame_out
  try simp only [read_unread_whole]
  generalize k0_pay8 (iblk m c 1 t) = W
  generalize iblk m c 0 t = X
  unfold k0_pay3 k0_pay6 k0_pay11 k0_pay14 k0_pay2 k0_pay5 k0_pay10 k0_pay13
  generalize k0_pay9 X W = T
  canon_tiles x h
  all_goals (pointwise; refine Ideal.mul_congr ?_ rfl; blk_ext)

/-- What a point leaves in the result's buffer. -/
theorem tile (c : Dev nD) (t : Fin cfg0.N) (y : S1024x512.Idx) :
    (outsAt0 m c t.val t.isLt).1 y = k0_pay9 (F := Ideal) (iblk m c 0 t) (k0_pay8 (F := Ideal) (iblk m c 1 t)) y * prescale := by
  by_cases h0 : t.val % 16 = 0
  · exact tile_first m c t h0 y
  · exact tile_next m c t h0 y

/-- The array the call leaves is the reference's term over its arguments. -/
theorem final (c : Dev nD) : (dats m 0 c).arrAt 2 (cfgs 0).N
    = Cert.NbrQProjRefIdeal.Value.REF (m ((c : Thread nD τ).loc main_arg0)) (m ((c : Thread nD τ).loc main_arg1)) := by
  refine (dats m 0 c).arrAt_eq_of_covers 2 _ (by decide +kernel) fun t _ y => ?_
  blk_simp
  rw [after0_2]
  refine (tile m c t y).trans ?_
  pointwise [k0_pay9, k0_pay8, Cert.NbrQProjRefIdeal.Value.REF]
  rw [over_constant]
  blk_point [iblk, V, idx t]

end Cert.NbrQProjIdeal.Value

namespace Cert.Proof

/-- The named constant keeps the program: its value is the name's, to the bits' precision. -/
theorem preserves_nbr_q_proj : preserves_NbrQProj_NbrQProjIdeal :=
  IdealRules.named_const.statement Cert.NbrQProjIdeal.κ "q_prescale" .f32 0x3E0293EE#32 ((((Real.sqrt 128) * (Real.log 2))⁻¹ : ℝ) : EReal) rfl

/-- The neighbourhood attention's query projection: the kernel's call and the reference run and end with the same array. -/
theorem algebraic_nbr_q_proj : algebraic_NbrQProjIdeal_NbrQProjRefIdeal (hNbrQProjIdeal := Cert.NbrQProjIdeal.Gen.facts) (hNbrQProjRefIdeal := Cert.NbrQProjRefIdeal.Gen.facts) := by
  pair_intro
  · run_from Cert.NbrQProjIdeal.Gen.run_main m g
  · run_from Cert.NbrQProjRefIdeal.Value.run m' g'
    exact (Cert.NbrQProjIdeal.Value.final m c).symm

end Cert.Proof
-- ==== Proof.ProjCtxWin.lean ====
module

public import proofs.«01_k».proof.Defs
public import proofs.«01_k».proof.Proof.Gen.CtxWinProjIdeal.Value
public import proofs.«01_k».proof.Proof.Gen.CtxWinProjRefIdeal.Run
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.CtxWinProjRefIdeal.Value
open Cert.CtxWinProjRefIdeal Cert.CtxWinProjRefIdeal.Gen

/-- The reference of the prompts' window projection: the rows times the matrix, and of the columns the ones this call makes. -/
def REF (h : FVec Ideal S8192x2048 .bf16) (w : FVec Ideal S2x2048x4608 .f32) : FVec Ideal S8192x1536 .f32 :=
  extractStridedSlice S8192x1536 ![0, 0] (Host.dotGeneral dot_S8192x2048_S2048x4608_S8192x4608_1_0_0_1_n_n none (extf .f32 h bitsLt_bf16_f32) (shapeCast _ (extractStridedSlice S1x2048x4608 ![0, 0, 0] w slices_S2x2048x4608_S1x2048x4608_0_0_0) shapeCasts_S1x2048x4608_S2048x4608)) slices_S8192x4608_S8192x1536_0_0

end Cert.CtxWinProjRefIdeal.Value

namespace Cert.CtxWinProjIdeal.Value
open Cert.CtxWinProjIdeal Cert.CtxWinProjIdeal.Gen

variable (m : (ℓ : Loc nD τ sig) → Buf (Elt Ideal) ℓ)

/-- Which block each window shows at a grid point: row block `t % 8`, column tile `t / 8`. -/
theorem idx : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- Points of the same column tile show the same block of the matrix. -/
theorem same_matrix (c : Dev nD) (t t' : Fin cfg0.N) (h : t.val / 8 = t'.val / 8) : iblk m c 1 t = iblk m c 1 t' := by
  funext y
  blk_point [iblk, V, idx t, idx t']

/-- The scratch holds, after every point, the column tile of the matrix that the point shows: the first
    point of a tile writes it, the others keep it. -/
theorem kept (c : Dev nD) : ∀ (n : ℕ) (h : n < cfg0.N), (outsAt0 m c n h).2 = k0_pay1 (F := Ideal) (iblk m c 1 ⟨n, h⟩) := by
  intro n
  induction n with
  | zero =>
    intro h
    rw [outsAt0_A m c ⟨0, h⟩ (Nat.zero_mod _)]
    frame_out
  | succ n ih =>
    intro h
    by_cases h0 : (n + 1) % 8 = 0
    · rw [outsAt0_A m c ⟨n + 1, h⟩ h0]
      frame_out
    · rw [outsAt0_B m c ⟨n + 1, h⟩ h0]
      refine (ih (Nat.lt_of_succ_lt h)).trans (congrArg _ (same_matrix m c _ _ ?_))
      show n / 8 = (n + 1) / 8
      omega

/-- What the first point of a tile leaves in the result's buffer: the row block times the column tile of the matrix. -/
theorem tile_first (c : Dev nD) (t : Fin cfg0.N) (h0 : t.val % 8 = 0) (y : S1024x768.Idx) :
    (outsAt0 m c t.val t.isLt).1 y = k0_pay2 (F := Ideal) (iblk m c 0 t) (k0_pay1 (F := Ideal) (iblk m c 1 t)) y := by
  rw [outsAt0_A m c t h0]
  frame_out
  try simp only [read_unread_whole]
  generalize k0_pay1 (iblk m c 1 t) = W
  generalize iblk m c 0 t = X
  unfold k0_pay3 k0_pay4 k0_pay5 k0_pay6 k0_pay7 k0_pay8
  generalize k0_pay2 X W = T
  canon_tiles x h
  all_goals (pointwise; blk_ext)

/-- What every other point leaves there: the same, the scratch holding the tile. -/
theorem tile_next (c : Dev nD) (t : Fin cfg0.N) (h0 : ¬ t.val % 8 = 0) (y : S1024x768.Idx) :
    (outsAt0 m c t.val t.isLt).1 y = k0_pay2 (F := Ideal) (iblk m c 0 t) (k0_pay1 (F := Ideal) (iblk m c 1 t)) y := by
  have hp : 0 < t.val := Nat.pos_of_ne_zero fun h => h0 (by rw [h])
  have hk := kept m c (t.val - 1) (Nat.lt_of_le_of_lt (Nat.sub_le _ _) t.isLt)
  rw [same_matrix m c ⟨t.val - 1, Nat.lt_of_le_of_lt (Nat.sub_le _ _) t.isLt⟩ t (show (t.val - 1) / 8 = t.val / 8 by omega)] at hk
  rw [outsAt0_B m c t h0, hk]
  frame_out
  try simp only [read_unread_whole]
  generalize k0_pay1 (iblk m c 1 t) = W
  generalize iblk m c 0 t = X
  unfold k0_pay3 k0_pay4 k0_pay5 k0_pay6 k0_pay7 k0_pay8
  generalize k0_pay2 X W = T
  canon_tiles x h
  all_goals (pointwise; blk_ext)

/-- What a point leaves in the result's buffer. -/
theorem tile (c : Dev nD) (t : Fin cfg0.N) (y : S1024x768.Idx) :
    (outsAt0 m c t.val t.isLt).1 y = k0_pay2 (F := Ideal) (iblk m c 0 t) (k0_pay1 (F := Ideal) (iblk m c 1 t)) y := by
  by_cases h0 : t.val % 8 = 0
  · exact tile_first m c t h0 y
  · exact tile_next m c t h0 y

/-- The array the call leaves is the reference's term over its arguments. -/
theorem final (c : Dev nD) : (dats m 0 c).arrAt 2 (cfgs 0).N
    = Cert.CtxWinProjRefIdeal.Value.REF (m ((c : Thread nD τ).loc main_arg0)) (m ((c : Thread nD τ).loc main_arg1)) := by
  refine (dats m 0 c).arrAt_eq_of_covers 2 _ (by decide +kernel) fun t _ y => ?_
  blk_simp
  rw [after0_2]
  refine (tile m c t y).trans ?_
  pointwise [k0_pay2, k0_pay1, Cert.CtxWinProjRefIdeal.Value.REF]
  blk_point [iblk, V, idx t]

end Cert.CtxWinProjIdeal.Value

namespace Cert.Proof

/-- The prompts' window projection: the kernel's call and the reference run and end with the same array. -/
theorem algebraic_ctx_win_proj : algebraic_CtxWinProjIdeal_CtxWinProjRefIdeal (hCtxWinProjIdeal := Cert.CtxWinProjIdeal.Gen.facts) (hCtxWinProjRefIdeal := Cert.CtxWinProjRefIdeal.Gen.facts) := by
  pair_intro
  · run_from Cert.CtxWinProjIdeal.Gen.run_main m g
  · run_from Cert.CtxWinProjRefIdeal.Value.run m' g'
    exact (Cert.CtxWinProjIdeal.Value.final m c).symm

end Cert.Proof
-- ==== Proof.ProjCtxNbr.lean ====
module

public import proofs.«01_k».proof.Defs
public import proofs.«01_k».proof.Proof.Gen.CtxNbrProjIdeal.Value
public import proofs.«01_k».proof.Proof.Gen.CtxNbrProjRefIdeal.Run
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.CtxNbrProjRefIdeal.Value
open Cert.CtxNbrProjRefIdeal Cert.CtxNbrProjRefIdeal.Gen

/-- The reference of the prompts' neighbourhood projection: the rows times the matrix, and of the columns the ones this call makes. -/
def REF (h : FVec Ideal S8192x2048 .bf16) (w : FVec Ideal S2x2048x4608 .f32) : FVec Ideal S8192x1024 .f32 :=
  extractStridedSlice S8192x1024 ![0, 2560] (Host.dotGeneral dot_S8192x2048_S2048x4608_S8192x4608_1_0_0_1_n_n none (extf .f32 h bitsLt_bf16_f32) (shapeCast _ (extractStridedSlice S1x2048x4608 ![0, 0, 0] w slices_S2x2048x4608_S1x2048x4608_0_0_0) shapeCasts_S1x2048x4608_S2048x4608)) slices_S8192x4608_S8192x1024_0_2560

end Cert.CtxNbrProjRefIdeal.Value

namespace Cert.CtxNbrProjIdeal.Value
open Cert.CtxNbrProjIdeal Cert.CtxNbrProjIdeal.Gen

variable (m : (ℓ : Loc nD τ sig) → Buf (Elt Ideal) ℓ)

/-- Which block each window shows at a grid point: row block `t % 8`, column tile `t / 8`. -/
theorem idx : ∀ t : Fin cfg0.N, win0_0.index t = ![t.val % 8, 0] ∧ win0_1.index t = ![0, 0, 5 + t.val / 8]
    ∧ win0_2.index t = ![t.val % 8, t.val / 8] :=
  (by decide +kernel : ∀ t : Fin grid0.N, _)

/-- Points of the same column tile show the same block of the matrix. -/
theorem same_matrix (c : Dev nD) (t t' : Fin cfg0.N) (h : t.val / 8 = t'.val / 8) : iblk m c 1 t = iblk m c 1 t' := by
  funext y
  blk_point [iblk, V, idx t, idx t']

/-- The scratch holds, after every point, the column tile of the matrix that the point shows: the first
    point of a tile writes it, the others keep it. -/
theorem kept (c : Dev nD) : ∀ (n : ℕ) (h : n < cfg0.N), (outsAt0 m c n h).2 = k0_pay1 (F := Ideal) (iblk m c 1 ⟨n, h⟩) := by
  intro n
  induction n with
  | zero =>
    intro h
    rw [outsAt0_A m c ⟨0, h⟩ (Nat.zero_mod _)]
    frame_out
  | succ n ih =>
    intro h
    by_cases h0 : (n + 1) % 8 = 0
    · rw [outsAt0_A m c ⟨n + 1, h⟩ h0]
      frame_out
    · rw [outsAt0_B m c ⟨n + 1, h⟩ h0]
      refine (ih (Nat.lt_of_succ_lt h)).trans (congrArg _ (same_matrix m c _ _ ?_))
      show n / 8 = (n + 1) / 8
      omega

/-- What the first point of a tile leaves in the result's buffer: the row block times the column tile of the matrix. -/
theorem tile_first (c : Dev nD) (t : Fin cfg0.N) (h0 : t.val % 8 = 0) (y : S1024x512.Idx) :
    (outsAt0 m c t.val t.isLt).1 y = k0_pay2 (F := Ideal) (iblk m c 0 t) (k0_pay1 (F := Ideal) (iblk m c 1 t)) y := by
  rw [outsAt0_A m c t h0]
  frame_out
  try simp only [read_unread_whole]
  generalize k0_pay1 (iblk m c 1 t) = W
  generalize iblk m c 0 t = X
  unfold k0_pay3 k0_pay4 k0_pay5 k0_pay6
  generalize k0_pay2 X W = T
  canon_tiles x h
  all_goals (pointwise; blk_ext)

/-- What every other point leaves there: the same, the scratch holding the tile. -/
theorem tile_next (c : Dev nD) (t : Fin cfg0.N) (h0 : ¬ t.val % 8 = 0) (y : S1024x512.Idx) :
    (outsAt0 m c t.val t.isLt).1 y = k0_pay2 (F := Ideal) (iblk m c 0 t) (k0_pay1 (F := Ideal) (iblk m c 1 t)) y := by
  have hp : 0 < t.val := Nat.pos_of_ne_zero fun h => h0 (by rw [h])
  have hk := kept m c (t.val - 1) (Nat.lt_of_le_of_lt (Nat.sub_le _ _) t.isLt)
  rw [same_matrix m c ⟨t.val - 1, Nat.lt_of_le_of_lt (Nat.sub_le _ _) t.isLt⟩ t (show (t.val - 1) / 8 = t.val / 8 by omega)] at hk
  rw [outsAt0_B m c t h0, hk]
  frame_out
  try simp only [read_unread_whole]
  generalize k0_pay1 (iblk m c 1 t) = W
  generalize iblk m c 0 t = X
  unfold k0_pay3 k0_pay4 k0_pay5 k0_pay6
  generalize k0_pay2 X W = T
  canon_tiles x h
  all_goals (pointwise; blk_ext)

/-- What a point leaves in the result's buffer. -/
theorem tile (c : Dev nD) (t : Fin cfg0.N) (y : S1024x512.Idx) :
    (outsAt0 m c t.val t.isLt).1 y = k0_pay2 (F := Ideal) (iblk m c 0 t) (k0_pay1 (F := Ideal) (iblk m c 1 t)) y := by
  by_cases h0 : t.val % 8 = 0
  · exact tile_first m c t h0 y
  · exact tile_next m c t h0 y

/-- The array the call leaves is the reference's term over its arguments. -/
theorem final (c : Dev nD) : (dats m 0 c).arrAt 2 (cfgs 0).N
    = Cert.CtxNbrProjRefIdeal.Value.REF (m ((c : Thread nD τ).loc main_arg0)) (m ((c : Thread nD τ).loc main_arg1)) := by
  refine (dats m 0 c).arrAt_eq_of_covers 2 _ (by decide +kernel) fun t _ y => ?_
  blk_simp
  rw [after0_2]
  refine (tile m c t y).trans ?_
  pointwise [k0_pay2, k0_pay1, Cert.CtxNbrProjRefIdeal.Value.REF]
  blk_point [iblk, V, idx t]

end Cert.CtxNbrProjIdeal.Value

namespace Cert.Proof

/-- The prompts' neighbourhood projection: the kernel's call and the reference run and end with the same array. -/
theorem algebraic_ctx_nbr_proj : algebraic_CtxNbrProjIdeal_CtxNbrProjRefIdeal (hCtxNbrProjIdeal := Cert.CtxNbrProjIdeal.Gen.facts) (hCtxNbrProjRefIdeal := Cert.CtxNbrProjRefIdeal.Gen.facts) := by
  pair_intro
  · run_from Cert.CtxNbrProjIdeal.Gen.run_main m g
  · run_from Cert.CtxNbrProjRefIdeal.Value.run m' g'
    exact (Cert.CtxNbrProjIdeal.Value.final m c).symm

end Cert.Proof
-- ==== Proof.OutRefTwo.lean ====
module

public import proofs.«01_k».proof.Proof.OutMath
public import proofs.«01_k».proof.Proof.Gen.OutProjTwoRefIdeal.Run

@[expose] public section

set_option maxRecDepth 16384
noncomputable section
open Idealize.ShloMosaic Idealize.ShloMosaic.TcCoe Idealize.SL.Sem

namespace Cert.OutProjTwoRefIdeal.Value
open Cert.OutProjTwoRefIdeal Cert.OutProjTwoRefIdeal.Gen Cert.OutMath

/-- The requests' modulation rows of this layer. -/
def SHIFTS (d : FVec Ideal S4x8x6x2048 .f32) : FVec Ideal S4x6x1x2048 .f32 :=
  shapeCast _ (shapeCast _ (extractStridedSlice S1x4x6x2048 ![0, 1, 0, 0] d slices_S4x8x6x2048_S1x4x6x2048_0_1_0_0) shapeCasts_S1x4x6x2048_S4x6x2048) shapeCasts_S4x6x2048_S4x6x1x2048

/-- The two mixers' outputs side by side. -/
def JOINED (o o2 : FVec Ideal S16384x1024 .bf16) : FVec Ideal S16384x2048 .f32 :=
  concatenate S16384x2048 1 [⟨S16384x1024, (extf .f32 o bitsLt_bf16_f32)⟩, ⟨S16384x1024, (extf .f32 o2 bitsLt_bf16_f32)⟩] concatenates_S16384x1024_S16384x1024_S16384x2048_d1

/-- The residual sum: the scaled input plus the gate times the projection. -/
def SUM (o o2 : FVec Ideal S16384x1024 .bf16) (w : FVec Ideal S2x2048x2048 .f32) (x : FVec Ideal S16384x2048 .f32) (d : FVec Ideal S4x8x6x2048 .f32) : FVec Ideal S4x4096x2048 .f32 :=
  addf (mulf (broadcastInDim S4x4096x2048 ![] bcast_S_S4x4096x2048 (constant S_ .f32 0x3FD744FD#32)) (shapeCast _ x shapeCasts_S16384x2048_S4x4096x2048)) (mulf (broadcastInDim S4x4096x2048 ![0, 1, 2] bcast_S4x1x2048_S4x4096x2048_0_1_2 (shapeCast _ (extractStridedSlice S4x1x1x2048 ![0, 2, 0, 0] (SHIFTS d) slices_S4x6x1x2048_S4x1x1x2048_0_2_0_0) shapeCasts_S4x1x1x2048_S4x1x2048)) (shapeCast _ (Host.dotGeneral dot_S16384x2048_S2048x2048_S16384x2048_1_0_0_1_n_n none (JOINED o o2) (shapeCast _ (extractStridedSlice S1x2048x2048 ![0, 0, 0] w slices_S2x2048x2048_S1x2048x2048_0_0_0) shapeCasts_S1x2048x2048_S2048x2048)) shapeCasts_S16384x2048_S4x4096x2048))

/-- The rows' means. -/
def MEAN (s : FVec Ideal S4x4096x2048 .f32) : FVec Ideal S4x4096x1 .f32 :=
  Host.divf (broadcastInDim S4x4096x1 ![0, 1] bcast_S4x4096_S4x4096x1_0_1 (Host.reduceAdd s (constant S_ .f32 0x00000000#32) reducesTo_S4x4096x2048_S4x4096_d2 h_S_)) (broadcastInDim S4x4096x1 ![] bcast_S_S4x4096x1 (constant S_ .f32 0x45000000#32))

/-- The rows less their means. -/
def CENTRED (s : FVec Ideal S4x4096x2048 .f32) : FVec Ideal S4x4096x2048 .f32 :=
  subf s (broadcastInDim S4x4096x2048 ![0, 1, 2] bcast_S4x4096x1_S4x4096x2048_0_1_2 (MEAN s))

/-- The rows normalized. -/
def NORM (s : FVec Ideal S4x4096x2048 .f32) (a b : FVec Ideal S4x2x2048 .f32) : FVec Ideal S4x4096x2048 .f32 :=
  addf (mulf (mulf (CENTRED s) (broadcastInDim S4x4096x2048 ![0, 1, 2] bcast_S4x4096x1_S4x4096x2048_0_1_2 (Host.rsqrt (addf (MEAN (mulf (CENTRED s) (CENTRED s))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 (shapeCast _ (extractStridedSlice S1x1x2048 ![0, 0, 0] a slices_S4x2x2048_S1x1x2048_0_0_0) shapeCasts_S1x1x2048_S2048)))) (broadcastInDim S4x4096x2048 ![0, 1, 2] bcast_S1x1x2048_S4x4096x2048_0_1_2 (broadcastInDim S1x1x2048 ![2] bcast_S2048_S1x1x2048_2 (shapeCast _ (extractStridedSlice S1x1x2048 ![0, 0, 0] b slices_S4x2x2048_S1x1x2048_0_0_0) shapeCasts_S1x1x2048_S2048)))

/-- The rows modulated. -/
def SHIFTED (n : FVec Ideal S4x4096x2048 .f32) (d : FVec Ideal S4x8x6x2048 .f32) : FVec Ideal S4x4096x2048 .f32 :=
  addf (mulf n (broadcastInDim S4x4096x2048 ![0, 1, 2] bcast_S4x1x2048_S4x4096x2048_0_1_2 (addf (broadcastInDim S4x1x2048 ![] bcast_S_S4x1x2048 (constant S_ .f32 0x3F800000#32)) (shapeCast _ (extractStridedSlice S4x1x1x2048 ![0, 4, 0, 0] (SHIFTS d) slices_S4x6x1x2048_S4x1x1x2048_0_4_0_0) shapeCasts_S4x1x1x2048_S4x1x2048)))) (broadcastInDim S4x4096x2048 ![0, 1, 2] bcast_S4x1x2048_S4x4096x2048_0_1_2 (shapeCast _ (extractStridedSlice S4x1x1x2048 ![0, 3, 0, 0] (SHIFTS d) slices_S4x6x1x2048_S4x1x1x2048_0_3_0_0) shapeCasts_S4x1x1x2048_S4x1x2048))

/-- The rows' scores for the experts. -/
def SCORES (h : FVec Ideal S4x4096x2048 .f32) (w : FVec Ideal S4x2048x16 .f32) : FVec Ideal S4x4096x16 .f32 :=
  Host.dotGeneral dot_S4x4096x2048_S2048x16_S4x4096x16_2_0_01_1_n_n none h (shapeCast _ (extractStridedSlice S1x2048x16 ![0, 0, 0] w slices_S4x2048x16_S1x2048x16_0_0_0) shapeCasts_S1x2048x16_S2048x16)

/-- The exponentials of the scores less the largest. -/
def EXPS (z : FVec Ideal S4x4096x16 .f32) : FVec Ideal S4x4096x16 .f32 :=
  Host.exp (subf z (broadcastInDim S4x4096x16 ![0, 1, 2] bcast_S4x4096x1_S4x4096x16_0_1_2 (broadcastInDim S4x4096x1 ![0, 1] bcast_S4x4096_S4x4096x1_0_1 (maximumf (broadcastInDim S4x4096 ![] bcast_S_S4x4096 (constant S_ .f32 0xFF800000#32)) (Host.reduce FloatOps.maximumf z (constant S_ .f32 0xFF800000#32) reducesTo_S4x4096x16_S4x4096_d2 h_S_)))))

/-- The softmax of the scores. -/
def SOFT (z : FVec Ideal S4x4096x16 .f32) : FVec Ideal S4x4096x16 .f32 :=
  Host.divf (EXPS z) (broadcastInDim S4x4096x16 ![0, 1, 2] bcast_S4x4096x1_S4x4096x16_0_1_2 (broadcastInDim S4x4096x1 ![0, 1] bcast_S4x4096_S4x4096x1_0_1 (Host.reduceAdd (EXPS z) (constant S_ .f32 0x00000000#32) reducesTo_S4x4096x16_S4x4096_d2 h_S_)))

/-- The reference's first result: the rows normalized, one request after another. -/
def REF0 (o o2 : FVec Ideal S16384x1024 .bf16) (w : FVec Ideal S2x2048x2048 .f32) (x : FVec Ideal S16384x2048 .f32) (d : FVec Ideal S4x8x6x2048 .f32) (a b : FVec Ideal S4x2x2048 .f32) : FVec Ideal S16384x2048 .f32 :=
  shapeCast _ (NORM (SUM o o2 w x d) a b) shapeCasts_S4x4096x2048_S16384x2048

/-- The reference's second result: the rows modulated. -/
def REF1 (o o2 : FVec Ideal S16384x1024 .bf16) (w : FVec Ideal S2x2048x2048 .f32) (x : FVec Ideal S16384x2048 .f32) (d : FVec Ideal S4x8x6x2048 .f32) (a b : FVec Ideal S4x2x2048 .f32) : FVec Ideal S16384x2048 .bf16 :=
  truncf .bf16 (shapeCast _ (SHIFTED (NORM (SUM o o2 w x d) a b) d) shapeCasts_S4x4096x2048_S16384x2048) bitsLt_bf16_f32

/-- The reference's third result: the affinities. -/
def REF2 (o o2 : FVec Ideal S16384x1024 .bf16) (w : FVec Ideal S2x2048x2048 .f32) (x : FVec Ideal S16384x2048 .f32) (d : FVec Ideal S4x8x6x2048 .f32) (a b : FVec Ideal S4x2x2048 .f32) (e : FVec Ideal S4x2048x16 .f32) : FVec Ideal S16384x16 .f32 :=
  shapeCast _ (SOFT (SCORES (SHIFTED (NORM (SUM o o2 w x d) a b) d) e)) shapeCasts_S4x4096x16_S16384x16

/-- The mean of a row of the reference. -/
theorem MEAN_at (s : FVec Ideal S4x4096x2048 .f32) (q : Fin 4) (p : Fin 4096) :
    MEAN s (ix3 q p 0) = mean (fun l => s (ix3 q p l)) := by
  pointwise [MEAN, mean, zero_add]

/-- A row of the reference, less its mean. -/
theorem CENTRED_at (s : FVec Ideal S4x4096x2048 .f32) (q : Fin 4) (p : Fin 4096) (l : Fin 2048) :
    CENTRED s (ix3 q p l) = s (ix3 q p l) - mean (fun l => s (ix3 q p l)) := by
  pointwise [CENTRED, MEAN_at]

/-- A row of the reference, normalized. -/
theorem NORM_at (s : FVec Ideal S4x4096x2048 .f32) (a b : FVec Ideal S4x2x2048 .f32) (q : Fin 4) (p : Fin 4096) (l : Fin 2048) :
    NORM s a b (ix3 q p l) = normalized (fun l => s (ix3 q p l)) (fun l => a (ix3 0 0 l)) (fun l => b (ix3 0 0 l)) l := by
  pointwise [NORM, MEAN_at, CENTRED_at, normalized, scaled, inverseDeviation]

/-- A row of the reference, modulated. -/
theorem SHIFTED_at (n : FVec Ideal S4x4096x2048 .f32) (d : FVec Ideal S4x8x6x2048 .f32) (q : Fin 4) (p : Fin 4096) (l : Fin 2048) :
    SHIFTED n d (ix3 q p l)
      = n (ix3 q p l) * (1 + d (ix4 0 ⟨1 + q.val, by omega⟩ 4 l)) + d (ix4 0 ⟨1 + q.val, by omega⟩ 3 l) := by
  pointwise [SHIFTED, SHIFTS]

/-- A row's softmax in the reference. -/
theorem SOFT_at (z : FVec Ideal S4x4096x16 .f32) (q : Fin 4) (p : Fin 4096) (e : Fin 16) :
    SOFT z (ix3 q p e) = soft (fun e => z (ix3 q p e)) e := by
  pointwise [SOFT, EXPS, soft, zero_add]
  rw [show Finset.univ.fold max (Ideal.ofBits .f32 0xFF800000#32) (fun k : Fin 16 => z (ix3 q p k)) = largest (fun e => z (ix3 q p e)) from rfl, max_largest]

/-- A row's scores in the reference. -/
theorem SCORES_at (h : FVec Ideal S4x4096x2048 .f32) (w : FVec Ideal S4x2048x16 .f32) (q : Fin 4) (p : Fin 4096) (e : Fin 16) :
    SCORES h w (ix3 q p e) = ∑ k : Fin 2048, h (ix3 q p k) * w (ix3 0 k e) := by
  pointwise [SCORES]

/-- The composed terms of the run are these. -/
theorem run_terms (m : (ℓ : Loc nD τ sig) → Buf (Elt Ideal) ℓ) (c : Dev nD) :
    res_main_v70 m c = REF0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ res_main_v72 m c = REF1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ res_main_v73 m c = REF2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := ⟨rfl, rfl, rfl⟩

end Cert.OutProjTwoRefIdeal.Value
-- ==== Proof.OutProjectionTwo.lean ====
module

public import proofs.«01_k».proof.Defs
public import proofs.«01_k».proof.Proof.OutRefTwo
public import proofs.«01_k».proof.Proof.Gen.OutProjTwoIdeal.Value
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)

namespace Cert.OutProjTwoIdeal.Value
open Cert.OutProjTwoIdeal Cert.OutProjTwoIdeal.Gen Cert.OutMath

/-- The residual sum of a row of a block: the scaled input plus the gate times the two projections' sum. -/
def blockSum (o : FVec Ideal S256x1024 .bf16) (w : FVec Ideal S1x1024x2048 .bf16) (o2 : FVec Ideal S256x1024 .bf16) (w2 : FVec Ideal S1x1024x2048 .bf16)
    (x : FVec Ideal S256x2048 .f32) (g : FVec Ideal S1x1x1x2048 .f32) (r : Fin 256) (l : Fin 2048) : EReal :=
  Ideal.ofBits .f32 0x3FD744FD#32 * x (ix2 r l) + g (ix4 0 0 0 l) * ((∑ k : Fin 1024, o (ix2 r k) * w (ix3 0 k l)) + ∑ k : Fin 1024, o2 (ix2 r k) * w2 (ix3 0 k l))

/-- The kernel's rows less their means. -/
theorem centred_at (o : FVec Ideal S256x1024 .bf16) (w : FVec Ideal S1x1024x2048 .bf16) (o2 : FVec Ideal S256x1024 .bf16) (w2 : FVec Ideal S1x1024x2048 .bf16)
    (x : FVec Ideal S256x2048 .f32) (g : FVec Ideal S1x1x1x2048 .f32) (r : Fin 256) (l : Fin 2048) :
    k0_pay3 (F := Ideal) o w o2 w2 x g (ix2 r l) = blockSum o w o2 w2 x g r l - mean (blockSum o w o2 w2 x g r) := by
  pointwise [k0_pay3, mean, blockSum, zero_add]

/-- The kernel's sums of squared distances from the mean. -/
theorem squares_at (o : FVec Ideal S256x1024 .bf16) (w : FVec Ideal S1x1024x2048 .bf16) (o2 : FVec Ideal S256x1024 .bf16) (w2 : FVec Ideal S1x1024x2048 .bf16)
    (x : FVec Ideal S256x2048 .f32) (g : FVec Ideal S1x1x1x2048 .f32) (r : Fin 256) :
    k0_pay4 (F := Ideal) o w o2 w2 x g (ix2 r 0)
      = ∑ k, (blockSum o w o2 w2 x g r k - mean (blockSum o w o2 w2 x g r)) * (blockSum o w o2 w2 x g r k - mean (blockSum o w o2 w2 x g r)) := by
  pointwise [k0_pay4, centred_at, zero_add]

/-- The kernel's normalized rows, of the centred rows and the sums of squares. -/
theorem rows_at (a b : FVec Ideal S1x1x2048 .f32) (u : FVec Ideal S256x2048 .f32) (q : FVec Ideal S256x1 .f32) (z : Ideal .f32) (r : Fin 256) (l : Fin 2048) :
    k0_pay5 (F := Ideal) (k0_pay1 a) (k0_pay2 b) u q z (ix2 r l)
      = u (ix2 r l) * Ideal.rsqrt (Ideal.div (q (ix2 r 0)) z + Ideal.ofBits .f32 0x3727C5AC#32) * a (ix3 0 0 l) + b (ix3 0 0 l) := by
  pointwise [k0_pay5, k0_pay1, k0_pay2]

/-- The kernel's normalized rows. -/
theorem normalized_at (o : FVec Ideal S256x1024 .bf16) (w : FVec Ideal S1x1024x2048 .bf16) (o2 : FVec Ideal S256x1024 .bf16) (w2 : FVec Ideal S1x1024x2048 .bf16)
    (x : FVec Ideal S256x2048 .f32) (g : FVec Ideal S1x1x1x2048 .f32) (a b : FVec Ideal S1x1x2048 .f32) (r : Fin 256) (l : Fin 2048) :
    k0_pay5 (F := Ideal) (k0_pay1 a) (k0_pay2 b) (k0_pay3 o w o2 w2 x g) (k0_pay4 o w o2 w2 x g) (Scalar.ofBits .f32 0x45000000#32) (ix2 r l)
      = normalized (blockSum o w o2 w2 x g r) (fun k => a (ix3 0 0 k)) (fun k => b (ix3 0 0 k)) l := by
  rw [rows_at, centred_at, squares_at]
  rfl

/-- The kernel's modulated rows. -/
theorem modulated_at (a b : FVec Ideal S1x2048 .f32) (u : FVec Ideal S256x2048 .f32) (q : FVec Ideal S256x1 .f32) (z : Ideal .f32)
    (c d : FVec Ideal S1x1x1x2048 .f32) (r : Fin 256) (l : Fin 2048) :
    k0_pay6 (F := Ideal) a b u q z c d (ix2 r l)
      = k0_pay5 (F := Ideal) a b u q z (ix2 r l) * (1 + c (ix4 0 0 0 l)) + d (ix4 0 0 0 l) := by
  pointwise [k0_pay6]

/-- The kernel's affinities. -/
theorem affinity_at (a b : FVec Ideal S1x2048 .f32) (u : FVec Ideal S256x2048 .f32) (q : FVec Ideal S256x1 .f32) (z : Ideal .f32)
    (c d : FVec Ideal S1x1x1x2048 .f32) (w : FVec Ideal S1x2048x16 .bf16) (r : Fin 256) (e : Fin 16) :
    k0_pay7 (F := Ideal) a b u q z c d w (ix2 r e)
      = soft (fun e => ∑ k : Fin 2048, k0_pay6 (F := Ideal) a b u q z c d (ix2 r k) * w (ix3 0 k e)) e := by
  pointwise [k0_pay7, soft, largest, zero_add]

variable (m : (ℓ : Loc nD τ sig) → Buf (Elt Ideal) ℓ)

/-- Which block each window shows at a grid point: row block `t`, of request `t / 16`; of the matrix its upper
    and its lower half. -/
theorem idx : ∀ t : Fin cfg0.N, win0_0.index t = ![t.val, 0] ∧ win0_1.index t = ![t.val, 0]
    ∧ win0_2.index t = ![0, 0, 0] ∧ win0_3.index t = ![0, 1, 0]
    ∧ win0_4.index t = ![t.val, 0] ∧ win0_5.index t = ![0, 1 + t.val / 16, 0, 0]
    ∧ win0_6.index t = ![0, 0, 0] ∧ win0_7.index t = ![0, 0, 0] ∧ win0_8.index t = ![0, 0, 0]
    ∧ win0_9.index t = ![t.val, 0] ∧ win0_10.index t = ![t.val, 0] ∧ win0_11.index t = ![t.val, 0] :=
  (by decide +kernel : ∀ t : Fin grid0.N, _)

/-- The reference's residual sum over the call's arguments. -/
def refSum (c : Dev nD) : FVec Ideal Cert.OutProjTwoRefIdeal.S4x4096x2048 .f32 :=
  Cert.OutProjTwoRefIdeal.Value.SUM (m ((c : Thread nD τ).loc main_arg0)) (m ((c : Thread nD τ).loc main_arg1)) (m ((c : Thread nD τ).loc main_arg2)) (m ((c : Thread nD τ).loc main_arg3)) (m ((c : Thread nD τ).loc main_arg4))

/-- The reference's normalized rows over the call's arguments. -/
def refNorm (c : Dev nD) : FVec Ideal Cert.OutProjTwoRefIdeal.S4x4096x2048 .f32 :=
  Cert.OutProjTwoRefIdeal.Value.NORM (refSum m c) (m ((c : Thread nD τ).loc main_arg5)) (m ((c : Thread nD τ).loc main_arg6))

/-- The reference's modulated rows over the call's arguments. -/
def refShifted (c : Dev nD) : FVec Ideal Cert.OutProjTwoRefIdeal.S4x4096x2048 .f32 :=
  Cert.OutProjTwoRefIdeal.Value.SHIFTED (refNorm m c) (m ((c : Thread nD τ).loc main_arg4))

/-- A point has one of 64 numbers. -/
theorem point_lt (t : Fin cfg0.N) : t.val < 64 := t.isLt

/-- The request of row `r` of block `t`. -/
def req (t : Fin cfg0.N) (r : Fin 256) : Fin 4 := ⟨(t.val * 256 + r.val) / 4096, by have := point_lt t; omega⟩

/-- The position of row `r` of block `t` in its request. -/
def pos (t : Fin cfg0.N) (r : Fin 256) : Fin 4096 := ⟨(t.val * 256 + r.val) % 4096, by omega⟩

/-- The residual sum of a row of a block is the reference's. -/
theorem sum_eq (c : Dev nD) (t : Fin cfg0.N) (r : Fin 256) (l : Fin 2048) :
    blockSum (iblk m c 0 t) (iblk m c 2 t) (iblk m c 1 t) (iblk m c 3 t) (iblk m c 4 t) (fun i => iblk m c 5 t (ix4 0 0 2 (i 3))) r l
      = refSum m c (ix3 (req t r) (pos t r) l) := by
  have := point_lt t
  have h0 : (t.val * 256 + r.val) / 4096 = t.val / 16 := by omega
  pointwise [blockSum, refSum, Cert.OutProjTwoRefIdeal.Value.SUM, Cert.OutProjTwoRefIdeal.Value.SHIFTS, Cert.OutProjTwoRefIdeal.Value.JOINED]
  simp only [req, pos]
  blk_point [iblk, V, idx t]

/-- The normalized rows of a block are the reference's. -/
theorem norm_eq (c : Dev nD) (t : Fin cfg0.N) (r : Fin 256) (l : Fin 2048) :
    k0_pay5 (F := Ideal) (k0_pay1 (iblk m c 6 t)) (k0_pay2 (iblk m c 7 t)) (k0_pay3 (iblk m c 0 t) (iblk m c 2 t) (iblk m c 1 t) (iblk m c 3 t) (iblk m c 4 t) (fun i => iblk m c 5 t (ix4 0 0 2 (i 3)))) (k0_pay4 (iblk m c 0 t) (iblk m c 2 t) (iblk m c 1 t) (iblk m c 3 t) (iblk m c 4 t) (fun i => iblk m c 5 t (ix4 0 0 2 (i 3)))) (Scalar.ofBits .f32 0x45000000#32) (ix2 r l)
      = refNorm m c (ix3 (req t r) (pos t r) l) := by
  refine (normalized_at _ _ _ _ _ _ _ _ r l).trans (Eq.trans ?_ (Cert.OutProjTwoRefIdeal.Value.NORM_at _ _ _ (req t r) (pos t r) l).symm)
  rw [show blockSum (iblk m c 0 t) (iblk m c 2 t) (iblk m c 1 t) (iblk m c 3 t) (iblk m c 4 t) (fun i => iblk m c 5 t (ix4 0 0 2 (i 3))) r
      = fun l => refSum m c (ix3 (req t r) (pos t r) l) from funext fun l => sum_eq m c t r l]
  generalize (fun l => refSum m c (ix3 (req t r) (pos t r) l)) = s
  unfold normalized scaled
  refine Ideal.add_congr (Ideal.mul_congr rfl ?_) ?_
  all_goals (blk_simp [iblk]; entry_read; pointwise; blk_ext [idx t])

/-- The modulated rows of a block are the reference's. -/
theorem shifted_eq (c : Dev nD) (t : Fin cfg0.N) (r : Fin 256) (l : Fin 2048) :
    k0_pay6 (F := Ideal) (k0_pay1 (iblk m c 6 t)) (k0_pay2 (iblk m c 7 t)) (k0_pay3 (iblk m c 0 t) (iblk m c 2 t) (iblk m c 1 t) (iblk m c 3 t) (iblk m c 4 t) (fun i => iblk m c 5 t (ix4 0 0 2 (i 3)))) (k0_pay4 (iblk m c 0 t) (iblk m c 2 t) (iblk m c 1 t) (iblk m c 3 t) (iblk m c 4 t) (fun i => iblk m c 5 t (ix4 0 0 2 (i 3)))) (Scalar.ofBits .f32 0x45000000#32) (fun i => iblk m c 5 t (ix4 0 0 4 (i 3))) (fun i => iblk m c 5 t (ix4 0 0 3 (i 3))) (ix2 r l)
      = refShifted m c (ix3 (req t r) (pos t r) l) := by
  have := point_lt t
  refine (modulated_at _ _ _ _ _ _ _ r l).trans (Eq.trans ?_ (Cert.OutProjTwoRefIdeal.Value.SHIFTED_at _ _ (req t r) (pos t r) l).symm)
  refine Ideal.add_congr (Ideal.mul_congr (norm_eq m c t r l) ?_) ?_
  all_goals (simp only [req]; blk_point [iblk, V, idx t])

/-- The affinities of a block are the reference's. -/
theorem affinity_eq (c : Dev nD) (t : Fin cfg0.N) (r : Fin 256) (e : Fin 16) :
    k0_pay7 (F := Ideal) (k0_pay1 (iblk m c 6 t)) (k0_pay2 (iblk m c 7 t)) (k0_pay3 (iblk m c 0 t) (iblk m c 2 t) (iblk m c 1 t) (iblk m c 3 t) (iblk m c 4 t) (fun i => iblk m c 5 t (ix4 0 0 2 (i 3)))) (k0_pay4 (iblk m c 0 t) (iblk m c 2 t) (iblk m c 1 t) (iblk m c 3 t) (iblk m c 4 t) (fun i => iblk m c 5 t (ix4 0 0 2 (i 3)))) (Scalar.ofBits .f32 0x45000000#32) (fun i => iblk m c 5 t (ix4 0 0 4 (i 3))) (fun i => iblk m c 5 t (ix4 0 0 3 (i 3))) (iblk m c 8 t) (ix2 r e)
      = Cert.OutProjTwoRefIdeal.Value.SOFT (Cert.OutProjTwoRefIdeal.Value.SCORES (refShifted m c) (m ((c : Thread nD τ).loc main_arg7))) (ix3 (req t r) (pos t r) e) := by
  refine (affinity_at _ _ _ _ _ _ _ _ r e).trans (Eq.trans ?_ (Cert.OutProjTwoRefIdeal.Value.SOFT_at _ (req t r) (pos t r) e).symm)
  refine congrArg (fun z => soft z e) (funext fun e => ?_)
  refine Eq.trans ?_ (Cert.OutProjTwoRefIdeal.Value.SCORES_at _ _ (req t r) (pos t r) e).symm
  refine Finset.sum_congr rfl fun k _ => Ideal.mul_congr (shifted_eq m c t r k) ?_
  blk_simp [iblk]; entry_read; pointwise; blk_ext [idx t]

/-- The first array the call leaves: the normalized rows. -/
theorem final0 (c : Dev nD) : (dats m 0 c).arrAt 9 (cfgs 0).N
    = Cert.OutProjTwoRefIdeal.Value.REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  frame_out
  idx_vars y
  unfold k0_pay8 k0_pay9 k0_pay10 k0_pay11
  try frame_out
  have e2 : View.ld (iblk m c 5 t) r0_3 = fun i => iblk m c 5 t (ix4 0 0 2 (i 3)) := by
    funext i
    pointwise
  erw [e2]
  refine (norm_eq m c t y0 y1).trans ?_
  have := point_lt t
  unfold Cert.OutProjTwoRefIdeal.Value.REF0  refNorm refSum
  pointwise
  blk_ext [idx t, req, pos]

/-- The second array: the modulated rows. -/
theorem final1 (c : Dev nD) : (dats m 0 c).arrAt 10 (cfgs 0).N
    = Cert.OutProjTwoRefIdeal.Value.REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  frame_out
  idx_vars y
  unfold k0_pay8 k0_pay9 k0_pay10 k0_pay11
  try frame_out
  have e2 : View.ld (iblk m c 5 t) r0_3 = fun i => iblk m c 5 t (ix4 0 0 2 (i 3)) := by
    funext i
    pointwise
  have e4 : View.ld (iblk m c 5 t) r0_5 = fun i => iblk m c 5 t (ix4 0 0 4 (i 3)) := by
    funext i
    pointwise
  have e5 : View.ld (iblk m c 5 t) r0_6 = fun i => iblk m c 5 t (ix4 0 0 3 (i 3)) := by
    funext i
    pointwise
  erw [e2, e4, e5]
  refine (shifted_eq m c t y0 y1).trans ?_
  have := point_lt t
  unfold Cert.OutProjTwoRefIdeal.Value.REF1 refShifted refNorm refSum
  pointwise
  blk_ext [idx t, req, pos]

/-- The third array: the affinities. -/
theorem final2 (c : Dev nD) : (dats m 0 c).arrAt 11 (cfgs 0).N
    = Cert.OutProjTwoRefIdeal.Value.REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  frame_out
  idx_vars y
  unfold k0_pay8 k0_pay9 k0_pay10 k0_pay11
  try frame_out
  have e2 : View.ld (iblk m c 5 t) r0_3 = fun i => iblk m c 5 t (ix4 0 0 2 (i 3)) := by
    funext i
    pointwise
  have e4 : View.ld (iblk m c 5 t) r0_5 = fun i => iblk m c 5 t (ix4 0 0 4 (i 3)) := by
    funext i
    pointwise
  have e5 : View.ld (iblk m c 5 t) r0_6 = fun i => iblk m c 5 t (ix4 0 0 3 (i 3)) := by
    funext i
    pointwise
  erw [e2, e4, e5]
  refine (affinity_eq m c t y0 y1).trans ?_
  have := point_lt t
  unfold Cert.OutProjTwoRefIdeal.Value.REF2 refShifted refNorm refSum
  pointwise
  blk_ext [idx t, req, pos]

end Cert.OutProjTwoIdeal.Value

namespace Cert.Proof

/-- The output projection of two mixers with the layer norm, the modulation and the router: the kernel's call and the
    reference run and end with the same three arrays. -/
theorem algebraic_out_proj_two : algebraic_OutProjTwoIdeal_OutProjTwoRefIdeal (hOutProjTwoIdeal := Cert.OutProjTwoIdeal.Gen.facts) (hOutProjTwoRefIdeal := Cert.OutProjTwoRefIdeal.Gen.facts) := by
  pair_intro
  · run_from Cert.OutProjTwoIdeal.Gen.run_main m g
  · run_from Cert.OutProjTwoRefIdeal.Value.run m' g'
    · exact (Cert.OutProjTwoRefIdeal.Value.run_terms m' c).1.trans (by simp only [hagree c]; exact (Cert.OutProjTwoIdeal.Value.final0 m c).symm)
    · exact (Cert.OutProjTwoRefIdeal.Value.run_terms m' c).2.1.trans (by simp only [hagree c]; exact (Cert.OutProjTwoIdeal.Value.final1 m c).symm)
    · exact (Cert.OutProjTwoRefIdeal.Value.run_terms m' c).2.2.trans (by simp only [hagree c]; exact (Cert.OutProjTwoIdeal.Value.final2 m c).symm)

end Cert.Proof
-- ==== Proof.WinTables.lean ====
module

public import proofs.«01_k».proof.Defs
public import proofs.«01_k».proof.Proof.Gen.WinProjIdeal.Value
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.WinProjIdeal.Value
open Cert.WinProjIdeal Cert.WinProjIdeal.Gen

/-- The first `b` of a line of operations, then the rest. -/
theorem stretches (a b : List (HloOp τ sig (Elt Ideal))) (W : Valuation τ sig (Elt Ideal)) :
    StableHlo.after (a ++ b) W = StableHlo.after b (StableHlo.after a W) := by
  induction a generalizing W with
  | nil => rfl
  | cons op a ih => exact ih _

/-- The whole quotient, rounded down: the truncated one, less one where signs differ and something is left. -/
def QUOTIENT (i : IVec S4096 32) (d : IVec S_ 32) : IVec S4096 32 :=
  select (andi (cmpi .ne (signi i) (broadcastInDim S4096 ![] bcast_S_S4096 (signi (id d)))) (cmpi .ne (Host.remsi i (broadcastInDim S4096 ![] bcast_S_S4096 (id d))) (broadcastInDim S4096 ![] bcast_S_S4096 (constantI S_ 32 0#32)))) (subi (Host.divsi i (broadcastInDim S4096 ![] bcast_S_S4096 (id d))) (broadcastInDim S4096 ![] bcast_S_S4096 (constantI S_ 32 1#32))) (Host.divsi i (broadcastInDim S4096 ![] bcast_S_S4096 (id d)))

/-- A divisor, or one where it is zero. -/
def DIVISOR (d : IVec S_ 32) : IVec S_ 32 := select (cmpi .eq (id d) (constantI S_ 32 0#32)) (constantI S_ 32 1#32) (id d)

/-- The remainder that goes with the quotient rounded down. -/
def REMAINDER (i : IVec S4096 32) (d : IVec S_ 32) : IVec S4096 32 :=
  select (andi (cmpi .ne (cmpi .slt (Host.remsi i (broadcastInDim S4096 ![] bcast_S_S4096 (DIVISOR d))) (broadcastInDim S4096 ![] bcast_S_S4096 (constantI S_ 32 0#32))) (broadcastInDim S4096 ![] bcast_S_S4096 (cmpi .slt (DIVISOR d) (constantI S_ 32 0#32)))) (cmpi .ne (Host.remsi i (broadcastInDim S4096 ![] bcast_S_S4096 (DIVISOR d))) (broadcastInDim S4096 ![] bcast_S_S4096 (constantI S_ 32 0#32)))) (addi (Host.remsi i (broadcastInDim S4096 ![] bcast_S_S4096 (DIVISOR d))) (broadcastInDim S4096 ![] bcast_S_S4096 (DIVISOR d))) (Host.remsi i (broadcastInDim S4096 ![] bcast_S_S4096 (DIVISOR d)))

/-- The frequencies: ten thousand to the power `-(0 + 2 k) / 64`. -/
def POWERS : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles: a place along one side of the image times the frequencies. -/
def ANGLES (n : FVec Ideal S4096 .f32) : FVec Ideal S4096x32 .f32 :=
  mulf (broadcastInDim S4096x32 ![0, 1] bcast_S4096x1_S4096x32_0_1 (broadcastInDim S4096x1 ![0] bcast_S4096_S4096x1_0 n)) (broadcastInDim S4096x32 ![0, 1] bcast_S1x32_S4096x32_0_1 (broadcastInDim S1x32 ![1] bcast_S32_S1x32_1 POWERS))

variable (W : Valuation τ sig (Elt Ideal))

/-- The stretch that rounds the quotient down leaves it in its result. -/
theorem quotient_line : StableHlo.after (hostOps0_1 (F := Ideal)) W (Proc.devRef .tc main_v1) = QUOTIENT (W (Proc.devRef .tc main_v0)) (W (Proc.devRef .tc main_c)) := by
  simp only [hostOps0_1, StableHlo.after_cons, StableHlo.after_nil]
  after_results_simp
  after_results_loop
  simp only [StableHlo.TRef.ofBuf_toBuf]
  rfl

/-- The stretch that takes the remainder leaves it in its result. -/
theorem remainder_line : StableHlo.after (hostOps0_3 (F := Ideal)) W (Proc.devRef .tc main_v3) = REMAINDER (W (Proc.devRef .tc main_v0)) (W (Proc.devRef .tc main_c_0)) := by
  simp only [hostOps0_3, StableHlo.after_cons, StableHlo.after_nil]
  after_results_simp
  after_results_loop
  simp only [StableHlo.TRef.ofBuf_toBuf]
  rfl

/-- The quotients as numbers pass through the remainder's stretch. -/
theorem remainder_keeps : StableHlo.after (hostOps0_3 (F := Ideal)) W (Proc.devRef .tc main_v2) = W (Proc.devRef .tc main_v2) := by
  simp only [hostOps0_3, StableHlo.after_cons, StableHlo.after_nil]
  after_results_simp

/-- The row numbers pass through the quotient's stretch. -/
theorem quotient_keeps : StableHlo.after (hostOps0_1 (F := Ideal)) W (Proc.devRef .tc main_v0) = W (Proc.devRef .tc main_v0) := by
  simp only [hostOps0_1, StableHlo.after_cons, StableHlo.after_nil]
  after_results_simp

/-- The last stretch, cut after the two arrays of angles. -/
theorem cut : hostOps0_4 (F := Ideal) = (hostOps0_4 (F := Ideal)).take 25 ++ (hostOps0_4 (F := Ideal)).drop 25 := (List.take_append_drop 25 _).symm

/-- The first array of angles. -/
theorem first_angles : StableHlo.after ((hostOps0_4 (F := Ideal)).take 25) W (Proc.devRef .tc main_v19) = ANGLES (W (Proc.devRef .tc main_v2)) := by
  simp only [hostOps0_4, List.take_succ_cons, List.take_zero, StableHlo.after_cons, StableHlo.after_nil]
  after_results_simp
  rfl

/-- The second array of angles. -/
theorem second_angles : StableHlo.after ((hostOps0_4 (F := Ideal)).take 25) W (Proc.devRef .tc main_v24) = ANGLES (sitofp .f32 (W (Proc.devRef .tc main_v3))) := by
  simp only [hostOps0_4, List.take_succ_cons, List.take_zero, StableHlo.after_cons, StableHlo.after_nil]
  after_results_simp
  rfl

/-- The cosines from the angles: four pieces, of the first angles twice and of the second twice. -/
theorem cosine_end : StableHlo.after ((hostOps0_4 (F := Ideal)).drop 25) W (Proc.devRef .tc main_v29)
    = concatenate S4096x128 1 [⟨S4096x32, Host.cos (F := Ideal) (φ := .f32) (W (Proc.devRef .tc main_v19))⟩, ⟨S4096x32, Host.cos (F := Ideal) (φ := .f32) (W (Proc.devRef .tc main_v19))⟩, ⟨S4096x32, Host.cos (F := Ideal) (φ := .f32) (W (Proc.devRef .tc main_v24))⟩, ⟨S4096x32, Host.cos (F := Ideal) (φ := .f32) (W (Proc.devRef .tc main_v24))⟩] concatenates_S4096x32_S4096x32_S4096x32_S4096x32_S4096x128_d1 := by
  simp only [hostOps0_4, List.drop_succ_cons, List.drop_zero, StableHlo.after_cons, StableHlo.after_nil]
  after_results_steps
  rfl

set_option maxHeartbeats 1600000 in
/-- The sines from the angles: the same pieces, the first and third with their sign turned. -/
theorem sine_end : StableHlo.after ((hostOps0_4 (F := Ideal)).drop 25) W (Proc.devRef .tc main_v36)
    = concatenate S4096x128 1 [⟨S4096x32, Host.negf (F := Ideal) (φ := .f32) (Host.sin (F := Ideal) (φ := .f32) (W (Proc.devRef .tc main_v19)))⟩, ⟨S4096x32, Host.sin (F := Ideal) (φ := .f32) (W (Proc.devRef .tc main_v19))⟩, ⟨S4096x32, Host.negf (F := Ideal) (φ := .f32) (Host.sin (F := Ideal) (φ := .f32) (W (Proc.devRef .tc main_v24)))⟩, ⟨S4096x32, Host.sin (F := Ideal) (φ := .f32) (W (Proc.devRef .tc main_v24))⟩] concatenates_S4096x32_S4096x32_S4096x32_S4096x32_S4096x128_d1 := by
  simp only [hostOps0_4, List.drop_succ_cons, List.drop_zero, StableHlo.after_cons, StableHlo.after_nil]
  after_results_steps
  rfl

/-- The cosines' line, from the numbers it starts from. -/
theorem cosine_line : StableHlo.after (hostOps0_4 (F := Ideal)) W (Proc.devRef .tc main_v29)
    = concatenate S4096x128 1 [⟨S4096x32, Host.cos (ANGLES (W (Proc.devRef .tc main_v2)))⟩, ⟨S4096x32, Host.cos (ANGLES (W (Proc.devRef .tc main_v2)))⟩, ⟨S4096x32, Host.cos (ANGLES (sitofp .f32 (W (Proc.devRef .tc main_v3))))⟩, ⟨S4096x32, Host.cos (ANGLES (sitofp .f32 (W (Proc.devRef .tc main_v3))))⟩] concatenates_S4096x32_S4096x32_S4096x32_S4096x32_S4096x128_d1 := by
  rw [cut, stretches, cosine_end, first_angles, second_angles]

/-- The sines' line, from the numbers it starts from. -/
theorem sine_line : StableHlo.after (hostOps0_4 (F := Ideal)) W (Proc.devRef .tc main_v36)
    = concatenate S4096x128 1 [⟨S4096x32, Host.negf (Host.sin (ANGLES (W (Proc.devRef .tc main_v2))))⟩, ⟨S4096x32, Host.sin (ANGLES (W (Proc.devRef .tc main_v2)))⟩, ⟨S4096x32, Host.negf (Host.sin (ANGLES (sitofp .f32 (W (Proc.devRef .tc main_v3)))))⟩, ⟨S4096x32, Host.sin (ANGLES (sitofp .f32 (W (Proc.devRef .tc main_v3))))⟩] concatenates_S4096x32_S4096x32_S4096x32_S4096x32_S4096x128_d1 := by
  rw [cut, stretches, sine_end, first_angles, second_angles]

/-- The rows' angles: the row number's quotient by 64. -/
def ROWS : FVec Ideal S4096x32 .f32 := ANGLES (sitofp .f32 (QUOTIENT (iotaInDim S4096 32 0) (constantI S_ 32 64#32)))

/-- The columns' angles: the row number's remainder by 64. -/
def COLUMNS : FVec Ideal S4096x32 .f32 := ANGLES (sitofp .f32 (REMAINDER (iotaInDim S4096 32 0) (constantI S_ 32 64#32)))

variable (m : (ℓ : Loc nD τ sig) → Buf (Elt Ideal) ℓ)

/-- What the last stretch finds where it reads the row quotients. -/
theorem rows_found : StableHlo.after (hostOps0_3 (F := Ideal)) (StableHlo.after (hostOps0_2 (F := Ideal)) (StableHlo.after (hostOps0_1 (F := Ideal)) (StableHlo.after (hostOps0 (F := Ideal)) W))) (Proc.devRef .tc main_v2)
    = sitofp (F := Ideal) .f32 (QUOTIENT (iotaInDim S4096 32 0) (constantI S_ 32 64#32)) := by
  have h : ∀ U : Valuation τ sig (Elt Ideal), StableHlo.after (hostOps0_2 (F := Ideal)) U (Proc.devRef .tc main_v2) = sitofp (F := Ideal) .f32 (U (Proc.devRef .tc main_v1)) := by
    intro U
    simp only [hostOps0_2, StableHlo.after_cons, StableHlo.after_nil]
    after_results_simp
  have a : StableHlo.after (hostOps0 (F := Ideal)) W (Proc.devRef .tc main_v0) = iotaInDim S4096 32 0 := by
    simp only [hostOps0, StableHlo.after_cons, StableHlo.after_nil]
    after_results_simp
  have b : StableHlo.after (hostOps0 (F := Ideal)) W (Proc.devRef .tc main_c) = constantI S_ 32 64#32 := by
    simp only [hostOps0, StableHlo.after_cons, StableHlo.after_nil]
    after_results_simp
  rw [remainder_keeps, h, quotient_line, a, b]

/-- What it finds where it reads the remainders. -/
theorem columns_found : StableHlo.after (hostOps0_3 (F := Ideal)) (StableHlo.after (hostOps0_2 (F := Ideal)) (StableHlo.after (hostOps0_1 (F := Ideal)) (StableHlo.after (hostOps0 (F := Ideal)) W))) (Proc.devRef .tc main_v3)
    = REMAINDER (iotaInDim S4096 32 0) (constantI S_ 32 64#32) := by
  have h : ∀ U : Valuation τ sig (Elt Ideal), StableHlo.after (hostOps0_2 (F := Ideal)) U (Proc.devRef .tc main_v0) = U (Proc.devRef .tc main_v0) := by
    intro U
    simp only [hostOps0_2, StableHlo.after_cons, StableHlo.after_nil]
    after_results_simp
  have k : ∀ U : Valuation τ sig (Elt Ideal), StableHlo.after (hostOps0_2 (F := Ideal)) U (Proc.devRef .tc main_c_0) = constantI S_ 32 64#32 := by
    intro U
    simp only [hostOps0_2, StableHlo.after_cons, StableHlo.after_nil]
    after_results_simp
  have a : StableHlo.after (hostOps0 (F := Ideal)) W (Proc.devRef .tc main_v0) = iotaInDim S4096 32 0 := by
    simp only [hostOps0, StableHlo.after_cons, StableHlo.after_nil]
    after_results_simp
  rw [remainder_line, h, k, quotient_keeps, a]

/-- The region finds the memory as the five stretches leave it, one after the other. -/
theorem found (c : Dev nD) (b : Ref sig .tc) : V m c b = StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (fun r => m (c, r)))))) (Proc.devRef .tc b) := by
  rw [← stretches, ← stretches, ← stretches, ← stretches]
  rfl

/-- The table of cosines. -/
theorem cosines (c : Dev nD) : V m c main_v29 = concatenate S4096x128 1 [⟨S4096x32, Host.cos ROWS⟩, ⟨S4096x32, Host.cos ROWS⟩, ⟨S4096x32, Host.cos COLUMNS⟩, ⟨S4096x32, Host.cos COLUMNS⟩] concatenates_S4096x32_S4096x32_S4096x32_S4096x32_S4096x128_d1 := by
  rw [found, cosine_line, rows_found, columns_found]
  rfl

/-- The table of sines. -/
theorem sines (c : Dev nD) : V m c main_v36 = concatenate S4096x128 1 [⟨S4096x32, Host.negf (Host.sin ROWS)⟩, ⟨S4096x32, Host.sin ROWS⟩, ⟨S4096x32, Host.negf (Host.sin COLUMNS)⟩, ⟨S4096x32, Host.sin COLUMNS⟩] concatenates_S4096x32_S4096x32_S4096x32_S4096x32_S4096x128_d1 := by
  rw [found, sine_line, rows_found, columns_found]
  rfl

end Cert.WinProjIdeal.Value
-- ==== Proof.WinRef.lean ====
module

public import proofs.«01_k».proof.Defs
public import proofs.«01_k».proof.Proof.Gen.WinProjRefIdeal.Run
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.WinProjRefIdeal.Value
open Cert.WinProjRefIdeal Cert.WinProjRefIdeal.Gen

/-- The rows times the matrix. -/
def PRODUCT (h : FVec Ideal S16384x2048 .bf16) (w : FVec Ideal S2x2048x4608 .f32) : FVec Ideal S16384x4608 .f32 :=
  Host.dotGeneral dot_S16384x2048_S2048x4608_S16384x4608_1_0_0_1_n_n none (extf .f32 h bitsLt_bf16_f32) (shapeCast _ (extractStridedSlice S1x2048x4608 ![0, 0, 0] w slices_S2x2048x4608_S1x2048x4608_0_0_0) shapeCasts_S1x2048x4608_S2048x4608)

/-- The row numbers' quotients by 64. -/
def QUOTIENTS : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The row numbers' remainders by 64. -/
def REMAINDERS : IVec S4096 32 :=
  select (andi (cmpi .ne (cmpi .slt (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (constantI S_ 32 0#32))) (broadcastInDim S4096 ![] bcast_S_S4096 (cmpi .slt (select (cmpi .eq (id (constantI S_ 32 64#32)) (constantI S_ 32 0#32)) (constantI S_ 32 1#32) (id (constantI S_ 32 64#32))) (constantI S_ 32 0#32)))) (cmpi .ne (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (constantI S_ 32 0#32)))) (addi (Host.remsi (iotaInDim S4096 32 0) (broadcastInDim S4096 ![] bcast_S_S4096 (select (cmpi .eq (id (constantI S_ 32 64#32)) (constantI S_ 32 0#32)) (constantI S_ 32 1#32) (id (constantI S_ 32 64#32))))) (broadcastInDim S4096 ![] bcast_S_S4096 (select (cmpi .eq (id (constantI S_ 32 64#32)) (constantI S_ 32 0#32)) (constantI S_ 32 1#32) (id (constantI S_ 32 64#32))))) (Host.remsi (iotaInDim S4096 32 0) (broadcastInDim S4096 ![] bcast_S_S4096 (select (cmpi .eq (id (constantI S_ 32 64#32)) (constantI S_ 32 0#32)) (constantI S_ 32 1#32) (id (constantI S_ 32 64#32)))))

/-- The frequencies. -/
def FREQUENCIES : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles: a place along one side of the image times the frequencies. -/
def TURNS (n : IVec S4096 32) : FVec Ideal S4096x1x32 .f32 :=
  mulf (broadcastInDim S4096x1x32 ![0, 1, 2] bcast_S4096x1x1_S4096x1x32_0_1_2 (broadcastInDim S4096x1x1 ![0] bcast_S4096_S4096x1x1_0 (sitofp .f32 n))) (broadcastInDim S4096x1x32 ![0, 1, 2] bcast_S1x1x32_S4096x1x32_0_1_2 (broadcastInDim S1x1x32 ![2] bcast_S32_S1x1x32_2 FREQUENCIES))

/-- An array over row numbers and lanes, the same for every sample and head, of the queries. -/
def SPREAD_Q (g : FVec Ideal S4096x1x32 .f32) : FVec Ideal S4x4096x8x32 .f32 :=
  broadcastInDim S4x4096x8x32 ![0, 1, 2, 3] bcast_S1x4096x1x32_S4x4096x8x32_0_1_2_3 (broadcastInDim S1x4096x1x32 ![1, 2, 3] bcast_S4096x1x32_S1x4096x1x32_1_2_3 g)

/-- The first 32 of 64 lanes, of the queries. -/
def FORE_Q (x : FVec Ideal S4x4096x8x64 .f32) : FVec Ideal S4x4096x8x32 .f32 :=
  extractStridedSlice S4x4096x8x32 ![0, 0, 0, 0] x slices_S4x4096x8x64_S4x4096x8x32_0_0_0_0

/-- The last 32 of 64 lanes, of the queries. -/
def AFT_Q (x : FVec Ideal S4x4096x8x64 .f32) : FVec Ideal S4x4096x8x32 .f32 :=
  extractStridedSlice S4x4096x8x32 ![0, 0, 0, 32] x slices_S4x4096x8x64_S4x4096x8x32_0_0_0_32

/-- 64 lanes turned by their angles, of the queries. -/
def TURNED_Q (x : FVec Ideal S4x4096x8x64 .f32) (g : FVec Ideal S4096x1x32 .f32) : FVec Ideal S4x4096x8x64 .f32 :=
  concatenate S4x4096x8x64 3 [⟨S4x4096x8x32, (subf (mulf (FORE_Q x) (SPREAD_Q (Host.cos g))) (mulf (AFT_Q x) (SPREAD_Q (Host.sin g))))⟩, ⟨S4x4096x8x32, (addf (mulf (AFT_Q x) (SPREAD_Q (Host.cos g))) (mulf (FORE_Q x) (SPREAD_Q (Host.sin g))))⟩] concatenates_S4x4096x8x32_S4x4096x8x32_S4x4096x8x64_d3

/-- 128 lanes turned: the first 64 by the quotients' angles, the last by the remainders', of the queries. -/
def WHOLE_Q (x : FVec Ideal S4x4096x8x128 .f32) : FVec Ideal S4x4096x8x128 .f32 :=
  concatenate S4x4096x8x128 3 [⟨S4x4096x8x64, TURNED_Q (extractStridedSlice S4x4096x8x64 ![0, 0, 0, 0] x slices_S4x4096x8x128_S4x4096x8x64_0_0_0_0) (TURNS QUOTIENTS)⟩, ⟨S4x4096x8x64, TURNED_Q (extractStridedSlice S4x4096x8x64 ![0, 0, 0, 64] x slices_S4x4096x8x128_S4x4096x8x64_0_0_0_64) (TURNS REMAINDERS)⟩] concatenates_S4x4096x8x64_S4x4096x8x64_S4x4096x8x128_d3

/-- An array over row numbers and lanes, the same for every sample and head, of the keys. -/
def SPREAD_K (g : FVec Ideal S4096x1x32 .f32) : FVec Ideal S4x4096x2x32 .f32 :=
  broadcastInDim S4x4096x2x32 ![0, 1, 2, 3] bcast_S1x4096x1x32_S4x4096x2x32_0_1_2_3 (broadcastInDim S1x4096x1x32 ![1, 2, 3] bcast_S4096x1x32_S1x4096x1x32_1_2_3 g)

/-- The first 32 of 64 lanes, of the keys. -/
def FORE_K (x : FVec Ideal S4x4096x2x64 .f32) : FVec Ideal S4x4096x2x32 .f32 :=
  extractStridedSlice S4x4096x2x32 ![0, 0, 0, 0] x slices_S4x4096x2x64_S4x4096x2x32_0_0_0_0

/-- The last 32 of 64 lanes, of the keys. -/
def AFT_K (x : FVec Ideal S4x4096x2x64 .f32) : FVec Ideal S4x4096x2x32 .f32 :=
  extractStridedSlice S4x4096x2x32 ![0, 0, 0, 32] x slices_S4x4096x2x64_S4x4096x2x32_0_0_0_32

/-- 64 lanes turned by their angles, of the keys. -/
def TURNED_K (x : FVec Ideal S4x4096x2x64 .f32) (g : FVec Ideal S4096x1x32 .f32) : FVec Ideal S4x4096x2x64 .f32 :=
  concatenate S4x4096x2x64 3 [⟨S4x4096x2x32, (subf (mulf (FORE_K x) (SPREAD_K (Host.cos g))) (mulf (AFT_K x) (SPREAD_K (Host.sin g))))⟩, ⟨S4x4096x2x32, (addf (mulf (AFT_K x) (SPREAD_K (Host.cos g))) (mulf (FORE_K x) (SPREAD_K (Host.sin g))))⟩] concatenates_S4x4096x2x32_S4x4096x2x32_S4x4096x2x64_d3

/-- 128 lanes turned: the first 64 by the quotients' angles, the last by the remainders', of the keys. -/
def WHOLE_K (x : FVec Ideal S4x4096x2x128 .f32) : FVec Ideal S4x4096x2x128 .f32 :=
  concatenate S4x4096x2x128 3 [⟨S4x4096x2x64, TURNED_K (extractStridedSlice S4x4096x2x64 ![0, 0, 0, 0] x slices_S4x4096x2x128_S4x4096x2x64_0_0_0_0) (TURNS QUOTIENTS)⟩, ⟨S4x4096x2x64, TURNED_K (extractStridedSlice S4x4096x2x64 ![0, 0, 0, 64] x slices_S4x4096x2x128_S4x4096x2x64_0_0_0_64) (TURNS REMAINDERS)⟩] concatenates_S4x4096x2x64_S4x4096x2x64_S4x4096x2x128_d3

/-- The angle of a row number at a lane: the quotients' for the lanes below 64, the remainders' above. -/
def bend (p : Fin 4096) (l : ℕ) : EReal :=
  if l < 64 then TURNS QUOTIENTS (ix3 p 0 ⟨l % 32, Nat.mod_lt _ (by decide)⟩) else TURNS REMAINDERS (ix3 p 0 ⟨l % 32, Nat.mod_lt _ (by decide)⟩)

/-- 64 turned lanes, of the queries, element by element. -/
theorem turned_at_queries (x : FVec Ideal S4x4096x8x64 .f32) (g : FVec Ideal S4096x1x32 .f32) (i : Fin 4) (p : Fin 4096) (n : Fin 8) (l : Fin 64) :
    TURNED_Q x g (ix4 i p n l) = x (ix4 i p n l) * Ideal.cos (g (ix3 p 0 ⟨(l : ℕ) % 32, Nat.mod_lt _ (by decide)⟩))
      + (if (l : ℕ) < 32 then x (ix4 i p n ⟨((l : ℕ) + 32) % 64, Nat.mod_lt _ (by decide)⟩) * -(Ideal.sin (g (ix3 p 0 ⟨(l : ℕ) % 32, Nat.mod_lt _ (by decide)⟩)))
          else x (ix4 i p n ⟨((l : ℕ) + 32) % 64, Nat.mod_lt _ (by decide)⟩) * Ideal.sin (g (ix3 p 0 ⟨(l : ℕ) % 32, Nat.mod_lt _ (by decide)⟩))) := by
  pointwise [TURNED_Q, FORE_Q, AFT_Q, SPREAD_Q]
  by_cases h : (l : ℕ) < 32
  · have e1 : (l : ℕ) % 32 = l := Nat.mod_eq_of_lt h
    have e2 : ((l : ℕ) + 32) % 64 = 32 + l := by omega
    simp only [dif_pos h, if_pos h, e1, e2, mul_neg, sub_eq_add_neg]
  · have e1 : (l : ℕ) % 32 = l - 32 := by omega
    have e2 : ((l : ℕ) + 32) % 64 = l - 32 := by omega
    have e3 : 32 + ((l : ℕ) - 32) = l := by omega
    simp only [dif_neg h, if_neg h, e1, e2, e3, Fin.eta]

/-- A head's turned lanes, of the queries, element by element. -/
theorem whole_at_queries (x : FVec Ideal S4x4096x8x128 .f32) (i : Fin 4) (p : Fin 4096) (n : Fin 8) (l : Fin 128) :
    WHOLE_Q x (ix4 i p n l) = x (ix4 i p n l) * Ideal.cos (bend p l)
      + (if (l : ℕ) % 64 < 32 then x (ix4 i p n ⟨((l : ℕ) + 32) % 128, Nat.mod_lt _ (by decide)⟩) * -(Ideal.sin (bend p l))
          else x (ix4 i p n ⟨((l : ℕ) + 96) % 128, Nat.mod_lt _ (by decide)⟩) * Ideal.sin (bend p l)) := by
  unfold bend
  pointwise [WHOLE_Q]
  by_cases h : (l : ℕ) < 64
  · rw [dif_pos h, turned_at_queries]
    simp only [if_pos h]
    pointwise
    by_cases k : (l : ℕ) < 32
    · have f : (l : ℕ) % 64 < 32 := by omega
      have e1 : ((l : ℕ) + 32) % 64 = (l + 32) % 128 := by omega
      simp only [if_pos k, if_pos f, e1]
    · have f : ¬ (l : ℕ) % 64 < 32 := by omega
      have e1 : ((l : ℕ) + 32) % 64 = (l + 96) % 128 := by omega
      simp only [if_neg k, if_neg f, e1]
  · rw [dif_neg h, turned_at_queries]
    simp only [if_neg h]
    pointwise
    have e0 : 64 + ((l : ℕ) - 64) = l := by omega
    have e2 : ((l : ℕ) - 64) % 32 = l % 32 := by omega
    by_cases k : (l : ℕ) - 64 < 32
    · have f : (l : ℕ) % 64 < 32 := by omega
      have e1 : 64 + ((l : ℕ) - 64 + 32) % 64 = (l + 32) % 128 := by omega
      simp only [if_pos k, if_pos f, e0, e1, e2, Fin.eta]
    · have f : ¬ (l : ℕ) % 64 < 32 := by omega
      have e1 : 64 + ((l : ℕ) - 64 + 32) % 64 = (l + 96) % 128 := by omega
      simp only [if_neg k, if_neg f, e0, e1, e2, Fin.eta]

/-- 64 turned lanes, of the keys, element by element. -/
theorem turned_at_keys (x : FVec Ideal S4x4096x2x64 .f32) (g : FVec Ideal S4096x1x32 .f32) (i : Fin 4) (p : Fin 4096) (n : Fin 2) (l : Fin 64) :
    TURNED_K x g (ix4 i p n l) = x (ix4 i p n l) * Ideal.cos (g (ix3 p 0 ⟨(l : ℕ) % 32, Nat.mod_lt _ (by decide)⟩))
      + (if (l : ℕ) < 32 then x (ix4 i p n ⟨((l : ℕ) + 32) % 64, Nat.mod_lt _ (by decide)⟩) * -(Ideal.sin (g (ix3 p 0 ⟨(l : ℕ) % 32, Nat.mod_lt _ (by decide)⟩)))
          else x (ix4 i p n ⟨((l : ℕ) + 32) % 64, Nat.mod_lt _ (by decide)⟩) * Ideal.sin (g (ix3 p 0 ⟨(l : ℕ) % 32, Nat.mod_lt _ (by decide)⟩))) := by
  pointwise [TURNED_K, FORE_K, AFT_K, SPREAD_K]
  by_cases h : (l : ℕ) < 32
  · have e1 : (l : ℕ) % 32 = l := Nat.mod_eq_of_lt h
    have e2 : ((l : ℕ) + 32) % 64 = 32 + l := by omega
    simp only [dif_pos h, if_pos h, e1, e2, mul_neg, sub_eq_add_neg]
  · have e1 : (l : ℕ) % 32 = l - 32 := by omega
    have e2 : ((l : ℕ) + 32) % 64 = l - 32 := by omega
    have e3 : 32 + ((l : ℕ) - 32) = l := by omega
    simp only [dif_neg h, if_neg h, e1, e2, e3, Fin.eta]

/-- A head's turned lanes, of the keys, element by element. -/
theorem whole_at_keys (x : FVec Ideal S4x4096x2x128 .f32) (i : Fin 4) (p : Fin 4096) (n : Fin 2) (l : Fin 128) :
    WHOLE_K x (ix4 i p n l) = x (ix4 i p n l) * Ideal.cos (bend p l)
      + (if (l : ℕ) % 64 < 32 then x (ix4 i p n ⟨((l : ℕ) + 32) % 128, Nat.mod_lt _ (by decide)⟩) * -(Ideal.sin (bend p l))
          else x (ix4 i p n ⟨((l : ℕ) + 96) % 128, Nat.mod_lt _ (by decide)⟩) * Ideal.sin (bend p l)) := by
  unfold bend
  pointwise [WHOLE_K]
  by_cases h : (l : ℕ) < 64
  · rw [dif_pos h, turned_at_keys]
    simp only [if_pos h]
    pointwise
    by_cases k : (l : ℕ) < 32
    · have f : (l : ℕ) % 64 < 32 := by omega
      have e1 : ((l : ℕ) + 32) % 64 = (l + 32) % 128 := by omega
      simp only [if_pos k, if_pos f, e1]
    · have f : ¬ (l : ℕ) % 64 < 32 := by omega
      have e1 : ((l : ℕ) + 32) % 64 = (l + 96) % 128 := by omega
      simp only [if_neg k, if_neg f, e1]
  · rw [dif_neg h, turned_at_keys]
    simp only [if_neg h]
    pointwise
    have e0 : 64 + ((l : ℕ) - 64) = l := by omega
    have e2 : ((l : ℕ) - 64) % 32 = l % 32 := by omega
    by_cases k : (l : ℕ) - 64 < 32
    · have f : (l : ℕ) % 64 < 32 := by omega
      have e1 : 64 + ((l : ℕ) - 64 + 32) % 64 = (l + 32) % 128 := by omega
      simp only [if_pos k, if_pos f, e0, e1, e2, Fin.eta]
    · have f : ¬ (l : ℕ) % 64 < 32 := by omega
      have e1 : 64 + ((l : ℕ) - 64 + 32) % 64 = (l + 96) % 128 := by omega
      simp only [if_neg k, if_neg f, e0, e1, e2, Fin.eta]

/-- An angle as one product. -/
theorem turns_at (n : IVec S4096 32) (p : Fin 4096) (k : Fin 32) :
    TURNS n (ix3 p 0 k) = FloatOps.sitofp (F := Ideal) .f32 (n (ix1 p)) * FREQUENCIES (ix1 k) := by
  pointwise [TURNS]

/-- The queries: the first 1024 columns, turned, over a constant. -/
def QUERIES (D : FVec Ideal S16384x4608 .f32) : FVec Ideal S16384x1024 .f32 :=
  shapeCast _ (Host.divf (WHOLE_Q (shapeCast _ (extractStridedSlice S16384x1024 ![0, 0] D slices_S16384x4608_S16384x1024_0_0) shapeCasts_S16384x1024_S4x4096x8x128)) (broadcastInDim S4x4096x8x128 ![] bcast_S_S4x4096x8x128 (mulf (Host.sqrt (constant S_ .f32 0x43000000#32)) (Host.log (constant S_ .f32 0x40000000#32))))) shapeCasts_S4x4096x8x128_S16384x1024

/-- The keys: the next 256 columns, turned. -/
def KEYS (D : FVec Ideal S16384x4608 .f32) : FVec Ideal S16384x256 .f32 :=
  shapeCast _ (WHOLE_K (shapeCast _ (extractStridedSlice S16384x256 ![0, 1024] D slices_S16384x4608_S16384x256_0_1024) shapeCasts_S16384x256_S4x4096x2x128)) shapeCasts_S4x4096x2x128_S16384x256

/-- The queries, the keys and the values side by side. -/
def SIDES (D : FVec Ideal S16384x4608 .f32) : FVec Ideal S16384x1536 .f32 :=
  concatenate S16384x1536 1 [⟨S16384x1024, QUERIES D⟩, ⟨S16384x256, KEYS D⟩, ⟨S16384x256, extractStridedSlice S16384x256 ![0, 1280] D slices_S16384x4608_S16384x256_0_1280⟩] concatenates_S16384x1024_S16384x256_S16384x256_S16384x1536_d1

/-- The reference of the window projection. -/
def REF (h : FVec Ideal S16384x2048 .bf16) (w : FVec Ideal S2x2048x4608 .f32) : FVec Ideal S16384x1536 .bf16 :=
  truncf .bf16 (SIDES (PRODUCT h w)) bitsLt_bf16_f32

/-- The turned product at a row and a column. -/
def turnedProduct (D : FVec Ideal S16384x4608 .f32) (r : Fin 16384) (j : ℕ) : EReal :=
  D (ix2 r ⟨j % 4608, Nat.mod_lt _ (by decide)⟩) * Ideal.cos (bend ⟨(r : ℕ) % 4096, Nat.mod_lt _ (by decide)⟩ (j % 128))
    + (if j % 64 < 32 then D (ix2 r ⟨(j + 32) % 4608, Nat.mod_lt _ (by decide)⟩) * -(Ideal.sin (bend ⟨(r : ℕ) % 4096, Nat.mod_lt _ (by decide)⟩ (j % 128)))
        else D (ix2 r ⟨(j + 4576) % 4608, Nat.mod_lt _ (by decide)⟩) * Ideal.sin (bend ⟨(r : ℕ) % 4096, Nat.mod_lt _ (by decide)⟩ (j % 128)))

/-- The queries at a row and a column. -/
theorem queries_at (D : FVec Ideal S16384x4608 .f32) (r : Fin 16384) (j : Fin 1024) :
    QUERIES D (ix2 r j) = Ideal.div (turnedProduct D r j) (Ideal.sqrt (Ideal.ofBits FTy.f32 1124073472#32) * Ideal.log (Ideal.ofBits FTy.f32 1073741824#32)) := by
  pointwise [QUERIES]
  rw [whole_at_queries]
  pointwise
  unfold turnedProduct
  have hj := j.isLt
  have e0 : (j : ℕ) / 128 * 128 + (j : ℕ) % 128 = (j : ℕ) := by omega
  have e1 : (j : ℕ) % 4608 = (j : ℕ) := by omega
  by_cases k : (j : ℕ) % 64 < 32
  · have f : (j : ℕ) % 128 % 64 < 32 := by omega
    have e : (j : ℕ) / 128 * 128 + ((j : ℕ) % 128 + 32) % 128 = (j + 32) % 4608 := by omega
    simp only [if_pos k, if_pos f, e, e0, e1]
  · have f : ¬ (j : ℕ) % 128 % 64 < 32 := by omega
    have e : (j : ℕ) / 128 * 128 + ((j : ℕ) % 128 + 96) % 128 = (j + 4576) % 4608 := by omega
    simp only [if_neg k, if_neg f, e, e0, e1]

/-- The keys at a row and a column. -/
theorem keys_at (D : FVec Ideal S16384x4608 .f32) (r : Fin 16384) (j : Fin 256) :
    KEYS D (ix2 r j) = turnedProduct D r (1024 + j) := by
  pointwise [KEYS]
  rw [whole_at_keys]
  pointwise
  unfold turnedProduct
  have hj := j.isLt
  have e1 : 1024 + (j : ℕ) = (1024 + (j : ℕ)) % 4608 := by omega
  have e2 : (1024 + (j : ℕ)) % 128 = (j : ℕ) % 128 := by omega
  by_cases k : (1024 + (j : ℕ)) % 64 < 32
  · have f : (j : ℕ) % 128 % 64 < 32 := by omega
    have e : 1024 + ((j : ℕ) / 128 * 128 + ((j : ℕ) % 128 + 32) % 128) = (1024 + j + 32) % 4608 := by omega
    simp only [if_pos k, if_pos f, e, ← e1, e2]
  · have f : ¬ (j : ℕ) % 128 % 64 < 32 := by omega
    have e : 1024 + ((j : ℕ) / 128 * 128 + ((j : ℕ) % 128 + 96) % 128) = (1024 + j + 4576) % 4608 := by omega
    simp only [if_neg k, if_neg f, e, ← e1, e2]

/-- The reference's term at a row and a column. -/
theorem ref_at (h : FVec Ideal S16384x2048 .bf16) (w : FVec Ideal S2x2048x4608 .f32) (r : Fin 16384) (j : Fin 1536) :
    REF h w (ix2 r j) = if (j : ℕ) < 1024 then Ideal.div (turnedProduct (PRODUCT h w) r j) (Ideal.sqrt (Ideal.ofBits FTy.f32 1124073472#32) * Ideal.log (Ideal.ofBits FTy.f32 1073741824#32))
      else if (j : ℕ) < 1280 then turnedProduct (PRODUCT h w) r j else PRODUCT h w (ix2 r ⟨(j : ℕ), by omega⟩) := by
  unfold REF
  generalize PRODUCT h w = D
  pointwise [SIDES]
  have hj := j.isLt
  by_cases a : (j : ℕ) < 1024
  · rw [dif_pos a, if_pos a, queries_at]
  by_cases b : (j : ℕ) - 1024 < 256
  · have b' : (j : ℕ) < 1280 := by omega
    have e : 1024 + ((j : ℕ) - 1024) = j := by omega
    rw [dif_neg a, if_neg a, dif_pos b, if_pos b', keys_at]
    simp only [e]
  · have b' : ¬ (j : ℕ) < 1280 := by omega
    have e : 1280 + ((j : ℕ) - 1024 - 256) = j := by omega
    rw [dif_neg a, if_neg a, dif_neg b, if_neg b']
    pointwise
    simp only [e]

/-- What the run's result is written as. -/
theorem ref_run (m : (ℓ : Loc nD τ sig) → Buf (Elt Ideal) ℓ) (c : Dev nD) : res_main_v120 (F := Ideal) m c = REF (m ((c.tc : Thread nD τ).loc main_arg0)) (m ((c.tc : Thread nD τ).loc main_arg1)) := rfl

end Cert.WinProjRefIdeal.Value
-- ==== Proof.ProjWin.lean ====
module

public import proofs.«01_k».proof.Defs
public import proofs.«01_k».proof.Proof.Gen.WinProjIdeal.Value
public import proofs.«01_k».proof.Proof.Gen.WinProjRefIdeal.Run
public import proofs.«01_k».proof.Proof.WinTables
public import proofs.«01_k».proof.Proof.DiffMath
public import proofs.«01_k».proof.Proof.WinRef
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.WinProjIdeal.Value
open Cert.WinProjIdeal Cert.WinProjIdeal.Gen

/-- The lanes of the first half of each 64: where the payloads choose the lane 32 on. -/
theorem lane_low : ∀ l : Fin 128, IntOp.cmpi CmpIPredicate.slt
            (Scalar.select
              (IntOp.andi
                (IntOp.xori
                  (IntOp.cmpi CmpIPredicate.slt
                    (IntOp.remsi ArithUnit.vector (BitVec.ofNat 32 ↑l)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 ↑l)
                    (Scalar.select (Scalar.cmpi CmpIPredicate.eq 64#32 0#32) 1#32 64#32))
                  0#32))
              (IntOp.addi
                (IntOp.remsi ArithUnit.vector (BitVec.ofNat 32 ↑l)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 ↑l)
                (Scalar.select (Scalar.cmpi CmpIPredicate.eq 64#32 0#32) 1#32 64#32)))
            32#32 = if (l : ℕ) % 64 < 32 then 1#1 else 0#1 := by decide +kernel

/-- The query's scale, as the program names it. -/
def prescale : EReal := (Named.named κ "q_prescale" 0x3E0293EE#32 : Ideal .f32)

/-- The name's value: one over the root of 128 times the logarithm of two. -/
theorem prescale_eq : prescale = (((Real.sqrt 128 * Real.log 2)⁻¹ : ℝ) : EReal) :=
  IdealRules.named_const.ideal_named_scalar _ _ _ _ rfl

/-- Dividing by the reference's constant is multiplying by the name's value. -/
theorem over_constant (x : EReal) : Ideal.div x (Ideal.sqrt (Ideal.ofBits .f32 1124073472#32) * Ideal.log (Ideal.ofBits .f32 1073741824#32)) = x * prescale := by
  have hs : Ideal.sqrt (Ideal.ofBits .f32 1124073472#32) = ((Real.sqrt 128 : ℝ) : EReal) := by
    rw [Cert.Diff.bits128]
    show (if (128 : ℝ) < 0 then (⊥ : EReal) else (Real.sqrt 128 : EReal)) = _
    rw [if_neg (by norm_num)]
  have hl : Ideal.log (Ideal.ofBits .f32 1073741824#32) = ((Real.log 2 : ℝ) : EReal) := by
    rw [Cert.Diff.bits2]
    show (if (2 : ℝ) ≤ 0 then (⊥ : EReal) else (Real.log 2 : EReal)) = _
    rw [if_neg (by norm_num)]
  have h0 : Real.sqrt 128 * Real.log 2 ≠ 0 :=
    mul_ne_zero (Real.sqrt_pos.mpr (by norm_num)).ne' (Real.log_pos (by norm_num)).ne'
  rw [hs, hl, prescale_eq, ← EReal.coe_mul]
  unfold Ideal.div
  rw [if_neg (by exact_mod_cast h0), EReal.coe_inv]

/-- A scaled head's payload at a row and a lane. -/
theorem turn_at (x c s : FVec Ideal S1024x128 .f32) (r : Fin 1024) (l : Fin 128) :
    k0_pay1 (F := Ideal) x c s (ix2 r l) = (x (ix2 r l) * c (ix2 r l)
      + (if (l : ℕ) % 64 < 32 then x (ix2 r ⟨((l : ℕ) + 128 - 96) % 128, Nat.mod_lt _ (by decide)⟩)
          else x (ix2 r ⟨((l : ℕ) + 128 - 32) % 128, Nat.mod_lt _ (by decide)⟩)) * s (ix2 r l)) * prescale := by
  pointwise [k0_pay1]
  rw [lane_low l]
  by_cases h : (l : ℕ) % 64 < 32
  · rw [if_pos h, if_pos h]; rfl
  · rw [if_neg h, if_neg h]; rfl

/-- A turned head's payload at a row and a lane. -/
theorem plain_turn_at (x c s : FVec Ideal S1024x128 .f32) (r : Fin 1024) (l : Fin 128) :
    k0_pay2 (F := Ideal) x c s (ix2 r l) = x (ix2 r l) * c (ix2 r l)
      + (if (l : ℕ) % 64 < 32 then x (ix2 r ⟨((l : ℕ) + 128 - 96) % 128, Nat.mod_lt _ (by decide)⟩)
          else x (ix2 r ⟨((l : ℕ) + 128 - 32) % 128, Nat.mod_lt _ (by decide)⟩)) * s (ix2 r l) := by
  pointwise [k0_pay2]
  rw [lane_low l]
  by_cases h : (l : ℕ) % 64 < 32
  · rw [if_pos h, if_pos h]; rfl
  · rw [if_neg h, if_neg h]; rfl

/-- The turned rows of a tile: each element times its cosine, and its partner 32 lanes on or back times its sine. -/
def turned (T : FVec Ideal S1024x768 .f32) (C S : FVec Ideal S1024x128 .f32) (y : S1024x768.Idx) : EReal :=
  T y * C (ix2 (y 0) ⟨(y 1 : ℕ) % 128, Nat.mod_lt _ (by decide)⟩)
    + (if (y 1 : ℕ) % 64 < 32 then T (ix2 (y 0) ⟨((y 1 : ℕ) + 32) % 768, Nat.mod_lt _ (by decide)⟩)
        else T (ix2 (y 0) ⟨((y 1 : ℕ) + 736) % 768, Nat.mod_lt _ (by decide)⟩)) * S (ix2 (y 0) ⟨(y 1 : ℕ) % 128, Nat.mod_lt _ (by decide)⟩)

/-- What a tile's block holds: heads up to 8 turned and scaled, up to 10 turned, the rest as they are; `j` is the tile. -/
def laid (j : ℕ) (T : FVec Ideal S1024x768 .f32) (C S : FVec Ideal S1024x128 .f32) (y : S1024x768.Idx) : EReal :=
  if 6 * j + (y 1 : ℕ) / 128 < 8 then turned T C S y * prescale else if 6 * j + (y 1 : ℕ) / 128 < 10 then turned T C S y else T y

/-- A payload over the columns `128 k …` of a tile is the turned and scaled rows' part over those columns. -/
theorem head_scaled (T : FVec Ideal S1024x768 .f32) (C S P : FVec Ideal S1024x128 .f32) (k : ℕ) (hk : k < 6)
    (hP : ∀ (r : Fin 1024) (l : Fin 128), P (ix2 r l) = T (ix2 r ⟨(128 * k + (l : ℕ)) % 768, Nat.mod_lt _ (by decide)⟩))
    (x : S1024x128.Idx) (y : S1024x768.Idx) (h0 : (y 0 : ℕ) = (x 0 : ℕ)) (h1 : (y 1 : ℕ) = 128 * k + (x 1 : ℕ)) :
    k0_pay1 (F := Ideal) P C S x = turned T C S y * prescale := by
  idx_vars x
  idx_vars y
  have h0' : y0 = x0 := Fin.ext h0
  have h1' : (y1 : ℕ) = 128 * k + (x1 : ℕ) := h1
  subst h0'
  have hx := x1.isLt
  rw [turn_at, hP, hP, hP]
  unfold turned
  have e1 : (⟨(128 * k + (x1 : ℕ)) % 768, Nat.mod_lt _ (by decide)⟩ : Fin 768) = y1 := Fin.ext (by show _ % 768 = _; omega)
  have e2 : (⟨(y1 : ℕ) % 128, Nat.mod_lt _ (by decide)⟩ : Fin 128) = x1 := Fin.ext (by show (y1 : ℕ) % 128 = _; omega)
  show _ = (T (ix2 y0 y1) * C (ix2 y0 ⟨(y1 : ℕ) % 128, _⟩) + (if (y1 : ℕ) % 64 < 32 then T (ix2 y0 ⟨((y1 : ℕ) + 32) % 768, _⟩) else T (ix2 y0 ⟨((y1 : ℕ) + 736) % 768, _⟩)) * S (ix2 y0 ⟨(y1 : ℕ) % 128, _⟩)) * prescale
  rw [e1, e2]
  by_cases h : (x1 : ℕ) % 64 < 32
  · rw [if_pos h, if_pos (show (y1 : ℕ) % 64 < 32 by omega)]
    refine congrArg (fun u => (_ + T (ix2 y0 u) * _) * prescale) (Fin.ext ?_)
    show (128 * k + ((x1 : ℕ) + 128 - 96) % 128) % 768 = ((y1 : ℕ) + 32) % 768
    omega
  · rw [if_neg h, if_neg (show ¬ (y1 : ℕ) % 64 < 32 by omega)]
    refine congrArg (fun u => (_ + T (ix2 y0 u) * _) * prescale) (Fin.ext ?_)
    show (128 * k + ((x1 : ℕ) + 128 - 32) % 128) % 768 = ((y1 : ℕ) + 736) % 768
    omega

/-- A payload over the columns `128 k …` of a tile is the turned rows' part over those columns. -/
theorem head_turned (T : FVec Ideal S1024x768 .f32) (C S P : FVec Ideal S1024x128 .f32) (k : ℕ) (hk : k < 6)
    (hP : ∀ (r : Fin 1024) (l : Fin 128), P (ix2 r l) = T (ix2 r ⟨(128 * k + (l : ℕ)) % 768, Nat.mod_lt _ (by decide)⟩))
    (x : S1024x128.Idx) (y : S1024x768.Idx) (h0 : (y 0 : ℕ) = (x 0 : ℕ)) (h1 : (y 1 : ℕ) = 128 * k + (x 1 : ℕ)) :
    k0_pay2 (F := Ideal) P C S x = turned T C S y := by
  idx_vars x
  idx_vars y
  have h0' : y0 = x0 := Fin.ext h0
  have h1' : (y1 : ℕ) = 128 * k + (x1 : ℕ) := h1
  subst h0'
  have hx := x1.isLt
  rw [plain_turn_at, hP, hP, hP]
  unfold turned
  have e1 : (⟨(128 * k + (x1 : ℕ)) % 768, Nat.mod_lt _ (by decide)⟩ : Fin 768) = y1 := Fin.ext (by show _ % 768 = _; omega)
  have e2 : (⟨(y1 : ℕ) % 128, Nat.mod_lt _ (by decide)⟩ : Fin 128) = x1 := Fin.ext (by show (y1 : ℕ) % 128 = _; omega)
  show _ = T (ix2 y0 y1) * C (ix2 y0 ⟨(y1 : ℕ) % 128, _⟩) + (if (y1 : ℕ) % 64 < 32 then T (ix2 y0 ⟨((y1 : ℕ) + 32) % 768, _⟩) else T (ix2 y0 ⟨((y1 : ℕ) + 736) % 768, _⟩)) * S (ix2 y0 ⟨(y1 : ℕ) % 128, _⟩)
  rw [e1, e2]
  by_cases h : (x1 : ℕ) % 64 < 32
  · rw [if_pos h, if_pos (show (y1 : ℕ) % 64 < 32 by omega)]
    refine congrArg (fun u => _ + T (ix2 y0 u) * _) (Fin.ext ?_)
    show (128 * k + ((x1 : ℕ) + 128 - 96) % 128) % 768 = ((y1 : ℕ) + 32) % 768
    omega
  · rw [if_neg h, if_neg (show ¬ (y1 : ℕ) % 64 < 32 by omega)]
    refine congrArg (fun u => _ + T (ix2 y0 u) * _) (Fin.ext ?_)
    show (128 * k + ((x1 : ℕ) + 128 - 32) % 128) % 768 = ((y1 : ℕ) + 736) % 768
    omega

/-- A payload that turns nothing is the tile's part over those columns. -/
theorem head_plain (T : FVec Ideal S1024x768 .f32) (P : FVec Ideal S1024x128 .f32) (k : ℕ) (hk : k < 6)
    (hP : ∀ (r : Fin 1024) (l : Fin 128), P (ix2 r l) = T (ix2 r ⟨(128 * k + (l : ℕ)) % 768, Nat.mod_lt _ (by decide)⟩))
    (x : S1024x128.Idx) (y : S1024x768.Idx) (h0 : (y 0 : ℕ) = (x 0 : ℕ)) (h1 : (y 1 : ℕ) = 128 * k + (x 1 : ℕ)) :
    k0_pay3 (F := Ideal) P x = T y := by
  idx_vars x
  idx_vars y
  have h0' : y0 = x0 := Fin.ext h0
  have h1' : (y1 : ℕ) = 128 * k + (x1 : ℕ) := h1
  subst h0'
  have hx := x1.isLt
  pointwise [k0_pay3]
  rw [hP]
  exact congrArg (fun u => T (ix2 y0 u)) (Fin.ext (by show _ % 768 = (y1 : ℕ); omega))

/-- The scaled payload is the block's part over its columns. -/
theorem laid_scaled (T : FVec Ideal S1024x768 .f32) (C S P : FVec Ideal S1024x128 .f32) (j k : ℕ) (hk : k < 6) (hj : 6 * j + k < 8)
    (hP : ∀ (r : Fin 1024) (l : Fin 128), P (ix2 r l) = T (ix2 r ⟨(128 * k + (l : ℕ)) % 768, Nat.mod_lt _ (by decide)⟩))
    (x : S1024x128.Idx) (y : S1024x768.Idx) (h0 : (y 0 : ℕ) = (x 0 : ℕ)) (h1 : (y 1 : ℕ) = 128 * k + (x 1 : ℕ)) :
    k0_pay1 (F := Ideal) P C S x = laid j T C S y := by
  have hx : (x 1 : ℕ) < 128 := (x 1).isLt
  have hq : (y 1 : ℕ) / 128 = k := by omega
  unfold laid
  rw [hq, if_pos hj]
  exact head_scaled T C S P k hk hP x y h0 h1

/-- The turned payload is the block's part over its columns. -/
theorem laid_turned (T : FVec Ideal S1024x768 .f32) (C S P : FVec Ideal S1024x128 .f32) (j k : ℕ) (hk : k < 6) (hj : 8 ≤ 6 * j + k) (hj2 : 6 * j + k < 10)
    (hP : ∀ (r : Fin 1024) (l : Fin 128), P (ix2 r l) = T (ix2 r ⟨(128 * k + (l : ℕ)) % 768, Nat.mod_lt _ (by decide)⟩))
    (x : S1024x128.Idx) (y : S1024x768.Idx) (h0 : (y 0 : ℕ) = (x 0 : ℕ)) (h1 : (y 1 : ℕ) = 128 * k + (x 1 : ℕ)) :
    k0_pay2 (F := Ideal) P C S x = laid j T C S y := by
  have hx : (x 1 : ℕ) < 128 := (x 1).isLt
  have hq : (y 1 : ℕ) / 128 = k := by omega
  unfold laid
  rw [hq, if_neg (by omega), if_pos hj2]
  exact head_turned T C S P k hk hP x y h0 h1

/-- The plain payload is the block's part over its columns. -/
theorem laid_plain (T : FVec Ideal S1024x768 .f32) (C S P : FVec Ideal S1024x128 .f32) (j k : ℕ) (hk : k < 6) (hj : 10 ≤ 6 * j + k)
    (hP : ∀ (r : Fin 1024) (l : Fin 128), P (ix2 r l) = T (ix2 r ⟨(128 * k + (l : ℕ)) % 768, Nat.mod_lt _ (by decide)⟩))
    (x : S1024x128.Idx) (y : S1024x768.Idx) (h0 : (y 0 : ℕ) = (x 0 : ℕ)) (h1 : (y 1 : ℕ) = 128 * k + (x 1 : ℕ)) :
    k0_pay3 (F := Ideal) P x = laid j T C S y := by
  have hx : (x 1 : ℕ) < 128 := (x 1).isLt
  have hq : (y 1 : ℕ) / 128 = k := by omega
  unfold laid
  rw [hq, if_neg (by omega), if_neg (by omega)]
  exact head_plain T P k hk hP x y h0 h1

variable (m : (ℓ : Loc nD τ sig) → Buf (Elt Ideal) ℓ)

/-- Which block each window shows at a grid point. -/
theorem idx : ∀ t : Fin cfg0.N, win0_0.index t = ![t.val % 16, 0] ∧ win0_1.index t = ![0, 0, t.val / 16]
    ∧ win0_2.index t = ![t.val % 4, 0] ∧ win0_3.index t = ![t.val % 4, 0] ∧ win0_4.index t = ![t.val % 16, t.val / 16] :=
  (by decide +kernel : ∀ t : Fin grid0.N, _)

/-- Points of the same column tile show the same block of the matrix. -/
theorem same_matrix (c : Dev nD) (t t' : Fin cfg0.N) (h : t.val / 16 = t'.val / 16) : iblk m c 1 t = iblk m c 1 t' := by
  funext y
  blk_point [iblk, V, idx t, idx t']

/-- The scratch holds, after every point, the column tile of the matrix that the point shows: the first
    point of a tile writes it, the others keep it. -/
theorem kept (c : Dev nD) : ∀ (n : ℕ) (h : n < cfg0.N), (outsAt0 m c n h).2 = k0_pay4 (F := Ideal) (iblk m c 1 ⟨n, h⟩) := by
  intro n
  induction n with
  | zero =>
    intro h
    have l16 : (0 : ℕ) < 16 := by decide
    have g16 : ¬ 16 ≤ (0 : ℕ) := by decide
    rw [outsAt0_A m c ⟨0, h⟩ (Nat.zero_mod _) l16 g16 l16 g16 l16 g16 l16 g16]
    frame_out
  | succ n ih =>
    intro h
    by_cases h0 : (n + 1) % 16 = 0
    · by_cases h7 : n + 1 < 16
      · exact absurd h0 (by omega)
      · have h8 : 16 ≤ n + 1 := Nat.le_of_not_lt h7
        rw [outsAt0_C m c ⟨n + 1, h⟩ h0 h7 h8 h7 h8 h7 h8 h7 h8]
        frame_out
    · have e := (ih (Nat.lt_of_succ_lt h)).trans (congrArg (k0_pay4 (F := Ideal)) (same_matrix m c ⟨n, Nat.lt_of_succ_lt h⟩ ⟨n + 1, h⟩ (show n / 16 = (n + 1) / 16 by omega)))
      by_cases h7 : n + 1 < 16
      · have h8 : ¬ 16 ≤ n + 1 := Nat.not_le_of_lt h7
        rw [outsAt0_B m c ⟨n + 1, h⟩ h0 h7 h8 h7 h8 h7 h8 h7 h8]
        exact e
      · have h8 : 16 ≤ n + 1 := Nat.le_of_not_lt h7
        rw [outsAt0_D m c ⟨n + 1, h⟩ h0 h7 h8 h7 h8 h7 h8 h7 h8]
        exact e

/-- What the first point of the first tile leaves in the result's buffer. -/
theorem tile_a (c : Dev nD) (t : Fin cfg0.N) (h0 : t.val % 16 = 0) (h7 : t.val < 16) (y : S1024x768.Idx) :
    (outsAt0 m c t.val t.isLt).1 y = laid 0 (k0_pay5 (F := Ideal) (iblk m c 0 t) (k0_pay4 (F := Ideal) (iblk m c 1 t))) (iblk m c 2 t) (iblk m c 3 t) y := by
  have h8 : ¬ 16 ≤ t.val := by omega
  rw [outsAt0_A m c t h0 h7 h8 h7 h8 h7 h8 h7 h8]
  frame_out
  try simp only [read_unread_whole]
  generalize k0_pay4 (iblk m c 1 t) = W
  generalize iblk m c 0 t = X
  generalize iblk m c 2 t = C
  generalize iblk m c 3 t = S
  canon_tiles x h
  case piece0 => exact laid_scaled (k0_pay5 (F := Ideal) X W) C S (k0_pay26 (F := Ideal) (k0_pay5 (F := Ideal) X W)) 0 5 (by decide) (by decide) (fun r l => by pointwise [k0_pay26]; blk_ext) x y h0 (h1.trans (by omega))
  case piece1 => exact laid_scaled (k0_pay5 (F := Ideal) X W) C S (k0_pay22 (F := Ideal) (k0_pay5 (F := Ideal) X W)) 0 4 (by decide) (by decide) (fun r l => by pointwise [k0_pay22]; blk_ext) x y h0 (h1.trans (by omega))
  case piece2 => exact laid_scaled (k0_pay5 (F := Ideal) X W) C S (k0_pay18 (F := Ideal) (k0_pay5 (F := Ideal) X W)) 0 3 (by decide) (by decide) (fun r l => by pointwise [k0_pay18]; blk_ext) x y h0 (h1.trans (by omega))
  case piece3 => exact laid_scaled (k0_pay5 (F := Ideal) X W) C S (k0_pay14 (F := Ideal) (k0_pay5 (F := Ideal) X W)) 0 2 (by decide) (by decide) (fun r l => by pointwise [k0_pay14]; blk_ext) x y h0 (h1.trans (by omega))
  case piece4 => exact laid_scaled (k0_pay5 (F := Ideal) X W) C S (k0_pay10 (F := Ideal) X W) 0 1 (by decide) (by decide) (fun r l => by pointwise [k0_pay10]; blk_ext) x y h0 (h1.trans (by omega))
  case piece5 => exact laid_scaled (k0_pay5 (F := Ideal) X W) C S (k0_pay6 (F := Ideal) X W) 0 0 (by decide) (by decide) (fun r l => by pointwise [k0_pay6]; blk_ext) x y h0 (h1.trans (by omega))

/-- What a later point of the first tile leaves in the result's buffer. -/
theorem tile_b (c : Dev nD) (t : Fin cfg0.N) (h0 : ¬ t.val % 16 = 0) (h7 : t.val < 16) (y : S1024x768.Idx) :
    (outsAt0 m c t.val t.isLt).1 y = laid 0 (k0_pay5 (F := Ideal) (iblk m c 0 t) (k0_pay4 (F := Ideal) (iblk m c 1 t))) (iblk m c 2 t) (iblk m c 3 t) y := by
  have h8 : ¬ 16 ≤ t.val := by omega
  have hp : 0 < t.val := Nat.pos_of_ne_zero fun h => h0 (by rw [h])
  have hk := kept m c (t.val - 1) (Nat.lt_of_le_of_lt (Nat.sub_le _ _) t.isLt)
  rw [same_matrix m c ⟨t.val - 1, Nat.lt_of_le_of_lt (Nat.sub_le _ _) t.isLt⟩ t (show (t.val - 1) / 16 = t.val / 16 by omega)] at hk
  rw [outsAt0_B m c t h0 h7 h8 h7 h8 h7 h8 h7 h8, hk]
  frame_out
  try simp only [read_unread_whole]
  generalize k0_pay4 (iblk m c 1 t) = W
  generalize iblk m c 0 t = X
  generalize iblk m c 2 t = C
  generalize iblk m c 3 t = S
  canon_tiles x h
  case piece0 => exact laid_scaled (k0_pay5 (F := Ideal) X W) C S (k0_pay26 (F := Ideal) (k0_pay5 (F := Ideal) X W)) 0 5 (by decide) (by decide) (fun r l => by pointwise [k0_pay26]; blk_ext) x y h0 (h1.trans (by omega))
  case piece1 => exact laid_scaled (k0_pay5 (F := Ideal) X W) C S (k0_pay22 (F := Ideal) (k0_pay5 (F := Ideal) X W)) 0 4 (by decide) (by decide) (fun r l => by pointwise [k0_pay22]; blk_ext) x y h0 (h1.trans (by omega))
  case piece2 => exact laid_scaled (k0_pay5 (F := Ideal) X W) C S (k0_pay18 (F := Ideal) (k0_pay5 (F := Ideal) X W)) 0 3 (by decide) (by decide) (fun r l => by pointwise [k0_pay18]; blk_ext) x y h0 (h1.trans (by omega))
  case piece3 => exact laid_scaled (k0_pay5 (F := Ideal) X W) C S (k0_pay14 (F := Ideal) (k0_pay5 (F := Ideal) X W)) 0 2 (by decide) (by decide) (fun r l => by pointwise [k0_pay14]; blk_ext) x y h0 (h1.trans (by omega))
  case piece4 => exact laid_scaled (k0_pay5 (F := Ideal) X W) C S (k0_pay10 (F := Ideal) X W) 0 1 (by decide) (by decide) (fun r l => by pointwise [k0_pay10]; blk_ext) x y h0 (h1.trans (by omega))
  case piece5 => exact laid_scaled (k0_pay5 (F := Ideal) X W) C S (k0_pay6 (F := Ideal) X W) 0 0 (by decide) (by decide) (fun r l => by pointwise [k0_pay6]; blk_ext) x y h0 (h1.trans (by omega))

/-- What the first point of the second tile leaves in the result's buffer. -/
theorem tile_c (c : Dev nD) (t : Fin cfg0.N) (h0 : t.val % 16 = 0) (h7 : ¬ t.val < 16) (y : S1024x768.Idx) :
    (outsAt0 m c t.val t.isLt).1 y = laid 1 (k0_pay5 (F := Ideal) (iblk m c 0 t) (k0_pay4 (F := Ideal) (iblk m c 1 t))) (iblk m c 2 t) (iblk m c 3 t) y := by
  have h8 : 16 ≤ t.val := by omega
  rw [outsAt0_C m c t h0 h7 h8 h7 h8 h7 h8 h7 h8]
  frame_out
  try simp only [read_unread_whole]
  generalize k0_pay4 (iblk m c 1 t) = W
  generalize iblk m c 0 t = X
  generalize iblk m c 2 t = C
  generalize iblk m c 3 t = S
  canon_tiles x h
  case piece0 => exact laid_plain (k0_pay5 (F := Ideal) X W) C S (k0_pay26 (F := Ideal) (k0_pay5 (F := Ideal) X W)) 1 5 (by decide) (by decide) (fun r l => by pointwise [k0_pay26]; blk_ext) x y h0 (h1.trans (by omega))
  case piece1 => exact laid_plain (k0_pay5 (F := Ideal) X W) C S (k0_pay22 (F := Ideal) (k0_pay5 (F := Ideal) X W)) 1 4 (by decide) (by decide) (fun r l => by pointwise [k0_pay22]; blk_ext) x y h0 (h1.trans (by omega))
  case piece2 => exact laid_turned (k0_pay5 (F := Ideal) X W) C S (k0_pay18 (F := Ideal) (k0_pay5 (F := Ideal) X W)) 1 3 (by decide) (by decide) (by decide) (fun r l => by pointwise [k0_pay18]; blk_ext) x y h0 (h1.trans (by omega))
  case piece3 => exact laid_turned (k0_pay5 (F := Ideal) X W) C S (k0_pay14 (F := Ideal) (k0_pay5 (F := Ideal) X W)) 1 2 (by decide) (by decide) (by decide) (fun r l => by pointwise [k0_pay14]; blk_ext) x y h0 (h1.trans (by omega))
  case piece4 => exact laid_scaled (k0_pay5 (F := Ideal) X W) C S (k0_pay10 (F := Ideal) X W) 1 1 (by decide) (by decide) (fun r l => by pointwise [k0_pay10]; blk_ext) x y h0 (h1.trans (by omega))
  case piece5 => exact laid_scaled (k0_pay5 (F := Ideal) X W) C S (k0_pay6 (F := Ideal) X W) 1 0 (by decide) (by decide) (fun r l => by pointwise [k0_pay6]; blk_ext) x y h0 (h1.trans (by omega))

/-- What a later point of the second tile leaves in the result's buffer. -/
theorem tile_d (c : Dev nD) (t : Fin cfg0.N) (h0 : ¬ t.val % 16 = 0) (h7 : ¬ t.val < 16) (y : S1024x768.Idx) :
    (outsAt0 m c t.val t.isLt).1 y = laid 1 (k0_pay5 (F := Ideal) (iblk m c 0 t) (k0_pay4 (F := Ideal) (iblk m c 1 t))) (iblk m c 2 t) (iblk m c 3 t) y := by
  have h8 : 16 ≤ t.val := by omega
  have hp : 0 < t.val := Nat.pos_of_ne_zero fun h => h0 (by rw [h])
  have hk := kept m c (t.val - 1) (Nat.lt_of_le_of_lt (Nat.sub_le _ _) t.isLt)
  rw [same_matrix m c ⟨t.val - 1, Nat.lt_of_le_of_lt (Nat.sub_le _ _) t.isLt⟩ t (show (t.val - 1) / 16 = t.val / 16 by omega)] at hk
  rw [outsAt0_D m c t h0 h7 h8 h7 h8 h7 h8 h7 h8, hk]
  frame_out
  try simp only [read_unread_whole]
  generalize k0_pay4 (iblk m c 1 t) = W
  generalize iblk m c 0 t = X
  generalize iblk m c 2 t = C
  generalize iblk m c 3 t = S
  canon_tiles x h
  case piece0 => exact laid_plain (k0_pay5 (F := Ideal) X W) C S (k0_pay26 (F := Ideal) (k0_pay5 (F := Ideal) X W)) 1 5 (by decide) (by decide) (fun r l => by pointwise [k0_pay26]; blk_ext) x y h0 (h1.trans (by omega))
  case piece1 => exact laid_plain (k0_pay5 (F := Ideal) X W) C S (k0_pay22 (F := Ideal) (k0_pay5 (F := Ideal) X W)) 1 4 (by decide) (by decide) (fun r l => by pointwise [k0_pay22]; blk_ext) x y h0 (h1.trans (by omega))
  case piece2 => exact laid_turned (k0_pay5 (F := Ideal) X W) C S (k0_pay18 (F := Ideal) (k0_pay5 (F := Ideal) X W)) 1 3 (by decide) (by decide) (by decide) (fun r l => by pointwise [k0_pay18]; blk_ext) x y h0 (h1.trans (by omega))
  case piece3 => exact laid_turned (k0_pay5 (F := Ideal) X W) C S (k0_pay14 (F := Ideal) (k0_pay5 (F := Ideal) X W)) 1 2 (by decide) (by decide) (by decide) (fun r l => by pointwise [k0_pay14]; blk_ext) x y h0 (h1.trans (by omega))
  case piece4 => exact laid_scaled (k0_pay5 (F := Ideal) X W) C S (k0_pay10 (F := Ideal) X W) 1 1 (by decide) (by decide) (fun r l => by pointwise [k0_pay10]; blk_ext) x y h0 (h1.trans (by omega))
  case piece5 => exact laid_scaled (k0_pay5 (F := Ideal) X W) C S (k0_pay6 (F := Ideal) X W) 1 0 (by decide) (by decide) (fun r l => by pointwise [k0_pay6]; blk_ext) x y h0 (h1.trans (by omega))

/-- What a point leaves in the result's buffer. -/
theorem tile (c : Dev nD) (t : Fin cfg0.N) (y : S1024x768.Idx) :
    (outsAt0 m c t.val t.isLt).1 y = laid (t.val / 16) (k0_pay5 (F := Ideal) (iblk m c 0 t) (k0_pay4 (F := Ideal) (iblk m c 1 t))) (iblk m c 2 t) (iblk m c 3 t) y := by
  have ht : t.val < 32 := t.isLt
  by_cases h7 : t.val < 16
  · rw [show t.val / 16 = 0 by omega]
    by_cases h0 : t.val % 16 = 0
    · exact tile_a m c t h0 h7 y
    · exact tile_b m c t h0 h7 y
  · rw [show t.val / 16 = 1 by omega]
    by_cases h0 : t.val % 16 = 0
    · exact tile_c m c t h0 h7 y
    · exact tile_d m c t h0 h7 y

/-- The angle of a row number at a lane: the rows' for the lanes below 64, the columns' above. -/
def angle (p : Fin 4096) (l : ℕ) : EReal :=
  if l < 64 then ROWS (ix2 p ⟨l % 32, Nat.mod_lt _ (by decide)⟩) else COLUMNS (ix2 p ⟨l % 32, Nat.mod_lt _ (by decide)⟩)

/-- The cosine at a row number and a lane. -/
theorem cosine_at (c : Dev nD) (p : Fin 4096) (l : Fin 128) : V m c main_v29 (ix2 p l) = Ideal.cos (angle p l) := by
  rw [cosines]
  generalize hR : ROWS = R
  generalize hQ : COLUMNS = Q
  unfold angle
  rw [hR, hQ]
  pointwise
  by_cases a : (l : ℕ) < 32
  · have e : (l : ℕ) % 32 = l := by omega
    have g : (l : ℕ) < 64 := by omega
    have f : (l : ℕ) % 64 < 32 := by omega
    simp only [dif_pos a, if_pos g, e]
  by_cases b : (l : ℕ) - 32 < 32
  · have e : (l : ℕ) % 32 = l - 32 := by omega
    have g : (l : ℕ) < 64 := by omega
    have f : ¬ (l : ℕ) % 64 < 32 := by omega
    simp only [dif_neg a, dif_pos b, if_pos g, e]
  by_cases d : (l : ℕ) - 32 - 32 < 32
  · have e : (l : ℕ) % 32 = l - 32 - 32 := by omega
    have g : ¬ (l : ℕ) < 64 := by omega
    have f : (l : ℕ) % 64 < 32 := by omega
    simp only [dif_neg a, dif_neg b, dif_pos d, if_neg g, e]
  · have e : (l : ℕ) % 32 = l - 32 - 32 - 32 := by omega
    have g : ¬ (l : ℕ) < 64 := by omega
    have f : ¬ (l : ℕ) % 64 < 32 := by omega
    simp only [dif_neg a, dif_neg b, dif_neg d, if_neg g, e]

/-- The sine at a row number and a lane, its sign turned in the first half of each 64 lanes. -/
theorem sine_at (c : Dev nD) (p : Fin 4096) (l : Fin 128) : V m c main_v36 (ix2 p l)
    = if (l : ℕ) % 64 < 32 then -(Ideal.sin (angle p l)) else Ideal.sin (angle p l) := by
  rw [sines]
  generalize hR : ROWS = R
  generalize hQ : COLUMNS = Q
  unfold angle
  rw [hR, hQ]
  pointwise
  by_cases a : (l : ℕ) < 32
  · have e : (l : ℕ) % 32 = l := by omega
    have g : (l : ℕ) < 64 := by omega
    have f : (l : ℕ) % 64 < 32 := by omega
    simp only [dif_pos a, if_pos g, if_pos f, e]
  by_cases b : (l : ℕ) - 32 < 32
  · have e : (l : ℕ) % 32 = l - 32 := by omega
    have g : (l : ℕ) < 64 := by omega
    have f : ¬ (l : ℕ) % 64 < 32 := by omega
    simp only [dif_neg a, dif_pos b, if_pos g, if_neg f, e]
  by_cases d : (l : ℕ) - 32 - 32 < 32
  · have e : (l : ℕ) % 32 = l - 32 - 32 := by omega
    have g : ¬ (l : ℕ) < 64 := by omega
    have f : (l : ℕ) % 64 < 32 := by omega
    simp only [dif_neg a, dif_neg b, dif_pos d, if_neg g, if_pos f, e]
  · have e : (l : ℕ) % 32 = l - 32 - 32 - 32 := by omega
    have g : ¬ (l : ℕ) < 64 := by omega
    have f : ¬ (l : ℕ) % 64 < 32 := by omega
    simp only [dif_neg a, dif_neg b, dif_neg d, if_neg g, if_neg f, e]

/-- The kernel's angles are the reference's. -/
theorem angle_eq (p : Fin 4096) (l : ℕ) : angle p l = Cert.WinProjRefIdeal.Value.bend p l := by
  have hr : ∀ k : Fin 32, ROWS (ix2 p k) = Cert.WinProjRefIdeal.Value.TURNS Cert.WinProjRefIdeal.Value.QUOTIENTS (ix3 p 0 k) := by
    intro k
    rw [Cert.WinProjRefIdeal.Value.turns_at]
    pointwise [ROWS, ANGLES]
    rfl
  have hc : ∀ k : Fin 32, COLUMNS (ix2 p k) = Cert.WinProjRefIdeal.Value.TURNS Cert.WinProjRefIdeal.Value.REMAINDERS (ix3 p 0 k) := by
    intro k
    rw [Cert.WinProjRefIdeal.Value.turns_at]
    pointwise [COLUMNS, ANGLES]
    rfl
  unfold angle Cert.WinProjRefIdeal.Value.bend
  rw [hr, hc]

/-- The cosines' block at a point. -/
theorem cosine_read (c : Dev nD) (t : Fin cfg0.N) (r : Fin 1024) (l : Fin 128) (p : Fin 4096) (hp : (p : ℕ) = t.val % 4 * 1024 + r) :
    iblk m c 2 t (ix2 r l) = Ideal.cos (Cert.WinProjRefIdeal.Value.bend p l) := by
  rw [← angle_eq, ← cosine_at m c p l]
  blk_point [iblk, idx t]

/-- The sines' block at a point. -/
theorem sine_read (c : Dev nD) (t : Fin cfg0.N) (r : Fin 1024) (l : Fin 128) (p : Fin 4096) (hp : (p : ℕ) = t.val % 4 * 1024 + r) :
    iblk m c 3 t (ix2 r l) = if (l : ℕ) % 64 < 32 then -(Ideal.sin (Cert.WinProjRefIdeal.Value.bend p l)) else Ideal.sin (Cert.WinProjRefIdeal.Value.bend p l) := by
  rw [← angle_eq, ← sine_at m c p l]
  blk_point [iblk, idx t]

/-- A tile of the product, element by element. -/
theorem product_read (c : Dev nD) (t : Fin cfg0.N) (a : Fin 1024) (b : Fin 768) (r : Fin 16384) (j : Fin 4608)
    (hr : (r : ℕ) = t.val % 16 * 1024 + a) (hj : (j : ℕ) = t.val / 16 * 768 + b) :
    k0_pay5 (F := Ideal) (iblk m c 0 t) (k0_pay4 (F := Ideal) (iblk m c 1 t)) (ix2 a b) = Cert.WinProjRefIdeal.Value.PRODUCT (m ((c : Thread nD τ).loc main_arg0)) (m ((c : Thread nD τ).loc main_arg1)) (ix2 r j) := by
  pointwise [k0_pay5, k0_pay4, Cert.WinProjRefIdeal.Value.PRODUCT]
  blk_point [iblk, V, idx t]

/-- A tile of the turned product, element by element. -/
theorem turned_read (c : Dev nD) (t : Fin cfg0.N) (a : Fin 1024) (b : Fin 768) (r : Fin 16384) (j : ℕ)
    (hr : (r : ℕ) = t.val % 16 * 1024 + a) (hj : j = t.val / 16 * 768 + b) :
    turned (k0_pay5 (F := Ideal) (iblk m c 0 t) (k0_pay4 (F := Ideal) (iblk m c 1 t))) (iblk m c 2 t) (iblk m c 3 t) (ix2 a b) = Cert.WinProjRefIdeal.Value.turnedProduct (Cert.WinProjRefIdeal.Value.PRODUCT (m ((c : Thread nD τ).loc main_arg0)) (m ((c : Thread nD τ).loc main_arg1))) r j := by
  have ht : t.val < 32 := t.isLt
  have ha := a.isLt
  have hb := b.isLt
  have hp : (r : ℕ) % 4096 = t.val % 4 * 1024 + a := by omega
  have hl : (b : ℕ) % 128 = j % 128 := by omega
  have hs : (b : ℕ) % 64 = j % 64 := by omega
  have hj' : j % 128 % 64 = j % 64 := by omega
  unfold turned Cert.WinProjRefIdeal.Value.turnedProduct
  show k0_pay5 (F := Ideal) (iblk m c 0 t) (k0_pay4 (F := Ideal) (iblk m c 1 t)) (ix2 a b) * iblk m c 2 t (ix2 a ⟨(b : ℕ) % 128, _⟩)
    + (if (b : ℕ) % 64 < 32 then k0_pay5 (F := Ideal) (iblk m c 0 t) (k0_pay4 (F := Ideal) (iblk m c 1 t)) (ix2 a ⟨((b : ℕ) + 32) % 768, _⟩)
        else k0_pay5 (F := Ideal) (iblk m c 0 t) (k0_pay4 (F := Ideal) (iblk m c 1 t)) (ix2 a ⟨((b : ℕ) + 736) % 768, _⟩)) * iblk m c 3 t (ix2 a ⟨(b : ℕ) % 128, _⟩) = _
  rw [product_read m c t a b r ⟨j % 4608, Nat.mod_lt _ (by decide)⟩ hr (by show j % 4608 = _; omega), cosine_read m c t a _ ⟨(r : ℕ) % 4096, Nat.mod_lt _ (by decide)⟩ hp, sine_read m c t a _ ⟨(r : ℕ) % 4096, Nat.mod_lt _ (by decide)⟩ hp]
  simp only [hl, hs, hj']
  by_cases k : j % 64 < 32
  · rw [if_pos k, if_pos k, if_pos k]
    rw [product_read m c t a _ r ⟨(j + 32) % 4608, Nat.mod_lt _ (by decide)⟩ hr (by show (j + 32) % 4608 = t.val / 16 * 768 + ((b : ℕ) + 32) % 768; omega)]
  · rw [if_neg k, if_neg k, if_neg k]
    rw [product_read m c t a _ r ⟨(j + 4576) % 4608, Nat.mod_lt _ (by decide)⟩ hr (by show (j + 4576) % 4608 = t.val / 16 * 768 + ((b : ℕ) + 736) % 768; omega)]

/-- A tile's block, element by element: the reference's. -/
theorem laid_read (c : Dev nD) (t : Fin cfg0.N) (a : Fin 1024) (b : Fin 768) (r : Fin 16384) (j : Fin 1536)
    (hr : (r : ℕ) = t.val % 16 * 1024 + a) (hj : (j : ℕ) = t.val / 16 * 768 + b) :
    laid (t.val / 16) (k0_pay5 (F := Ideal) (iblk m c 0 t) (k0_pay4 (F := Ideal) (iblk m c 1 t))) (iblk m c 2 t) (iblk m c 3 t) (ix2 a b)
      = Cert.WinProjRefIdeal.Value.REF (m ((c : Thread nD τ).loc main_arg0)) (m ((c : Thread nD τ).loc main_arg1)) (ix2 r j) := by
  rw [Cert.WinProjRefIdeal.Value.ref_at]
  have hb := b.isLt
  unfold laid
  show (if 6 * (t.val / 16) + (b : ℕ) / 128 < 8 then _ else if 6 * (t.val / 16) + (b : ℕ) / 128 < 10 then _ else _) = _
  rw [turned_read m c t a b r j hr hj]
  by_cases u : (j : ℕ) < 1024
  · rw [if_pos u, if_pos (by omega), over_constant]
  by_cases v : (j : ℕ) < 1280
  · rw [if_neg u, if_pos v, if_neg (by omega), if_pos (by omega)]
  · rw [if_neg u, if_neg v, if_neg (by omega), if_neg (by omega)]
    exact product_read m c t a b r _ hr hj

/-- The array the call leaves is the reference's term over its arguments. -/
theorem final (c : Dev nD) : (dats m 0 c).arrAt 4 (cfgs 0).N
    = Cert.WinProjRefIdeal.Value.REF (m ((c : Thread nD τ).loc main_arg0)) (m ((c : Thread nD τ).loc main_arg1)) := by
  refine (dats m 0 c).arrAt_eq_of_covers 4 _ (by decide +kernel) fun t _ y => ?_
  blk_simp
  rw [after0_4]
  refine (tile m c t y).trans ?_
  have ht : t.val < 32 := t.isLt
  idx_vars y
  have hy0 := y0.isLt
  have hy1 := y1.isLt
  rw [laid_read m c t y0 y1 ⟨t.val % 16 * 1024 + y0, by omega⟩ ⟨t.val / 16 * 768 + y1, by omega⟩ rfl rfl]
  generalize Cert.WinProjRefIdeal.Value.REF (m ((c : Thread nD τ).loc main_arg0)) (m ((c : Thread nD τ).loc main_arg1)) = R
  blk_point [idx t]

end Cert.WinProjIdeal.Value

namespace Cert.Proof

/-- The window attention's projection: the kernel's call and the reference run and end with the same array. -/
theorem algebraic_win_proj : algebraic_WinProjIdeal_WinProjRefIdeal (hWinProjIdeal := Cert.WinProjIdeal.Gen.facts) (hWinProjRefIdeal := Cert.WinProjRefIdeal.Gen.facts) := by
  pair_intro
  · run_from Cert.WinProjIdeal.Gen.run_main m g
  · run_from Cert.WinProjRefIdeal.Value.run m' g'
    rw [Cert.WinProjRefIdeal.Value.ref_run]
    rw [(hagree c).1, (hagree c).2]
    exact (Cert.WinProjIdeal.Value.final m c).symm

/-- The named constant keeps the program: its value is the name's, to the bits' precision. -/
theorem preserves_win_proj : preserves_WinProj_WinProjIdeal :=
  IdealRules.named_const.statement Cert.WinProjIdeal.κ "q_prescale" .f32 0x3E0293EE#32 ((((Real.sqrt 128) * (Real.log 2))⁻¹ : ℝ) : EReal) rfl

end Cert.Proof
-- ==== Proof.CtxRows.lean ====
module

public import proofs.«01_k».proof.Proof.DiffMath

@[expose] public section

set_option maxRecDepth 16384
noncomputable section
open Idealize.ShloMosaic
namespace Cert.CtxRows
open Cert.Diff

/-! ## One row of a softmax over 256 keys, with a sink and without -/

/-- The scores' factor, 128 to the power of minus a half as a 32-bit number. -/
def scale : EReal := Ideal.ofBits .f32 0x3DB504F3#32

/-- The factor is real. -/
theorem scale_real : ∃ a : ℝ, scale = (a : EReal) := by
  unfold scale
  simp only [Ideal.ofBits, Ideal.ieee]
  exact ⟨_, rfl⟩

/-- A query's scores: its product with each key, times the factor. -/
def scores (q : Fin 128 → EReal) (k : Fin 256 → Fin 128 → EReal) (j : Fin 256) : EReal := (∑ x, q x * k j x) * scale

/-- The scores of real queries and keys are real. -/
theorem scores_real (q : Fin 128 → EReal) (k : Fin 256 → Fin 128 → EReal) (hq : ∀ x, ∃ a : ℝ, q x = (a : EReal))
    (hk : ∀ j x, ∃ a : ℝ, k j x = (a : EReal)) : ∃ φ : Fin 256 → ℝ, scores q k = fun j => (φ j : EReal) := by
  choose qf hqf using hq
  choose kf hkf using hk
  obtain ⟨c, hc⟩ := scale_real
  refine ⟨fun j => (∑ x, qf x * kf j x) * c, funext fun j => ?_⟩
  unfold scores
  simp only [hqf, hkf]
  rw [dot_coe, hc, ← EReal.coe_mul]

/-- The greatest score. -/
def top (s : Fin 256 → EReal) : EReal := Finset.univ.fold max (Ideal.ofBits .f32 0xFF800000#32) s

/-- The sum of the numerators over a subtracted number. -/
def total (s : Fin 256 → EReal) (m : EReal) : EReal := ∑ j, Ideal.exp (s j - m)

/-- A row of the attention without a sink. -/
def plainRow (s v : Fin 256 → EReal) : EReal :=
  ∑ j, Ideal.exp (s j - top s) * Ideal.div 1 (total s (top s)) * v j

/-- The greatest of the scores and the sink. -/
def sinkTop (s : Fin 256 → EReal) (z : EReal) : EReal := max (top s) z

/-- A row of the attention with a sink, which adds to the denominator only. -/
def sinkRow (s : Fin 256 → EReal) (z : EReal) (v : Fin 256 → EReal) : EReal :=
  ∑ j, Ideal.exp (s j - sinkTop s z) * Ideal.div 1 (total s (sinkTop s z) + Ideal.exp (z - sinkTop s z)) * v j

/-- The greatest of real scores is real. -/
theorem top_real (φ : Fin 256 → ℝ) : ∃ M : ℝ, top (fun j => (φ j : EReal)) = (M : EReal) := by
  obtain ⟨j₀, -, h⟩ := fold_max_coe (by norm_num : 0 < 256) φ
  refine ⟨φ j₀, ?_⟩
  unfold top
  rw [negInf, h]

/-- The exponential of a difference of reals is positive. -/
theorem exp_pos (x y : ℝ) : 0 < Ideal.exp ((x : EReal) - (y : EReal)) := by
  rw [← EReal.coe_sub]
  show (0 : EReal) < ((Real.exp (x - y) : ℝ) : EReal)
  exact EReal.coe_pos.mpr (Real.exp_pos _)

/-- The sum of the numerators of real scores is positive. -/
theorem total_pos (φ : Fin 256 → ℝ) (M : ℝ) : 0 < total (fun j => (φ j : EReal)) (M : EReal) := by
  unfold total
  exact lt_of_lt_of_le (exp_pos (φ 0) M)
    (Finset.single_le_sum (f := fun j => Ideal.exp ((φ j : EReal) - (M : EReal))) (fun j _ => (exp_pos (φ j) M).le) (Finset.mem_univ (0 : Fin 256)))

/-- On real scores a row without a sink is the values' sum, each times its numerator over the denominator. -/
theorem plainRow_eq (s v : Fin 256 → EReal) (h : ∃ φ : Fin 256 → ℝ, s = fun j => (φ j : EReal)) :
    plainRow s v = ∑ j, v j * Ideal.div (Ideal.exp (s j - top s)) (total s (top s)) := by
  obtain ⟨φ, rfl⟩ := h
  obtain ⟨M, hM⟩ := top_real φ
  have h0 : total (fun j => (φ j : EReal)) (top fun j => (φ j : EReal)) ≠ 0 := by
    rw [hM]
    exact (total_pos φ M).ne'
  unfold plainRow
  refine Finset.sum_congr rfl fun j _ => ?_
  rw [← div_eq_mul h0, mul_comm]

/-- On real scores and a real sink a row with a sink is the values' sum, each times its numerator over the denominator. -/
theorem sinkRow_eq (s v : Fin 256 → EReal) (z : EReal) (h : ∃ φ : Fin 256 → ℝ, s = fun j => (φ j : EReal)) (hz : ∃ a : ℝ, z = (a : EReal)) :
    sinkRow s z v = ∑ j, v j * Ideal.div (Ideal.exp (s j - sinkTop s z)) (total s (sinkTop s z) + Ideal.exp (z - sinkTop s z)) := by
  obtain ⟨φ, rfl⟩ := h
  obtain ⟨a, rfl⟩ := hz
  obtain ⟨M, hM⟩ := top_real φ
  have h0 : total (fun j => (φ j : EReal)) (sinkTop (fun j => (φ j : EReal)) a) + Ideal.exp ((a : EReal) - sinkTop (fun j => (φ j : EReal)) a) ≠ 0 := by
    have hs : sinkTop (fun j => (φ j : EReal)) a = ((max M a : ℝ) : EReal) := by
      unfold sinkTop
      rw [hM]
      exact (EReal.coe_strictMono.monotone.map_max).symm
    rw [hs]
    exact (lt_of_lt_of_le (total_pos φ _) (le_add_of_nonneg_right (exp_pos a _).le)).ne'
  unfold sinkRow
  refine Finset.sum_congr rfl fun j _ => ?_
  rw [← div_eq_mul h0, mul_comm]

end Cert.CtxRows
-- ==== Proof.CtxAttnRead.lean ====
module

public import proofs.«01_k».proof.Proof.Gen.CtxAttnRefIdeal.Run
public import proofs.«01_k».proof.Proof.CtxRows
public import proofs.«01_k».proof.Proof.DiffRefRead
public import Idealize.ShloMosaic.Lib.Pipeline.ValueKit

@[expose] public section

set_option maxRecDepth 16384
noncomputable section
open Idealize.ShloMosaic Idealize.ShloMosaic.TcCoe Idealize.SL.Sem Idealize.ShloMosaic.StableHlo
namespace Cert.CtxAttnRefIdeal.Value
open Cert.CtxAttnRefIdeal Cert.CtxAttnRefIdeal.Gen Cert.CtxRows

/-! ## The grouped heads, with a sink -/

/-- The grouped heads' scores. -/
def groupS (a : FVec Ideal S8192x1536 .f32) : FVec Ideal S32x2x4x256x256 .f32 :=
  mulf (transpose S32x2x4x256x256 [0, 1, 4, 3, 2] (Host.dotGeneral dot_S32x256x2x128_S32x256x2x4x128_S32x2x256x256x4_3_4_1_13_02_02 none (shapeCast _ (extractStridedSlice S8192x256 ![0, 1024] a slices_S8192x1536_S8192x256_0_1024) shapeCasts_S8192x256_S32x256x2x128) (shapeCast _ (extractStridedSlice S8192x1024 ![0, 0] a slices_S8192x1536_S8192x1024_0_0) shapeCasts_S8192x1024_S32x256x2x4x128)) transposes_S32x2x256x256x4_S32x2x4x256x256_0_1_4_3_2) (broadcastInDim S32x2x4x256x256 ![] bcast_S_S32x2x4x256x256 (constant S_ .f32 0x3DB504F3#32))

/-- The sinks over the queries. -/
def groupZ (z : FVec Ideal S2x2x4 .f32) : FVec Ideal S32x2x4x256x1 .f32 :=
  broadcastInDim S32x2x4x256x1 ![0, 1, 2, 3, 4] bcast_S1x2x4x1x1_S32x2x4x256x1_0_1_2_3_4 (broadcastInDim S1x2x4x1x1 ![1, 2] bcast_S2x4_S1x2x4x1x1_1_2 (shapeCast _ (extractStridedSlice S1x2x4 ![0, 0, 0] z slices_S2x2x4_S1x2x4_0_0_0) shapeCasts_S1x2x4_S2x4))

/-- The greatest of each row's scores. -/
def groupTop (s : FVec Ideal S32x2x4x256x256 .f32) : FVec Ideal S32x2x4x256 .f32 :=
  Host.reduce FloatOps.maximumf s (constant S_ .f32 0xFF800000#32) reducesTo_S32x2x4x256x256_S32x2x4x256_d4 h_S_

/-- The greatest of each row's scores and its sink. -/
def groupM (M : FVec Ideal S32x2x4x256 .f32) (z : FVec Ideal S32x2x4x256x1 .f32) : FVec Ideal S32x2x4x256x1 .f32 :=
  maximumf (broadcastInDim S32x2x4x256x1 ![0, 1, 2, 3] bcast_S32x2x4x256_S32x2x4x256x1_0_1_2_3 M) z

/-- The numerators. -/
def groupE (s : FVec Ideal S32x2x4x256x256 .f32) (M : FVec Ideal S32x2x4x256x1 .f32) : FVec Ideal S32x2x4x256x256 .f32 :=
  Host.exp (subf s (broadcastInDim S32x2x4x256x256 ![0, 1, 2, 3, 4] bcast_S32x2x4x256x1_S32x2x4x256x256_0_1_2_3_4 M))

/-- The numerators over their sum and the sink's. -/
def groupP (e : FVec Ideal S32x2x4x256x256 .f32) (z M : FVec Ideal S32x2x4x256x1 .f32) : FVec Ideal S32x2x4x256x256 .f32 :=
  Host.divf e (broadcastInDim S32x2x4x256x256 ![0, 1, 2, 3, 4] bcast_S32x2x4x256x1_S32x2x4x256x256_0_1_2_3_4 (addf (broadcastInDim S32x2x4x256x1 ![0, 1, 2, 3] bcast_S32x2x4x256_S32x2x4x256x1_0_1_2_3 (Host.reduceAdd e (constant S_ .f32 0x00000000#32) reducesTo_S32x2x4x256x256_S32x2x4x256_d4 h_S_)) (Host.exp (subf z M))))

/-- The grouped heads' outputs. -/
def groupO (a : FVec Ideal S8192x1536 .f32) (p : FVec Ideal S32x2x4x256x256 .f32) : FVec Ideal S8192x1024 .f32 :=
  shapeCast _ (transpose S32x256x2x4x128 [0, 4, 1, 3, 2] (Host.dotGeneral dot_S32x256x2x128_S32x2x4x256x256_S32x2x128x4x256_1_4_3_23_02_01 none (shapeCast _ (extractStridedSlice S8192x256 ![0, 1280] a slices_S8192x1536_S8192x256_0_1280) shapeCasts_S8192x256_S32x256x2x128) p) transposes_S32x2x128x4x256_S32x256x2x4x128_0_4_1_3_2) shapeCasts_S32x256x2x4x128_S8192x1024

/-! ## The plain heads -/

/-- The plain heads' scores. -/
def headS (q k : FVec Ideal S8192x1024 .f32) : FVec Ideal S32x8x256x256 .f32 :=
  mulf (Host.dotGeneral dot_S32x256x8x128_S32x256x8x128_S32x8x256x256_3_3_1_1_02_02 none (shapeCast _ q shapeCasts_S8192x1024_S32x256x8x128) (shapeCast _ k shapeCasts_S8192x1024_S32x256x8x128)) (broadcastInDim S32x8x256x256 ![] bcast_S_S32x8x256x256 (constant S_ .f32 0x3DB504F3#32))

/-- The greatest of each row's scores. -/
def headTop (s : FVec Ideal S32x8x256x256 .f32) : FVec Ideal S32x8x256 .f32 :=
  Host.reduce FloatOps.maximumf s (constant S_ .f32 0xFF800000#32) reducesTo_S32x8x256x256_S32x8x256_d3 h_S_

/-- The numerators. -/
def headE (s : FVec Ideal S32x8x256x256 .f32) (M : FVec Ideal S32x8x256 .f32) : FVec Ideal S32x8x256x256 .f32 :=
  Host.exp (subf s (broadcastInDim S32x8x256x256 ![0, 1, 2, 3] bcast_S32x8x256x1_S32x8x256x256_0_1_2_3 (broadcastInDim S32x8x256x1 ![0, 1, 2] bcast_S32x8x256_S32x8x256x1_0_1_2 (maximumf (broadcastInDim S32x8x256 ![] bcast_S_S32x8x256 (constant S_ .f32 0xFF800000#32)) M))))

/-- The numerators over their sum. -/
def headP (e : FVec Ideal S32x8x256x256 .f32) : FVec Ideal S32x8x256x256 .f32 :=
  Host.divf e (broadcastInDim S32x8x256x256 ![0, 1, 2, 3] bcast_S32x8x256x1_S32x8x256x256_0_1_2_3 (broadcastInDim S32x8x256x1 ![0, 1, 2] bcast_S32x8x256_S32x8x256x1_0_1_2 (Host.reduceAdd e (constant S_ .f32 0x00000000#32) reducesTo_S32x8x256x256_S32x8x256_d3 h_S_)))

/-- The plain heads' outputs. -/
def headO (v : FVec Ideal S8192x1024 .f32) (p : FVec Ideal S32x8x256x256 .f32) : FVec Ideal S8192x1024 .f32 :=
  shapeCast _ (transpose S32x256x8x128 [0, 3, 1, 2] (Host.dotGeneral dot_S32x256x8x128_S32x8x256x256_S32x8x128x256_1_3_3_2_02_01 none (shapeCast _ v shapeCasts_S8192x1024_S32x256x8x128) p) transposes_S32x8x128x256_S32x256x8x128_0_3_1_2) shapeCasts_S32x256x8x128_S8192x1024

/-- The two mixers' outputs side by side. -/
def both (x y : FVec Ideal S8192x1024 .f32) : FVec Ideal S8192x2048 .bf16 :=
  truncf .bf16 (concatenate S8192x2048 1 [⟨S8192x1024, x⟩, ⟨S8192x1024, y⟩] concatenates_S8192x1024_S8192x1024_S8192x2048_d1) bitsLt_bf16_f32

/-- The grouped heads of the reference. -/
def groups (z : FVec Ideal S2x2x4 .f32) (a : FVec Ideal S8192x1536 .f32) : FVec Ideal S8192x1024 .f32 :=
  groupO a (groupP (groupE (groupS a) (groupM (groupTop (groupS a)) (groupZ z))) (groupZ z) (groupM (groupTop (groupS a)) (groupZ z)))

/-- The plain heads of the reference. -/
def heads (q k v : FVec Ideal S8192x1024 .f32) : FVec Ideal S8192x1024 .f32 :=
  headO v (headP (headE (headS q k) (headTop (headS q k))))

/-- The reference's result is its stages one after the other. -/
theorem res_eq (m : (ℓ : Loc nD τ sig) → Buf (Elt Ideal) ℓ) (c : Dev nD) :
    res_main_v52 m c = both (groups (m ((c.tc : Thread nD τ).loc main_arg0)) (m ((c.tc : Thread nD τ).loc main_arg1)))
      (heads (m ((c.tc : Thread nD τ).loc main_arg2)) (m ((c.tc : Thread nD τ).loc main_arg3)) (m ((c.tc : Thread nD τ).loc main_arg4))) := by
  unfold res_main_v52 both groups heads groupO groupP groupE groupM groupTop groupZ groupS headO headP headE headTop headS
  rfl

/-! ## The stages at an index -/

/-- Token `r` of prompt `n`, as a row of the flat arrays. -/
def tok (n : Fin 32) (r : Fin 256) : Fin 8192 := ⟨n.val * 256 + r.val, by omega⟩

/-- Lane `x` of query head `(k, g)`, as a column. -/
def qcol (k : Fin 2) (g : Fin 4) (x : Fin 128) : Fin 1536 := ⟨k.val * 512 + g.val * 128 + x.val, by omega⟩

/-- Lane `x` of key head `k`, as a column. -/
def kcol (k : Fin 2) (x : Fin 128) : Fin 1536 := ⟨1024 + (k.val * 128 + x.val), by omega⟩

/-- Lane `x` of value head `k`, as a column. -/
def vcol (k : Fin 2) (x : Fin 128) : Fin 1536 := ⟨1280 + (k.val * 128 + x.val), by omega⟩

/-- Lane `x` of the grouped heads' output `(k, g)`, as a column. -/
def ocol (k : Fin 2) (g : Fin 4) (x : Fin 128) : Fin 1024 := ⟨k.val * 512 + g.val * 128 + x.val, by omega⟩

/-- Lane `x` of plain head `h`, as a column. -/
def hcol (h : Fin 8) (x : Fin 128) : Fin 1024 := ⟨h.val * 128 + x.val, by omega⟩

/-- A maximum over the last of four axes, as a fold. -/
theorem hostMax4 {a b c d : ℕ} {u : Shape} (x : FVec Ideal (⟨4, ![a, b, c, d]⟩ : Shape) .f32) (init : FVec Ideal u .f32)
    (hr : (⟨4, ![a, b, c, d]⟩ : Shape).ReducesTo [3] (⟨3, ![a, b, c]⟩ : Shape)) (hu : 0 < u.numel) (i : Fin a) (j : Fin b) (k : Fin c) :
    Host.reduce FloatOps.maximumf x init hr hu (ix3 i j k) = (Finset.univ : Finset (Fin d)).fold max (init (Shape.Idx.first hu)) (fun y => x (ix4 i j k y)) := by
  rw [Host.reduce_eq_fold, Shape.ReducesTo.fold_fiber_r4_a3]
  rfl

section Group

variable (n : Fin 32) (k : Fin 2) (g : Fin 4) (r : Fin 256)

/-- The scores. -/
theorem groupS_at (a : FVec Ideal S8192x1536 .f32) (j : Fin 256) : groupS a (ix5 n k g r j)
    = (∑ x : Fin 128, a (ix2 (tok n j) (kcol k x)) * a (ix2 (tok n r) (qcol k g x))) * scale := by
  unfold scale
  pointwise [groupS, tok, kcol, qcol]

/-- The scores are a row's. -/
theorem groupS_row (a : FVec Ideal S8192x1536 .f32) (j : Fin 256) : groupS a (ix5 n k g r j)
    = scores (fun x => a (ix2 (tok n r) (qcol k g x))) (fun j x => a (ix2 (tok n j) (kcol k x))) j := by
  rw [groupS_at]
  unfold scores
  simp only [mul_comm (a (ix2 (tok n j) _))]

/-- The sinks. -/
theorem groupZ_at (z : FVec Ideal S2x2x4 .f32) : groupZ z (ix5 n k g r 0) = z (ix3 0 k g) := by
  pointwise [groupZ]

/-- The greatest score. -/
theorem groupTop_at (s : FVec Ideal S32x2x4x256x256 .f32) : groupTop s (ix4 n k g r) = top (fun j => s (ix5 n k g r j)) :=
  Cert.DiffAttnRefIdeal.Value.hostMax5 s _ _ _ n k g r

/-- The greatest of the scores and the sink. -/
theorem groupM_at (M : FVec Ideal S32x2x4x256 .f32) (z : FVec Ideal S32x2x4x256x1 .f32) :
    groupM M z (ix5 n k g r 0) = max (M (ix4 n k g r)) (z (ix5 n k g r 0)) := by
  pointwise [groupM]

/-- The numerators. -/
theorem groupE_at (s : FVec Ideal S32x2x4x256x256 .f32) (M : FVec Ideal S32x2x4x256x1 .f32) (j : Fin 256) :
    groupE s M (ix5 n k g r j) = Ideal.exp (s (ix5 n k g r j) - M (ix5 n k g r 0)) := by
  pointwise [groupE]

/-- The numerators over the denominator. -/
theorem groupP_at (e : FVec Ideal S32x2x4x256x256 .f32) (z M : FVec Ideal S32x2x4x256x1 .f32) (j : Fin 256) :
    groupP e z M (ix5 n k g r j) = Ideal.div (e (ix5 n k g r j)) ((∑ x, e (ix5 n k g r x)) + Ideal.exp (z (ix5 n k g r 0) - M (ix5 n k g r 0))) := by
  pointwise [groupP]

/-- The output. -/
theorem groupO_at (a : FVec Ideal S8192x1536 .f32) (p : FVec Ideal S32x2x4x256x256 .f32) (e : Fin 128) :
    groupO a p (ix2 (tok n r) (ocol k g e)) = ∑ j : Fin 256, a (ix2 (tok n j) (vcol k e)) * p (ix5 n k g r j) := by
  pointwise [groupO, tok, ocol, vcol]

/-- The grouped heads at a token and a lane are a row's, on real scores and a real sink. -/
theorem groups_at (z : FVec Ideal S2x2x4 .f32) (a : FVec Ideal S8192x1536 .f32) (hz : ∃ b : ℝ, z (ix3 0 k g) = (b : EReal))
    (ha : ∃ φ : Fin 256 → ℝ, scores (fun x => a (ix2 (tok n r) (qcol k g x))) (fun j x => a (ix2 (tok n j) (kcol k x))) = fun j => (φ j : EReal)) (e : Fin 128) :
    groups z a (ix2 (tok n r) (ocol k g e))
      = sinkRow (scores (fun x => a (ix2 (tok n r) (qcol k g x))) (fun j x => a (ix2 (tok n j) (kcol k x)))) (z (ix3 0 k g)) (fun j => a (ix2 (tok n j) (vcol k e))) := by
  rw [sinkRow_eq _ _ _ ha hz]
  have hS := groupS_row n k g r a
  unfold groups
  rw [groupO_at]
  simp only [groupP_at, groupE_at, groupM_at, groupTop_at, groupZ_at]
  generalize groupS a = S at hS ⊢
  simp only [hS]
  rfl

end Group

section Head

variable (n : Fin 32) (h : Fin 8) (r : Fin 256)

/-- The scores are a row's. -/
theorem headS_row (q k : FVec Ideal S8192x1024 .f32) (j : Fin 256) : headS q k (ix4 n h r j)
    = scores (fun x => q (ix2 (tok n r) (hcol h x))) (fun j x => k (ix2 (tok n j) (hcol h x))) j := by
  unfold scores scale
  pointwise [headS, tok, hcol]

/-- The greatest score. -/
theorem headTop_at (s : FVec Ideal S32x8x256x256 .f32) : headTop s (ix3 n h r) = top (fun j => s (ix4 n h r j)) :=
  hostMax4 s _ _ _ n h r

/-- The numerators. -/
theorem headE_at (s : FVec Ideal S32x8x256x256 .f32) (M : FVec Ideal S32x8x256 .f32) (j : Fin 256) :
    headE s M (ix4 n h r j) = Ideal.exp (s (ix4 n h r j) - max (Ideal.ofBits .f32 0xFF800000#32) (M (ix3 n h r))) := by
  pointwise [headE]

/-- The numerators over the denominator. -/
theorem headP_at (e : FVec Ideal S32x8x256x256 .f32) (j : Fin 256) :
    headP e (ix4 n h r j) = Ideal.div (e (ix4 n h r j)) (∑ x, e (ix4 n h r x)) := by
  pointwise [headP]

/-- The output. -/
theorem headO_at (v : FVec Ideal S8192x1024 .f32) (p : FVec Ideal S32x8x256x256 .f32) (e : Fin 128) :
    headO v p (ix2 (tok n r) (hcol h e)) = ∑ j : Fin 256, v (ix2 (tok n j) (hcol h e)) * p (ix4 n h r j) := by
  pointwise [headO, tok, hcol]

/-- The plain heads at a token and a lane are a row's, on real scores. -/
theorem heads_at (q k v : FVec Ideal S8192x1024 .f32)
    (hr : ∃ φ : Fin 256 → ℝ, scores (fun x => q (ix2 (tok n r) (hcol h x))) (fun j x => k (ix2 (tok n j) (hcol h x))) = fun j => (φ j : EReal)) (e : Fin 128) :
    heads q k v (ix2 (tok n r) (hcol h e))
      = plainRow (scores (fun x => q (ix2 (tok n r) (hcol h x))) (fun j x => k (ix2 (tok n j) (hcol h x)))) (fun j => v (ix2 (tok n j) (hcol h e))) := by
  rw [plainRow_eq _ _ hr]
  have hS := headS_row n h r q k
  have hb : ∀ x : EReal, max (Ideal.ofBits .f32 0xFF800000#32) x = x := fun x => by
    rw [Cert.Diff.negInf]
    exact max_eq_right bot_le
  unfold heads
  rw [headO_at]
  simp only [headP_at, headE_at, headTop_at, hb]
  generalize headS q k = S at hS ⊢
  simp only [hS]
  rfl

end Head

/-- The grouped heads are the first 1024 columns. -/
theorem both_left (x y : FVec Ideal S8192x1024 .f32) (r : Fin 8192) (l : Fin 1024) : both x y (ix2 r (⟨l.val, by omega⟩ : Fin 2048)) = x (ix2 r l) := by
  pointwise [both]

/-- The plain heads are the last 1024 columns. -/
theorem both_right (x y : FVec Ideal S8192x1024 .f32) (r : Fin 8192) (l : Fin 1024) : both x y (ix2 r (⟨1024 + l.val, by omega⟩ : Fin 2048)) = y (ix2 r l) := by
  pointwise [both]

end Cert.CtxAttnRefIdeal.Value
-- ==== Proof.CtxAttention.lean ====
module

public import proofs.«01_k».proof.Defs
public import proofs.«01_k».proof.Proof.Gen.CtxAttnIdeal.Value
public import proofs.«01_k».proof.Proof.CtxAttnRead
public import proofs.«01_k».proof.Proof.Gen.Pre_finite_scores
public import proofs.«01_k».proof.Proof.DiffAttention
public import Idealize.ShloMosaic.Lib.ReduceAll
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.CtxAttnIdeal.Value
open Cert.CtxAttnIdeal Cert.CtxAttnIdeal.Gen Cert.CtxRows
open Cert.CtxAttnRefIdeal.Value (tok qcol kcol vcol ocol hcol both groups heads groups_at heads_at both_left both_right)

/-- A grouped head's payload at a row and a lane is a row with a sink. -/
theorem sink_at (k v q : FVec Ideal S256x128 .f32) (z : EReal) (r : Fin 256) (e : Fin 128) :
    k0_pay4 (F := Ideal) k v q z (ix2 r e) = sinkRow (scores (fun x => q (ix2 r x)) (fun j x => k (ix2 j x))) z (fun j => v (ix2 j e)) := by
  unfold sinkRow total sinkTop top scores scale
  pointwise [k0_pay4, k0_pay2, k0_pay3]

/-- A plain head's payload at a row and a lane is a row without one. -/
theorem plain_at (q k v : FVec Ideal S256x128 .f32) (r : Fin 256) (e : Fin 128) :
    k0_pay22 (F := Ideal) q k v (ix2 r e) = plainRow (scores (fun x => q (ix2 r x)) (fun j x => k (ix2 j x))) (fun j => v (ix2 j e)) := by
  unfold plainRow total top scores scale
  pointwise [k0_pay22]

section Same

variable (q k v : FVec Ideal S256x128 .f32) (z : EReal)

/-- The payload 7 is the same head cut at other places. -/
theorem same7 : k0_pay7 (F := Ideal) (k0_pay3 (F := Ideal) v) (k0_pay5 (F := Ideal) k q) (k0_pay6 (F := Ideal) z) = k0_pay4 (F := Ideal) k v q z := rfl
/-- The payload 8 is the same head cut at other places. -/
theorem same8 : k0_pay8 (F := Ideal) (k0_pay2 (F := Ideal) k) (k0_pay3 (F := Ideal) v) q z = k0_pay4 (F := Ideal) k v q z := rfl
/-- The payload 9 is the same head cut at other places. -/
theorem same9 : k0_pay9 (F := Ideal) (k0_pay2 (F := Ideal) k) (k0_pay3 (F := Ideal) v) q z = k0_pay4 (F := Ideal) k v q z := rfl
/-- The payload 13 is the same head cut at other places. -/
theorem same13 : k0_pay13 (F := Ideal) (k0_pay11 (F := Ideal) v) (k0_pay12 (F := Ideal) k q) z = k0_pay4 (F := Ideal) k v q z := rfl
/-- The payload 15 is the same head cut at other places. -/
theorem same15 : k0_pay15 (F := Ideal) (k0_pay14 (F := Ideal) (k0_pay10 (F := Ideal) k) (k0_pay11 (F := Ideal) v) q z) = k0_pay4 (F := Ideal) k v q z := rfl
/-- The payload 16 is the same head cut at other places. -/
theorem same16 : k0_pay16 (F := Ideal) (k0_pay10 (F := Ideal) k) (k0_pay11 (F := Ideal) v) q z = k0_pay4 (F := Ideal) k v q z := rfl
/-- The payload 21 is the same head cut at other places. -/
theorem same21 : k0_pay21 (F := Ideal) (k0_pay11 (F := Ideal) v) (k0_pay17 (F := Ideal) (k0_pay10 (F := Ideal) k) q) (k0_pay18 (F := Ideal) z) (k0_pay19 (F := Ideal) (k0_pay10 (F := Ideal) k) q z) (k0_pay20 (F := Ideal) (k0_pay10 (F := Ideal) k) q z) = k0_pay4 (F := Ideal) k v q z := rfl
/-- The payload 26 is the same head cut at other places. -/
theorem same26 : k0_pay26 (F := Ideal) (k0_pay24 (F := Ideal) q k) (k0_pay25 (F := Ideal) q k) v = k0_pay22 (F := Ideal) q k v := rfl
/-- The payload 32 is the same head cut at other places. -/
theorem same32 : k0_pay32 (F := Ideal) (k0_pay29 (F := Ideal) q k) (k0_pay30 (F := Ideal) q k) (k0_pay31 (F := Ideal)) v = k0_pay22 (F := Ideal) q k v := rfl
/-- The payload 1 is the same head cut at other places. -/
theorem same1 : k0_pay1 (F := Ideal) (k0_pay34 (F := Ideal) q) k v = k0_pay22 (F := Ideal) q k v := rfl
/-- The payload 23 is the same head cut at other places. -/
theorem same23 : k0_pay23 (F := Ideal) q k v = k0_pay22 (F := Ideal) q k v := rfl
/-- The payload 27 is the same head cut at other places. -/
theorem same27 : k0_pay27 (F := Ideal) q k v = k0_pay22 (F := Ideal) q k v := rfl
/-- The payload 28 is the same head cut at other places. -/
theorem same28 : k0_pay28 (F := Ideal) q k v = k0_pay22 (F := Ideal) q k v := rfl
/-- The payload 33 is the same head cut at other places. -/
theorem same33 : k0_pay33 (F := Ideal) q k v = k0_pay22 (F := Ideal) q k v := rfl

end Same

variable (m : (ℓ : Loc nD τ sig) → Buf (Elt Ideal) ℓ)

/-! ## What a point leaves in its block -/

section Block

variable (Z : FVec Ideal S16 .f32) (A : FVec Ideal S256x1536 .f32) (Q K W : FVec Ideal S256x1024 .f32)

/-- A grouped head over the block's rows. -/
def sinkHead (k : Fin 2) (g : Fin 4) (r : Fin 256) (e : Fin 128) : EReal :=
  sinkRow (scores (fun x => A (ix2 r (qcol k g x))) (fun j x => A (ix2 j (kcol k x)))) (Z (ix1 ⟨k.val * 4 + g.val, by omega⟩)) (fun j => A (ix2 j (vcol k e)))

/-- A plain head over the block's rows. -/
def plainHead (h : Fin 8) (r : Fin 256) (e : Fin 128) : EReal :=
  plainRow (scores (fun x => Q (ix2 r (hcol h x))) (fun j x => K (ix2 j (hcol h x)))) (fun j => W (ix2 j (hcol h e)))

/-- What a block holds: the grouped heads' columns, then the plain heads'. -/
def laid (y : S256x2048.Idx) : EReal :=
  if h : (y 1 : ℕ) < 1024 then sinkHead Z A ⟨(y 1 : ℕ) / 512, by omega⟩ ⟨(y 1 : ℕ) / 128 % 4, by omega⟩ (y 0) ⟨(y 1 : ℕ) % 128, by omega⟩
  else plainHead Q K W ⟨((y 1 : ℕ) - 1024) / 128, by have h : (y 1 : ℕ) < 2048 := (y 1).isLt; omega⟩ (y 0) ⟨(y 1 : ℕ) % 128, by omega⟩

/-- The block at a grouped head's column. -/
theorem laid_sink (k : Fin 2) (g : Fin 4) (r : Fin 256) (e : Fin 128) (y : S256x2048.Idx) (h0 : (y 0 : ℕ) = (r : ℕ)) (h1 : (y 1 : ℕ) = k.val * 512 + g.val * 128 + (e : ℕ)) :
    laid Z A Q K W y = sinkHead Z A k g r e := by
  have hk := k.isLt
  have hg := g.isLt
  have he := e.isLt
  unfold laid
  rw [dif_pos (show (y 1 : ℕ) < 1024 by omega)]
  have e0 : y 0 = r := Fin.ext h0
  have ek : (⟨(y 1 : ℕ) / 512, by omega⟩ : Fin 2) = k := Fin.ext (by show (y 1 : ℕ) / 512 = _; omega)
  have eg : (⟨(y 1 : ℕ) / 128 % 4, by omega⟩ : Fin 4) = g := Fin.ext (by show (y 1 : ℕ) / 128 % 4 = _; omega)
  have ee : (⟨(y 1 : ℕ) % 128, by omega⟩ : Fin 128) = e := Fin.ext (by show (y 1 : ℕ) % 128 = _; omega)
  rw [ek, eg, ee, e0]

/-- The block at a plain head's column. -/
theorem laid_plain (h : Fin 8) (r : Fin 256) (e : Fin 128) (y : S256x2048.Idx) (h0 : (y 0 : ℕ) = (r : ℕ)) (h1 : (y 1 : ℕ) = 1024 + (h.val * 128 + (e : ℕ))) :
    laid Z A Q K W y = plainHead Q K W h r e := by
  have hh := h.isLt
  have he := e.isLt
  unfold laid
  rw [dif_neg (show ¬ (y 1 : ℕ) < 1024 by omega)]
  have e0 : y 0 = r := Fin.ext h0
  have eh : (⟨((y 1 : ℕ) - 1024) / 128, by omega⟩ : Fin 8) = h := Fin.ext (by show ((y 1 : ℕ) - 1024) / 128 = _; omega)
  have ee : (⟨(y 1 : ℕ) % 128, by omega⟩ : Fin 128) = e := Fin.ext (by show (y 1 : ℕ) % 128 = _; omega)
  rw [eh, ee, e0]

/-- A grouped head's payload is the block's part over its columns. -/
theorem sink_piece (k : Fin 2) (g : Fin 4) (kk vv qq : FVec Ideal S256x128 .f32) (z : EReal)
    (hk : ∀ (j : Fin 256) (l : Fin 128), kk (ix2 j l) = A (ix2 j (kcol k l))) (hv : ∀ (j : Fin 256) (l : Fin 128), vv (ix2 j l) = A (ix2 j (vcol k l)))
    (hq : ∀ (j : Fin 256) (l : Fin 128), qq (ix2 j l) = A (ix2 j (qcol k g l))) (hz : z = Z (ix1 ⟨k.val * 4 + g.val, by omega⟩))
    (x : S256x128.Idx) (y : S256x2048.Idx) (h0 : (y 0 : ℕ) = (x 0 : ℕ)) (h1 : (y 1 : ℕ) = k.val * 512 + g.val * 128 + (x 1 : ℕ)) :
    k0_pay4 (F := Ideal) kk vv qq z x = laid Z A Q K W y := by
  rw [laid_sink Z A Q K W k g (x 0) (x 1) y h0 h1]
  idx_vars x
  refine (sink_at kk vv qq z x0 x1).trans ?_
  unfold sinkHead
  simp only [hk, hv, hq, hz]

/-- A plain head's payload is the block's part over its columns. -/
theorem plain_piece (h : Fin 8) (qq kk vv : FVec Ideal S256x128 .f32)
    (hq : ∀ (j : Fin 256) (l : Fin 128), qq (ix2 j l) = Q (ix2 j (hcol h l))) (hk : ∀ (j : Fin 256) (l : Fin 128), kk (ix2 j l) = K (ix2 j (hcol h l)))
    (hv : ∀ (j : Fin 256) (l : Fin 128), vv (ix2 j l) = W (ix2 j (hcol h l)))
    (x : S256x128.Idx) (y : S256x2048.Idx) (h0 : (y 0 : ℕ) = (x 0 : ℕ)) (h1 : (y 1 : ℕ) = 1024 + (h.val * 128 + (x 1 : ℕ))) :
    k0_pay22 (F := Ideal) qq kk vv x = laid Z A Q K W y := by
  rw [laid_plain Z A Q K W h (x 0) (x 1) y h0 h1]
  idx_vars x
  refine (plain_at qq kk vv x0 x1).trans ?_
  unfold plainHead
  simp only [hk, hv, hq]

end Block

variable (m : (ℓ : Loc nD τ sig) → Buf (Elt Ideal) ℓ)

/-- What a point leaves in the result's buffer. -/
theorem tile (c : Dev nD) (t : Fin cfg0.N) (y : S256x2048.Idx) :
    outsAt0 m c t y = laid (iblk m c 0 t) (iblk m c 1 t) (iblk m c 2 t) (iblk m c 3 t) (iblk m c 4 t) y := by
  unfold outsAt0
  frame_out
  generalize iblk m c 0 t = Z
  generalize iblk m c 1 t = A
  generalize iblk m c 2 t = Q
  generalize iblk m c 3 t = K
  generalize iblk m c 4 t = W
  canon_tiles x h
  case piece0 => refine (congrFun (same1 _ _ _) x).trans ?_; exact plain_piece Z A Q K W 7 _ _ _ (fun j l => by pointwise [hcol]) (fun j l => by pointwise [hcol]) (fun j l => by pointwise [hcol]) x y h0 (h1.trans (by show _ = 1024 + (7 * 128 + _); omega))
  case piece1 => refine (congrFun (same33 _ _ _) x).trans ?_; exact plain_piece Z A Q K W 6 _ _ _ (fun j l => by pointwise [hcol]) (fun j l => by pointwise [hcol]) (fun j l => by pointwise [hcol]) x y h0 (h1.trans (by show _ = 1024 + (6 * 128 + _); omega))
  case piece2 => refine (congrFun (same32 _ _ _) x).trans ?_; exact plain_piece Z A Q K W 5 _ _ _ (fun j l => by pointwise [hcol]) (fun j l => by pointwise [hcol]) (fun j l => by pointwise [hcol]) x y h0 (h1.trans (by show _ = 1024 + (5 * 128 + _); omega))
  case piece3 => refine (congrFun (same28 _ _ _) x).trans ?_; exact plain_piece Z A Q K W 4 _ _ _ (fun j l => by pointwise [hcol]) (fun j l => by pointwise [hcol]) (fun j l => by pointwise [hcol]) x y h0 (h1.trans (by show _ = 1024 + (4 * 128 + _); omega))
  case piece4 => refine (congrFun (same27 _ _ _) x).trans ?_; exact plain_piece Z A Q K W 3 _ _ _ (fun j l => by pointwise [hcol]) (fun j l => by pointwise [hcol]) (fun j l => by pointwise [hcol]) x y h0 (h1.trans (by show _ = 1024 + (3 * 128 + _); omega))
  case piece5 => refine (congrFun (same26 _ _ _) x).trans ?_; exact plain_piece Z A Q K W 2 _ _ _ (fun j l => by pointwise [hcol]) (fun j l => by pointwise [hcol]) (fun j l => by pointwise [hcol]) x y h0 (h1.trans (by show _ = 1024 + (2 * 128 + _); omega))
  case piece6 => refine (congrFun (same23 _ _ _) x).trans ?_; exact plain_piece Z A Q K W 1 _ _ _ (fun j l => by pointwise [hcol]) (fun j l => by pointwise [hcol]) (fun j l => by pointwise [hcol]) x y h0 (h1.trans (by show _ = 1024 + (1 * 128 + _); omega))
  case piece7 => exact plain_piece Z A Q K W 0 _ _ _ (fun j l => by pointwise [hcol]) (fun j l => by pointwise [hcol]) (fun j l => by pointwise [hcol]) x y h0 (h1.trans (by show _ = 1024 + (0 * 128 + _); omega))
  case piece8 => refine (congrFun (same21 _ _ _ _) x).trans ?_; exact sink_piece Z A Q K W 1 3 _ _ _ _ (fun j l => by pointwise [kcol]; exact congrArg A (congrArg (ix2 j) (Fin.ext (by show 1152 + (l : ℕ) = 1024 + (128 + (l : ℕ)); omega)))) (fun j l => by pointwise [vcol]; exact congrArg A (congrArg (ix2 j) (Fin.ext (by show 1408 + (l : ℕ) = 1280 + (128 + (l : ℕ)); omega)))) (fun j l => by pointwise [qcol]) (by pointwise) x y h0 (h1.trans (by show _ = 1 * 512 + 3 * 128 + _; omega))
  case piece9 => refine (congrFun (same16 _ _ _ _) x).trans ?_; exact sink_piece Z A Q K W 1 2 _ _ _ _ (fun j l => by pointwise [kcol]; exact congrArg A (congrArg (ix2 j) (Fin.ext (by show 1152 + (l : ℕ) = 1024 + (128 + (l : ℕ)); omega)))) (fun j l => by pointwise [vcol]; exact congrArg A (congrArg (ix2 j) (Fin.ext (by show 1408 + (l : ℕ) = 1280 + (128 + (l : ℕ)); omega)))) (fun j l => by pointwise [qcol]) (by pointwise) x y h0 (h1.trans (by show _ = 1 * 512 + 2 * 128 + _; omega))
  case piece10 => refine (congrFun (same15 _ _ _ _) x).trans ?_; exact sink_piece Z A Q K W 1 1 _ _ _ _ (fun j l => by pointwise [kcol]; exact congrArg A (congrArg (ix2 j) (Fin.ext (by show 1152 + (l : ℕ) = 1024 + (128 + (l : ℕ)); omega)))) (fun j l => by pointwise [vcol]; exact congrArg A (congrArg (ix2 j) (Fin.ext (by show 1408 + (l : ℕ) = 1280 + (128 + (l : ℕ)); omega)))) (fun j l => by pointwise [qcol]) (by pointwise) x y h0 (h1.trans (by show _ = 1 * 512 + 1 * 128 + _; omega))
  case piece11 => refine (congrFun (same13 _ _ _ _) x).trans ?_; exact sink_piece Z A Q K W 1 0 _ _ _ _ (fun j l => by pointwise [kcol]; exact congrArg A (congrArg (ix2 j) (Fin.ext (by show 1152 + (l : ℕ) = 1024 + (128 + (l : ℕ)); omega)))) (fun j l => by pointwise [vcol]; exact congrArg A (congrArg (ix2 j) (Fin.ext (by show 1408 + (l : ℕ) = 1280 + (128 + (l : ℕ)); omega)))) (fun j l => by pointwise [qcol]) (by pointwise) x y h0 (h1.trans (by show _ = 1 * 512 + 0 * 128 + _; omega))
  case piece12 => refine (congrFun (same9 _ _ _ _) x).trans ?_; exact sink_piece Z A Q K W 0 3 _ _ _ _ (fun j l => by pointwise [kcol]) (fun j l => by pointwise [vcol]) (fun j l => by pointwise [qcol]) (by pointwise) x y h0 (h1.trans (by show _ = 0 * 512 + 3 * 128 + _; omega))
  case piece13 => refine (congrFun (same8 _ _ _ _) x).trans ?_; exact sink_piece Z A Q K W 0 2 _ _ _ _ (fun j l => by pointwise [kcol]) (fun j l => by pointwise [vcol]) (fun j l => by pointwise [qcol]) (by pointwise) x y h0 (h1.trans (by show _ = 0 * 512 + 2 * 128 + _; omega))
  case piece14 => refine (congrFun (same7 _ _ _ _) x).trans ?_; exact sink_piece Z A Q K W 0 1 _ _ _ _ (fun j l => by pointwise [kcol]) (fun j l => by pointwise [vcol]) (fun j l => by pointwise [qcol]) (by pointwise) x y h0 (h1.trans (by show _ = 0 * 512 + 1 * 128 + _; omega))
  case piece15 => exact sink_piece Z A Q K W 0 0 _ _ _ _ (fun j l => by pointwise [kcol]) (fun j l => by pointwise [vcol]) (fun j l => by pointwise [qcol]) (by pointwise) x y h0 (h1.trans (by show _ = 0 * 512 + 0 * 128 + _; omega))

/-- Which block each window shows at a grid point: the prompt's rows. -/
theorem idx : ∀ t : Fin cfg0.N, win0_0.index t = ![0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The prompt of a point. -/
def pn (t : Fin cfg0.N) : Fin 32 := ⟨t.val, t.isLt⟩

section Reads

variable (c : Dev nD) (t : Fin cfg0.N)

/-- The sinks at a point. -/
theorem z_at (k : Fin 2) (g : Fin 4) : iblk m c 0 t (ix1 ⟨k.val * 4 + g.val, by omega⟩) = m ((c : Thread nD τ).loc main_arg0) (ix3 0 k g) := by
  blk_point [iblk, V, idx t]

/-- The grouped heads' block at a point. -/
theorem a_at (j : Fin 256) (l : Fin 1536) : iblk m c 1 t (ix2 j l) = m ((c : Thread nD τ).loc main_arg1) (ix2 (tok (pn t) j) l) := by
  blk_point [iblk, V, idx t, tok, pn]

/-- The plain heads' queries at a point. -/
theorem q_at (j : Fin 256) (l : Fin 1024) : iblk m c 2 t (ix2 j l) = m ((c : Thread nD τ).loc main_arg2) (ix2 (tok (pn t) j) l) := by
  blk_point [iblk, V, idx t, tok, pn]

/-- The plain heads' keys at a point. -/
theorem k_at (j : Fin 256) (l : Fin 1024) : iblk m c 3 t (ix2 j l) = m ((c : Thread nD τ).loc main_arg3) (ix2 (tok (pn t) j) l) := by
  blk_point [iblk, V, idx t, tok, pn]

/-- The plain heads' values at a point. -/
theorem v_at (j : Fin 256) (l : Fin 1024) : iblk m c 4 t (ix2 j l) = m ((c : Thread nD τ).loc main_arg4) (ix2 (tok (pn t) j) l) := by
  blk_point [iblk, V, idx t, tok, pn]

end Reads

/-- The reference's array over the call's arguments. -/
def REF (c : Dev nD) : FVec Ideal Cert.CtxAttnRefIdeal.S8192x2048 .bf16 :=
  both (groups (m ((c : Thread nD τ).loc main_arg0)) (m ((c : Thread nD τ).loc main_arg1)))
    (heads (m ((c : Thread nD τ).loc main_arg2)) (m ((c : Thread nD τ).loc main_arg3)) (m ((c : Thread nD τ).loc main_arg4)))

section Finite

variable (c : Dev nD) (hz : ∀ k g, ∃ a : ℝ, m ((c : Thread nD τ).loc main_arg0) (ix3 0 k g) = (a : EReal))
  (ha : ∀ (r : Fin 8192) (l : Fin 1536), (l : ℕ) < 1280 → ∃ a : ℝ, m ((c : Thread nD τ).loc main_arg1) (ix2 r l) = (a : EReal))
  (hq : ∀ i, ∃ a : ℝ, m ((c : Thread nD τ).loc main_arg2) i = (a : EReal)) (hk : ∀ i, ∃ a : ℝ, m ((c : Thread nD τ).loc main_arg3) i = (a : EReal))

include hz ha in
/-- A grouped head's part of a point's block is the reference's. -/
theorem point_sink (t : Fin cfg0.N) (k : Fin 2) (g : Fin 4) (r : Fin 256) (e : Fin 128) :
    sinkHead (iblk m c 0 t) (iblk m c 1 t) k g r e = REF m c (ix2 (tok (pn t) r) (⟨(ocol k g e).val, by have h := (ocol k g e).isLt; omega⟩ : Fin 2048)) := by
  have hk := k.isLt
  have hg := g.isLt
  unfold REF sinkHead
  rw [both_left, groups_at (pn t) k g r _ _ (hz k g) (scores_real _ _ (fun x => ha _ _ (show k.val * 512 + g.val * 128 + (x : ℕ) < 1280 by omega)) (fun j x => ha _ _ (show 1024 + (k.val * 128 + (x : ℕ)) < 1280 by omega))) e,
    z_at m c t k g]
  simp only [a_at m c t]

include hq hk in
/-- A plain head's part of a point's block is the reference's. -/
theorem point_plain (t : Fin cfg0.N) (h : Fin 8) (r : Fin 256) (e : Fin 128) :
    plainHead (iblk m c 2 t) (iblk m c 3 t) (iblk m c 4 t) h r e = REF m c (ix2 (tok (pn t) r) (⟨1024 + (hcol h e).val, by have h := (hcol h e).isLt; omega⟩ : Fin 2048)) := by
  unfold REF plainHead
  rw [both_right, heads_at (pn t) h r _ _ _ (scores_real _ _ (fun x => hq _) (fun j x => hk _)) e]
  simp only [q_at m c t, k_at m c t, v_at m c t]

include hz ha hq hk in
/-- What a point leaves is the reference's. -/
theorem point (t : Fin cfg0.N) (r : Fin 256) (l : Fin 2048) : outsAt0 m c t (ix2 r l) = REF m c (ix2 (tok (pn t) r) l) := by
  have hl := l.isLt
  rw [tile]
  by_cases h : (l : ℕ) < 1024
  · rw [laid_sink _ _ _ _ _ ⟨(l : ℕ) / 512, by omega⟩ ⟨(l : ℕ) / 128 % 4, by omega⟩ r ⟨(l : ℕ) % 128, by omega⟩ (ix2 r l) rfl
      (by show (l : ℕ) = (l : ℕ) / 512 * 512 + (l : ℕ) / 128 % 4 * 128 + (l : ℕ) % 128; omega), point_sink m c hz ha t]
    refine congrArg (fun u => REF m c (ix2 (tok (pn t) r) u)) (Fin.ext ?_)
    show (l : ℕ) / 512 * 512 + (l : ℕ) / 128 % 4 * 128 + (l : ℕ) % 128 = (l : ℕ)
    omega
  · rw [laid_plain _ _ _ _ _ ⟨((l : ℕ) - 1024) / 128, by omega⟩ r ⟨(l : ℕ) % 128, by omega⟩ (ix2 r l) rfl
      (by show (l : ℕ) = 1024 + (((l : ℕ) - 1024) / 128 * 128 + (l : ℕ) % 128); omega), point_plain m c hq hk t]
    refine congrArg (fun u => REF m c (ix2 (tok (pn t) r) u)) (Fin.ext ?_)
    show 1024 + (((l : ℕ) - 1024) / 128 * 128 + (l : ℕ) % 128) = (l : ℕ)
    omega

include hz ha hq hk in
/-- The array the call leaves is the reference's. -/
theorem final : (dats m 0 c).arrAt 5 (cfgs 0).N = REF m c := by
  refine (dats m 0 c).arrAt_eq_of_covers 5 _ (by decide +kernel) fun t _ y => ?_
  blk_simp
  rw [after0_5]
  idx_vars y
  refine (point m c hz ha hq hk t y0 y1).trans ?_
  blk_ext [idx t, tok, pn]

end Finite

end Cert.CtxAttnIdeal.Value

namespace Cert.Proof

/-- Where the precondition holds, the sinks, the grouped queries and keys, and the plain queries and keys are real. -/
theorem finite_scores_reals (x0 : FVec Ideal Cert.Pre_finite_scores.S2x2x4 .f32) (x1 : FVec Ideal Cert.Pre_finite_scores.S8192x1536 .f32)
    (x2 x3 x4 : FVec Ideal Cert.Pre_finite_scores.S8192x1024 .f32)
    (h : @Cert.Pre_finite_scores.fn Cert.Pre_finite_scores.Gen.facts Ideal _ x0 x1 x2 x3 x4 = fun _ => 1#1) :
    (∀ k g, ∃ a : ℝ, x0 (ix3 0 k g) = (a : EReal)) ∧ (∀ (r : Fin 8192) (l : Fin 1536), (l : ℕ) < 1280 → ∃ a : ℝ, x1 (ix2 r l) = (a : EReal))
      ∧ (∀ i, ∃ a : ℝ, x2 i = (a : EReal)) ∧ (∀ i, ∃ a : ℝ, x3 i = (a : EReal)) := by
  haveI : Subsingleton Cert.Pre_finite_scores.S_.Idx := ⟨fun a b => funext fun i => i.elim0⟩
  have h0 := congrFun h ix0
  dsimp only [Cert.Pre_finite_scores.fn, Cert.Pre_finite_scores.fn_part1] at h0
  obtain ⟨h1, hk⟩ := IntOp.andi_eq_one.mp h0
  obtain ⟨h2, hq⟩ := IntOp.andi_eq_one.mp h1
  obtain ⟨hz, ha⟩ := IntOp.andi_eq_one.mp h2
  refine ⟨fun k g => ?_, fun r l hl => ?_, fun i => real_of_lt _ (Host.reduce_andi_all _ _ _ _ _ hq i), fun i => real_of_lt _ (Host.reduce_andi_all _ _ _ _ _ hk i)⟩
  · obtain ⟨a, e⟩ := real_of_lt _ (Host.reduce_andi_all _ _ _ _ _ hz (ix2 k g))
    refine ⟨a, Eq.trans ?_ e⟩
    pointwise
  · obtain ⟨a, e⟩ := real_of_lt _ (Host.reduce_andi_all _ _ _ _ _ ha (ix2 r (⟨l.val, hl⟩ : Fin 1280)))
    refine ⟨a, Eq.trans ?_ e⟩
    pointwise

/-- The prompts' attention: on real sinks, queries and keys the kernel's call and the reference run and end with the same array. -/
theorem algebraic_ctx_attn : algebraic_CtxAttnIdeal_CtxAttnRefIdeal_pre_finite_scores (hCtxAttnIdeal := Cert.CtxAttnIdeal.Gen.facts)
    (hCtxAttnRefIdeal := Cert.CtxAttnRefIdeal.Gen.facts) (hPre_finite_scores := Cert.Pre_finite_scores.Gen.facts) := by
  pair_intro
  · run_from Cert.CtxAttnIdeal.Value.run_blocks m g
  · run_from Cert.CtxAttnRefIdeal.Value.run m' g'
    obtain ⟨hz, ha, hq, hk⟩ := finite_scores_reals _ _ _ _ _ (hpre c)
    rw [Cert.CtxAttnIdeal.Value.final m c hz ha hq hk, Cert.CtxAttnRefIdeal.Value.res_eq]
    unfold Cert.CtxAttnIdeal.Value.REF
    obtain ⟨e0, e1, e2, e3, e4⟩ := hagree c
    rw [e0, e1, e2, e3, e4]

end Cert.Proof
-- ==== Proof.lean ====
module

public import proofs.«01_k».proof.Defs
public import proofs.«01_k».proof.Proof.Gen.DiffAttnIdeal.Value
public import proofs.«01_k».proof.Proof.Gen.DiffAttnRefIdeal.Run
public import proofs.«01_k».proof.Proof.Gen.DiffAttn
public import proofs.«01_k».proof.Proof.Gen.DiffAttn.Skeleton
public import proofs.«01_k».proof.Proof.Gen.DiffAttn.Launch
public import proofs.«01_k».proof.Proof.Gen.DiffAttn.Points
public import proofs.«01_k».proof.Proof.Gen.DiffAttn.Frame
public import proofs.«01_k».proof.Proof.Gen.DiffAttnIdeal
public import proofs.«01_k».proof.Proof.Gen.DiffAttnIdeal.Skeleton
public import proofs.«01_k».proof.Proof.Gen.DiffAttnIdeal.Launch
public import proofs.«01_k».proof.Proof.Gen.DiffAttnIdeal.Points
public import proofs.«01_k».proof.Proof.Gen.DiffAttnIdeal.Frame
public import proofs.«01_k».proof.Proof.Gen.DiffAttnRefIdeal
public import proofs.«01_k».proof.Proof.Gen.GateUpIdeal.Value
public import proofs.«01_k».proof.Proof.Gen.GateUpRefIdeal.Run
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Frame
public import proofs.«01_k».proof.Proof.Gen.GateUpRefIdeal
public import proofs.«01_k».proof.Proof.Gen.DownIdeal.Value
public import proofs.«01_k».proof.Proof.Gen.DownRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.ExpertGateUp
public import proofs.«01_k».proof.Proof.ExpertDown
public import proofs.«01_k».proof.Proof.Gen.Pre_finite
public import proofs.«01_k».proof.Proof.DiffAttention
public import proofs.«01_k».proof.Proof.Gen.CtxProjIdeal.Value
public import proofs.«01_k».proof.Proof.Gen.CtxProjRefIdeal.Run
public import proofs.«01_k».proof.Proof.Gen.CtxProj
public import proofs.«01_k».proof.Proof.Gen.CtxProj.Skeleton
public import proofs.«01_k».proof.Proof.Gen.CtxProj.Launch
public import proofs.«01_k».proof.Proof.Gen.CtxProj.Points
public import proofs.«01_k».proof.Proof.Gen.CtxProj.Frame
public import proofs.«01_k».proof.Proof.Gen.CtxProjIdeal
public import proofs.«01_k».proof.Proof.Gen.CtxProjIdeal.Skeleton
public import proofs.«01_k».proof.Proof.Gen.CtxProjIdeal.Frame
public import proofs.«01_k».proof.Proof.Gen.CtxProjRefIdeal
public import proofs.«01_k».proof.Proof.ProjCtx
public import proofs.«01_k».proof.Proof.Gen.ValProjIdeal.Value
public import proofs.«01_k».proof.Proof.Gen.ValProjRefIdeal.Run
public import proofs.«01_k».proof.Proof.Gen.ValProj
public import proofs.«01_k».proof.Proof.Gen.ValProj.Skeleton
public import proofs.«01_k».proof.Proof.Gen.ValProj.Launch
public import proofs.«01_k».proof.Proof.Gen.ValProj.Points
public import proofs.«01_k».proof.Proof.Gen.ValProj.Frame
public import proofs.«01_k».proof.Proof.Gen.ValProjIdeal
public import proofs.«01_k».proof.Proof.Gen.ValProjIdeal.Skeleton
public import proofs.«01_k».proof.Proof.Gen.ValProjIdeal.Frame
public import proofs.«01_k».proof.Proof.Gen.ValProjRefIdeal
public import proofs.«01_k».proof.Proof.ProjVal
public import proofs.«01_k».proof.Proof.Gen.KeyProjIdeal.Value
public import proofs.«01_k».proof.Proof.Gen.KeyProjRefIdeal.Run
public import proofs.«01_k».proof.Proof.Gen.KeyProj
public import proofs.«01_k».proof.Proof.Gen.KeyProj.Skeleton
public import proofs.«01_k».proof.Proof.Gen.KeyProj.Launch
public import proofs.«01_k».proof.Proof.Gen.KeyProj.Points
public import proofs.«01_k».proof.Proof.Gen.KeyProj.Frame
public import proofs.«01_k».proof.Proof.Gen.KeyProjIdeal
public import proofs.«01_k».proof.Proof.Gen.KeyProjIdeal.Skeleton
public import proofs.«01_k».proof.Proof.Gen.KeyProjIdeal.Frame
public import proofs.«01_k».proof.Proof.Gen.KeyProjRefIdeal
public import proofs.«01_k».proof.Proof.ProjKey
public import proofs.«01_k».proof.Proof.Gen.QueryProjIdeal.Value
public import proofs.«01_k».proof.Proof.Gen.QueryProjRefIdeal.Run
public import proofs.«01_k».proof.Proof.Gen.QueryProj
public import proofs.«01_k».proof.Proof.Gen.QueryProj.Skeleton
public import proofs.«01_k».proof.Proof.Gen.QueryProj.Launch
public import proofs.«01_k».proof.Proof.Gen.QueryProj.Points
public import proofs.«01_k».proof.Proof.Gen.QueryProj.Frame
public import proofs.«01_k».proof.Proof.Gen.QueryProjIdeal
public import proofs.«01_k».proof.Proof.Gen.QueryProjIdeal.Skeleton
public import proofs.«01_k».proof.Proof.Gen.QueryProjIdeal.Frame
public import proofs.«01_k».proof.Proof.Gen.QueryProjRefIdeal
public import proofs.«01_k».proof.Proof.ProjQuery
public import proofs.«01_k».proof.Proof.Gen.OutProjIdeal.Value
public import proofs.«01_k».proof.Proof.Gen.OutProjRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Frame
public import proofs.«01_k».proof.Proof.Gen.OutProjRefIdeal
public import proofs.«01_k».proof.Proof.OutProjection
public import proofs.«01_k».proof.Proof.Gen.NbrProjIdeal.Value
public import proofs.«01_k».proof.Proof.Gen.NbrProjRefIdeal.Run
public import proofs.«01_k».proof.Proof.Gen.NbrProj
public import proofs.«01_k».proof.Proof.Gen.NbrProj.Skeleton
public import proofs.«01_k».proof.Proof.Gen.NbrProj.Launch
public import proofs.«01_k».proof.Proof.Gen.NbrProj.Points
public import proofs.«01_k».proof.Proof.Gen.NbrProj.Frame
public import proofs.«01_k».proof.Proof.Gen.NbrProjIdeal
public import proofs.«01_k».proof.Proof.Gen.NbrProjIdeal.Skeleton
public import proofs.«01_k».proof.Proof.Gen.NbrProjIdeal.Frame
public import proofs.«01_k».proof.Proof.Gen.NbrProjRefIdeal
public import proofs.«01_k».proof.Proof.ProjNbr
public import proofs.«01_k».proof.Proof.Gen.NbrQProjIdeal.Value
public import proofs.«01_k».proof.Proof.Gen.NbrQProjRefIdeal.Run
public import proofs.«01_k».proof.Proof.Gen.NbrQProj
public import proofs.«01_k».proof.Proof.Gen.NbrQProj.Skeleton
public import proofs.«01_k».proof.Proof.Gen.NbrQProj.Launch
public import proofs.«01_k».proof.Proof.Gen.NbrQProj.Points
public import proofs.«01_k».proof.Proof.Gen.NbrQProj.Frame
public import proofs.«01_k».proof.Proof.Gen.NbrQProjIdeal
public import proofs.«01_k».proof.Proof.Gen.NbrQProjIdeal.Skeleton
public import proofs.«01_k».proof.Proof.Gen.NbrQProjIdeal.Frame
public import proofs.«01_k».proof.Proof.Gen.NbrQProjRefIdeal
public import proofs.«01_k».proof.Proof.ProjNbrQ
public import proofs.«01_k».proof.Proof.Gen.CtxWinProjIdeal.Value
public import proofs.«01_k».proof.Proof.Gen.CtxWinProjRefIdeal.Run
public import proofs.«01_k».proof.Proof.Gen.CtxWinProj
public import proofs.«01_k».proof.Proof.Gen.CtxWinProj.Skeleton
public import proofs.«01_k».proof.Proof.Gen.CtxWinProj.Launch
public import proofs.«01_k».proof.Proof.Gen.CtxWinProj.Points
public import proofs.«01_k».proof.Proof.Gen.CtxWinProj.Frame
public import proofs.«01_k».proof.Proof.Gen.CtxWinProjIdeal
public import proofs.«01_k».proof.Proof.Gen.CtxWinProjIdeal.Skeleton
public import proofs.«01_k».proof.Proof.Gen.CtxWinProjIdeal.Frame
public import proofs.«01_k».proof.Proof.Gen.CtxWinProjRefIdeal
public import proofs.«01_k».proof.Proof.ProjCtxWin
public import proofs.«01_k».proof.Proof.Gen.CtxNbrProjIdeal.Value
public import proofs.«01_k».proof.Proof.Gen.CtxNbrProjRefIdeal.Run
public import proofs.«01_k».proof.Proof.Gen.CtxNbrProj
public import proofs.«01_k».proof.Proof.Gen.CtxNbrProj.Skeleton
public import proofs.«01_k».proof.Proof.Gen.CtxNbrProj.Launch
public import proofs.«01_k».proof.Proof.Gen.CtxNbrProj.Points
public import proofs.«01_k».proof.Proof.Gen.CtxNbrProj.Frame
public import proofs.«01_k».proof.Proof.Gen.CtxNbrProjIdeal
public import proofs.«01_k».proof.Proof.Gen.CtxNbrProjIdeal.Skeleton
public import proofs.«01_k».proof.Proof.Gen.CtxNbrProjIdeal.Frame
public import proofs.«01_k».proof.Proof.Gen.CtxNbrProjRefIdeal
public import proofs.«01_k».proof.Proof.ProjCtxNbr
public import proofs.«01_k».proof.Proof.Gen.OutProjTwoIdeal.Value
public import proofs.«01_k».proof.Proof.Gen.OutProjTwoRefIdeal.Run
public import proofs.«01_k».proof.Proof.Gen.OutProjTwo
public import proofs.«01_k».proof.Proof.Gen.OutProjTwo.Skeleton
public import proofs.«01_k».proof.Proof.Gen.OutProjTwo.Launch
public import proofs.«01_k».proof.Proof.Gen.OutProjTwo.Points
public import proofs.«01_k».proof.Proof.Gen.OutProjTwo.Frame
public import proofs.«01_k».proof.Proof.Gen.OutProjTwoIdeal
public import proofs.«01_k».proof.Proof.Gen.OutProjTwoIdeal.Skeleton
public import proofs.«01_k».proof.Proof.Gen.OutProjTwoIdeal.Frame
public import proofs.«01_k».proof.Proof.Gen.OutProjTwoRefIdeal
public import proofs.«01_k».proof.Proof.OutProjectionTwo
public import proofs.«01_k».proof.Proof.Gen.WinProjIdeal.Value
public import proofs.«01_k».proof.Proof.Gen.WinProjRefIdeal.Run
public import proofs.«01_k».proof.Proof.Gen.WinProj
public import proofs.«01_k».proof.Proof.Gen.WinProj.Skeleton
public import proofs.«01_k».proof.Proof.Gen.WinProj.Launch
public import proofs.«01_k».proof.Proof.Gen.WinProj.Points
public import proofs.«01_k».proof.Proof.Gen.WinProj.Frame
public import proofs.«01_k».proof.Proof.Gen.WinProjIdeal
public import proofs.«01_k».proof.Proof.Gen.WinProjIdeal.Skeleton
public import proofs.«01_k».proof.Proof.Gen.WinProjIdeal.Frame
public import proofs.«01_k».proof.Proof.Gen.WinProjRefIdeal
public import proofs.«01_k».proof.Proof.ProjWin
public import proofs.«01_k».proof.Proof.Gen.CtxAttnIdeal.Value
public import proofs.«01_k».proof.Proof.Gen.CtxAttnRefIdeal.Run
public import proofs.«01_k».proof.Proof.Gen.CtxAttn
public import proofs.«01_k».proof.Proof.Gen.CtxAttn.Skeleton
public import proofs.«01_k».proof.Proof.Gen.CtxAttn.Launch
public import proofs.«01_k».proof.Proof.Gen.CtxAttn.Points
public import proofs.«01_k».proof.Proof.Gen.CtxAttn.Frame
public import proofs.«01_k».proof.Proof.Gen.CtxAttnIdeal
public import proofs.«01_k».proof.Proof.Gen.CtxAttnIdeal.Skeleton
public import proofs.«01_k».proof.Proof.Gen.CtxAttnIdeal.Frame
public import proofs.«01_k».proof.Proof.Gen.CtxAttnRefIdeal
public import proofs.«01_k».proof.Proof.Gen.Pre_finite_scores
public import proofs.«01_k».proof.Proof.CtxAttention
public import Idealize.ShloMosaic.Adequacy
public import Idealize.ShloMosaic.Init

@[expose] public section

noncomputable section

namespace Cert.Proof

open Idealize.ShloMosaic Idealize.SL.Sem

/-- The reference of the differential attention runs, keeps its arguments and leaves every counter at zero. -/
theorem quiescent_diff_ref : quiescent_DiffAttnRefIdeal (hDiffAttnRefIdeal := Cert.DiffAttnRefIdeal.Gen.facts) := fun m ρ _ =>
  (θ_run Cert.DiffAttnRefIdeal.defs _ _).mono (fun r h => ⟨fun c => (h c).2, sem_eq_zero_of_no_sems (by decide) r.2⟩) (Cert.DiffAttnRefIdeal.Value.run (F := Ideal) m ρ)

/-- The same where the precondition holds. -/
theorem quiescent_diff_ref_finite : quiescent_DiffAttnRefIdeal_pre_finite (hDiffAttnRefIdeal := Cert.DiffAttnRefIdeal.Gen.facts) (hPre_finite := Cert.Pre_finite.Gen.facts) := fun m ρ _ =>
  (θ_run Cert.DiffAttnRefIdeal.defs _ _).mono (fun r h => ⟨fun c => (h c).2, sem_eq_zero_of_no_sems (by decide) r.2⟩) (Cert.DiffAttnRefIdeal.Value.run (F := Ideal) m ρ)

/-- The reference of the experts' first product runs, keeps its arguments and leaves every counter at zero. -/
theorem quiescent_gate_up_ref : quiescent_GateUpRefIdeal (hGateUpRefIdeal := Cert.GateUpRefIdeal.Gen.facts) := fun m ρ _ =>
  (θ_run Cert.GateUpRefIdeal.defs _ _).mono (fun r h => ⟨fun c => (h c).2, sem_eq_zero_of_no_sems (by decide) r.2⟩) (Cert.GateUpRefIdeal.Value.run (F := Ideal) m ρ)

/-- The reference of the experts' second product runs, keeps its arguments and leaves every counter at zero. -/
theorem quiescent_down_ref : quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩) (Cert.DownRefIdeal.Value.run (F := Ideal) m ρ)

/-- The reference of the prompts' projection runs, keeps its arguments and leaves every counter at zero. -/
theorem quiescent_ctx_proj_ref : quiescent_CtxProjRefIdeal (hCtxProjRefIdeal := Cert.CtxProjRefIdeal.Gen.facts) := fun m ρ _ =>
  (θ_run Cert.CtxProjRefIdeal.defs _ _).mono (fun r h => ⟨fun c => (h c).2, sem_eq_zero_of_no_sems (by decide) r.2⟩) (Cert.CtxProjRefIdeal.Value.run (F := Ideal) m ρ)

/-- The reference of the value projection runs, keeps its arguments and leaves every counter at zero. -/
theorem quiescent_val_proj_ref : quiescent_ValProjRefIdeal (hValProjRefIdeal := Cert.ValProjRefIdeal.Gen.facts) := fun m ρ _ =>
  (θ_run Cert.ValProjRefIdeal.defs _ _).mono (fun r h => ⟨fun c => (h c).2, sem_eq_zero_of_no_sems (by decide) r.2⟩) (Cert.ValProjRefIdeal.Value.run (F := Ideal) m ρ)

/-- The reference of the key projection runs, keeps its arguments and leaves every counter at zero. -/
theorem quiescent_key_proj_ref : quiescent_KeyProjRefIdeal (hKeyProjRefIdeal := Cert.KeyProjRefIdeal.Gen.facts) := fun m ρ _ =>
  (θ_run Cert.KeyProjRefIdeal.defs _ _).mono (fun r h => ⟨fun c => (h c).2, sem_eq_zero_of_no_sems (by decide) r.2⟩) (Cert.KeyProjRefIdeal.Value.run (F := Ideal) m ρ)

/-- The reference of the query projection runs, keeps its arguments and leaves every counter at zero. -/
theorem quiescent_query_proj_ref : quiescent_QueryProjRefIdeal (hQueryProjRefIdeal := Cert.QueryProjRefIdeal.Gen.facts) := fun m ρ _ =>
  (θ_run Cert.QueryProjRefIdeal.defs _ _).mono (fun r h => ⟨fun c => (h c).2, sem_eq_zero_of_no_sems (by decide) r.2⟩) (Cert.QueryProjRefIdeal.Value.run (F := Ideal) m ρ)

/-- The reference of the output projection runs, keeps its arguments and leaves every counter at zero. -/
theorem quiescent_out_proj_ref : quiescent_OutProjRefIdeal (hOutProjRefIdeal := Cert.OutProjRefIdeal.Gen.facts) := fun m ρ _ =>
  (θ_run Cert.OutProjRefIdeal.defs _ _).mono (fun r h => ⟨fun c => (h c).2.2.2, sem_eq_zero_of_no_sems (by decide) r.2⟩) (Cert.OutProjRefIdeal.Value.run (F := Ideal) m ρ)

/-- The reference of the neighbourhood attention's key projection runs, keeps its arguments and leaves every counter at zero. -/
theorem quiescent_nbr_proj_ref : quiescent_NbrProjRefIdeal (hNbrProjRefIdeal := Cert.NbrProjRefIdeal.Gen.facts) := fun m ρ _ =>
  (θ_run Cert.NbrProjRefIdeal.defs _ _).mono (fun r h => ⟨fun c => (h c).2, sem_eq_zero_of_no_sems (by decide) r.2⟩) (Cert.NbrProjRefIdeal.Value.run (F := Ideal) m ρ)

/-- The reference of the neighbourhood attention's query projection runs, keeps its arguments and leaves every counter at zero. -/
theorem quiescent_nbr_q_proj_ref : quiescent_NbrQProjRefIdeal (hNbrQProjRefIdeal := Cert.NbrQProjRefIdeal.Gen.facts) := fun m ρ _ =>
  (θ_run Cert.NbrQProjRefIdeal.defs _ _).mono (fun r h => ⟨fun c => (h c).2, sem_eq_zero_of_no_sems (by decide) r.2⟩) (Cert.NbrQProjRefIdeal.Value.run (F := Ideal) m ρ)

/-- The reference of the prompts' window projection runs, keeps its arguments and leaves every counter at zero. -/
theorem quiescent_ctx_win_proj_ref : quiescent_CtxWinProjRefIdeal (hCtxWinProjRefIdeal := Cert.CtxWinProjRefIdeal.Gen.facts) := fun m ρ _ =>
  (θ_run Cert.CtxWinProjRefIdeal.defs _ _).mono (fun r h => ⟨fun c => (h c).2, sem_eq_zero_of_no_sems (by decide) r.2⟩) (Cert.CtxWinProjRefIdeal.Value.run (F := Ideal) m ρ)

/-- The reference of the prompts' neighbourhood projection runs, keeps its arguments and leaves every counter at zero. -/
theorem quiescent_ctx_nbr_proj_ref : quiescent_CtxNbrProjRefIdeal (hCtxNbrProjRefIdeal := Cert.CtxNbrProjRefIdeal.Gen.facts) := fun m ρ _ =>
  (θ_run Cert.CtxNbrProjRefIdeal.defs _ _).mono (fun r h => ⟨fun c => (h c).2, sem_eq_zero_of_no_sems (by decide) r.2⟩) (Cert.CtxNbrProjRefIdeal.Value.run (F := Ideal) m ρ)

/-- The reference of the output projection of two mixers runs, keeps its arguments and leaves every counter at zero. -/
theorem quiescent_out_proj_two_ref : quiescent_OutProjTwoRefIdeal (hOutProjTwoRefIdeal := Cert.OutProjTwoRefIdeal.Gen.facts) := fun m ρ _ =>
  (θ_run Cert.OutProjTwoRefIdeal.defs _ _).mono (fun r h => ⟨fun c => (h c).2.2.2, sem_eq_zero_of_no_sems (by decide) r.2⟩) (Cert.OutProjTwoRefIdeal.Value.run (F := Ideal) m ρ)

/-- The reference of the window attention's projection runs, keeps its arguments and leaves every counter at zero. -/
theorem quiescent_win_proj_ref : quiescent_WinProjRefIdeal (hWinProjRefIdeal := Cert.WinProjRefIdeal.Gen.facts) := fun m ρ _ =>
  (θ_run Cert.WinProjRefIdeal.defs _ _).mono (fun r h => ⟨fun c => (h c).2, sem_eq_zero_of_no_sems (by decide) r.2⟩) (Cert.WinProjRefIdeal.Value.run (F := Ideal) m ρ)

/-- The reference of the prompts' attention runs to an end and leaves its arguments. -/
theorem quiescent_ctx_attn_ref : quiescent_CtxAttnRefIdeal (hCtxAttnRefIdeal := Cert.CtxAttnRefIdeal.Gen.facts) := fun m ρ _ =>
  (θ_run Cert.CtxAttnRefIdeal.defs _ _).mono (fun r h => ⟨fun c => (h c).2, sem_eq_zero_of_no_sems (by decide) r.2⟩) (Cert.CtxAttnRefIdeal.Value.run (F := Ideal) m ρ)

/-- The same under the precondition. -/
theorem quiescent_ctx_attn_ref_finite : quiescent_CtxAttnRefIdeal_pre_finite_scores (hCtxAttnRefIdeal := Cert.CtxAttnRefIdeal.Gen.facts) (hPre_finite_scores := Cert.Pre_finite_scores.Gen.facts) := fun m ρ _ =>
  (θ_run Cert.CtxAttnRefIdeal.defs _ _).mono (fun r h => ⟨fun c => (h c).2, sem_eq_zero_of_no_sems (by decide) r.2⟩) (Cert.CtxAttnRefIdeal.Value.run (F := Ideal) m ρ)

/-- Every claim of this certificate. -/
theorem claim : Cert.Claim :=
  ⟨Cert.DiffAttn.Gen.facts, Cert.DiffAttnIdeal.Gen.facts, Cert.DiffAttnRefIdeal.Gen.facts,
    Cert.GateUp.Gen.facts, Cert.GateUpIdeal.Gen.facts, Cert.GateUpRefIdeal.Gen.facts,
    Cert.Down.Gen.facts, Cert.DownIdeal.Gen.facts, Cert.DownRefIdeal.Gen.facts,
    Cert.CtxProj.Gen.facts, Cert.CtxProjIdeal.Gen.facts, Cert.CtxProjRefIdeal.Gen.facts,
    Cert.ValProj.Gen.facts, Cert.ValProjIdeal.Gen.facts, Cert.ValProjRefIdeal.Gen.facts,
    Cert.KeyProj.Gen.facts, Cert.KeyProjIdeal.Gen.facts, Cert.KeyProjRefIdeal.Gen.facts,
    Cert.QueryProj.Gen.facts, Cert.QueryProjIdeal.Gen.facts, Cert.QueryProjRefIdeal.Gen.facts,
    Cert.OutProj.Gen.facts, Cert.OutProjIdeal.Gen.facts, Cert.OutProjRefIdeal.Gen.facts,
    Cert.NbrProj.Gen.facts, Cert.NbrProjIdeal.Gen.facts, Cert.NbrProjRefIdeal.Gen.facts,
    Cert.NbrQProj.Gen.facts, Cert.NbrQProjIdeal.Gen.facts, Cert.NbrQProjRefIdeal.Gen.facts,
    Cert.CtxWinProj.Gen.facts, Cert.CtxWinProjIdeal.Gen.facts, Cert.CtxWinProjRefIdeal.Gen.facts,
    Cert.CtxNbrProj.Gen.facts, Cert.CtxNbrProjIdeal.Gen.facts, Cert.CtxNbrProjRefIdeal.Gen.facts,
    Cert.OutProjTwo.Gen.facts, Cert.OutProjTwoIdeal.Gen.facts, Cert.OutProjTwoRefIdeal.Gen.facts,
    Cert.WinProj.Gen.facts, Cert.WinProjIdeal.Gen.facts, Cert.WinProjRefIdeal.Gen.facts,
    Cert.CtxAttn.Gen.facts, Cert.CtxAttnIdeal.Gen.facts, Cert.CtxAttnRefIdeal.Gen.facts,
    Cert.Pre_finite.Gen.facts, Cert.Pre_finite_scores.Gen.facts,
    fun m ρ _ => Cert.DiffAttn.Gen.frame m ρ, fun m ρ _ => Cert.DiffAttnIdeal.Gen.frame m ρ, fun m ρ _ => Cert.DiffAttnIdeal.Gen.frame m ρ,
    quiescent_diff_ref, quiescent_diff_ref_finite,
    fun m ρ _ => Cert.GateUp.Gen.frame m ρ, fun m ρ _ => Cert.GateUpIdeal.Gen.frame m ρ, quiescent_gate_up_ref,
    fun m ρ _ => Cert.Down.Gen.frame m ρ, fun m ρ _ => Cert.DownIdeal.Gen.frame m ρ, quiescent_down_ref,
    fun m ρ _ => Cert.CtxProj.Gen.frame m ρ, fun m ρ _ => Cert.CtxProjIdeal.Gen.frame m ρ, quiescent_ctx_proj_ref,
    fun m ρ _ => Cert.ValProj.Gen.frame m ρ, fun m ρ _ => Cert.ValProjIdeal.Gen.frame m ρ, quiescent_val_proj_ref,
    fun m ρ _ => Cert.KeyProj.Gen.frame m ρ, fun m ρ _ => Cert.KeyProjIdeal.Gen.frame m ρ, quiescent_key_proj_ref,
    fun m ρ _ => Cert.QueryProj.Gen.frame m ρ, fun m ρ _ => Cert.QueryProjIdeal.Gen.frame m ρ, quiescent_query_proj_ref,
    fun m ρ _ => Cert.OutProj.Gen.frame m ρ, fun m ρ _ => Cert.OutProjIdeal.Gen.frame m ρ, quiescent_out_proj_ref,
    fun m ρ _ => Cert.NbrProj.Gen.frame m ρ, fun m ρ _ => Cert.NbrProjIdeal.Gen.frame m ρ, quiescent_nbr_proj_ref,
    fun m ρ _ => Cert.NbrQProj.Gen.frame m ρ, fun m ρ _ => Cert.NbrQProjIdeal.Gen.frame m ρ, quiescent_nbr_q_proj_ref,
    fun m ρ _ => Cert.CtxWinProj.Gen.frame m ρ, fun m ρ _ => Cert.CtxWinProjIdeal.Gen.frame m ρ, quiescent_ctx_win_proj_ref,
    fun m ρ _ => Cert.CtxNbrProj.Gen.frame m ρ, fun m ρ _ => Cert.CtxNbrProjIdeal.Gen.frame m ρ, quiescent_ctx_nbr_proj_ref,
    fun m ρ _ => Cert.OutProjTwo.Gen.frame m ρ, fun m ρ _ => Cert.OutProjTwoIdeal.Gen.frame m ρ, quiescent_out_proj_two_ref,
    fun m ρ _ => Cert.WinProj.Gen.frame m ρ, fun m ρ _ => Cert.WinProjIdeal.Gen.frame m ρ, quiescent_win_proj_ref,
    fun m ρ _ => Cert.CtxAttn.Gen.frame m ρ, fun m ρ _ => Cert.CtxAttnIdeal.Gen.frame m ρ, fun m ρ _ => Cert.CtxAttnIdeal.Gen.frame m ρ,
    quiescent_ctx_attn_ref, quiescent_ctx_attn_ref_finite,
    trivial, algebraic_diff, trivial, algebraic_gate_up, trivial, algebraic_down, trivial, algebraic_ctx_proj, trivial, algebraic_val_proj, trivial, algebraic_key_proj, preserves_query_proj, algebraic_query_proj, trivial, algebraic_out_proj, trivial, algebraic_nbr_proj, preserves_nbr_q_proj, algebraic_nbr_q_proj, trivial, algebraic_ctx_win_proj, trivial, algebraic_ctx_nbr_proj, trivial, algebraic_out_proj_two, preserves_win_proj, algebraic_win_proj, trivial, algebraic_ctx_attn⟩

end Cert.Proof

end
